-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelRefIdeal (m : (ℓ : Loc Cert.KernelRefIdeal.nD Cert.KernelRefIdeal.τ Cert.KernelRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_RetS (m : (ℓ : Loc Cert.RetS.nD Cert.RetS.τ Cert.RetS.sig) → Buf (Elt Bits) ℓ) : Prop :=
  True

def Pre_RetSIdeal (m : (ℓ : Loc Cert.RetSIdeal.nD Cert.RetSIdeal.τ Cert.RetSIdeal.sig) → Buf (Elt Ideal) ℓ) : Prop :=
  True

def Pre_RetSRefIdeal (m : (ℓ : Loc Cert.RetSRefIdeal.nD Cert.RetSRefIdeal.τ Cert.RetSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelRefIdeal [hKernelRefIdeal : Cert.KernelRefIdeal.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0)
      ∧ r.2.mem ((c.tc : Thread Cert.KernelRefIdeal.nD Cert.KernelRefIdeal.τ).loc Cert.KernelRefIdeal.main_arg1) = m ((c.tc : Thread Cert.KernelRefIdeal.nD Cert.KernelRefIdeal.τ).loc Cert.KernelRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_RetS [hRetS : Cert.RetS.Facts] : Prop :=
  ∀ (m : (ℓ : Loc Cert.RetS.nD Cert.RetS.τ Cert.RetS.sig) → Buf (Elt Bits) ℓ) (g : Dev Cert.RetS.nD → PrngReg), Pre_RetS m →
    θ_run (Cert.RetS.defs (F := Bits)) (onTc (τ := Cert.RetS.τ) (Cert.RetS.main (F := Bits))) ⟨m, fun _ => 0, g⟩ (fun r => (∀ c : Dev Cert.RetS.nD,
      r.2.mem ((c.tc : Thread Cert.RetS.nD Cert.RetS.τ).loc Cert.RetS.main_arg0) = m ((c.tc : Thread Cert.RetS.nD Cert.RetS.τ).loc Cert.RetS.main_arg0)
      ∧ r.2.mem ((c.tc : Thread Cert.RetS.nD Cert.RetS.τ).loc Cert.RetS.main_arg1) = m ((c.tc : Thread Cert.RetS.nD Cert.RetS.τ).loc Cert.RetS.main_arg1)
      ∧ r.2.mem ((c.tc : Thread Cert.RetS.nD Cert.RetS.τ).loc Cert.RetS.main_arg2) = m ((c.tc : Thread Cert.RetS.nD Cert.RetS.τ).loc Cert.RetS.main_arg2))
      ∧ r.2.sem = fun _ => 0)

def quiescent_RetSIdeal [hRetSIdeal : Cert.RetSIdeal.Facts] : Prop :=
  ∀ (m : (ℓ : Loc Cert.RetSIdeal.nD Cert.RetSIdeal.τ Cert.RetSIdeal.sig) → Buf (Elt Ideal) ℓ) (g : Dev Cert.RetSIdeal.nD → PrngReg), Pre_RetSIdeal m →
    θ_run (Cert.RetSIdeal.defs (F := Ideal)) (onTc (τ := Cert.RetSIdeal.τ) (Cert.RetSIdeal.main (F := Ideal))) ⟨m, fun _ => 0, g⟩ (fun r => (∀ c : Dev Cert.RetSIdeal.nD,
      r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
      ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1)
      ∧ r.2.mem ((c.tc : Thread Cert.RetSIdeal.nD Cert.RetSIdeal.τ).loc Cert.RetSIdeal.main_arg2) = m ((c.tc : Thread Cert.RetSIdeal.nD Cert.RetSIdeal.τ).loc Cert.RetSIdeal.main_arg2))
      ∧ r.2.sem = fun _ => 0)

def quiescent_RetSRefIdeal [hRetSRefIdeal : Cert.RetSRefIdeal.Facts] : Prop :=
  ∀ (m : (ℓ : Loc Cert.RetSRefIdeal.nD Cert.RetSRefIdeal.τ Cert.RetSRefIdeal.sig) → Buf (Elt Ideal) ℓ) (g : Dev Cert.RetSRefIdeal.nD → PrngReg), Pre_RetSRefIdeal m →
    θ_run (Cert.RetSRefIdeal.defs (F := Ideal)) (onTc (τ := Cert.RetSRefIdeal.τ) (Cert.RetSRefIdeal.main (F := Ideal))) ⟨m, fun _ => 0, g⟩ (fun r => (∀ c : Dev Cert.RetSRefIdeal.nD,
      r.2.mem ((c.tc : Thread Cert.RetSRefIdeal.nD Cert.RetSRefIdeal.τ).loc Cert.RetSRefIdeal.main_arg0) = m ((c.tc : Thread Cert.RetSRefIdeal.nD Cert.RetSRefIdeal.τ).loc Cert.RetSRefIdeal.main_arg0)
      ∧ r.2.mem ((c.tc : Thread Cert.RetSRefIdeal.nD Cert.RetSRefIdeal.τ).loc Cert.RetSRefIdeal.main_arg1) = m ((c.tc : Thread Cert.RetSRefIdeal.nD Cert.RetSRefIdeal.τ).loc Cert.RetSRefIdeal.main_arg1)
      ∧ r.2.mem ((c.tc : Thread Cert.RetSRefIdeal.nD Cert.RetSRefIdeal.τ).loc Cert.RetSRefIdeal.main_arg2) = m ((c.tc : Thread Cert.RetSRefIdeal.nD Cert.RetSRefIdeal.τ).loc Cert.RetSRefIdeal.main_arg2))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2))
      ∧ r.2.sem = fun _ => 0)

def preserves_Kernel_KernelIdeal : Prop :=
  True

def algebraic_KernelIdeal_KernelRefIdeal [hKernelIdeal : Cert.KernelIdeal.Facts] [hKernelRefIdeal : Cert.KernelRefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelRefIdeal.nD Cert.KernelRefIdeal.τ Cert.KernelRefIdeal.sig) → Buf (Elt Ideal) ℓ) (g' : Dev Cert.KernelRefIdeal.nD → PrngReg), Pre_KernelIdeal m →
    (∀ c : Dev Cert.KernelIdeal.nD,
      m' ((c.tc : Thread Cert.KernelRefIdeal.nD Cert.KernelRefIdeal.τ).loc Cert.KernelRefIdeal.main_arg0) = m ((c.tc : Thread Cert.KernelIdeal.nD Cert.KernelIdeal.τ).loc Cert.KernelIdeal.main_arg0)
      ∧ m' ((c.tc : Thread Cert.KernelRefIdeal.nD Cert.KernelRefIdeal.τ).loc Cert.KernelRefIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.KernelRefIdeal.defs (F := Ideal)) (onTc (τ := Cert.KernelRefIdeal.τ) (Cert.KernelRefIdeal.main (F := Ideal))) ⟨m', fun _ => 0, g'⟩ (fun r => ∀ c : Dev Cert.KernelRefIdeal.nD,
          r.2.mem ((c.tc : Thread Cert.KernelRefIdeal.nD Cert.KernelRefIdeal.τ).loc Cert.KernelRefIdeal.main_v152) = v0 c
          ∧ r.2.mem ((c.tc : Thread Cert.KernelRefIdeal.nD Cert.KernelRefIdeal.τ).loc Cert.KernelRefIdeal.main_v121_8) = v1 c
          ∧ r.2.mem ((c.tc : Thread Cert.KernelRefIdeal.nD Cert.KernelRefIdeal.τ).loc Cert.KernelRefIdeal.main_arg0) = m' ((c.tc : Thread Cert.KernelRefIdeal.nD Cert.KernelRefIdeal.τ).loc Cert.KernelRefIdeal.main_arg0)
          ∧ r.2.mem ((c.tc : Thread Cert.KernelRefIdeal.nD Cert.KernelRefIdeal.τ).loc Cert.KernelRefIdeal.main_arg1) = m' ((c.tc : Thread Cert.KernelRefIdeal.nD Cert.KernelRefIdeal.τ).loc Cert.KernelRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v37) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v12)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v12) = v0 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v27) = v0 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v6)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v6) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v37) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_RetS_RetSIdeal : Prop :=
  True

def algebraic_RetSIdeal_RetSRefIdeal [hRetSIdeal : Cert.RetSIdeal.Facts] [hRetSRefIdeal : Cert.RetSRefIdeal.Facts] : Prop :=
  ∀ (m : (ℓ : Loc Cert.RetSIdeal.nD Cert.RetSIdeal.τ Cert.RetSIdeal.sig) → Buf (Elt Ideal) ℓ) (g : Dev Cert.RetSIdeal.nD → PrngReg)
    (m' : (ℓ : Loc Cert.RetSRefIdeal.nD Cert.RetSRefIdeal.τ Cert.RetSRefIdeal.sig) → Buf (Elt Ideal) ℓ) (g' : Dev Cert.RetSRefIdeal.nD → PrngReg), Pre_RetSIdeal m →
    (∀ c : Dev Cert.RetSIdeal.nD,
      m' ((c.tc : Thread Cert.RetSRefIdeal.nD Cert.RetSRefIdeal.τ).loc Cert.RetSRefIdeal.main_arg0) = m ((c.tc : Thread Cert.RetSIdeal.nD Cert.RetSIdeal.τ).loc Cert.RetSIdeal.main_arg0)
      ∧ m' ((c.tc : Thread Cert.RetSRefIdeal.nD Cert.RetSRefIdeal.τ).loc Cert.RetSRefIdeal.main_arg1) = m ((c.tc : Thread Cert.RetSIdeal.nD Cert.RetSIdeal.τ).loc Cert.RetSIdeal.main_arg1)
      ∧ m' ((c.tc : Thread Cert.RetSRefIdeal.nD Cert.RetSRefIdeal.τ).loc Cert.RetSRefIdeal.main_arg2) = m ((c.tc : Thread Cert.RetSIdeal.nD Cert.RetSIdeal.τ).loc Cert.RetSIdeal.main_arg2)) →
    ∃ (v0 : (c : Dev Cert.RetSIdeal.nD) → Buf (Elt Ideal) ((c.tc : Thread Cert.RetSIdeal.nD Cert.RetSIdeal.τ).loc Cert.RetSIdeal.main_v30_0)) (v1 : (c : Dev Cert.RetSIdeal.nD) → Buf (Elt Ideal) ((c.tc : Thread Cert.RetSIdeal.nD Cert.RetSIdeal.τ).loc Cert.RetSIdeal.main_v30_1)),
      θ_run (Cert.RetSIdeal.defs (F := Ideal)) (onTc (τ := Cert.RetSIdeal.τ) (Cert.RetSIdeal.main (F := Ideal))) ⟨m, fun _ => 0, g⟩ (fun r => ∀ c : Dev Cert.RetSIdeal.nD,
          r.2.mem ((c.tc : Thread Cert.RetSIdeal.nD Cert.RetSIdeal.τ).loc Cert.RetSIdeal.main_v30_0) = v0 c
          ∧ r.2.mem ((c.tc : Thread Cert.RetSIdeal.nD Cert.RetSIdeal.τ).loc Cert.RetSIdeal.main_v30_1) = v1 c
          ∧ r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
          ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1)
          ∧ r.2.mem ((c.tc : Thread Cert.RetSIdeal.nD Cert.RetSIdeal.τ).loc Cert.RetSIdeal.main_arg2) = m ((c.tc : Thread Cert.RetSIdeal.nD Cert.RetSIdeal.τ).loc Cert.RetSIdeal.main_arg2))
      ∧ θ_run (Cert.RetSRefIdeal.defs (F := Ideal)) (onTc (τ := Cert.RetSRefIdeal.τ) (Cert.RetSRefIdeal.main (F := Ideal))) ⟨m', fun _ => 0, g'⟩ (fun r => ∀ c : Dev Cert.RetSRefIdeal.nD,
          r.2.mem ((c.tc : Thread Cert.RetSRefIdeal.nD Cert.RetSRefIdeal.τ).loc Cert.RetSRefIdeal.main_v163) = v0 c
          ∧ r.2.mem ((c.tc : Thread Cert.RetSRefIdeal.nD Cert.RetSRefIdeal.τ).loc Cert.RetSRefIdeal.main_v135) = v1 c
          ∧ r.2.mem ((c.tc : Thread Cert.RetSRefIdeal.nD Cert.RetSRefIdeal.τ).loc Cert.RetSRefIdeal.main_arg0) = m' ((c.tc : Thread Cert.RetSRefIdeal.nD Cert.RetSRefIdeal.τ).loc Cert.RetSRefIdeal.main_arg0)
          ∧ r.2.mem ((c.tc : Thread Cert.RetSRefIdeal.nD Cert.RetSRefIdeal.τ).loc Cert.RetSRefIdeal.main_arg1) = m' ((c.tc : Thread Cert.RetSRefIdeal.nD Cert.RetSRefIdeal.τ).loc Cert.RetSRefIdeal.main_arg1)
          ∧ r.2.mem ((c.tc : Thread Cert.RetSRefIdeal.nD Cert.RetSRefIdeal.τ).loc Cert.RetSRefIdeal.main_arg2) = m' ((c.tc : Thread Cert.RetSRefIdeal.nD Cert.RetSRefIdeal.τ).loc Cert.RetSRefIdeal.main_arg2))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)) →
    ∃ (v0 : (c : Dev Cert.MergeSIdeal.nD) → Buf (Elt Ideal) ((c.tc : Thread Cert.MergeSIdeal.nD Cert.MergeSIdeal.τ).loc Cert.MergeSIdeal.main_v2)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v2) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v23) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)) →
    ∃ (v0 : (c : Dev Cert.OutSIdeal.nD) → Buf (Elt Ideal) ((c.tc : Thread Cert.OutSIdeal.nD Cert.OutSIdeal.τ).loc Cert.OutSIdeal.main_v1)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v1) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v3) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2))

def Claim : Prop :=
  ∃ (hKernel : Cert.Kernel.Facts) (hKernelIdeal : Cert.KernelIdeal.Facts) (hKernelRefIdeal : Cert.KernelRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hFfnS : Cert.FfnS.Facts) (hFfnSIdeal : Cert.FfnSIdeal.Facts) (hFfnSRefIdeal : Cert.FfnSRefIdeal.Facts) (hRetS : Cert.RetS.Facts) (hRetSIdeal : Cert.RetSIdeal.Facts) (hRetSRefIdeal : Cert.RetSRefIdeal.Facts) (hMergeS : Cert.MergeS.Facts) (hMergeSIdeal : Cert.MergeSIdeal.Facts) (hMergeSRefIdeal : Cert.MergeSRefIdeal.Facts) (hOutS : Cert.OutS.Facts) (hOutSIdeal : Cert.OutSIdeal.Facts) (hOutSRefIdeal : Cert.OutSRefIdeal.Facts),
    quiescent_Kernel (hKernel := hKernel)
    ∧ quiescent_KernelIdeal (hKernelIdeal := hKernelIdeal)
    ∧ quiescent_KernelRefIdeal (hKernelRefIdeal := hKernelRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_RetS (hRetS := hRetS)
    ∧ quiescent_RetSIdeal (hRetSIdeal := hRetSIdeal)
    ∧ quiescent_RetSRefIdeal (hRetSRefIdeal := hRetSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_OutS (hOutS := hOutS)
    ∧ quiescent_OutSIdeal (hOutSIdeal := hOutSIdeal)
    ∧ quiescent_OutSRefIdeal (hOutSRefIdeal := hOutSRefIdeal)
    ∧ preserves_Kernel_KernelIdeal
    ∧ algebraic_KernelIdeal_KernelRefIdeal (hKernelIdeal := hKernelIdeal) (hKernelRefIdeal := hKernelRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_FfnS_FfnSIdeal
    ∧ algebraic_FfnSIdeal_FfnSRefIdeal (hFfnSIdeal := hFfnSIdeal) (hFfnSRefIdeal := hFfnSRefIdeal)
    ∧ preserves_RetS_RetSIdeal
    ∧ algebraic_RetSIdeal_RetSRefIdeal (hRetSIdeal := hRetSIdeal) (hRetSRefIdeal := hRetSRefIdeal)
    ∧ preserves_MergeS_MergeSIdeal
    ∧ algebraic_MergeSIdeal_MergeSRefIdeal (hMergeSIdeal := hMergeSIdeal) (hMergeSRefIdeal := hMergeSRefIdeal)
    ∧ preserves_OutS_OutSIdeal
    ∧ algebraic_OutSIdeal_OutSRefIdeal (hOutSIdeal := hOutSIdeal) (hOutSRefIdeal := hOutSRefIdeal)
-- ==== Kernel.lean ====
abbrev S8192x22016 : Shape := ⟨2, ![8192, 22016]⟩
abbrev S1x2048 : Shape := ⟨2, ![1, 2048]⟩
abbrev S8 : Shape := ⟨1, ![8]⟩
abbrev S_ : Shape := ⟨0, ![]⟩
abbrev S4096 : Shape := ⟨1, ![4096]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S2x8x256x256 : Shape := ⟨4, ![2, 8, 256, 256]⟩
abbrev S2048 : Shape := ⟨1, ![2048]⟩
abbrev S8192x2048 : Shape := ⟨2, ![8192, 2048]⟩
abbrev S128x2048 : Shape := ⟨2, ![128, 2048]⟩
abbrev S128x128 : Shape := ⟨2, ![128, 128]⟩
abbrev S1x8x256x256 : Shape := ⟨4, ![1, 8, 256, 256]⟩
abbrev S8x256x256 : Shape := ⟨3, ![8, 256, 256]⟩
abbrev S128x1 : Shape := ⟨2, ![128, 1]⟩
abbrev S1 : Shape := ⟨1, ![1]⟩
abbrev S128x256 : Shape := ⟨2, ![128, 256]⟩
abbrev S1x1 : Shape := ⟨2, ![1, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 40
  | .vmem => 20
  | .smem => 1
  | _ => 0

abbrev bufTy : (tb : Table) → Fin (tcTables nBuf tb) → BufTy
  | .hbm, ⟨0, _⟩ => ⟨S8192x22016, .f32⟩
  | .hbm, ⟨1, _⟩ => ⟨S1x2048, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S4096, .i32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S4096, .f32⟩
  | .hbm, ⟨21, _⟩ => ⟨S4096x1, .f32⟩
  | .hbm, ⟨22, _⟩ => ⟨S1x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S_, .i32⟩
  | .hbm, ⟨28, _⟩ => ⟨S_, .f32⟩
  | .hbm, ⟨29, _⟩ => ⟨S4096x128, .f32⟩
  | .hbm, ⟨30, _⟩ => ⟨S4096x128, .f32⟩
  | .hbm, ⟨31, _⟩ => ⟨S_, .i32⟩
  | .hbm, ⟨32, _⟩ => ⟨S_, .f32⟩
  | .hbm, ⟨33, _⟩ => ⟨S4096x128, .f32⟩
  | .hbm, ⟨34, _⟩ => ⟨S_, .f32⟩
  | .hbm, ⟨35, _⟩ => ⟨S2x8x256x256, .f32⟩
  | .hbm, ⟨36, _⟩ => ⟨S2048, .f32⟩
  | .hbm, ⟨37, _⟩ => ⟨S1x2048, .f32⟩
  | .hbm, ⟨38, _⟩ => ⟨S8192x2048, .bf16⟩
  | .hbm, ⟨39, _⟩ => ⟨S2x8x256x256, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x2048, .f32⟩
  | .local _ .vmem, ⟨13, _⟩ => ⟨S1x8x256x256, .f32⟩
  | .local _ .vmem, ⟨14, _⟩ => ⟨S1x8x256x256, .f32⟩
  | .local _ .vmem, ⟨15, _⟩ => ⟨S128x2048, .bf16⟩
  | .local _ .vmem, ⟨16, _⟩ => ⟨S128x2048, .bf16⟩
  | .local _ .vmem, ⟨17, _⟩ => ⟨S1x8x256x256, .f32⟩
  | .local _ .vmem, ⟨18, _⟩ => ⟨S1x8x256x256, .f32⟩
  | .local _ .vmem, ⟨19, _⟩ => ⟨S8x256x256, .f32⟩
  | .local _ .smem, ⟨0, _⟩ => ⟨S8, .f32⟩
  | _, _ => ⟨S8192x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_call1_v0 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![2, 1, 32], ![false, false, false]⟩

def k0_off1 (i : grid0.Coords) (c0_i32_4 : BitVec 32) : Fin 1 → Nat :=
  let arg1 : BitVec 32 := BitVec.ofNat 32 (i 1).val
  let c8_i32 : BitVec 32 := 8#32
  let v14 : BitVec 32 := Scalar.muli arg1 c8_i32
  let v15 : BitVec 32 := Scalar.addi v14 c0_i32_4
  let v16 : Index := Scalar.indexCast v15
  ![v16.toNat]
def k0_cond2 (i : grid0.Coords) : BitVec 1 :=
  let arg2 : BitVec 32 := BitVec.ofNat 32 (i 2).val
  let c31_i32 : BitVec 32 := 31#32
  let v870 : BitVec 1 := Scalar.cmpi .eq arg2 c31_i32
  let v871 : BitVec 32 := Scalar.extui v870
  let c0_i32_293 : BitVec 32 := 0#32
  let v872 : BitVec 1 := Scalar.cmpi .ne v871 c0_i32_293
  v872

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1x8x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x8x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelRefIdeal.lean ====
abbrev S8192x22016 : Shape := ⟨2, ![8192, 22016]⟩
abbrev S1x2048 : Shape := ⟨2, ![1, 2048]⟩
abbrev S4096 : Shape := ⟨1, ![4096]⟩
abbrev S_ : Shape := ⟨0, ![]⟩
abbrev S2x8x256x256 : Shape := ⟨4, ![2, 8, 256, 256]⟩
abbrev S8192x2048 : Shape := ⟨2, ![8192, 2048]⟩
abbrev S2x4096x8x256 : Shape := ⟨4, ![2, 4096, 8, 256]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S2x4096x8x128 : Shape := ⟨4, ![2, 4096, 8, 128]⟩
abbrev S8 : Shape := ⟨1, ![8]⟩
abbrev S128x1 : Shape := ⟨2, ![128, 1]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8 : Shape := ⟨2, ![1, 8]⟩
abbrev S128x8 : Shape := ⟨2, ![128, 8]⟩
abbrev S2x32x128x8x256 : Shape := ⟨5, ![2, 32, 128, 8, 256]⟩
abbrev S32x2x128x8x256 : Shape := ⟨5, ![32, 2, 128, 8, 256]⟩
abbrev S1x2x128x8x256 : Shape := ⟨5, ![1, 2, 128, 8, 256]⟩
abbrev S2x128x8x256 : Shape := ⟨4, ![2, 128, 8, 256]⟩
abbrev S2x8x128x128 : Shape := ⟨4, ![2, 8, 128, 128]⟩
abbrev S1x8x128x128 : Shape := ⟨4, ![1, 8, 128, 128]⟩
abbrev S2x8x256x128 : Shape := ⟨4, ![2, 8, 256, 128]⟩
abbrev S1x128x8x1 : Shape := ⟨4, ![1, 128, 8, 1]⟩
abbrev S1x8x1x1 : Shape := ⟨4, ![1, 8, 1, 1]⟩
abbrev S2x4096x8 : Shape := ⟨3, ![2, 4096, 8]⟩
abbrev S2x4096x8x1 : Shape := ⟨4, ![2, 4096, 8, 1]⟩
abbrev S2x4096x2048 : Shape := ⟨3, ![2, 4096, 2048]⟩
abbrev S2048 : Shape := ⟨1, ![2048]⟩
abbrev S1x1x2048 : Shape := ⟨3, ![1, 1, 2048]⟩

abbrev nBuf : Space → Nat
  | .hbm => 244
  | .vmem => 0
  | .smem => 0
  | _ => 0

abbrev hbmTy0_0 (i : Nat) : BufTy := match i % 128 with
  | 0 => ⟨S8192x22016, .f32⟩
  | 1 => ⟨S1x2048, .f32⟩
  | 2 => ⟨S4096, .i32⟩
  | 3 => ⟨S_, .f32⟩
  | 4 => ⟨S2x8x256x256, .f32⟩
  | 5 => ⟨S8192x2048, .f32⟩
  | 6 => ⟨S2x4096x8x256, .f32⟩
  | 7 => ⟨S128, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S4096, .f32⟩
  | 16 => ⟨S4096x1, .f32⟩
  | 17 => ⟨S1x128, .f32⟩
  | 18 => ⟨S4096x128, .f32⟩
  | 19 => ⟨S4096x128, .f32⟩
  | 20 => ⟨S4096x128, .f32⟩
  | 21 => ⟨S4096x128, .f32⟩
  | 22 => ⟨S1x4096x1x128, .f32⟩
  | 23 => ⟨S4096x128, .f32⟩
  | 24 => ⟨S1x4096x1x128, .f32⟩
  | 25 => ⟨S2x4096x8x128, .f32⟩
  | 26 => ⟨S2x4096x8x128, .f32⟩
  | 27 => ⟨S2x4096x8x128, .f32⟩
  | 28 => ⟨S2x4096x8x128, .f32⟩
  | 29 => ⟨S2x4096x8x128, .f32⟩
  | 30 => ⟨S2x4096x8x128, .f32⟩
  | 31 => ⟨S2x4096x8x128, .f32⟩
  | 32 => ⟨S2x4096x8x128, .f32⟩
  | 33 => ⟨S2x4096x8x128, .f32⟩
  | 34 => ⟨S2x4096x8x128, .f32⟩
  | 35 => ⟨S2x4096x8x128, .f32⟩
  | 36 => ⟨S2x4096x8x128, .f32⟩
  | 37 => ⟨S2x4096x8x256, .f32⟩
  | 38 => ⟨S8192x2048, .f32⟩
  | 39 => ⟨S2x4096x8x256, .f32⟩
  | 40 => ⟨S128, .f32⟩
  | 41 => ⟨S128, .f32⟩
  | 42 => ⟨S_, .f32⟩
  | 43 => ⟨S128, .f32⟩
  | 44 => ⟨S128, .f32⟩
  | 45 => ⟨S_, .f32⟩
  | 46 => ⟨S128, .f32⟩
  | 47 => ⟨S128, .f32⟩
  | 48 => ⟨S4096, .f32⟩
  | 49 => ⟨S4096x1, .f32⟩
  | 50 => ⟨S1x128, .f32⟩
  | 51 => ⟨S4096x128, .f32⟩
  | 52 => ⟨S4096x128, .f32⟩
  | 53 => ⟨S4096x128, .f32⟩
  | 54 => ⟨S4096x128, .f32⟩
  | 55 => ⟨S1x4096x1x128, .f32⟩
  | 56 => ⟨S4096x128, .f32⟩
  | 57 => ⟨S1x4096x1x128, .f32⟩
  | 58 => ⟨S2x4096x8x128, .f32⟩
  | 59 => ⟨S2x4096x8x128, .f32⟩
  | 60 => ⟨S2x4096x8x128, .f32⟩
  | 61 => ⟨S2x4096x8x128, .f32⟩
  | 62 => ⟨S2x4096x8x128, .f32⟩
  | 63 => ⟨S2x4096x8x128, .f32⟩
  | 64 => ⟨S2x4096x8x128, .f32⟩
  | 65 => ⟨S2x4096x8x128, .f32⟩
  | 66 => ⟨S2x4096x8x128, .f32⟩
  | 67 => ⟨S2x4096x8x128, .f32⟩
  | 68 => ⟨S2x4096x8x128, .f32⟩
  | 69 => ⟨S2x4096x8x128, .f32⟩
  | 70 => ⟨S2x4096x8x256, .f32⟩
  | 71 => ⟨S_, .f32⟩
  | 72 => ⟨S2x4096x8x256, .f32⟩
  | 73 => ⟨S2x4096x8x256, .f32⟩
  | 74 => ⟨S8192x2048, .f32⟩
  | 75 => ⟨S2x4096x8x256, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S128, .i32⟩
  | 86 => ⟨S128x1, .i32⟩
  | 87 => ⟨S1x128, .i32⟩
  | 88 => ⟨S128x128, .i32⟩
  | 89 => ⟨S128x128, .i32⟩
  | 90 => ⟨S128x128, .i32⟩
  | 91 => ⟨S_, .i32⟩
  | 92 => ⟨S128x128, .i32⟩
  | 93 => ⟨S128x128, .i1⟩
  | 94 => ⟨S8x1x1, .f32⟩
  | 95 => ⟨S_, .i32⟩
  | 96 => ⟨S128x128, .i32⟩
  | 97 => ⟨S128x128, .i32⟩
  | 98 => ⟨S128x128, .f32⟩
  | 99 => ⟨S1x128x128, .f32⟩
  | 100 => ⟨S8x128x128, .f32⟩
  | 101 => ⟨S8x128x128, .f32⟩
  | 102 => ⟨S8x128x128, .f32⟩
  | 103 => ⟨S8x128x128, .f32⟩
  | 104 => ⟨S_, .f32⟩
  | 105 => ⟨S_, .f32⟩
  | 106 => ⟨S8x128x128, .i1⟩
  | 107 => ⟨S8x128x128, .f32⟩
  | 108 => ⟨S8x128x128, .f32⟩
  | 109 => ⟨S1x8, .f32⟩
  | 110 => ⟨S128x1, .i32⟩
  | 111 => ⟨S_, .i32⟩
  | 112 => ⟨S128x1, .i32⟩
  | 113 => ⟨S128x1, .i32⟩
  | 114 => ⟨S128x1, .f32⟩
  | 115 => ⟨S128x8, .f32⟩
  | 116 => ⟨S128x8, .f32⟩
  | 117 => ⟨S128x8, .f32⟩
  | 118 => ⟨S128x8, .f32⟩
  | 119 => ⟨S1x8, .f32⟩
  | 120 => ⟨S_, .i32⟩
  | 121 => ⟨S128, .i32⟩
  | 122 => ⟨S128, .i32⟩
  | 123 => ⟨S128x1, .i32⟩
  | 124 => ⟨S128x1, .f32⟩
  | 125 => ⟨S128x8, .f32⟩
  | 126 => ⟨S128x8, .f32⟩
  | 127 => ⟨S128x8, .f32⟩
  | _ => ⟨S8192x22016, .f32⟩

abbrev hbmTy0_1 (i : Nat) : BufTy := match i % 128 with
  | 0 => ⟨S128x8, .f32⟩
  | 1 => ⟨S_, .f32⟩
  | 2 => ⟨S8, .f32⟩
  | 3 => ⟨S8, .f32⟩
  | 4 => ⟨S8, .f32⟩
  | 5 => ⟨S2x32x128x8x256, .f32⟩
  | 6 => ⟨S32x2x128x8x256, .f32⟩
  | 7 => ⟨S2x32x128x8x256, .f32⟩
  | 8 => ⟨S32x2x128x8x256, .f32⟩
  | 9 => ⟨S2x32x128x8x256, .f32⟩
  | 10 => ⟨S32x2x128x8x256, .f32⟩
  | 11 => ⟨S_, .f32⟩
  | 12 => ⟨S32x2x128x8x256, .f32⟩
  | 13 => ⟨S_, .i32⟩
  | 14 => ⟨S32x2x128x8x256, .f32⟩
  | 15 => ⟨S32x2x128x8x256, .f32⟩
  | 16 => ⟨S32x2x128x8x256, .f32⟩
  | 17 => ⟨S8x128x128, .f32⟩
  | 18 => ⟨S128x8, .f32⟩
  | 19 => ⟨S8, .f32⟩
  | 20 => ⟨S128x8, .f32⟩
  | 21 => ⟨S_, .i32⟩
  | 22 => ⟨S2x8x256x256, .f32⟩
  | 23 => ⟨S32x2x128x8x256, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S1x2x128x8x256, .f32⟩
  | 31 => ⟨S2x128x8x256, .f32⟩
  | 32 => ⟨S_, .i32⟩
  | 33 => ⟨S_, .i32⟩
  | 34 => ⟨S_, .i32⟩
  | 35 => ⟨S_, .i32⟩
  | 36 => ⟨S1x2x128x8x256, .f32⟩
  | 37 => ⟨S2x128x8x256, .f32⟩
  | 38 => ⟨S_, .i32⟩
  | 39 => ⟨S_, .i32⟩
  | 40 => ⟨S_, .i32⟩
  | 41 => ⟨S_, .i32⟩
  | 42 => ⟨S1x2x128x8x256, .f32⟩
  | 43 => ⟨S2x128x8x256, .f32⟩
  | 44 => ⟨S2x8x128x128, .f32⟩
  | 45 => ⟨S1x8x128x128, .f32⟩
  | 46 => ⟨S2x8x128x128, .f32⟩
  | 47 => ⟨S2x8x128x128, .f32⟩
  | 48 => ⟨S2x8x256x128, .f32⟩
  | 49 => ⟨S2x128x8x256, .f32⟩
  | 50 => ⟨S2x8x256x128, .f32⟩
  | 51 => ⟨S2x128x8x256, .f32⟩
  | 52 => ⟨S1x128x8x1, .f32⟩
  | 53 => ⟨S2x128x8x256, .f32⟩
  | 54 => ⟨S2x128x8x256, .f32⟩
  | 55 => ⟨S2x128x8x256, .f32⟩
  | 56 => ⟨S1x8x1x1, .f32⟩
  | 57 => ⟨S2x8x256x256, .f32⟩
  | 58 => ⟨S2x8x256x256, .f32⟩
  | 59 => ⟨S1x128x8x1, .f32⟩
  | 60 => ⟨S2x128x8x256, .f32⟩
  | 61 => ⟨S2x128x8x256, .f32⟩
  | 62 => ⟨S2x8x256x256, .f32⟩
  | 63 => ⟨S2x8x256x256, .f32⟩
  | 64 => ⟨S1x2x128x8x256, .f32⟩
  | 65 => ⟨S_, .i32⟩
  | 66 => ⟨S_, .i32⟩
  | 67 => ⟨S_, .i32⟩
  | 68 => ⟨S_, .i32⟩
  | 69 => ⟨S32x2x128x8x256, .f32⟩
  | 70 => ⟨S_, .i32⟩
  | 71 => ⟨S_, .i32⟩
  | 72 => ⟨S2x32x128x8x256, .f32⟩
  | 73 => ⟨S2x4096x8x256, .f32⟩
  | 74 => ⟨S_, .f32⟩
  | 75 => ⟨S2x4096x8, .f32⟩
  | 76 => ⟨S2x4096x8x1, .f32⟩
  | 77 => ⟨S_, .f32⟩
  | 78 => ⟨S2x4096x8x1, .f32⟩
  | 79 => ⟨S2x4096x8x1, .f32⟩
  | 80 => ⟨S2x4096x8x256, .f32⟩
  | 81 => ⟨S2x4096x8x256, .f32⟩
  | 82 => ⟨S2x4096x8x256, .f32⟩
  | 83 => ⟨S_, .f32⟩
  | 84 => ⟨S2x4096x8, .f32⟩
  | 85 => ⟨S2x4096x8x1, .f32⟩
  | 86 => ⟨S_, .f32⟩
  | 87 => ⟨S2x4096x8x1, .f32⟩
  | 88 => ⟨S2x4096x8x1, .f32⟩
  | 89 => ⟨S2x4096x8x256, .f32⟩
  | 90 => ⟨S2x4096x8x256, .f32⟩
  | 91 => ⟨S_, .f32⟩
  | 92 => ⟨S2x4096x8x1, .f32⟩
  | 93 => ⟨S2x4096x8x1, .f32⟩
  | 94 => ⟨S2x4096x8x1, .f32⟩
  | 95 => ⟨S2x4096x8x256, .f32⟩
  | 96 => ⟨S2x4096x8x256, .f32⟩
  | 97 => ⟨S2x4096x2048, .f32⟩
  | 98 => ⟨S2048, .f32⟩
  | 99 => ⟨S1x1x2048, .f32⟩
  | 100 => ⟨S2x4096x2048, .f32⟩
  | 101 => ⟨S2x4096x2048, .f32⟩
  | 102 => ⟨S8192x2048, .f32⟩
  | 103 => ⟨S2x4096x2048, .f32⟩
  | 104 => ⟨S2x4096x2048, .f32⟩
  | 105 => ⟨S2x4096x2048, .f32⟩
  | 106 => ⟨S_, .f32⟩
  | 107 => ⟨S2x4096x2048, .f32⟩
  | 108 => ⟨S2x4096x2048, .f32⟩
  | 109 => ⟨S_, .f32⟩
  | 110 => ⟨S2x4096x2048, .f32⟩
  | 111 => ⟨S2x4096x2048, .f32⟩
  | 112 => ⟨S2x4096x2048, .f32⟩
  | 113 => ⟨S2x4096x2048, .f32⟩
  | 114 => ⟨S8192x2048, .f32⟩
  | 115 => ⟨S8192x2048, .bf16⟩
  | _ => ⟨S8192x22016, .f32⟩

abbrev hbmTy (i : Nat) : BufTy := match i / 128 with
  | 0 => hbmTy0_0 i
  | 1 => hbmTy0_1 i
  | _ => ⟨S8192x22016, .f32⟩

abbrev bufTy : (tb : Table) → Fin (tcTables nBuf tb) → BufTy
  | .hbm, ⟨i, _⟩ => hbmTy i
  | _, _ => ⟨S8192x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_cst_4 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_5 : Ref sig .tc := ⟨.hbm, 77, rfl⟩
abbrev main_v69 : Ref sig .tc := ⟨.hbm, 78, rfl⟩
abbrev main_v70 : Ref sig .tc := ⟨.hbm, 79, rfl⟩
abbrev main_cst_6 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_c : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_c_7 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_c_9 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_c_10 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_11 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_12 : Ref sig .tc := ⟨.hbm, 139, rfl⟩
abbrev main_v120 : Ref sig .tc := ⟨.hbm, 140, rfl⟩
abbrev main_c_13 : Ref sig .tc := ⟨.hbm, 141, rfl⟩
abbrev main_v121_0 : Ref sig .tc := ⟨.hbm, 142, rfl⟩
abbrev main_v121_1 : Ref sig .tc := ⟨.hbm, 143, rfl⟩
abbrev main_v121_2 : Ref sig .tc := ⟨.hbm, 144, rfl⟩
abbrev main_v121_3 : Ref sig .tc := ⟨.hbm, 145, rfl⟩
abbrev main_v121_4 : Ref sig .tc := ⟨.hbm, 146, rfl⟩
abbrev main_v121_5 : Ref sig .tc := ⟨.hbm, 147, rfl⟩
abbrev main_v121_6 : Ref sig .tc := ⟨.hbm, 148, rfl⟩
abbrev main_v121_7 : Ref sig .tc := ⟨.hbm, 149, rfl⟩
abbrev main_v121_8 : Ref sig .tc := ⟨.hbm, 150, rfl⟩
abbrev main_v121_9 : Ref sig .tc := ⟨.hbm, 151, rfl⟩
abbrev main_while0c_c_28 : Ref sig .tc := ⟨.hbm, 152, rfl⟩
abbrev main_while0c_v153 : Ref sig .tc := ⟨.hbm, 153, rfl⟩
abbrev main_while0b_call1_c : Ref sig .tc := ⟨.hbm, 154, rfl⟩
abbrev main_while0b_call1_c_0 : Ref sig .tc := ⟨.hbm, 155, rfl⟩
abbrev main_while0b_call1_c_1 : Ref sig .tc := ⟨.hbm, 156, rfl⟩
abbrev main_while0b_call1_c_2 : Ref sig .tc := ⟨.hbm, 157, rfl⟩
abbrev main_while0b_call1_v0 : Ref sig .tc := ⟨.hbm, 158, rfl⟩
abbrev main_while0b_v153 : Ref sig .tc := ⟨.hbm, 159, rfl⟩
abbrev main_while0b_call2_c : Ref sig .tc := ⟨.hbm, 160, rfl⟩
abbrev main_while0b_call2_c_0 : Ref sig .tc := ⟨.hbm, 161, rfl⟩
abbrev main_while0b_call2_c_1 : Ref sig .tc := ⟨.hbm, 162, rfl⟩
abbrev main_while0b_call2_c_2 : Ref sig .tc := ⟨.hbm, 163, rfl⟩
abbrev main_while0b_call2_v0 : Ref sig .tc := ⟨.hbm, 164, rfl⟩
abbrev main_while0b_v154 : Ref sig .tc := ⟨.hbm, 165, rfl⟩
abbrev main_while0b_call3_c : Ref sig .tc := ⟨.hbm, 166, rfl⟩
abbrev main_while0b_call3_c_0 : Ref sig .tc := ⟨.hbm, 167, rfl⟩
abbrev main_while0b_call3_c_1 : Ref sig .tc := ⟨.hbm, 168, rfl⟩
abbrev main_while0b_call3_c_2 : Ref sig .tc := ⟨.hbm, 169, rfl⟩
abbrev main_while0b_call3_v0 : Ref sig .tc := ⟨.hbm, 170, rfl⟩
abbrev main_while0b_v155 : Ref sig .tc := ⟨.hbm, 171, rfl⟩
abbrev main_while0b_v156 : Ref sig .tc := ⟨.hbm, 172, rfl⟩
abbrev main_while0b_v157 : Ref sig .tc := ⟨.hbm, 173, rfl⟩
abbrev main_while0b_v158 : Ref sig .tc := ⟨.hbm, 174, rfl⟩
abbrev main_while0b_v159 : Ref sig .tc := ⟨.hbm, 175, rfl⟩
abbrev main_while0b_v160 : Ref sig .tc := ⟨.hbm, 176, rfl⟩
abbrev main_while0b_v161 : Ref sig .tc := ⟨.hbm, 177, rfl⟩
abbrev main_while0b_v162 : Ref sig .tc := ⟨.hbm, 178, rfl⟩
abbrev main_while0b_v163 : Ref sig .tc := ⟨.hbm, 179, rfl⟩
abbrev main_while0b_v164 : Ref sig .tc := ⟨.hbm, 180, rfl⟩
abbrev main_while0b_v165 : Ref sig .tc := ⟨.hbm, 181, rfl⟩
abbrev main_while0b_v166 : Ref sig .tc := ⟨.hbm, 182, rfl⟩
abbrev main_while0b_v167 : Ref sig .tc := ⟨.hbm, 183, rfl⟩
abbrev main_while0b_v168 : Ref sig .tc := ⟨.hbm, 184, rfl⟩
abbrev main_while0b_v169 : Ref sig .tc := ⟨.hbm, 185, rfl⟩
abbrev main_while0b_v170 : Ref sig .tc := ⟨.hbm, 186, rfl⟩
abbrev main_while0b_v171 : Ref sig .tc := ⟨.hbm, 187, rfl⟩
abbrev main_while0b_v172 : Ref sig .tc := ⟨.hbm, 188, rfl⟩
abbrev main_while0b_v173 : Ref sig .tc := ⟨.hbm, 189, rfl⟩
abbrev main_while0b_v174 : Ref sig .tc := ⟨.hbm, 190, rfl⟩
abbrev main_while0b_v175 : Ref sig .tc := ⟨.hbm, 191, rfl⟩
abbrev main_while0b_call4_v0 : Ref sig .tc := ⟨.hbm, 192, rfl⟩
abbrev main_while0b_call4_c : Ref sig .tc := ⟨.hbm, 193, rfl⟩
abbrev main_while0b_call4_c_0 : Ref sig .tc := ⟨.hbm, 194, rfl⟩
abbrev main_while0b_call4_c_1 : Ref sig .tc := ⟨.hbm, 195, rfl⟩
abbrev main_while0b_call4_c_2 : Ref sig .tc := ⟨.hbm, 196, rfl⟩
abbrev main_while0b_v176 : Ref sig .tc := ⟨.hbm, 197, rfl⟩
abbrev main_while0b_c_28 : Ref sig .tc := ⟨.hbm, 198, rfl⟩
abbrev main_while0b_v177 : Ref sig .tc := ⟨.hbm, 199, rfl⟩
abbrev main_v122 : Ref sig .tc := ⟨.hbm, 200, rfl⟩
abbrev main_v123 : Ref sig .tc := ⟨.hbm, 201, rfl⟩
abbrev main_cst_14 : Ref sig .tc := ⟨.hbm, 202, rfl⟩
abbrev main_v124 : Ref sig .tc := ⟨.hbm, 203, rfl⟩
abbrev main_v125 : Ref sig .tc := ⟨.hbm, 204, rfl⟩
abbrev main_cst_15 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_cst_16 : Ref sig .tc := ⟨.hbm, 211, rfl⟩
abbrev main_v131 : Ref sig .tc := ⟨.hbm, 212, rfl⟩
abbrev main_v132 : Ref sig .tc := ⟨.hbm, 213, rfl⟩
abbrev main_cst_17 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_cst_18 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_call5_v0 : Ref sig .tc := ⟨.hbm, 232, rfl⟩
abbrev main_call5_v1 : Ref sig .tc := ⟨.hbm, 233, rfl⟩
abbrev main_call5_cst : Ref sig .tc := ⟨.hbm, 234, rfl⟩
abbrev main_call5_v2 : Ref sig .tc := ⟨.hbm, 235, rfl⟩
abbrev main_call5_v3 : Ref sig .tc := ⟨.hbm, 236, rfl⟩
abbrev main_call5_cst_0 : Ref sig .tc := ⟨.hbm, 237, rfl⟩
abbrev main_call5_v4 : Ref sig .tc := ⟨.hbm, 238, rfl⟩
abbrev main_call5_v5 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩

abbrev nD : Nat := 1
abbrev τ : Topo := Topo.v7x

variable {F : FTy → Type} [FloatOps F]

abbrev main_while0_count : Scf.Loop 32 := ⟨0#32, 32#32, 1#32⟩
-- ==== Merge.lean ====
abbrev S8192x2048 : Shape := ⟨2, ![8192, 2048]⟩
abbrev S8192x22016 : Shape := ⟨2, ![8192, 22016]⟩
abbrev S1x2048x4096 : Shape := ⟨3, ![1, 2048, 4096]⟩
abbrev S2048x4096 : Shape := ⟨2, ![2048, 4096]⟩
abbrev S8192x4096 : Shape := ⟨2, ![8192, 4096]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x22016, .f32⟩
  | .hbm, ⟨3, _⟩ => ⟨S1x2048x4096, .f32⟩
  | .hbm, ⟨4, _⟩ => ⟨S1x2048x4096, .f32⟩
  | .hbm, ⟨5, _⟩ => ⟨S2048x4096, .f32⟩
  | .hbm, ⟨6, _⟩ => ⟨S2048x4096, .f32⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeIdeal.lean ====
abbrev S8192x2048 : Shape := ⟨2, ![8192, 2048]⟩
abbrev S8192x22016 : Shape := ⟨2, ![8192, 22016]⟩
abbrev S1x2048x4096 : Shape := ⟨3, ![1, 2048, 4096]⟩
abbrev S2048x4096 : Shape := ⟨2, ![2048, 4096]⟩
abbrev S8192x4096 : Shape := ⟨2, ![8192, 4096]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x22016, .f32⟩
  | .hbm, ⟨3, _⟩ => ⟨S1x2048x4096, .f32⟩
  | .hbm, ⟨4, _⟩ => ⟨S1x2048x4096, .f32⟩
  | .hbm, ⟨5, _⟩ => ⟨S2048x4096, .f32⟩
  | .hbm, ⟨6, _⟩ => ⟨S2048x4096, .f32⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S8192x22016 : Shape := ⟨2, ![8192, 22016]⟩
abbrev S1x2048x4096 : Shape := ⟨3, ![1, 2048, 4096]⟩
abbrev S8192x4096 : Shape := ⟨2, ![8192, 4096]⟩
abbrev S_ : Shape := ⟨0, ![]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x22016, .f32⟩
  | .hbm, ⟨3, _⟩ => ⟨S1x2048x4096, .f32⟩
  | .hbm, ⟨4, _⟩ => ⟨S1x2048x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x2048, .f32⟩
  | .hbm, ⟨16, _⟩ => ⟨S2048x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x2048, .f32⟩
  | .hbm, ⟨28, _⟩ => ⟨S2048x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Out.lean ====
abbrev S8192x4096 : Shape := ⟨2, ![8192, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutIdeal.lean ====
abbrev S8192x4096 : Shape := ⟨2, ![8192, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ffn.lean ====
abbrev S8192x4096 : Shape := ⟨2, ![8192, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S4096x11008 : Shape := ⟨2, ![4096, 11008]⟩
abbrev S11008x4096 : Shape := ⟨2, ![11008, 4096]⟩
abbrev S4096x256 : Shape := ⟨2, ![4096, 256]⟩
abbrev S256x4096 : Shape := ⟨2, ![256, 4096]⟩
abbrev S1024x4096 : Shape := ⟨2, ![1024, 4096]⟩
abbrev S_ : Shape := ⟨0, ![]⟩
abbrev S128x4096 : Shape := ⟨2, ![128, 4096]⟩
abbrev S128 : Shape := ⟨1, ![128]⟩
abbrev S128x1 : Shape := ⟨2, ![128, 1]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 13
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S4096, .f32⟩
  | .hbm, ⟨6, _⟩ => ⟨S4096, .f32⟩
  | .hbm, ⟨7, _⟩ => ⟨S4096x11008, .f32⟩
  | .hbm, ⟨8, _⟩ => ⟨S4096x11008, .f32⟩
  | .hbm, ⟨9, _⟩ => ⟨S11008x4096, .f32⟩
  | .hbm, ⟨10, _⟩ => ⟨S1x4096, .f32⟩
  | .hbm, ⟨11, _⟩ => ⟨S1x4096, .f32⟩
  | .hbm, ⟨12, _⟩ => ⟨S8192x4096, .f32⟩
  | .local _ .vmem, ⟨0, _⟩ => ⟨S1x4096, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S256x4096, .f32⟩
  | .local _ .vmem, ⟨6, _⟩ => ⟨S256x4096, .f32⟩
  | .local _ .vmem, ⟨7, _⟩ => ⟨S1x4096, .f32⟩
  | .local _ .vmem, ⟨8, _⟩ => ⟨S1024x4096, .f32⟩
  | .local _ .vmem, ⟨9, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c1024_i32 : BitVec 32 := 1024#32
  let v91 : BitVec 32 := Scalar.muli arg0 c1024_i32
  let c0_i32_61 : BitVec 32 := 0#32
  ![v91.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnIdeal.lean ====
abbrev S8192x4096 : Shape := ⟨2, ![8192, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S4096x11008 : Shape := ⟨2, ![4096, 11008]⟩
abbrev S11008x4096 : Shape := ⟨2, ![11008, 4096]⟩
abbrev S4096x256 : Shape := ⟨2, ![4096, 256]⟩
abbrev S256x4096 : Shape := ⟨2, ![256, 4096]⟩
abbrev S1024x4096 : Shape := ⟨2, ![1024, 4096]⟩
abbrev S_ : Shape := ⟨0, ![]⟩
abbrev S128x4096 : Shape := ⟨2, ![128, 4096]⟩
abbrev S128 : Shape := ⟨1, ![128]⟩
abbrev S128x1 : Shape := ⟨2, ![128, 1]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 13
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S4096, .f32⟩
  | .hbm, ⟨6, _⟩ => ⟨S4096, .f32⟩
  | .hbm, ⟨7, _⟩ => ⟨S4096x11008, .f32⟩
  | .hbm, ⟨8, _⟩ => ⟨S4096x11008, .f32⟩
  | .hbm, ⟨9, _⟩ => ⟨S11008x4096, .f32⟩
  | .hbm, ⟨10, _⟩ => ⟨S1x4096, .f32⟩
  | .hbm, ⟨11, _⟩ => ⟨S1x4096, .f32⟩
  | .hbm, ⟨12, _⟩ => ⟨S8192x4096, .f32⟩
  | .local _ .vmem, ⟨0, _⟩ => ⟨S1x4096, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S256x4096, .f32⟩
  | .local _ .vmem, ⟨6, _⟩ => ⟨S256x4096, .f32⟩
  | .local _ .vmem, ⟨7, _⟩ => ⟨S1x4096, .f32⟩
  | .local _ .vmem, ⟨8, _⟩ => ⟨S1024x4096, .f32⟩
  | .local _ .vmem, ⟨9, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c1024_i32 : BitVec 32 := 1024#32
  let v91 : BitVec 32 := Scalar.muli arg0 c1024_i32
  let c0_i32_61 : BitVec 32 := 0#32
  ![v91.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnRefIdeal.lean ====
abbrev S8192x4096 : Shape := ⟨2, ![8192, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x11008 : Shape := ⟨2, ![4096, 11008]⟩
abbrev S8192x11008 : Shape := ⟨2, ![8192, 11008]⟩
abbrev S11008x4096 : Shape := ⟨2, ![11008, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S4096x11008, .f32⟩
  | .hbm, ⟨24, _⟩ => ⟨S8192x11008, .f32⟩
  | .hbm, ⟨25, _⟩ => ⟨S8192x11008, .f32⟩
  | .hbm, ⟨26, _⟩ => ⟨S8192x11008, .f32⟩
  | .hbm, ⟨27, _⟩ => ⟨S_, .f32⟩
  | .hbm, ⟨28, _⟩ => ⟨S8192x11008, .f32⟩
  | .hbm, ⟨29, _⟩ => ⟨S8192x11008, .f32⟩
  | .hbm, ⟨30, _⟩ => ⟨S_, .f32⟩
  | .hbm, ⟨31, _⟩ => ⟨S8192x11008, .f32⟩
  | .hbm, ⟨32, _⟩ => ⟨S8192x11008, .f32⟩
  | .hbm, ⟨33, _⟩ => ⟨S8192x11008, .f32⟩
  | .hbm, ⟨34, _⟩ => ⟨S4096x11008, .f32⟩
  | .hbm, ⟨35, _⟩ => ⟨S8192x11008, .f32⟩
  | .hbm, ⟨36, _⟩ => ⟨S8192x11008, .f32⟩
  | .hbm, ⟨37, _⟩ => ⟨S11008x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x4096, .f32⟩
  | .hbm, ⟨55, _⟩ => ⟨S8192x4096, .f32⟩
  | .hbm, ⟨56, _⟩ => ⟨S1x4096, .f32⟩
  | .hbm, ⟨57, _⟩ => ⟨S8192x4096, .f32⟩
  | .hbm, ⟨58, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proj.lean ====
abbrev S8192x4096 : Shape := ⟨2, ![8192, 4096]⟩
abbrev S1x4096 : Shape := ⟨2, ![1, 4096]⟩
abbrev S1x4096x21552 : Shape := ⟨3, ![1, 4096, 21552]⟩
abbrev S43 : Shape := ⟨1, ![43]⟩
abbrev S4096x21552 : Shape := ⟨2, ![4096, 21552]⟩
abbrev S4096x48 : Shape := ⟨2, ![4096, 48]⟩
abbrev S4096x3x4x4 : Shape := ⟨4, ![4096, 3, 4, 4]⟩
abbrev S4096x4x3x4 : Shape := ⟨4, ![4096, 4, 3, 4]⟩
abbrev S4096x4x12 : Shape := ⟨3, ![4096, 4, 12]⟩
abbrev S_ : Shape := ⟨0, ![]⟩
abbrev S4096x4x128 : Shape := ⟨3, ![4096, 4, 128]⟩
abbrev S4096x512 : Shape := ⟨2, ![4096, 512]⟩
abbrev S21552x4096 : Shape := ⟨2, ![21552, 4096]⟩
abbrev S512x4096 : Shape := ⟨2, ![512, 4096]⟩
abbrev S4096 : Shape := ⟨1, ![4096]⟩
abbrev S8192x22016 : Shape := ⟨2, ![8192, 22016]⟩
abbrev S1024x4096 : Shape := ⟨2, ![1024, 4096]⟩
abbrev S1 : Shape := ⟨1, ![1]⟩
abbrev S1024x512 : Shape := ⟨2, ![1024, 512]⟩
abbrev S128x4096 : Shape := ⟨2, ![128, 4096]⟩
abbrev S128 : Shape := ⟨1, ![128]⟩
abbrev S128x1 : Shape := ⟨2, ![128, 1]⟩

abbrev nBuf : Space → Nat
  | .hbm => 18
  | .vmem => 8
  | .smem => 1
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x21552, .f32⟩
  | .hbm, ⟨3, _⟩ => ⟨S4096x21552, .f32⟩
  | .hbm, ⟨4, _⟩ => ⟨S4096x48, .f32⟩
  | .hbm, ⟨5, _⟩ => ⟨S4096x3x4x4, .f32⟩
  | .hbm, ⟨6, _⟩ => ⟨S4096x4x3x4, .f32⟩
  | .hbm, ⟨7, _⟩ => ⟨S4096x4x12, .f32⟩
  | .hbm, ⟨8, _⟩ => ⟨S_, .i32⟩
  | .hbm, ⟨9, _⟩ => ⟨S_, .f32⟩
  | .hbm, ⟨10, _⟩ => ⟨S4096x4x128, .f32⟩
  | .hbm, ⟨11, _⟩ => ⟨S4096x512, .f32⟩
  | .hbm, ⟨12, _⟩ => ⟨S21552x4096, .f32⟩
  | .hbm, ⟨13, _⟩ => ⟨S512x4096, .f32⟩
  | .hbm, ⟨14, _⟩ => ⟨S512x4096, .bf16⟩
  | .hbm, ⟨15, _⟩ => ⟨S4096, .f32⟩
  | .hbm, ⟨16, _⟩ => ⟨S1x4096, .f32⟩
  | .hbm, ⟨17, _⟩ => ⟨S8192x22016, .f32⟩
  | .local _ .vmem, ⟨0, _⟩ => ⟨S1x4096, .f32⟩
  | .local _ .vmem, ⟨1, _⟩ => ⟨S1024x4096, .f32⟩
  | .local _ .vmem, ⟨2, _⟩ => ⟨S512x4096, .bf16⟩
  | .local _ .vmem, ⟨3, _⟩ => ⟨S512x4096, .f32⟩
  | .local _ .vmem, ⟨4, _⟩ => ⟨S512x4096, .f32⟩
  | .local _ .vmem, ⟨5, _⟩ => ⟨S1024x512, .f32⟩
  | .local _ .vmem, ⟨6, _⟩ => ⟨S1024x512, .f32⟩
  | .local _ .vmem, ⟨7, _⟩ => ⟨S1024x4096, .bf16⟩
  | .local _ .smem, ⟨0, _⟩ => ⟨S43, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 43], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def k0_cond2 (i : grid0.Coords) : BitVec 1 :=
  let arg1 : BitVec 32 := BitVec.ofNat 32 (i 1).val
  let c42_i32 : BitVec 32 := 42#32
  let v3 : BitVec 1 := Scalar.cmpi .slt arg1 c42_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c42_i32_2 : BitVec 32 := 42#32
  let v6 : BitVec 1 := Scalar.cmpi .eq arg1 c42_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjIdeal.lean ====
abbrev S8192x4096 : Shape := ⟨2, ![8192, 4096]⟩
abbrev S1x4096 : Shape := ⟨2, ![1, 4096]⟩
abbrev S1x4096x21552 : Shape := ⟨3, ![1, 4096, 21552]⟩
abbrev S43 : Shape := ⟨1, ![43]⟩
abbrev S4096x21552 : Shape := ⟨2, ![4096, 21552]⟩
abbrev S4096x48 : Shape := ⟨2, ![4096, 48]⟩
abbrev S4096x3x4x4 : Shape := ⟨4, ![4096, 3, 4, 4]⟩
abbrev S4096x4x3x4 : Shape := ⟨4, ![4096, 4, 3, 4]⟩
abbrev S4096x4x12 : Shape := ⟨3, ![4096, 4, 12]⟩
abbrev S_ : Shape := ⟨0, ![]⟩
abbrev S4096x4x128 : Shape := ⟨3, ![4096, 4, 128]⟩
abbrev S4096x512 : Shape := ⟨2, ![4096, 512]⟩
abbrev S21552x4096 : Shape := ⟨2, ![21552, 4096]⟩
abbrev S512x4096 : Shape := ⟨2, ![512, 4096]⟩
abbrev S4096 : Shape := ⟨1, ![4096]⟩
abbrev S8192x22016 : Shape := ⟨2, ![8192, 22016]⟩
abbrev S1024x4096 : Shape := ⟨2, ![1024, 4096]⟩
abbrev S1 : Shape := ⟨1, ![1]⟩
abbrev S1024x512 : Shape := ⟨2, ![1024, 512]⟩
abbrev S128x4096 : Shape := ⟨2, ![128, 4096]⟩
abbrev S128 : Shape := ⟨1, ![128]⟩
abbrev S128x1 : Shape := ⟨2, ![128, 1]⟩

abbrev nBuf : Space → Nat
  | .hbm => 18
  | .vmem => 8
  | .smem => 1
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x21552, .f32⟩
  | .hbm, ⟨3, _⟩ => ⟨S4096x21552, .f32⟩
  | .hbm, ⟨4, _⟩ => ⟨S4096x48, .f32⟩
  | .hbm, ⟨5, _⟩ => ⟨S4096x3x4x4, .f32⟩
  | .hbm, ⟨6, _⟩ => ⟨S4096x4x3x4, .f32⟩
  | .hbm, ⟨7, _⟩ => ⟨S4096x4x12, .f32⟩
  | .hbm, ⟨8, _⟩ => ⟨S_, .i32⟩
  | .hbm, ⟨9, _⟩ => ⟨S_, .f32⟩
  | .hbm, ⟨10, _⟩ => ⟨S4096x4x128, .f32⟩
  | .hbm, ⟨11, _⟩ => ⟨S4096x512, .f32⟩
  | .hbm, ⟨12, _⟩ => ⟨S21552x4096, .f32⟩
  | .hbm, ⟨13, _⟩ => ⟨S512x4096, .f32⟩
  | .hbm, ⟨14, _⟩ => ⟨S512x4096, .bf16⟩
  | .hbm, ⟨15, _⟩ => ⟨S4096, .f32⟩
  | .hbm, ⟨16, _⟩ => ⟨S1x4096, .f32⟩
  | .hbm, ⟨17, _⟩ => ⟨S8192x22016, .f32⟩
  | .local _ .vmem, ⟨0, _⟩ => ⟨S1x4096, .f32⟩
  | .local _ .vmem, ⟨1, _⟩ => ⟨S1024x4096, .f32⟩
  | .local _ .vmem, ⟨2, _⟩ => ⟨S512x4096, .bf16⟩
  | .local _ .vmem, ⟨3, _⟩ => ⟨S512x4096, .f32⟩
  | .local _ .vmem, ⟨4, _⟩ => ⟨S512x4096, .f32⟩
  | .local _ .vmem, ⟨5, _⟩ => ⟨S1024x512, .f32⟩
  | .local _ .vmem, ⟨6, _⟩ => ⟨S1024x512, .f32⟩
  | .local _ .vmem, ⟨7, _⟩ => ⟨S1024x4096, .bf16⟩
  | .local _ .smem, ⟨0, _⟩ => ⟨S43, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 43], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def k0_cond2 (i : grid0.Coords) : BitVec 1 :=
  let arg1 : BitVec 32 := BitVec.ofNat 32 (i 1).val
  let c42_i32 : BitVec 32 := 42#32
  let v3 : BitVec 1 := Scalar.cmpi .slt arg1 c42_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c42_i32_2 : BitVec 32 := 42#32
  let v6 : BitVec 1 := Scalar.cmpi .eq arg1 c42_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S8192x4096 : Shape := ⟨2, ![8192, 4096]⟩
abbrev S1x4096 : Shape := ⟨2, ![1, 4096]⟩
abbrev S1x4096x21552 : Shape := ⟨3, ![1, 4096, 21552]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x21552 : Shape := ⟨2, ![4096, 21552]⟩
abbrev S8192x21552 : Shape := ⟨2, ![8192, 21552]⟩
abbrev S8192x2048 : Shape := ⟨2, ![8192, 2048]⟩
abbrev S8192x3072 : Shape := ⟨2, ![8192, 3072]⟩
abbrev S8192x48 : Shape := ⟨2, ![8192, 48]⟩
abbrev S8192x8192 : Shape := ⟨2, ![8192, 8192]⟩
abbrev S8192x3x4x4 : Shape := ⟨4, ![8192, 3, 4, 4]⟩
abbrev S8192x4x3x4 : Shape := ⟨4, ![8192, 4, 3, 4]⟩
abbrev S8192x4x12 : Shape := ⟨3, ![8192, 4, 12]⟩
abbrev S8192x4x116 : Shape := ⟨3, ![8192, 4, 116]⟩
abbrev S8192x4x128 : Shape := ⟨3, ![8192, 4, 128]⟩
abbrev S8192x512 : Shape := ⟨2, ![8192, 512]⟩
abbrev S8192x22016 : Shape := ⟨2, ![8192, 22016]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096x21552, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S4096x21552, .f32⟩
  | .hbm, ⟨21, _⟩ => ⟨S8192x21552, .f32⟩
  | .hbm, ⟨22, _⟩ => ⟨S8192x2048, .f32⟩
  | .hbm, ⟨23, _⟩ => ⟨S8192x3072, .f32⟩
  | .hbm, ⟨24, _⟩ => ⟨S8192x48, .f32⟩
  | .hbm, ⟨25, _⟩ => ⟨S8192x8192, .f32⟩
  | .hbm, ⟨26, _⟩ => ⟨S8192x8192, .f32⟩
  | .hbm, ⟨27, _⟩ => ⟨S8192x3x4x4, .f32⟩
  | .hbm, ⟨28, _⟩ => ⟨S8192x4x3x4, .f32⟩
  | .hbm, ⟨29, _⟩ => ⟨S8192x4x12, .f32⟩
  | .hbm, ⟨30, _⟩ => ⟨S_, .f32⟩
  | .hbm, ⟨31, _⟩ => ⟨S8192x4x116, .f32⟩
  | .hbm, ⟨32, _⟩ => ⟨S8192x4x128, .f32⟩
  | .hbm, ⟨33, _⟩ => ⟨S8192x512, .f32⟩
  | .hbm, ⟨34, _⟩ => ⟨S8192x22016, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== ProjS.lean ====
abbrev S512x4096 : Shape := ⟨2, ![512, 4096]⟩
abbrev S1x4096 : Shape := ⟨2, ![1, 4096]⟩
abbrev S1x4096x21552 : Shape := ⟨3, ![1, 4096, 21552]⟩
abbrev S43 : Shape := ⟨1, ![43]⟩
abbrev S4096x21552 : Shape := ⟨2, ![4096, 21552]⟩
abbrev S4096x48 : Shape := ⟨2, ![4096, 48]⟩
abbrev S4096x3x4x4 : Shape := ⟨4, ![4096, 3, 4, 4]⟩
abbrev S4096x4x3x4 : Shape := ⟨4, ![4096, 4, 3, 4]⟩
abbrev S4096x4x12 : Shape := ⟨3, ![4096, 4, 12]⟩
abbrev S_ : Shape := ⟨0, ![]⟩
abbrev S4096x4x128 : Shape := ⟨3, ![4096, 4, 128]⟩
abbrev S4096x512 : Shape := ⟨2, ![4096, 512]⟩
abbrev S21552x4096 : Shape := ⟨2, ![21552, 4096]⟩
abbrev S4096 : Shape := ⟨1, ![4096]⟩
abbrev S512x22016 : Shape := ⟨2, ![512, 22016]⟩
abbrev S1 : Shape := ⟨1, ![1]⟩
abbrev S512x512 : Shape := ⟨2, ![512, 512]⟩
abbrev S64x4096 : Shape := ⟨2, ![64, 4096]⟩
abbrev S64 : Shape := ⟨1, ![64]⟩
abbrev S64x1 : Shape := ⟨2, ![64, 1]⟩

abbrev nBuf : Space → Nat
  | .hbm => 18
  | .vmem => 8
  | .smem => 1
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096x21552, .f32⟩
  | .hbm, ⟨3, _⟩ => ⟨S4096x21552, .f32⟩
  | .hbm, ⟨4, _⟩ => ⟨S4096x48, .f32⟩
  | .hbm, ⟨5, _⟩ => ⟨S4096x3x4x4, .f32⟩
  | .hbm, ⟨6, _⟩ => ⟨S4096x4x3x4, .f32⟩
  | .hbm, ⟨7, _⟩ => ⟨S4096x4x12, .f32⟩
  | .hbm, ⟨8, _⟩ => ⟨S_, .i32⟩
  | .hbm, ⟨9, _⟩ => ⟨S_, .f32⟩
  | .hbm, ⟨10, _⟩ => ⟨S4096x4x128, .f32⟩
  | .hbm, ⟨11, _⟩ => ⟨S4096x512, .f32⟩
  | .hbm, ⟨12, _⟩ => ⟨S21552x4096, .f32⟩
  | .hbm, ⟨13, _⟩ => ⟨S512x4096, .f32⟩
  | .hbm, ⟨14, _⟩ => ⟨S512x4096, .bf16⟩
  | .hbm, ⟨15, _⟩ => ⟨S4096, .f32⟩
  | .hbm, ⟨16, _⟩ => ⟨S1x4096, .f32⟩
  | .hbm, ⟨17, _⟩ => ⟨S512x22016, .f32⟩
  | .local _ .vmem, ⟨0, _⟩ => ⟨S1x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .f32⟩
  | .local _ .vmem, ⟨4, _⟩ => ⟨S512x4096, .f32⟩
  | .local _ .vmem, ⟨5, _⟩ => ⟨S512x512, .f32⟩
  | .local _ .vmem, ⟨6, _⟩ => ⟨S512x512, .f32⟩
  | .local _ .vmem, ⟨7, _⟩ => ⟨S512x4096, .bf16⟩
  | .local _ .smem, ⟨0, _⟩ => ⟨S43, .i32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 43], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def k0_cond2 (i : grid0.Coords) : BitVec 1 :=
  let arg1 : BitVec 32 := BitVec.ofNat 32 (i 1).val
  let c42_i32 : BitVec 32 := 42#32
  let v3 : BitVec 1 := Scalar.cmpi .slt arg1 c42_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c42_i32_2 : BitVec 32 := 42#32
  let v6 : BitVec 1 := Scalar.cmpi .eq arg1 c42_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjSRefIdeal.lean ====
abbrev S512x4096 : Shape := ⟨2, ![512, 4096]⟩
abbrev S1x4096 : Shape := ⟨2, ![1, 4096]⟩
abbrev S1x4096x21552 : Shape := ⟨3, ![1, 4096, 21552]⟩
abbrev S4096 : Shape := ⟨1, ![4096]⟩
abbrev S_ : Shape := ⟨0, ![]⟩
abbrev S512 : Shape := ⟨1, ![512]⟩
abbrev S512x1 : Shape := ⟨2, ![512, 1]⟩
abbrev S4096x21552 : Shape := ⟨2, ![4096, 21552]⟩
abbrev S512x21552 : Shape := ⟨2, ![512, 21552]⟩
abbrev S512x2048 : Shape := ⟨2, ![512, 2048]⟩
abbrev S512x3072 : Shape := ⟨2, ![512, 3072]⟩
abbrev S512x48 : Shape := ⟨2, ![512, 48]⟩
abbrev S512x8192 : Shape := ⟨2, ![512, 8192]⟩
abbrev S512x3x4x4 : Shape := ⟨4, ![512, 3, 4, 4]⟩
abbrev S512x4x3x4 : Shape := ⟨4, ![512, 4, 3, 4]⟩
abbrev S512x4x12 : Shape := ⟨3, ![512, 4, 12]⟩
abbrev S512x4x116 : Shape := ⟨3, ![512, 4, 116]⟩
abbrev S512x4x128 : Shape := ⟨3, ![512, 4, 128]⟩
abbrev S512x512 : Shape := ⟨2, ![512, 512]⟩
abbrev S512x22016 : Shape := ⟨2, ![512, 22016]⟩

abbrev nBuf : Space → Nat
  | .hbm => 35
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096x21552, .f32⟩
  | .hbm, ⟨3, _⟩ => ⟨S4096, .f32⟩
  | .hbm, ⟨4, _⟩ => ⟨S512x4096, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x4096, .f32⟩
  | .hbm, ⟨16, _⟩ => ⟨S512x4096, .f32⟩
  | .hbm, ⟨17, _⟩ => ⟨S1x4096, .f32⟩
  | .hbm, ⟨18, _⟩ => ⟨S512x4096, .f32⟩
  | .hbm, ⟨19, _⟩ => ⟨S512x4096, .f32⟩
  | .hbm, ⟨20, _⟩ => ⟨S4096x21552, .f32⟩
  | .hbm, ⟨21, _⟩ => ⟨S512x21552, .f32⟩
  | .hbm, ⟨22, _⟩ => ⟨S512x2048, .f32⟩
  | .hbm, ⟨23, _⟩ => ⟨S512x3072, .f32⟩
  | .hbm, ⟨24, _⟩ => ⟨S512x48, .f32⟩
  | .hbm, ⟨25, _⟩ => ⟨S512x8192, .f32⟩
  | .hbm, ⟨26, _⟩ => ⟨S512x8192, .f32⟩
  | .hbm, ⟨27, _⟩ => ⟨S512x3x4x4, .f32⟩
  | .hbm, ⟨28, _⟩ => ⟨S512x4x3x4, .f32⟩
  | .hbm, ⟨29, _⟩ => ⟨S512x4x12, .f32⟩
  | .hbm, ⟨30, _⟩ => ⟨S_, .f32⟩
  | .hbm, ⟨31, _⟩ => ⟨S512x4x116, .f32⟩
  | .hbm, ⟨32, _⟩ => ⟨S512x4x128, .f32⟩
  | .hbm, ⟨33, _⟩ => ⟨S512x512, .f32⟩
  | .hbm, ⟨34, _⟩ => ⟨S512x22016, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== FfnS.lean ====
abbrev S512x4096 : Shape := ⟨2, ![512, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S4096x11008 : Shape := ⟨2, ![4096, 11008]⟩
abbrev S11008x4096 : Shape := ⟨2, ![11008, 4096]⟩
abbrev S4096x256 : Shape := ⟨2, ![4096, 256]⟩
abbrev S256x4096 : Shape := ⟨2, ![256, 4096]⟩
abbrev S_ : Shape := ⟨0, ![]⟩
abbrev S64x4096 : Shape := ⟨2, ![64, 4096]⟩
abbrev S64 : Shape := ⟨1, ![64]⟩
abbrev S64x1 : Shape := ⟨2, ![64, 1]⟩
abbrev S512x256 : Shape := ⟨2, ![512, 256]⟩
abbrev S512x512 : Shape := ⟨2, ![512, 512]⟩
abbrev S256x512 : Shape := ⟨2, ![256, 512]⟩

abbrev nBuf : Space → Nat
  | .hbm => 13
  | .vmem => 10
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S4096, .f32⟩
  | .hbm, ⟨6, _⟩ => ⟨S4096, .f32⟩
  | .hbm, ⟨7, _⟩ => ⟨S4096x11008, .f32⟩
  | .hbm, ⟨8, _⟩ => ⟨S4096x11008, .f32⟩
  | .hbm, ⟨9, _⟩ => ⟨S11008x4096, .f32⟩
  | .hbm, ⟨10, _⟩ => ⟨S1x4096, .f32⟩
  | .hbm, ⟨11, _⟩ => ⟨S1x4096, .f32⟩
  | .hbm, ⟨12, _⟩ => ⟨S512x4096, .f32⟩
  | .local _ .vmem, ⟨0, _⟩ => ⟨S1x4096, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S256x4096, .f32⟩
  | .local _ .vmem, ⟨6, _⟩ => ⟨S256x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![1, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c512_i32 : BitVec 32 := 512#32
  let v91 : BitVec 32 := Scalar.muli arg0 c512_i32
  let c0_i32_61 : BitVec 32 := 0#32
  ![v91.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnSRefIdeal.lean ====
abbrev S512x4096 : Shape := ⟨2, ![512, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S_ : Shape := ⟨0, ![]⟩
abbrev S512 : Shape := ⟨1, ![512]⟩
abbrev S512x1 : Shape := ⟨2, ![512, 1]⟩
abbrev S4096x11008 : Shape := ⟨2, ![4096, 11008]⟩
abbrev S512x11008 : Shape := ⟨2, ![512, 11008]⟩
abbrev S11008x4096 : Shape := ⟨2, ![11008, 4096]⟩

abbrev nBuf : Space → Nat
  | .hbm => 59
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S4096, .f32⟩
  | .hbm, ⟨6, _⟩ => ⟨S4096, .f32⟩
  | .hbm, ⟨7, _⟩ => ⟨S512x4096, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x4096, .f32⟩
  | .hbm, ⟨19, _⟩ => ⟨S512x4096, .f32⟩
  | .hbm, ⟨20, _⟩ => ⟨S1x4096, .f32⟩
  | .hbm, ⟨21, _⟩ => ⟨S512x4096, .f32⟩
  | .hbm, ⟨22, _⟩ => ⟨S512x4096, .f32⟩
  | .hbm, ⟨23, _⟩ => ⟨S4096x11008, .f32⟩
  | .hbm, ⟨24, _⟩ => ⟨S512x11008, .f32⟩
  | .hbm, ⟨25, _⟩ => ⟨S512x11008, .f32⟩
  | .hbm, ⟨26, _⟩ => ⟨S512x11008, .f32⟩
  | .hbm, ⟨27, _⟩ => ⟨S_, .f32⟩
  | .hbm, ⟨28, _⟩ => ⟨S512x11008, .f32⟩
  | .hbm, ⟨29, _⟩ => ⟨S512x11008, .f32⟩
  | .hbm, ⟨30, _⟩ => ⟨S_, .f32⟩
  | .hbm, ⟨31, _⟩ => ⟨S512x11008, .f32⟩
  | .hbm, ⟨32, _⟩ => ⟨S512x11008, .f32⟩
  | .hbm, ⟨33, _⟩ => ⟨S512x11008, .f32⟩
  | .hbm, ⟨34, _⟩ => ⟨S4096x11008, .f32⟩
  | .hbm, ⟨35, _⟩ => ⟨S512x11008, .f32⟩
  | .hbm, ⟨36, _⟩ => ⟨S512x11008, .f32⟩
  | .hbm, ⟨37, _⟩ => ⟨S11008x4096, .f32⟩
  | .hbm, ⟨38, _⟩ => ⟨S512x4096, .f32⟩
  | .hbm, ⟨39, _⟩ => ⟨S_, .f32⟩
  | .hbm, ⟨40, _⟩ => ⟨S512x4096, .f32⟩
  | .hbm, ⟨41, _⟩ => ⟨S512x4096, .f32⟩
  | .hbm, ⟨42, _⟩ => ⟨S512x4096, .f32⟩
  | .hbm, ⟨43, _⟩ => ⟨S512x4096, .f32⟩
  | .hbm, ⟨44, _⟩ => ⟨S_, .f32⟩
  | .hbm, ⟨45, _⟩ => ⟨S512, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S512x1, .f32⟩
  | .hbm, ⟨54, _⟩ => ⟨S512x4096, .f32⟩
  | .hbm, ⟨55, _⟩ => ⟨S512x4096, .f32⟩
  | .hbm, ⟨56, _⟩ => ⟨S1x4096, .f32⟩
  | .hbm, ⟨57, _⟩ => ⟨S512x4096, .f32⟩
  | .hbm, ⟨58, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== RetS.lean ====
abbrev S512x22016 : Shape := ⟨2, ![512, 22016]⟩
abbrev S1x2048 : Shape := ⟨2, ![1, 2048]⟩
abbrev S1x128x8x256x256 : Shape := ⟨5, ![1, 128, 8, 256, 256]⟩
abbrev S8 : Shape := ⟨1, ![8]⟩
abbrev S_ : Shape := ⟨0, ![]⟩
abbrev S128x4x22016 : Shape := ⟨3, ![128, 4, 22016]⟩
abbrev S4 : Shape := ⟨1, ![4]⟩
abbrev S128 : Shape := ⟨1, ![128]⟩
abbrev S4x1 : Shape := ⟨2, ![4, 1]⟩
abbrev S1x128 : Shape := ⟨2, ![1, 128]⟩
abbrev S4x128 : Shape := ⟨2, ![4, 128]⟩
abbrev S8x128 : Shape := ⟨2, ![8, 128]⟩
abbrev S2048 : Shape := ⟨1, ![2048]⟩
abbrev S128x8x256x256 : Shape := ⟨4, ![128, 8, 256, 256]⟩
abbrev S128x4x2048 : Shape := ⟨3, ![128, 4, 2048]⟩
abbrev S1x4x2048 : Shape := ⟨3, ![1, 4, 2048]⟩
abbrev S1x8x256x256 : Shape := ⟨4, ![1, 8, 256, 256]⟩
abbrev S8x256x256 : Shape := ⟨3, ![8, 256, 256]⟩
abbrev S8x1 : Shape := ⟨2, ![8, 1]⟩
abbrev S1x8 : Shape := ⟨2, ![1, 8]⟩
abbrev S8x8 : Shape := ⟨2, ![8, 8]⟩
abbrev S1 : Shape := ⟨1, ![1]⟩
abbrev S1x4x256 : Shape := ⟨3, ![1, 4, 256]⟩
abbrev S4x256 : Shape := ⟨2, ![4, 256]⟩
abbrev S8x256 : Shape := ⟨2, ![8, 256]⟩
abbrev S1x1 : Shape := ⟨2, ![1, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 44
  | .vmem => 18
  | .smem => 1
  | _ => 0

abbrev bufTy : (tb : Table) → Fin (tcTables nBuf tb) → BufTy
  | .hbm, ⟨0, _⟩ => ⟨S512x22016, .f32⟩
  | .hbm, ⟨1, _⟩ => ⟨S1x2048, .f32⟩
  | .hbm, ⟨2, _⟩ => ⟨S1x128x8x256x256, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S128x4x22016, .f32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S4, .f32⟩
  | .hbm, ⟨26, _⟩ => ⟨S4x1, .f32⟩
  | .hbm, ⟨27, _⟩ => ⟨S1x128, .f32⟩
  | .hbm, ⟨28, _⟩ => ⟨S4x128, .f32⟩
  | .hbm, ⟨29, _⟩ => ⟨S4x128, .f32⟩
  | .hbm, ⟨30, _⟩ => ⟨S4x128, .f32⟩
  | .hbm, ⟨31, _⟩ => ⟨S4x128, .f32⟩
  | .hbm, ⟨32, _⟩ => ⟨S_, .i32⟩
  | .hbm, ⟨33, _⟩ => ⟨S_, .f32⟩
  | .hbm, ⟨34, _⟩ => ⟨S8x128, .f32⟩
  | .hbm, ⟨35, _⟩ => ⟨S4x128, .f32⟩
  | .hbm, ⟨36, _⟩ => ⟨S_, .i32⟩
  | .hbm, ⟨37, _⟩ => ⟨S_, .f32⟩
  | .hbm, ⟨38, _⟩ => ⟨S8x128, .f32⟩
  | .hbm, ⟨39, _⟩ => ⟨S2048, .f32⟩
  | .hbm, ⟨40, _⟩ => ⟨S128x8x256x256, .f32⟩
  | .hbm, ⟨41, _⟩ => ⟨S1x2048, .f32⟩
  | .hbm, ⟨42, _⟩ => ⟨S128x4x2048, .bf16⟩
  | .hbm, ⟨43, _⟩ => ⟨S128x8x256x256, .f32⟩
  | .local _ .vmem, ⟨0, _⟩ => ⟨S1x4x2048, .f32⟩
  | .local _ .vmem, ⟨1, _⟩ => ⟨S1x4x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x4x2048, .f32⟩
  | .local _ .vmem, ⟨5, _⟩ => ⟨S1x4x2048, .f32⟩
  | .local _ .vmem, ⟨6, _⟩ => ⟨S1x4x2048, .f32⟩
  | .local _ .vmem, ⟨7, _⟩ => ⟨S1x4x2048, .f32⟩
  | .local _ .vmem, ⟨8, _⟩ => ⟨S8x128, .f32⟩
  | .local _ .vmem, ⟨9, _⟩ => ⟨S8x128, .f32⟩
  | .local _ .vmem, ⟨10, _⟩ => ⟨S1x2048, .f32⟩
  | .local _ .vmem, ⟨11, _⟩ => ⟨S1x8x256x256, .f32⟩
  | .local _ .vmem, ⟨12, _⟩ => ⟨S1x8x256x256, .f32⟩
  | .local _ .vmem, ⟨13, _⟩ => ⟨S1x4x2048, .bf16⟩
  | .local _ .vmem, ⟨14, _⟩ => ⟨S1x4x2048, .bf16⟩
  | .local _ .vmem, ⟨15, _⟩ => ⟨S1x8x256x256, .f32⟩
  | .local _ .vmem, ⟨16, _⟩ => ⟨S1x8x256x256, .f32⟩
  | .local _ .vmem, ⟨17, _⟩ => ⟨S8x256x256, .f32⟩
  | .local _ .smem, ⟨0, _⟩ => ⟨S8, .f32⟩
  | _, _ => ⟨S512x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![128, 1, 1], ![false, false, false]⟩

def k0_off1 (i : grid0.Coords) (c0_i32_4 : BitVec 32) : Fin 1 → Nat :=
  let arg1 : BitVec 32 := BitVec.ofNat 32 (i 1).val
  let c8_i32 : BitVec 32 := 8#32
  let v14 : BitVec 32 := Scalar.muli arg1 c8_i32
  let v15 : BitVec 32 := Scalar.addi v14 c0_i32_4
  let v16 : Index := Scalar.indexCast v15
  ![v16.toNat]
def k0_cond2 (i : grid0.Coords) : BitVec 1 :=
  let arg2 : BitVec 32 := BitVec.ofNat 32 (i 2).val
  let c0_i32_365 : BitVec 32 := 0#32
  let v990 : BitVec 1 := Scalar.cmpi .eq arg2 c0_i32_365
  let v991 : BitVec 32 := Scalar.extui v990
  let c0_i32_366 : BitVec 32 := 0#32
  let v992 : BitVec 1 := Scalar.cmpi .ne v991 c0_i32_366
  v992

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1x8x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x4x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x8x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== RetSRefIdeal.lean ====
abbrev S512x22016 : Shape := ⟨2, ![512, 22016]⟩
abbrev S1x2048 : Shape := ⟨2, ![1, 2048]⟩
abbrev S1x128x8x256x256 : Shape := ⟨5, ![1, 128, 8, 256, 256]⟩
abbrev S4 : Shape := ⟨1, ![4]⟩
abbrev S_ : Shape := ⟨0, ![]⟩
abbrev S128x8x256x256 : Shape := ⟨4, ![128, 8, 256, 256]⟩
abbrev S512x2048 : Shape := ⟨2, ![512, 2048]⟩
abbrev S128x4x8x256 : Shape := ⟨4, ![128, 4, 8, 256]⟩
abbrev S128 : Shape := ⟨1, ![128]⟩
abbrev S4x1 : Shape := ⟨2, ![4, 1]⟩
abbrev S1x128 : Shape := ⟨2, ![1, 128]⟩
abbrev S4x128 : Shape := ⟨2, ![4, 128]⟩
abbrev S1x4x1x128 : Shape := ⟨4, ![1, 4, 1, 128]⟩
abbrev S128x4x8x128 : Shape := ⟨4, ![128, 4, 8, 128]⟩
abbrev S8 : Shape := ⟨1, ![8]⟩
abbrev S1x4 : Shape := ⟨2, ![1, 4]⟩
abbrev S4x4 : Shape := ⟨2, ![4, 4]⟩
abbrev S8x1x1 : Shape := ⟨3, ![8, 1, 1]⟩
abbrev S1x4x4 : Shape := ⟨3, ![1, 4, 4]⟩
abbrev S8x4x4 : Shape := ⟨3, ![8, 4, 4]⟩
abbrev S1x8 : Shape := ⟨2, ![1, 8]⟩
abbrev S4x8 : Shape := ⟨2, ![4, 8]⟩
abbrev S128x8x4x4 : Shape := ⟨4, ![128, 8, 4, 4]⟩
abbrev S1x8x4x4 : Shape := ⟨4, ![1, 8, 4, 4]⟩
abbrev S128x8x256x4 : Shape := ⟨4, ![128, 8, 256, 4]⟩
abbrev S1x4x8x1 : Shape := ⟨4, ![1, 4, 8, 1]⟩
abbrev S1x8x1x1 : Shape := ⟨4, ![1, 8, 1, 1]⟩
abbrev S128x4x8 : Shape := ⟨3, ![128, 4, 8]⟩
abbrev S128x4x8x1 : Shape := ⟨4, ![128, 4, 8, 1]⟩
abbrev S128x4x2048 : Shape := ⟨3, ![128, 4, 2048]⟩
abbrev S2048 : Shape := ⟨1, ![2048]⟩
abbrev S1x1x2048 : Shape := ⟨3, ![1, 1, 2048]⟩

abbrev nBuf : Space → Nat
  | .hbm => 197
  | .vmem => 0
  | .smem => 0
  | _ => 0

abbrev hbmTy0_0 (i : Nat) : BufTy := match i % 128 with
  | 0 => ⟨S512x22016, .f32⟩
  | 1 => ⟨S1x2048, .f32⟩
  | 2 => ⟨S1x128x8x256x256, .f32⟩
  | 3 => ⟨S4, .i32⟩
  | 4 => ⟨S_, .i32⟩
  | 5 => ⟨S4, .i32⟩
  | 6 => ⟨S4, .i32⟩
  | 7 => ⟨S128x8x256x256, .f32⟩
  | 8 => ⟨S512x2048, .f32⟩
  | 9 => ⟨S128x4x8x256, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S4, .f32⟩
  | 19 => ⟨S4x1, .f32⟩
  | 20 => ⟨S1x128, .f32⟩
  | 21 => ⟨S4x128, .f32⟩
  | 22 => ⟨S4x128, .f32⟩
  | 23 => ⟨S4x128, .f32⟩
  | 24 => ⟨S4x128, .f32⟩
  | 25 => ⟨S1x4x1x128, .f32⟩
  | 26 => ⟨S4x128, .f32⟩
  | 27 => ⟨S1x4x1x128, .f32⟩
  | 28 => ⟨S128x4x8x128, .f32⟩
  | 29 => ⟨S128x4x8x128, .f32⟩
  | 30 => ⟨S128x4x8x128, .f32⟩
  | 31 => ⟨S128x4x8x128, .f32⟩
  | 32 => ⟨S128x4x8x128, .f32⟩
  | 33 => ⟨S128x4x8x128, .f32⟩
  | 34 => ⟨S128x4x8x128, .f32⟩
  | 35 => ⟨S128x4x8x128, .f32⟩
  | 36 => ⟨S128x4x8x128, .f32⟩
  | 37 => ⟨S128x4x8x128, .f32⟩
  | 38 => ⟨S128x4x8x128, .f32⟩
  | 39 => ⟨S128x4x8x128, .f32⟩
  | 40 => ⟨S128x4x8x256, .f32⟩
  | 41 => ⟨S512x2048, .f32⟩
  | 42 => ⟨S128x4x8x256, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S4, .f32⟩
  | 52 => ⟨S4x1, .f32⟩
  | 53 => ⟨S1x128, .f32⟩
  | 54 => ⟨S4x128, .f32⟩
  | 55 => ⟨S4x128, .f32⟩
  | 56 => ⟨S4x128, .f32⟩
  | 57 => ⟨S4x128, .f32⟩
  | 58 => ⟨S1x4x1x128, .f32⟩
  | 59 => ⟨S4x128, .f32⟩
  | 60 => ⟨S1x4x1x128, .f32⟩
  | 61 => ⟨S128x4x8x128, .f32⟩
  | 62 => ⟨S128x4x8x128, .f32⟩
  | 63 => ⟨S128x4x8x128, .f32⟩
  | 64 => ⟨S128x4x8x128, .f32⟩
  | 65 => ⟨S128x4x8x128, .f32⟩
  | 66 => ⟨S128x4x8x128, .f32⟩
  | 67 => ⟨S128x4x8x128, .f32⟩
  | 68 => ⟨S128x4x8x128, .f32⟩
  | 69 => ⟨S128x4x8x128, .f32⟩
  | 70 => ⟨S128x4x8x128, .f32⟩
  | 71 => ⟨S128x4x8x128, .f32⟩
  | 72 => ⟨S128x4x8x128, .f32⟩
  | 73 => ⟨S128x4x8x256, .f32⟩
  | 74 => ⟨S_, .f32⟩
  | 75 => ⟨S128x4x8x256, .f32⟩
  | 76 => ⟨S128x4x8x256, .f32⟩
  | 77 => ⟨S512x2048, .f32⟩
  | 78 => ⟨S128x4x8x256, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S8, .f32⟩
  | 88 => ⟨S4, .i32⟩
  | 89 => ⟨S4x1, .i32⟩
  | 90 => ⟨S1x4, .i32⟩
  | 91 => ⟨S4x4, .i32⟩
  | 92 => ⟨S4x4, .i32⟩
  | 93 => ⟨S4x4, .i32⟩
  | 94 => ⟨S_, .i32⟩
  | 95 => ⟨S4x4, .i32⟩
  | 96 => ⟨S4x4, .i1⟩
  | 97 => ⟨S8x1x1, .f32⟩
  | 98 => ⟨S_, .i32⟩
  | 99 => ⟨S4x4, .i32⟩
  | 100 => ⟨S4x4, .i32⟩
  | 101 => ⟨S4x4, .f32⟩
  | 102 => ⟨S1x4x4, .f32⟩
  | 103 => ⟨S8x4x4, .f32⟩
  | 104 => ⟨S8x4x4, .f32⟩
  | 105 => ⟨S8x4x4, .f32⟩
  | 106 => ⟨S8x4x4, .f32⟩
  | 107 => ⟨S_, .f32⟩
  | 108 => ⟨S_, .f32⟩
  | 109 => ⟨S8x4x4, .i1⟩
  | 110 => ⟨S8x4x4, .f32⟩
  | 111 => ⟨S8x4x4, .f32⟩
  | 112 => ⟨S1x8, .f32⟩
  | 113 => ⟨S4x1, .i32⟩
  | 114 => ⟨S_, .i32⟩
  | 115 => ⟨S4x1, .i32⟩
  | 116 => ⟨S4x1, .i32⟩
  | 117 => ⟨S4x1, .f32⟩
  | 118 => ⟨S4x8, .f32⟩
  | 119 => ⟨S4x8, .f32⟩
  | 120 => ⟨S4x8, .f32⟩
  | 121 => ⟨S4x8, .f32⟩
  | 122 => ⟨S1x8, .f32⟩
  | 123 => ⟨S_, .i32⟩
  | 124 => ⟨S4, .i32⟩
  | 125 => ⟨S4, .i32⟩
  | 126 => ⟨S4x1, .i32⟩
  | 127 => ⟨S4x1, .f32⟩
  | _ => ⟨S512x22016, .f32⟩

abbrev hbmTy0_1 (i : Nat) : BufTy := match i % 128 with
  | 0 => ⟨S4x8, .f32⟩
  | 1 => ⟨S4x8, .f32⟩
  | 2 => ⟨S4x8, .f32⟩
  | 3 => ⟨S4x8, .f32⟩
  | 4 => ⟨S_, .f32⟩
  | 5 => ⟨S8, .f32⟩
  | 6 => ⟨S8, .f32⟩
  | 7 => ⟨S8, .f32⟩
  | 8 => ⟨S128x8x4x4, .f32⟩
  | 9 => ⟨S1x8x4x4, .f32⟩
  | 10 => ⟨S128x8x4x4, .f32⟩
  | 11 => ⟨S128x8x4x4, .f32⟩
  | 12 => ⟨S128x8x256x4, .f32⟩
  | 13 => ⟨S128x4x8x256, .f32⟩
  | 14 => ⟨S128x8x256x4, .f32⟩
  | 15 => ⟨S128x4x8x256, .f32⟩
  | 16 => ⟨S1x4x8x1, .f32⟩
  | 17 => ⟨S128x4x8x256, .f32⟩
  | 18 => ⟨S128x4x8x256, .f32⟩
  | 19 => ⟨S128x4x8x256, .f32⟩
  | 20 => ⟨S1x8x1x1, .f32⟩
  | 21 => ⟨S128x8x256x256, .f32⟩
  | 22 => ⟨S128x8x256x256, .f32⟩
  | 23 => ⟨S1x4x8x1, .f32⟩
  | 24 => ⟨S128x4x8x256, .f32⟩
  | 25 => ⟨S128x4x8x256, .f32⟩
  | 26 => ⟨S128x8x256x256, .f32⟩
  | 27 => ⟨S128x8x256x256, .f32⟩
  | 28 => ⟨S_, .f32⟩
  | 29 => ⟨S128x4x8, .f32⟩
  | 30 => ⟨S128x4x8x1, .f32⟩
  | 31 => ⟨S_, .f32⟩
  | 32 => ⟨S128x4x8x1, .f32⟩
  | 33 => ⟨S128x4x8x1, .f32⟩
  | 34 => ⟨S128x4x8x256, .f32⟩
  | 35 => ⟨S128x4x8x256, .f32⟩
  | 36 => ⟨S128x4x8x256, .f32⟩
  | 37 => ⟨S_, .f32⟩
  | 38 => ⟨S128x4x8, .f32⟩
  | 39 => ⟨S128x4x8x1, .f32⟩
  | 40 => ⟨S_, .f32⟩
  | 41 => ⟨S128x4x8x1, .f32⟩
  | 42 => ⟨S128x4x8x1, .f32⟩
  | 43 => ⟨S128x4x8x256, .f32⟩
  | 44 => ⟨S128x4x8x256, .f32⟩
  | 45 => ⟨S_, .f32⟩
  | 46 => ⟨S128x4x8x1, .f32⟩
  | 47 => ⟨S128x4x8x1, .f32⟩
  | 48 => ⟨S128x4x8x1, .f32⟩
  | 49 => ⟨S128x4x8x256, .f32⟩
  | 50 => ⟨S128x4x8x256, .f32⟩
  | 51 => ⟨S128x4x2048, .f32⟩
  | 52 => ⟨S2048, .f32⟩
  | 53 => ⟨S1x1x2048, .f32⟩
  | 54 => ⟨S128x4x2048, .f32⟩
  | 55 => ⟨S128x4x2048, .f32⟩
  | 56 => ⟨S512x2048, .f32⟩
  | 57 => ⟨S128x4x2048, .f32⟩
  | 58 => ⟨S128x4x2048, .f32⟩
  | 59 => ⟨S128x4x2048, .f32⟩
  | 60 => ⟨S_, .f32⟩
  | 61 => ⟨S128x4x2048, .f32⟩
  | 62 => ⟨S128x4x2048, .f32⟩
  | 63 => ⟨S_, .f32⟩
  | 64 => ⟨S128x4x2048, .f32⟩
  | 65 => ⟨S128x4x2048, .f32⟩
  | 66 => ⟨S128x4x2048, .f32⟩
  | 67 => ⟨S128x4x2048, .f32⟩
  | 68 => ⟨S128x4x2048, .bf16⟩
  | _ => ⟨S512x22016, .f32⟩

abbrev hbmTy (i : Nat) : BufTy := match i / 128 with
  | 0 => hbmTy0_0 i
  | 1 => hbmTy0_1 i
  | _ => ⟨S512x22016, .f32⟩

abbrev bufTy : (tb : Table) → Fin (tcTables nBuf tb) → BufTy
  | .hbm, ⟨i, _⟩ => hbmTy i
  | _, _ => ⟨S512x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_1 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_3 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_v71 : Ref sig .tc := ⟨.hbm, 81, rfl⟩
abbrev main_v72 : Ref sig .tc := ⟨.hbm, 82, rfl⟩
abbrev main_cst_5 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_c_6 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_c_7 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_8 : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_c_9 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_c_10 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_11 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_cst_12 : Ref sig .tc := ⟨.hbm, 156, rfl⟩
abbrev main_v136 : Ref sig .tc := ⟨.hbm, 157, rfl⟩
abbrev main_v137 : Ref sig .tc := ⟨.hbm, 158, rfl⟩
abbrev main_cst_13 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_cst_14 : Ref sig .tc := ⟨.hbm, 165, rfl⟩
abbrev main_v143 : Ref sig .tc := ⟨.hbm, 166, rfl⟩
abbrev main_v144 : Ref sig .tc := ⟨.hbm, 167, rfl⟩
abbrev main_cst_15 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_cst_16 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_call1_v0 : Ref sig .tc := ⟨.hbm, 186, rfl⟩
abbrev main_call1_v1 : Ref sig .tc := ⟨.hbm, 187, rfl⟩
abbrev main_call1_cst : Ref sig .tc := ⟨.hbm, 188, rfl⟩
abbrev main_call1_v2 : Ref sig .tc := ⟨.hbm, 189, rfl⟩
abbrev main_call1_v3 : Ref sig .tc := ⟨.hbm, 190, rfl⟩
abbrev main_call1_cst_0 : Ref sig .tc := ⟨.hbm, 191, rfl⟩
abbrev main_call1_v4 : Ref sig .tc := ⟨.hbm, 192, rfl⟩
abbrev main_call1_v5 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩

abbrev nD : Nat := 1
abbrev τ : Topo := Topo.v7x

variable {F : FTy → Type} [FloatOps F]
-- ==== MergeS.lean ====
abbrev S512x2048 : Shape := ⟨2, ![512, 2048]⟩
abbrev S512x22016 : Shape := ⟨2, ![512, 22016]⟩
abbrev S1x2048x4096 : Shape := ⟨3, ![1, 2048, 4096]⟩
abbrev S2048x4096 : Shape := ⟨2, ![2048, 4096]⟩
abbrev S512x4096 : Shape := ⟨2, ![512, 4096]⟩
abbrev S512x512 : Shape := ⟨2, ![512, 512]⟩
abbrev S2048x512 : Shape := ⟨2, ![2048, 512]⟩

abbrev nBuf : Space → Nat
  | .hbm => 8
  | .vmem => 12
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S512x22016, .f32⟩
  | .hbm, ⟨3, _⟩ => ⟨S1x2048x4096, .f32⟩
  | .hbm, ⟨4, _⟩ => ⟨S1x2048x4096, .f32⟩
  | .hbm, ⟨5, _⟩ => ⟨S2048x4096, .f32⟩
  | .hbm, ⟨6, _⟩ => ⟨S2048x4096, .f32⟩
  | .hbm, ⟨7, _⟩ => ⟨S512x4096, .bf16⟩
  | .local _ .vmem, ⟨0, _⟩ => ⟨S512x2048, .bf16⟩
  | .local _ .vmem, ⟨1, _⟩ => ⟨S512x2048, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S512x512, .bf16⟩
  | .local _ .vmem, ⟨11, _⟩ => ⟨S512x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeSRefIdeal.lean ====
abbrev S512x2048 : Shape := ⟨2, ![512, 2048]⟩
abbrev S512x22016 : Shape := ⟨2, ![512, 22016]⟩
abbrev S1x2048x4096 : Shape := ⟨3, ![1, 2048, 4096]⟩
abbrev S512x4096 : Shape := ⟨2, ![512, 4096]⟩
abbrev S_ : Shape := ⟨0, ![]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S512x22016, .f32⟩
  | .hbm, ⟨3, _⟩ => ⟨S1x2048x4096, .f32⟩
  | .hbm, ⟨4, _⟩ => ⟨S1x2048x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S_, .f32⟩
  | .hbm, ⟨10, _⟩ => ⟨S512x4096, .f32⟩
  | .hbm, ⟨11, _⟩ => ⟨S512x4096, .f32⟩
  | .hbm, ⟨12, _⟩ => ⟨S_, .f32⟩
  | .hbm, ⟨13, _⟩ => ⟨S512x4096, .f32⟩
  | .hbm, ⟨14, _⟩ => ⟨S512x4096, .f32⟩
  | .hbm, ⟨15, _⟩ => ⟨S512x2048, .f32⟩
  | .hbm, ⟨16, _⟩ => ⟨S2048x4096, .f32⟩
  | .hbm, ⟨17, _⟩ => ⟨S512x4096, .f32⟩
  | .hbm, ⟨18, _⟩ => ⟨S512x4096, .f32⟩
  | .hbm, ⟨19, _⟩ => ⟨S512x4096, .f32⟩
  | .hbm, ⟨20, _⟩ => ⟨S512x4096, .f32⟩
  | .hbm, ⟨21, _⟩ => ⟨S_, .f32⟩
  | .hbm, ⟨22, _⟩ => ⟨S512x4096, .f32⟩
  | .hbm, ⟨23, _⟩ => ⟨S512x4096, .f32⟩
  | .hbm, ⟨24, _⟩ => ⟨S_, .f32⟩
  | .hbm, ⟨25, _⟩ => ⟨S512x4096, .f32⟩
  | .hbm, ⟨26, _⟩ => ⟨S512x4096, .f32⟩
  | .hbm, ⟨27, _⟩ => ⟨S512x2048, .f32⟩
  | .hbm, ⟨28, _⟩ => ⟨S2048x4096, .f32⟩
  | .hbm, ⟨29, _⟩ => ⟨S512x4096, .f32⟩
  | .hbm, ⟨30, _⟩ => ⟨S512x4096, .f32⟩
  | .hbm, ⟨31, _⟩ => ⟨S512x4096, .f32⟩
  | .hbm, ⟨32, _⟩ => ⟨S512x4096, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== OutS.lean ====
abbrev S512x4096 : Shape := ⟨2, ![512, 4096]⟩
abbrev S1x4096x4096 : Shape := ⟨3, ![1, 4096, 4096]⟩
abbrev S4096x4096 : Shape := ⟨2, ![4096, 4096]⟩
abbrev S4096x512 : Shape := ⟨2, ![4096, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S1x4096x4096, .f32⟩
  | .hbm, ⟨2, _⟩ => ⟨S512x4096, .f32⟩
  | .hbm, ⟨3, _⟩ => ⟨S4096x4096, .f32⟩
  | .hbm, ⟨4, _⟩ => ⟨S512x4096, .f32⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutSRefIdeal.lean ====
abbrev S512x4096 : Shape := ⟨2, ![512, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S1x4096x4096, .f32⟩
  | .hbm, ⟨2, _⟩ => ⟨S512x4096, .f32⟩
  | .hbm, ⟨3, _⟩ => ⟨S512x4096, .f32⟩
  | .hbm, ⟨4, _⟩ => ⟨S4096x4096, .f32⟩
  | .hbm, ⟨5, _⟩ => ⟨S512x4096, .f32⟩
  | .hbm, ⟨6, _⟩ => ⟨S512x4096, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.RetMath.lean ====
/- The retention of one head over the extended reals, chunk by chunk, and the integer and float forms of its decay
   exponents. -/
module

public import Idealize.ShloMosaic.Lib.Pointwise
public import Idealize.ShloMosaic.Lib.WordArith
public import Idealize.ShloMosaic.Lib.WordCmp
public import Idealize.ShloMosaic.Lib.DynamicIndex

@[expose] public section

noncomputable section

namespace Cert.Ret

open Idealize.ShloMosaic

/-- A natural number as an extended real. -/
abbrev num (n : ℕ) : EReal := ((n : ℝ) : EReal)

/-- The weight that position `r` of a chunk gives to position `x`: the decay over their distance, nothing ahead of `r`. -/
def decay (lg : EReal) (r x : ℕ) : EReal := if x ≤ r then Ideal.exp (lg * num (r - x)) else 0

/-- A chunk's outputs before the norm, from its queries, keys, values and the state carried in. -/
def mix (lg : EReal) (q k v : Fin 128 → Fin 256 → EReal) (S : Fin 256 → Fin 256 → EReal) (r : Fin 128) (e : Fin 256) : EReal :=
  ∑ x : Fin 128, ((∑ d : Fin 256, q r d * k x d) * decay lg r.val x.val) * v x e
    + (∑ d : Fin 256, q r d * S d e) * Ideal.exp (lg * num (r.val + 1))

/-- The state after a chunk. -/
def next (lg : EReal) (k v : Fin 128 → Fin 256 → EReal) (S : Fin 256 → Fin 256 → EReal) (d e : Fin 256) : EReal :=
  S d e * Ideal.exp (lg * Ideal.ofBits .f32 0x43000000#32)
    + ∑ x : Fin 128, k x d * Ideal.exp (lg * num (127 - x.val)) * v x e

/-- Rotary positions: the two halves of a head turned by the angles whose cosines and sines are given. -/
def rot (co si : Fin 128 → EReal) (x : Fin 256 → EReal) (e : Fin 256) : EReal :=
  if h : e.val < 128 then x e * co ⟨e.val, h⟩ - x ⟨128 + e.val, by omega⟩ * si ⟨e.val, h⟩
  else x ⟨e.val - 128, by omega⟩ * si ⟨e.val - 128, by omega⟩ + x ⟨128 + (e.val - 128), by omega⟩ * co ⟨e.val - 128, by omega⟩

/-- The mean of a head's row. -/
def mean (o : Fin 256 → EReal) : EReal := Ideal.div (∑ x, o x) (Ideal.ofBits .f32 0x43800000#32)

/-- The gated, normalized row of a head. -/
def gnorm (g gn o : Fin 256 → EReal) (e : Fin 256) : EReal :=
  g e * Ideal.div 1 (1 + Ideal.exp (0 - g e)) *
    ((o e - mean o) * Ideal.rsqrt (mean (fun x => (o x - mean o) * (o x - mean o)) + Ideal.ofBits .f32 0x358637BD#32) * gn e)

theorem sitofp_nat (n : ℕ) (h : n < 2 ^ 31) : FloatOps.sitofp (F := Ideal) FTy.f32 (BitVec.ofNat 32 n) = num n := by
  show (((BitVec.ofNat 32 n).toInt : ℝ) : EReal) = _
  rw [toInt_ofNat_of_lt h]; rfl

theorem ofBits_127 : Ideal.ofBits .f32 0x42FE0000#32 = num 127 := by
  simp [Ideal.ofBits, Ideal.ieee, num, -EReal.coe_mul]; norm_num

theorem num_sub {a b : ℕ} (h : b ≤ a) : num a - num b = num (a - b) := by
  show ((a : ℝ) : EReal) - ((b : ℝ) : EReal) = _
  rw [← EReal.coe_sub, ← Nat.cast_sub h]

theorem toInt_sub (r x : ℕ) (hr : r < 128) (hx : x < 128) :
    (IntOp.subi (BitVec.ofNat 32 r) (BitVec.ofNat 32 x)).toInt = (r : ℤ) - x := by
  have a := toInt_ofNat_of_lt (k := r) (by omega)
  have b := toInt_ofNat_of_lt (k := x) (by omega)
  show (BitVec.ofNat 32 r - BitVec.ofNat 32 x).toInt = _
  rw [BitVec.toInt_sub, a, b]
  simp [Int.bmod]
  omega

/-- The kernel's masked decay, in float differences. -/
theorem decay_float (lg : EReal) (r x : Fin 128) :
    (if 0 ≤ FloatOps.sitofp (F := Ideal) FTy.f32 (BitVec.ofNat 32 r.val) - FloatOps.sitofp (F := Ideal) FTy.f32 (BitVec.ofNat 32 x.val) then
      Ideal.exp (lg * max (FloatOps.sitofp (F := Ideal) FTy.f32 (BitVec.ofNat 32 r.val) - FloatOps.sitofp (F := Ideal) FTy.f32 (BitVec.ofNat 32 x.val)) 0)
      else 0) = decay lg r.val x.val := by
  rw [sitofp_nat _ (by omega), sitofp_nat _ (by omega)]
  unfold decay
  by_cases h : x.val ≤ r.val
  · rw [if_pos h, num_sub h]
    have h0 : (0 : EReal) ≤ num (r.val - x.val) := by
      show ((0 : ℝ) : EReal) ≤ _
      exact EReal.coe_le_coe_iff.mpr (Nat.cast_nonneg _)
    rw [if_pos h0, max_eq_left h0]
  · rw [if_neg h, if_neg]
    intro h0
    have : ((0 : ℝ) : EReal) ≤ (((r.val : ℝ) - (x.val : ℝ) : ℝ) : EReal) := by rw [EReal.coe_sub]; exact h0
    have := EReal.coe_le_coe_iff.mp this
    have : (x.val : ℝ) ≤ r.val := by linarith
    exact h (by exact_mod_cast this)

/-- The reference's masked decay, in integer differences. -/
theorem decay_int (lg z : EReal) (hz : z = 0) (r x : Fin 128) :
    Scalar.select (IntOp.cmpi CmpIPredicate.sge (IntOp.subi (BitVec.ofNat 32 r.val) (BitVec.ofNat 32 x.val)) 0#32)
      (Ideal.exp (lg * FloatOps.sitofp (F := Ideal) FTy.f32 (IntOp.maxsi (IntOp.subi (BitVec.ofNat 32 r.val) (BitVec.ofNat 32 x.val)) 0#32)))
      z = decay lg r.val x.val := by
  have hd := toInt_sub r.val x.val r.isLt x.isLt
  rw [WordCmp.cmpi_sge_eq, hd]
  unfold decay
  by_cases h : x.val ≤ r.val
  · have e : (0#32).toInt ≤ (r.val : ℤ) - x.val := by simp; exact_mod_cast h
    rw [if_pos h, decide_eq_true e]
    show Ideal.exp _ = _
    have e2 : (IntOp.maxsi (IntOp.subi (BitVec.ofNat 32 r.val) (BitVec.ofNat 32 x.val)) 0#32) = BitVec.ofNat 32 (r.val - x.val) := by
      apply BitVec.eq_of_toInt_eq
      rw [toInt_ofNat_of_lt (by omega)]
      unfold IntOp.maxsi
      have e0 : (0#32).toInt = 0 := rfl
      split
      · rename_i hc
        have := BitVec.slt_iff_toInt_lt.mp hc
        omega
      · rename_i hc
        have : ¬ (0#32).toInt < _ := fun h => hc (BitVec.slt_iff_toInt_lt.mpr h)
        rw [hd] at this
        omega
    rw [e2, sitofp_nat _ (by omega)]
  · have e : ¬ (0#32).toInt ≤ (r.val : ℤ) - x.val := by simp; omega
    rw [if_neg h, decide_eq_false e]
    exact hz

theorem succ_float (r : Fin 128) : FloatOps.sitofp (F := Ideal) FTy.f32 (BitVec.ofNat 32 r.val) + 1 = num (r.val + 1) := by
  rw [sitofp_nat _ (by omega)]
  show ((r.val : ℝ) : EReal) + ((1 : ℝ) : EReal) = _
  rw [← EReal.coe_add]
  push_cast; rfl

theorem succ_int (r : Fin 128) : FloatOps.sitofp (F := Ideal) FTy.f32 (IntOp.addi (BitVec.ofNat 32 r.val) 1#32) = num (r.val + 1) := by
  have : IntOp.addi (BitVec.ofNat 32 r.val) 1#32 = BitVec.ofNat 32 (r.val + 1) := by
    show BitVec.ofNat 32 r.val + 1#32 = _
    simp [BitVec.ofNat_add]
  rw [this, sitofp_nat _ (by omega)]

theorem rest_float (x : Fin 128) :
    Ideal.ofBits .f32 0x42FE0000#32 - FloatOps.sitofp (F := Ideal) FTy.f32 (BitVec.ofNat 32 x.val) = num (127 - x.val) := by
  rw [sitofp_nat _ (by omega), ofBits_127, num_sub (by omega)]

theorem rest_int (x : Fin 128) : FloatOps.sitofp (F := Ideal) FTy.f32 (IntOp.subi (127#32) (BitVec.ofNat 32 x.val)) = num (127 - x.val) := by
  have h : IntOp.subi (127#32) (BitVec.ofNat 32 x.val) = BitVec.ofNat 32 (127 - x.val) := by
    apply BitVec.eq_of_toInt_eq
    rw [toInt_ofNat_of_lt (by omega)]
    have := toInt_sub 127 x.val (by omega) x.isLt
    rw [show (127#32) = BitVec.ofNat 32 127 from rfl, this]; omega
  rw [h, sitofp_nat _ (by omega)]

/-! The whole sequence: `z` holds queries, keys, values and gates of both batches' tokens in its columns from 2048 on. -/

/-- Row `r` of chunk `c` of batch `b`. -/
abbrev row (b : Fin 2) (c : Fin 32) (r : Fin 128) : Fin 8192 := ⟨4096 * b.val + 128 * c.val + r.val, by omega⟩
/-- Its position. -/
abbrev pos (c : Fin 32) (r : Fin 128) : Fin 4096 := ⟨128 * c.val + r.val, by omega⟩
/-- Column `e` of head `h` of the operand number `w`. -/
abbrev col (w : Fin 5) (h : Fin 8) (e : Fin 256) : Fin 22016 := ⟨2048 * w.val + (256 * h.val + e.val), by omega⟩
/-- Column `e` of head `h` of a result. -/
abbrev hcol (h : Fin 8) (e : Fin 256) : Fin 2048 := ⟨256 * h.val + e.val, by omega⟩

variable (lg : Fin 8 → EReal) (co si : Fin 4096 → Fin 128 → EReal) (z : Fin 8192 → Fin 22016 → EReal) (gn : Fin 2048 → EReal)

/-- A chunk's rotated queries. -/
def qC (b : Fin 2) (h : Fin 8) (c : Fin 32) (r : Fin 128) : Fin 256 → EReal :=
  rot (co (pos c r)) (si (pos c r)) (fun e => z (row b c r) (col 1 h e))
/-- A chunk's rotated keys, scaled. -/
def kC (b : Fin 2) (h : Fin 8) (c : Fin 32) (r : Fin 128) (d : Fin 256) : EReal :=
  rot (co (pos c r)) (si (pos c r)) (fun e => z (row b c r) (col 2 h e)) d * Ideal.ofBits .f32 0x3D800000#32
/-- A chunk's values. -/
def vC (b : Fin 2) (h : Fin 8) (c : Fin 32) (r : Fin 128) (e : Fin 256) : EReal := z (row b c r) (col 3 h e)

/-- The state after `n` chunks. -/
def state (b : Fin 2) (h : Fin 8) : ℕ → Fin 256 → Fin 256 → EReal
  | 0 => fun _ _ => 0
  | n + 1 => if hn : n < 32 then next (lg h) (kC co si z b h ⟨n, hn⟩) (vC z b h ⟨n, hn⟩) (state b h n) else fun _ _ => 0

theorem state_succ (b : Fin 2) (h : Fin 8) (c : Fin 32) :
    state lg co si z b h (c.val + 1) = next (lg h) (kC co si z b h c) (vC z b h c) (state lg co si z b h c.val) := by
  rw [state, dif_pos c.isLt]

/-- A chunk's outputs before the norm. -/
def mixC (b : Fin 2) (h : Fin 8) (c : Fin 32) : Fin 128 → Fin 256 → EReal :=
  mix (lg h) (qC co si z b h c) (kC co si z b h c) (vC z b h c) (state lg co si z b h c.val)

/-- A chunk's results. -/
def outC (b : Fin 2) (h : Fin 8) (c : Fin 32) (r : Fin 128) (e : Fin 256) : EReal :=
  gnorm (fun x => z (row b c r) (col 4 h x)) (fun x => gn (hcol h x)) (mixC lg co si z b h c r) e

end Cert.Ret

end
-- ==== Proof.RetSpec.lean ====
/- One head of the retention body as a function of what it reads, and its values element by element. -/
module

public import proofs.«01_k».proof.Proof.Gen.KernelIdeal.Value
public import proofs.«01_k».proof.Proof.RetMath

@[expose] public section

set_option maxRecDepth 16384

noncomputable section

namespace Cert.KernelIdeal.Closed

open Cert.KernelIdeal Cert.KernelIdeal.Gen Idealize.ShloMosaic Idealize.ShloMosaic.TcCoe Idealize.SL.Sem

/-- One head's block of results: the gated, normalized output of a chunk, from the head's log decay, the rotation tables,
    the chunk's queries, keys, values and gate, the norm's weights, and the state carried in. -/
def headOut (lg : Elt Ideal .f32) (co si : Vec Ideal S128x128 .f32) (q k v g : Vec Ideal S128x256 .f32)
    (gn : Vec Ideal S1x256 .f32) (st : Vec Ideal S1x256x256 .f32) : FVec Ideal S128x256 .bf16 :=
  k0_pay15 g (k0_pay12 k0_pay6 k0_pay7 lg (k0_pay8 co si q) (k0_pay9 co si k) v st) gn

/-- One head's state after a chunk. -/
def headState (lg : Elt Ideal .f32) (co si : Vec Ideal S128x128 .f32) (k v : Vec Ideal S128x256 .f32)
    (st : Vec Ideal S1x256x256 .f32) : FVec Ideal S1x256x256 .f32 :=
  k0_pay14 (k0_pay13 k0_pay6 lg (k0_pay9 co si k) v st)

/-- The rotated queries. -/
theorem rot_q (co si : Vec Ideal S128x128 .f32) (q : Vec Ideal S128x256 .f32) (r : Fin 128) (e : Fin 256) :
    k0_pay8 co si q (ix2 r e)
      = Ret.rot (fun x => co (ix2 r x)) (fun x => si (ix2 r x)) (fun x => q (ix2 r x)) e := by
  unfold Ret.rot
  pointwise [k0_pay8, k0_pay4, k0_pay5]

/-- The rotated keys, scaled. -/
theorem rot_k (co si : Vec Ideal S128x128 .f32) (q : Vec Ideal S128x256 .f32) (r : Fin 128) (e : Fin 256) :
    k0_pay9 co si q (ix2 r e)
      = Ret.rot (fun x => co (ix2 r x)) (fun x => si (ix2 r x)) (fun x => q (ix2 r x)) e * Ideal.ofBits .f32 0x3D800000#32 := by
  rw [← rot_q]
  pointwise [k0_pay8, k0_pay9, k0_pay4, k0_pay5]

/-- The chunk's outputs before the norm. -/
theorem mix_apply (lg : Elt Ideal .f32) (q k : FVec Ideal S128x256 .f32) (v : Vec Ideal S128x256 .f32)
    (st : Vec Ideal S1x256x256 .f32) (r : Fin 128) (e : Fin 256) :
    k0_pay12 k0_pay6 k0_pay7 lg q k v st (ix2 r e)
      = Ret.mix lg (fun a b => q (ix2 a b)) (fun a b => k (ix2 a b)) (fun a b => v (ix2 a b)) (fun a b => st (ix3 0 a b)) r e := by
  unfold Ret.mix
  simp only [← Ret.decay_float, ← Ret.succ_float]
  pointwise [k0_pay12, k0_pay6, k0_pay7, k0_pay10, k0_pay11]

/-- The state after the chunk. -/
theorem state_apply (lg : Elt Ideal .f32) (k : FVec Ideal S128x256 .f32) (v : Vec Ideal S128x256 .f32)
    (st : Vec Ideal S1x256x256 .f32) (d e : Fin 256) :
    k0_pay14 (k0_pay13 k0_pay6 lg k v st) (ix3 0 d e)
      = Ret.next lg (fun a b => k (ix2 a b)) (fun a b => v (ix2 a b)) (fun a b => st (ix3 0 a b)) d e := by
  unfold Ret.next
  simp only [← Ret.rest_float]
  pointwise [k0_pay14, k0_pay13, k0_pay6, k0_pay10, k0_pay11]

/-- The gated, normalized outputs. -/
theorem norm_apply (g : Vec Ideal S128x256 .f32) (o : FVec Ideal S128x256 .f32) (gn : Vec Ideal S1x256 .f32) (r : Fin 128) (e : Fin 256) :
    k0_pay15 g o gn (ix2 r e)
      = Ret.gnorm (fun x => g (ix2 r x)) (fun x => gn (ix2 0 x)) (fun x => o (ix2 r x)) e := by
  unfold Ret.gnorm Ret.mean
  pointwise [k0_pay15]

/-- The rows that the head's block holds before the norm. -/
def headMix (lg : EReal) (co si : Vec Ideal S128x128 .f32) (q k v : Vec Ideal S128x256 .f32)
    (st : Vec Ideal S1x256x256 .f32) : Fin 128 → Fin 256 → EReal :=
  Ret.mix lg (fun a => Ret.rot (fun x => co (ix2 a x)) (fun x => si (ix2 a x)) (fun x => q (ix2 a x)))
    (fun a b => Ret.rot (fun x => co (ix2 a x)) (fun x => si (ix2 a x)) (fun x => k (ix2 a x)) b * Ideal.ofBits .f32 0x3D800000#32)
    (fun a b => v (ix2 a b)) (fun a b => st (ix3 0 a b))

theorem headOut_apply (lg : Elt Ideal .f32) (co si : Vec Ideal S128x128 .f32) (q k v g : Vec Ideal S128x256 .f32)
    (gn : Vec Ideal S1x256 .f32) (st : Vec Ideal S1x256x256 .f32) (r : Fin 128) (e : Fin 256) :
    headOut lg co si q k v g gn st (ix2 r e)
      = Ret.gnorm (fun x => g (ix2 r x)) (fun x => gn (ix2 0 x)) (headMix lg co si q k v st r) e := by
  unfold headOut headMix
  rw [norm_apply]
  simp only [mix_apply, rot_q, rot_k]

theorem headState_apply (lg : Elt Ideal .f32) (co si : Vec Ideal S128x128 .f32) (k v : Vec Ideal S128x256 .f32)
    (st : Vec Ideal S1x256x256 .f32) (d e : Fin 256) :
    headState lg co si k v st (ix3 0 d e)
      = Ret.next lg (fun a b => Ret.rot (fun x => co (ix2 a x)) (fun x => si (ix2 a x)) (fun x => k (ix2 a x)) b * Ideal.ofBits .f32 0x3D800000#32)
          (fun a b => v (ix2 a b)) (fun a b => st (ix3 0 a b)) d e := by
  unfold headState
  rw [state_apply]
  simp only [rot_k]

end Cert.KernelIdeal.Closed

end
-- ==== Proof.RetHeads.lean ====
/- Each head's own chain of operations in the retention body, as the one function of what the head reads. -/
module

public import proofs.«01_k».proof.Proof.RetSpec

@[expose] public section

set_option maxRecDepth 16384

noncomputable section

namespace Cert.KernelIdeal.Closed

open Cert.KernelIdeal Cert.KernelIdeal.Gen Idealize.ShloMosaic Idealize.ShloMosaic.TcCoe Idealize.SL.Sem

section heads
variable (lg : Elt Ideal .f32) (co si : Vec Ideal S128x128 .f32) (q k v g : Vec Ideal S128x256 .f32)
    (gn : Vec Ideal S1x256 .f32) (st : Vec Ideal S1x256x256 .f32)

theorem out_head0 :
    k0_pay15 g (k0_pay12 k0_pay6 k0_pay7 lg (k0_pay8 co si q) (k0_pay9 co si k) v st) gn = headOut lg co si q k v
      g gn st := rfl

theorem out_head1 :
    k0_pay26 g (k0_pay25 (k0_pay16 (k0_pay4 co) (k0_pay5 si) k) v (k0_pay17 k0_pay7 lg) (k0_pay18 k0_pay6 lg)
      (k0_pay21 (k0_pay4 co) (k0_pay5 si) q) st) gn = headOut lg co si q k v g gn st := rfl

theorem out_head2 :
    k0_pay34 g (k0_pay31 k0_pay6 k0_pay7 lg (k0_pay27 (k0_pay4 co) (k0_pay5 si) q) (k0_pay28 (k0_pay4 co) (k0_pay5
      si) k) v (FloatOps.ofBits (F := Ideal) FTy.f32 0#32) st) gn = headOut lg co si q k v g gn st := rfl

theorem out_head3 :
    k0_pay48 g (k0_pay47 (k0_pay38 (k0_pay4 co) (k0_pay5 si) k) (k0_pay39 k0_pay7 lg) (k0_pay40 k0_pay6 lg)
      (k0_pay43 (k0_pay4 co) (k0_pay5 si) (k0_pay35 q) (k0_pay36 q) (k0_pay37 (k0_pay4 co) q)) (k0_pay44 v) st
      gn) (FloatOps.ofBits (F := Ideal) FTy.f32 0#32) = headOut lg co si q k v g gn st := rfl

theorem out_head4 :
    k0_pay58 g (k0_pay55 k0_pay6 k0_pay7 lg (k0_pay49 (k0_pay4 co) (k0_pay5 si) q) (k0_pay50 (k0_pay4 co) (k0_pay5
      si) k) v (k0_pay51 (F := Ideal) k0_pay7) k0_pay52 st) (k0_pay57 k0_pay6 k0_pay7 lg (k0_pay49 (k0_pay4 co) (k0_pay5
      si) q) (k0_pay50 (k0_pay4 co) (k0_pay5 si) k) v (k0_pay51 (F := Ideal) k0_pay7) k0_pay52 st) gn = headOut lg co si q
      k v g gn st := rfl

theorem out_head5 :
    k0_pay76 g (k0_pay74 (k0_pay65 k0_pay7 lg) (k0_pay66 k0_pay6 lg) (k0_pay69 (k0_pay61 (k0_pay4 co) (k0_pay5 si)
      q) (k0_pay62 (k0_pay5 si) q) (k0_pay63 (k0_pay4 co) q)) (k0_pay70 v) (k0_pay71 st) (k0_pay72 (k0_pay4
      co) (k0_pay5 si) k) (constant (F := Ideal) S128x128 FTy.f32 0#32) gn) (k0_pay75 g) (FloatOps.ofBits (F := Ideal) FTy.f32
      1065353216#32) = headOut lg co si q k v g gn st := rfl

theorem out_head6 :
    k0_pay86 g (k0_pay83 k0_pay6 lg (k0_pay77 (k0_pay4 co) (k0_pay5 si) q) (k0_pay78 (k0_pay4 co) (k0_pay5 si) k)
      v (k0_pay79 (F := Ideal) k0_pay7) (k0_pay80 k0_pay7 lg) st) (k0_pay85 k0_pay6 lg (k0_pay77 (k0_pay4 co) (k0_pay5 si)
      q) (k0_pay78 (k0_pay4 co) (k0_pay5 si) k) v (k0_pay79 (F := Ideal) k0_pay7) (k0_pay80 k0_pay7 lg) st) gn = headOut lg
      co si q k v g gn st := rfl

theorem out_head7 :
    k0_pay1 g (k0_pay97 (k0_pay89 k0_pay6 lg) (k0_pay92 (k0_pay87 (k0_pay4 co) (k0_pay5 si) q)) (k0_pay93 v)
      (k0_pay94 st) (k0_pay95 (k0_pay4 co) (k0_pay5 si) k0_pay7 lg (k0_pay87 (k0_pay4 co) (k0_pay5 si) q) k)
      (constant (F := Ideal) S128x256 FTy.f32 0#32) gn) (k0_pay98 g) k0_pay99 = headOut lg co si q k v g gn st := rfl

theorem state_head0 :
    k0_pay14 (k0_pay13 k0_pay6 lg (k0_pay9 co si k) v st) = headState lg co si k v st := rfl

theorem state_head1 :
    k0_pay24 (k0_pay16 (k0_pay4 co) (k0_pay5 si) k) v (k0_pay19 k0_pay6 lg) (k0_pay20 lg) st = headState lg co si
      k v st := rfl

theorem state_head2 :
    k0_pay33 (k0_pay32 k0_pay6 lg (k0_pay28 (k0_pay4 co) (k0_pay5 si) k) v st) = headState lg co si k v st := rfl

theorem state_head3 :
    k0_pay46 (k0_pay38 (k0_pay4 co) (k0_pay5 si) k) (k0_pay41 k0_pay6 lg) (k0_pay42 lg) (k0_pay44 v) st =
      headState lg co si k v st := rfl

theorem state_head4 :
    k0_pay56 k0_pay6 lg (k0_pay50 (k0_pay4 co) (k0_pay5 si) k) v st = headState lg co si k v st := rfl

theorem state_head5 :
    k0_pay73 (k0_pay64 (k0_pay4 co) (k0_pay5 si) k) (k0_pay67 k0_pay6 lg) (k0_pay68 lg) (k0_pay70 v) (k0_pay71 st)
      = headState lg co si k v st := rfl

theorem state_head6 :
    k0_pay84 k0_pay6 lg (k0_pay78 (k0_pay4 co) (k0_pay5 si) k) v st = headState lg co si k v st := rfl

theorem state_head7 :
    k0_pay96 (k0_pay88 (k0_pay4 co) (k0_pay5 si) k) (k0_pay90 k0_pay6 lg) (k0_pay91 lg) (k0_pay93 v) (k0_pay94 st)
      = headState lg co si k v st := rfl

end heads

end Cert.KernelIdeal.Closed

end
-- ==== Proof.RetBody.lean ====
/- What one grid point of the retention kernel leaves: the block of outputs and the carried states, head by head. -/
module

public import proofs.«01_k».proof.Proof.RetHeads
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Closed

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Head `h`'s columns of a block of eight heads. -/
def cols (X : Vec Ideal S128x2048 .f32) (h : Fin 8) : Vec Ideal S128x256 .f32 := fun i =>
  X (ix2 (i 0) ⟨256 * h.val + (i 1).val, by have := (i 1).isLt; have := h.isLt; simp at *; omega⟩)
/-- Head `h`'s columns of a row. -/
def rowOf (X : Vec Ideal S1x2048 .f32) (h : Fin 8) : Vec Ideal S1x256 .f32 := fun i =>
  X (ix2 0 ⟨256 * h.val + (i 1).val, by have := (i 1).isLt; have := h.isLt; simp at *; omega⟩)
/-- Head `h`'s state. -/
def stOf (S : Vec Ideal S8x256x256 .f32) (h : Fin 8) : Vec Ideal S1x256x256 .f32 := fun i => S (ix3 h (i 1) (i 2))

theorem ld_cols (X : Vec Ideal S128x2048 .f32) (h : Fin 8) (off : Nat) (hoff : off = 256 * h.val)
    (inb : ∀ a, (![0, off] : Fin 2 → Nat) a + (![128, 256] : Fin 2 → Nat) a ≤ S128x2048.size a) :
    View.ld (Val := Elt Ideal) (e' := .f32) X (Rect.unit (s := S128x2048) ![0, off] ![128, 256] inb) = cols X h := by
  subst hoff
  refine funext fun x => View.ld_unit_apply_of (Val := Elt Ideal) (e := .f32) X _ _ _ _ _ fun a => ?_
  match a with
  | ⟨0, _⟩ => exact (Nat.zero_add _).symm
  | ⟨1, _⟩ => rfl

theorem ld_row (X : Vec Ideal S1x2048 .f32) (h : Fin 8) (off : Nat) (hoff : off = 256 * h.val)
    (inb : ∀ a, (![0, off] : Fin 2 → Nat) a + (![1, 256] : Fin 2 → Nat) a ≤ S1x2048.size a) :
    View.ld (Val := Elt Ideal) (e' := .f32) X (Rect.unit (s := S1x2048) ![0, off] ![1, 256] inb) = rowOf X h := by
  subst hoff
  refine funext fun x => View.ld_unit_apply_of (Val := Elt Ideal) (e := .f32) X _ _ _ _ _ fun a => ?_
  match a with
  | ⟨0, _⟩ => have := (x 0).isLt; simp at this; simp [ix2]
  | ⟨1, _⟩ => rfl

theorem ld_st (X : Vec Ideal S8x256x256 .f32) (h : Fin 8) (off : Nat) (hoff : off = h.val)
    (inb : ∀ a, (![off, 0, 0] : Fin 3 → Nat) a + (![1, 256, 256] : Fin 3 → Nat) a ≤ S8x256x256.size a) :
    View.ld (Val := Elt Ideal) (e' := .f32) X (Rect.unit (s := S8x256x256) ![off, 0, 0] ![1, 256, 256] inb) = stOf X h := by
  subst hoff
  refine funext fun x => View.ld_unit_apply_of (Val := Elt Ideal) (e := .f32) X _ _ _ _ _ fun a => ?_
  match a with
  | ⟨0, _⟩ => have := (x 0).isLt; simp at this; simp [ix3]
  | ⟨1, _⟩ => exact (Nat.zero_add _).symm
  | ⟨2, _⟩ => exact (Nat.zero_add _).symm

theorem off_facts : ∀ t : Fin cfg0.N, ∀ h : Fin 8, k0_off1 (grid0.coords t) (BitVec.ofNat 32 h.val) 0 = h.val := by
  decide +kernel

/-- A block index of eight heads, read at the head and the column it names. -/
theorem at_head (f : Fin 8 → S128x256.Idx → EReal) (y : S128x2048.Idx) (x : S128x256.Idx) (h : Fin 8)
    (h0 : (y 0).val = (x 0).val) (h1 : (y 1).val = 256 * h.val + (x 1).val) :
    f ⟨(y 1).val / 256, by have := (y 1).isLt; simp at this; omega⟩
      (ix2 (y 0) ⟨(y 1).val % 256, Nat.mod_lt _ (by decide)⟩) = f h x := by
  have hx : (x 1).val < 256 := (x 1).isLt
  refine congr (congrArg f (Fin.ext (show (y 1).val / 256 = h.val by omega))) ?_
  · refine funext fun a => Fin.ext ?_
    match a with
    | ⟨0, _⟩ => exact h0
    | ⟨1, _⟩ => show (y 1).val % 256 = (x 1).val; omega

theorem ld_lg (c : Dev nD) (t : Fin cfg0.N) (h : Fin 8) (n : BitVec 32) (hn : n = BitVec.ofNat 32 h.val)
    (inb : ∀ a, k0_off1 (grid0.coords t) n a + (![1] : Fin 1 → Nat) a ≤ S8.size a) (hp) :
    View.ld (Val := Elt Ideal) (e' := .f32) (iblk m c 0 t : Vec Ideal S8 .f32)
      (Rect.unit (s := S8) (k0_off1 (grid0.coords t) n) ![1] inb) (Shape.Idx.first hp) = (iblk m c 0 t : Vec Ideal S8 .f32) (ix1 h) := by
  subst hn
  refine View.ld_unit_apply_of (Val := Elt Ideal) (e := .f32) _ _ _ _ _ _ fun a => ?_
  match a with
  | ⟨0, _⟩ => exact (off_facts t h).symm

/-- What a point reads, at head `h`: the block of results it leaves, from the state `S` carried in. -/
def outAt (c : Dev nD) (t : Fin cfg0.N) (S : Vec Ideal S8x256x256 .f32) (h : Fin 8) : S128x256.Idx → EReal :=
  headOut ((iblk m c 0 t : Vec Ideal S8 .f32) (ix1 h)) (iblk m c 5 t) (iblk m c 6 t) (cols (X0_1 m c t) h)
    (cols (X0_2 m c t) h) (cols (X0_3 m c t) h) (cols (X0_4 m c t) h) (rowOf (iblk m c 7 t) h) (stOf S h)

/-- and the state it carries out. -/
def stateAt (c : Dev nD) (t : Fin cfg0.N) (S : Vec Ideal S8x256x256 .f32) (h : Fin 8) : S1x256x256.Idx → EReal :=
  headState ((iblk m c 0 t : Vec Ideal S8 .f32) (ix1 h)) (iblk m c 5 t) (iblk m c 6 t)
    (cols (X0_2 m c t) h) (cols (X0_3 m c t) h) (stOf S h)

/-- Stores that already cover an index decide what it holds, whatever was stored before them. -/
theorem canon_append_cover {S : Shape} {e : EltTy} (L' : List (View.Piece (Elt Ideal) S e)) :
    ∀ (L : List (View.Piece (Elt Ideal) S e)) (y : S.Idx), (∃ p ∈ L, y ∈ p.1.set) →
      View.canon (L ++ L') y = View.canon L y
  | [], _, h => by obtain ⟨_, hp, _⟩ := h; exact absurd hp List.not_mem_nil
  | p :: L, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append_cover L' L y ?_
      obtain ⟨q, hq, hy⟩ := h
      rcases List.mem_cons.mp hq with rfl | hq'
      · exact absurd hy hm
      · exact ⟨q, hq', hy⟩

/-- A state index of eight heads, read at the head it names. -/
theorem at_head' (f : Fin 8 → S1x256x256.Idx → EReal) (y : S8x256x256.Idx) (x : S1x256x256.Idx) (h : Fin 8)
    (h0 : (y 0).val = h.val + (x 0).val) (h1 : (y 1).val = (x 1).val) (h2 : (y 2).val = (x 2).val) :
    f (y 0) (ix3 0 (y 1) (y 2)) = f h x := by
  have hx : (x 0).val < 1 := (x 0).isLt
  refine congr (congrArg f (Fin.ext (show (y 0).val = h.val by omega))) ?_
  · refine funext fun a => Fin.ext ?_
    match a with
    | ⟨0, _⟩ => show 0 = (x 0).val; omega
    | ⟨1, _⟩ => exact h1
    | ⟨2, _⟩ => exact h2

set_option maxHeartbeats 1000000 in
theorem out_A (c : Dev nD) (t : Fin cfg0.N)
    (acc : Vec Ideal S128x2048 .bf16 × Vec Ideal S1x8x256x256 .f32 × Vec Ideal S8x256x256 .f32)
    (h0 : t.val % 32 = 0) (h1 : ¬t.val % 32 = 31) (y : S128x2048.Idx) :
    (Value.stAt0 m c t.val t.isLt acc).1 y = outAt m c t (k0_pay3 (iblk m c 8 t))
      ⟨(y 1).val / 256, by have := (y 1).isLt; simp at this; omega⟩
      (ix2 (y 0) ⟨(y 1).val % 256, Nat.mod_lt _ (by decide)⟩) := by
  rw [Value.stAt0_A m c t acc h0 h1]
  frame_open
  simp (disch := decide) only [↓ View.readCov_skip, ↓ View.readCov_cons_toLoadRect, ↓ View.readCov_fill]
  frame_out
  canon_tiles x h
  case piece7 =>
    rw [at_head (outAt m c t (k0_pay3 (iblk m c 8 t))) y x 0 h0 (by rw [h1]; exact (Nat.zero_add _).symm)]
    simp only [ld_cols _ 0 0 rfl, ld_row _ 0 0 rfl, ld_st _ 0 0 rfl, ld_lg m c t 0 0#32 rfl, out_head0]
    rfl
  case piece6 =>
    rw [at_head (outAt m c t (k0_pay3 (iblk m c 8 t))) y x 1 h0 h1]
    simp only [ld_cols _ 1 256 rfl, ld_row _ 1 256 rfl, ld_st _ 1 1 rfl, ld_lg m c t 1 1#32 rfl, out_head1]
    rfl
  case piece5 =>
    rw [at_head (outAt m c t (k0_pay3 (iblk m c 8 t))) y x 2 h0 h1]
    simp only [ld_cols _ 2 512 rfl, ld_row _ 2 512 rfl, ld_st _ 2 2 rfl, ld_lg m c t 2 2#32 rfl, out_head2]
    rfl
  case piece4 =>
    rw [at_head (outAt m c t (k0_pay3 (iblk m c 8 t))) y x 3 h0 h1]
    simp only [ld_cols _ 3 768 rfl, ld_row _ 3 768 rfl, ld_st _ 3 3 rfl, ld_lg m c t 3 3#32 rfl, out_head3]
    rfl
  case piece3 =>
    rw [at_head (outAt m c t (k0_pay3 (iblk m c 8 t))) y x 4 h0 h1]
    simp only [ld_cols _ 4 1024 rfl, ld_row _ 4 1024 rfl, ld_st _ 4 4 rfl, ld_lg m c t 4 4#32 rfl, out_head4]
    rfl
  case piece2 =>
    rw [at_head (outAt m c t (k0_pay3 (iblk m c 8 t))) y x 5 h0 h1]
    simp only [ld_cols _ 5 1280 rfl, ld_row _ 5 1280 rfl, ld_st _ 5 5 rfl, ld_lg m c t 5 5#32 rfl, out_head5]
    rfl
  case piece1 =>
    rw [at_head (outAt m c t (k0_pay3 (iblk m c 8 t))) y x 6 h0 h1]
    simp only [ld_cols _ 6 1536 rfl, ld_row _ 6 1536 rfl, ld_st _ 6 6 rfl, ld_lg m c t 6 6#32 rfl, out_head6]
    rfl
  case piece0 =>
    rw [at_head (outAt m c t (k0_pay3 (iblk m c 8 t))) y x 7 h0 h1]
    simp only [ld_cols _ 7 1792 rfl, ld_row _ 7 1792 rfl, ld_st _ 7 7 rfl, ld_lg m c t 7 7#32 rfl, out_head7]
    rfl

set_option maxHeartbeats 1000000 in
theorem state_A (c : Dev nD) (t : Fin cfg0.N)
    (acc : Vec Ideal S128x2048 .bf16 × Vec Ideal S1x8x256x256 .f32 × Vec Ideal S8x256x256 .f32)
    (h0 : t.val % 32 = 0) (h1 : ¬t.val % 32 = 31) (y : S8x256x256.Idx) :
    (Value.stAt0 m c t.val t.isLt acc).2.2 y = stateAt m c t (k0_pay3 (iblk m c 8 t)) (y 0) (ix3 0 (y 1) (y 2)) := by
  rw [Value.stAt0_A m c t acc h0 h1]
  frame_open
  simp (disch := decide) only [↓ View.readCov_skip, ↓ View.readCov_cons_toLoadRect, ↓ View.readCov_fill]
  frame_out
  refine (canon_append_cover [_] [_, _, _, _, _, _, _, _] y (View.cover_of_tiled _ ![1, 256, 256] rfl y)).trans ?_
  canon_tiles x h
  case piece7 =>
    rw [at_head' (stateAt m c t (k0_pay3 (iblk m c 8 t))) y x 0 (by rw [h0]; exact (Nat.zero_add _).symm) h1 h2]
    simp only [ld_cols _ 0 0 rfl, ld_row _ 0 0 rfl, ld_st _ 0 0 rfl, ld_lg m c t 0 0#32 rfl, state_head0]
    rfl
  case piece6 =>
    rw [at_head' (stateAt m c t (k0_pay3 (iblk m c 8 t))) y x 1 h0 h1 h2]
    simp only [ld_cols _ 1 256 rfl, ld_row _ 1 256 rfl, ld_st _ 1 1 rfl, ld_lg m c t 1 1#32 rfl, state_head1]
    rfl
  case piece5 =>
    rw [at_head' (stateAt m c t (k0_pay3 (iblk m c 8 t))) y x 2 h0 h1 h2]
    simp only [ld_cols _ 2 512 rfl, ld_row _ 2 512 rfl, ld_st _ 2 2 rfl, ld_lg m c t 2 2#32 rfl, state_head2]
    rfl
  case piece4 =>
    rw [at_head' (stateAt m c t (k0_pay3 (iblk m c 8 t))) y x 3 h0 h1 h2]
    simp only [ld_cols _ 3 768 rfl, ld_row _ 3 768 rfl, ld_st _ 3 3 rfl, ld_lg m c t 3 3#32 rfl, state_head3]
    rfl
  case piece3 =>
    rw [at_head' (stateAt m c t (k0_pay3 (iblk m c 8 t))) y x 4 h0 h1 h2]
    simp only [ld_cols _ 4 1024 rfl, ld_row _ 4 1024 rfl, ld_st _ 4 4 rfl, ld_lg m c t 4 4#32 rfl, state_head4]
    rfl
  case piece2 =>
    rw [at_head' (stateAt m c t (k0_pay3 (iblk m c 8 t))) y x 5 h0 h1 h2]
    simp only [ld_cols _ 5 1280 rfl, ld_row _ 5 1280 rfl, ld_st _ 5 5 rfl, ld_lg m c t 5 5#32 rfl, state_head5]
    rfl
  case piece1 =>
    rw [at_head' (stateAt m c t (k0_pay3 (iblk m c 8 t))) y x 6 h0 h1 h2]
    simp only [ld_cols _ 6 1536 rfl, ld_row _ 6 1536 rfl, ld_st _ 6 6 rfl, ld_lg m c t 6 6#32 rfl, state_head6]
    rfl
  case piece0 =>
    rw [at_head' (stateAt m c t (k0_pay3 (iblk m c 8 t))) y x 7 h0 h1 h2]
    simp only [ld_cols _ 7 1792 rfl, ld_row _ 7 1792 rfl, ld_st _ 7 7 rfl, ld_lg m c t 7 7#32 rfl, state_head7]
    rfl

set_option maxHeartbeats 1000000 in
theorem out_B (c : Dev nD) (t : Fin cfg0.N)
    (acc : Vec Ideal S128x2048 .bf16 × Vec Ideal S1x8x256x256 .f32 × Vec Ideal S8x256x256 .f32)
    (h0 : ¬t.val % 32 = 0) (h1 : ¬t.val % 32 = 31) (y : S128x2048.Idx) :
    (Value.stAt0 m c t.val t.isLt acc).1 y = outAt m c t acc.2.2
      ⟨(y 1).val / 256, by have := (y 1).isLt; simp at this; omega⟩
      (ix2 (y 0) ⟨(y 1).val % 256, Nat.mod_lt _ (by decide)⟩) := by
  rw [Value.stAt0_B m c t acc h0 h1]
  frame_open
  simp (disch := decide) only [↓ View.readCov_skip, ↓ View.readCov_cons_toLoadRect, ↓ View.readCov_fill]
  frame_out
  simp only [read_unread_whole]
  canon_tiles x h
  case piece7 =>
    rw [at_head (outAt m c t acc.2.2) y x 0 h0 (by rw [h1]; exact (Nat.zero_add _).symm)]
    simp only [ld_cols _ 0 0 rfl, ld_row _ 0 0 rfl, ld_st _ 0 0 rfl, ld_lg m c t 0 0#32 rfl, out_head0]
    rfl
  case piece6 =>
    rw [at_head (outAt m c t acc.2.2) y x 1 h0 h1]
    simp only [ld_cols _ 1 256 rfl, ld_row _ 1 256 rfl, ld_st _ 1 1 rfl, ld_lg m c t 1 1#32 rfl, out_head1]
    rfl
  case piece5 =>
    rw [at_head (outAt m c t acc.2.2) y x 2 h0 h1]
    simp only [ld_cols _ 2 512 rfl, ld_row _ 2 512 rfl, ld_st _ 2 2 rfl, ld_lg m c t 2 2#32 rfl, out_head2]
    rfl
  case piece4 =>
    rw [at_head (outAt m c t acc.2.2) y x 3 h0 h1]
    simp only [ld_cols _ 3 768 rfl, ld_row _ 3 768 rfl, ld_st _ 3 3 rfl, ld_lg m c t 3 3#32 rfl, out_head3]
    rfl
  case piece3 =>
    rw [at_head (outAt m c t acc.2.2) y x 4 h0 h1]
    simp only [ld_cols _ 4 1024 rfl, ld_row _ 4 1024 rfl, ld_st _ 4 4 rfl, ld_lg m c t 4 4#32 rfl, out_head4]
    rfl
  case piece2 =>
    rw [at_head (outAt m c t acc.2.2) y x 5 h0 h1]
    simp only [ld_cols _ 5 1280 rfl, ld_row _ 5 1280 rfl, ld_st _ 5 5 rfl, ld_lg m c t 5 5#32 rfl, out_head5]
    rfl
  case piece1 =>
    rw [at_head (outAt m c t acc.2.2) y x 6 h0 h1]
    simp only [ld_cols _ 6 1536 rfl, ld_row _ 6 1536 rfl, ld_st _ 6 6 rfl, ld_lg m c t 6 6#32 rfl, out_head6]
    rfl
  case piece0 =>
    rw [at_head (outAt m c t acc.2.2) y x 7 h0 h1]
    simp only [ld_cols _ 7 1792 rfl, ld_row _ 7 1792 rfl, ld_st _ 7 7 rfl, ld_lg m c t 7 7#32 rfl, out_head7]
    rfl

set_option maxHeartbeats 1000000 in
theorem state_B (c : Dev nD) (t : Fin cfg0.N)
    (acc : Vec Ideal S128x2048 .bf16 × Vec Ideal S1x8x256x256 .f32 × Vec Ideal S8x256x256 .f32)
    (h0 : ¬t.val % 32 = 0) (h1 : ¬t.val % 32 = 31) (y : S8x256x256.Idx) :
    (Value.stAt0 m c t.val t.isLt acc).2.2 y = stateAt m c t acc.2.2 (y 0) (ix3 0 (y 1) (y 2)) := by
  rw [Value.stAt0_B m c t acc h0 h1]
  frame_open
  simp (disch := decide) only [↓ View.readCov_skip, ↓ View.readCov_cons_toLoadRect, ↓ View.readCov_fill]
  frame_out
  simp only [read_unread_whole]
  canon_tiles x h
  case piece7 =>
    rw [at_head' (stateAt m c t acc.2.2) y x 0 (by rw [h0]; exact (Nat.zero_add _).symm) h1 h2]
    simp only [ld_cols _ 0 0 rfl, ld_row _ 0 0 rfl, ld_st _ 0 0 rfl, ld_lg m c t 0 0#32 rfl, state_head0]
    rfl
  case piece6 =>
    rw [at_head' (stateAt m c t acc.2.2) y x 1 h0 h1 h2]
    simp only [ld_cols _ 1 256 rfl, ld_row _ 1 256 rfl, ld_st _ 1 1 rfl, ld_lg m c t 1 1#32 rfl, state_head1]
    rfl
  case piece5 =>
    rw [at_head' (stateAt m c t acc.2.2) y x 2 h0 h1 h2]
    simp only [ld_cols _ 2 512 rfl, ld_row _ 2 512 rfl, ld_st _ 2 2 rfl, ld_lg m c t 2 2#32 rfl, state_head2]
    rfl
  case piece4 =>
    rw [at_head' (stateAt m c t acc.2.2) y x 3 h0 h1 h2]
    simp only [ld_cols _ 3 768 rfl, ld_row _ 3 768 rfl, ld_st _ 3 3 rfl, ld_lg m c t 3 3#32 rfl, state_head3]
    rfl
  case piece3 =>
    rw [at_head' (stateAt m c t acc.2.2) y x 4 h0 h1 h2]
    simp only [ld_cols _ 4 1024 rfl, ld_row _ 4 1024 rfl, ld_st _ 4 4 rfl, ld_lg m c t 4 4#32 rfl, state_head4]
    rfl
  case piece2 =>
    rw [at_head' (stateAt m c t acc.2.2) y x 5 h0 h1 h2]
    simp only [ld_cols _ 5 1280 rfl, ld_row _ 5 1280 rfl, ld_st _ 5 5 rfl, ld_lg m c t 5 5#32 rfl, state_head5]
    rfl
  case piece1 =>
    rw [at_head' (stateAt m c t acc.2.2) y x 6 h0 h1 h2]
    simp only [ld_cols _ 6 1536 rfl, ld_row _ 6 1536 rfl, ld_st _ 6 6 rfl, ld_lg m c t 6 6#32 rfl, state_head6]
    rfl
  case piece0 =>
    rw [at_head' (stateAt m c t acc.2.2) y x 7 h0 h1 h2]
    simp only [ld_cols _ 7 1792 rfl, ld_row _ 7 1792 rfl, ld_st _ 7 7 rfl, ld_lg m c t 7 7#32 rfl, state_head7]
    rfl

set_option maxHeartbeats 1000000 in
theorem out_C (c : Dev nD) (t : Fin cfg0.N)
    (acc : Vec Ideal S128x2048 .bf16 × Vec Ideal S1x8x256x256 .f32 × Vec Ideal S8x256x256 .f32)
    (h0 : ¬t.val % 32 = 0) (h1 : t.val % 32 = 31) (y : S128x2048.Idx) :
    (Value.stAt0 m c t.val t.isLt acc).1 y = outAt m c t acc.2.2
      ⟨(y 1).val / 256, by have := (y 1).isLt; simp at this; omega⟩
      (ix2 (y 0) ⟨(y 1).val % 256, Nat.mod_lt _ (by decide)⟩) := by
  rw [Value.stAt0_C m c t acc h0 h1]
  frame_open
  simp (disch := decide) only [↓ View.readCov_skip, ↓ View.readCov_cons_toLoadRect, ↓ View.readCov_fill]
  frame_out
  simp only [read_unread_whole]
  canon_tiles x h
  case piece7 =>
    rw [at_head (outAt m c t acc.2.2) y x 0 h0 (by rw [h1]; exact (Nat.zero_add _).symm)]
    simp only [ld_cols _ 0 0 rfl, ld_row _ 0 0 rfl, ld_st _ 0 0 rfl, ld_lg m c t 0 0#32 rfl, out_head0]
    rfl
  case piece6 =>
    rw [at_head (outAt m c t acc.2.2) y x 1 h0 h1]
    simp only [ld_cols _ 1 256 rfl, ld_row _ 1 256 rfl, ld_st _ 1 1 rfl, ld_lg m c t 1 1#32 rfl, out_head1]
    rfl
  case piece5 =>
    rw [at_head (outAt m c t acc.2.2) y x 2 h0 h1]
    simp only [ld_cols _ 2 512 rfl, ld_row _ 2 512 rfl, ld_st _ 2 2 rfl, ld_lg m c t 2 2#32 rfl, out_head2]
    rfl
  case piece4 =>
    rw [at_head (outAt m c t acc.2.2) y x 3 h0 h1]
    simp only [ld_cols _ 3 768 rfl, ld_row _ 3 768 rfl, ld_st _ 3 3 rfl, ld_lg m c t 3 3#32 rfl, out_head3]
    rfl
  case piece3 =>
    rw [at_head (outAt m c t acc.2.2) y x 4 h0 h1]
    simp only [ld_cols _ 4 1024 rfl, ld_row _ 4 1024 rfl, ld_st _ 4 4 rfl, ld_lg m c t 4 4#32 rfl, out_head4]
    rfl
  case piece2 =>
    rw [at_head (outAt m c t acc.2.2) y x 5 h0 h1]
    simp only [ld_cols _ 5 1280 rfl, ld_row _ 5 1280 rfl, ld_st _ 5 5 rfl, ld_lg m c t 5 5#32 rfl, out_head5]
    rfl
  case piece1 =>
    rw [at_head (outAt m c t acc.2.2) y x 6 h0 h1]
    simp only [ld_cols _ 6 1536 rfl, ld_row _ 6 1536 rfl, ld_st _ 6 6 rfl, ld_lg m c t 6 6#32 rfl, out_head6]
    rfl
  case piece0 =>
    rw [at_head (outAt m c t acc.2.2) y x 7 h0 h1]
    simp only [ld_cols _ 7 1792 rfl, ld_row _ 7 1792 rfl, ld_st _ 7 7 rfl, ld_lg m c t 7 7#32 rfl, out_head7]
    rfl

set_option maxHeartbeats 1000000 in
theorem state_C (c : Dev nD) (t : Fin cfg0.N)
    (acc : Vec Ideal S128x2048 .bf16 × Vec Ideal S1x8x256x256 .f32 × Vec Ideal S8x256x256 .f32)
    (h0 : ¬t.val % 32 = 0) (h1 : t.val % 32 = 31) (y : S8x256x256.Idx) :
    (Value.stAt0 m c t.val t.isLt acc).2.2 y = stateAt m c t acc.2.2 (y 0) (ix3 0 (y 1) (y 2)) := by
  rw [Value.stAt0_C m c t acc h0 h1]
  frame_open
  simp (disch := decide) only [↓ View.readCov_skip, ↓ View.readCov_cons_toLoadRect, ↓ View.readCov_fill]
  frame_out
  simp only [read_unread_whole]
  canon_tiles x h
  case piece7 =>
    rw [at_head' (stateAt m c t acc.2.2) y x 0 (by rw [h0]; exact (Nat.zero_add _).symm) h1 h2]
    simp only [ld_cols _ 0 0 rfl, ld_row _ 0 0 rfl, ld_st _ 0 0 rfl, ld_lg m c t 0 0#32 rfl, state_head0]
    rfl
  case piece6 =>
    rw [at_head' (stateAt m c t acc.2.2) y x 1 h0 h1 h2]
    simp only [ld_cols _ 1 256 rfl, ld_row _ 1 256 rfl, ld_st _ 1 1 rfl, ld_lg m c t 1 1#32 rfl, state_head1]
    rfl
  case piece5 =>
    rw [at_head' (stateAt m c t acc.2.2) y x 2 h0 h1 h2]
    simp only [ld_cols _ 2 512 rfl, ld_row _ 2 512 rfl, ld_st _ 2 2 rfl, ld_lg m c t 2 2#32 rfl, state_head2]
    rfl
  case piece4 =>
    rw [at_head' (stateAt m c t acc.2.2) y x 3 h0 h1 h2]
    simp only [ld_cols _ 3 768 rfl, ld_row _ 3 768 rfl, ld_st _ 3 3 rfl, ld_lg m c t 3 3#32 rfl, state_head3]
    rfl
  case piece3 =>
    rw [at_head' (stateAt m c t acc.2.2) y x 4 h0 h1 h2]
    simp only [ld_cols _ 4 1024 rfl, ld_row _ 4 1024 rfl, ld_st _ 4 4 rfl, ld_lg m c t 4 4#32 rfl, state_head4]
    rfl
  case piece2 =>
    rw [at_head' (stateAt m c t acc.2.2) y x 5 h0 h1 h2]
    simp only [ld_cols _ 5 1280 rfl, ld_row _ 5 1280 rfl, ld_st _ 5 5 rfl, ld_lg m c t 5 5#32 rfl, state_head5]
    rfl
  case piece1 =>
    rw [at_head' (stateAt m c t acc.2.2) y x 6 h0 h1 h2]
    simp only [ld_cols _ 6 1536 rfl, ld_row _ 6 1536 rfl, ld_st _ 6 6 rfl, ld_lg m c t 6 6#32 rfl, state_head6]
    rfl
  case piece0 =>
    rw [at_head' (stateAt m c t acc.2.2) y x 7 h0 h1 h2]
    simp only [ld_cols _ 7 1792 rfl, ld_row _ 7 1792 rfl, ld_st _ 7 7 rfl, ld_lg m c t 7 7#32 rfl, state_head7]
    rfl

/-- The last chunk's copy of the states is the states it leaves. -/
theorem copy_C (c : Dev nD) (t : Fin cfg0.N)
    (acc : Vec Ideal S128x2048 .bf16 × Vec Ideal S1x8x256x256 .f32 × Vec Ideal S8x256x256 .f32)
    (h0 : ¬t.val % 32 = 0) (h1 : t.val % 32 = 31) (h : Fin 8) (d e : Fin 256) :
    (Value.stAt0 m c t.val t.isLt acc).2.1 (ix4 0 h d e) = (Value.stAt0 m c t.val t.isLt acc).2.2 (ix3 h d e) := by
  rw [Value.stAt0_C m c t acc h0 h1]
  frame_open
  simp (disch := decide) only [↓ View.readCov_skip, ↓ View.readCov_cons_toLoadRect, ↓ View.readCov_fill]
  frame_out
  simp only [View.readCov_eq_canon']
  pointwise [k0_pay2]

end Cert.KernelIdeal.Closed

end
-- ==== Proof.RetTables.lean ====
/- The tables that the retention call reads beside its operands: the log decays, the cosines and sines, the norm's weights
   and the zero state. -/
module

public import proofs.«01_k».proof.Proof.Gen.KernelIdeal.Value
public import proofs.«01_k».proof.Proof.Gen.KernelRefIdeal.Step
public import proofs.«01_k».proof.Proof.RetMath

@[expose] public section

set_option maxRecDepth 16384

noncomputable section

namespace Cert.KernelIdeal.Closed

open Cert.KernelIdeal Cert.KernelIdeal.Gen Idealize.ShloMosaic Idealize.ShloMosaic.TcCoe Idealize.SL.Sem
open Cert.KernelRefIdeal.Step (K_main_v16 K_main_v18 K_main_v47 K_main_v49 K_main_v74)

variable (m : (ℓ : Loc nD τ sig) → Buf (Elt Ideal) ℓ) (c : Dev nD)

theorem V_lg : V m c main_v6 = K_main_v74 (F := Ideal) := by
  unfold V
  simp only [hostOps0, hostOps0_1, hostOps0_2, hostOps0_3, hostOps0_4, List.flatten_cons, List.flatten_nil, List.append_nil, List.cons_append, List.nil_append]
  after_results <;> rfl

theorem V_cos (t : Fin 4096) (e : Fin 128) : (V m c main_v21 : S4096x128.Idx → EReal) (ix2 t e) = K_main_v16 (F := Ideal) (ix2 t e) := by
  have h : V m c main_v21 = pad S4096x128 ![0, 0] ![0, 0] ![0, 0] (K_main_v16 (F := Ideal) : S4096x128.Idx → EReal) (sitofp (F := Ideal) .f32 (constantI S_ 32 0#32) : S_.Idx → EReal) pads_S4096x128_S4096x128_000_000 h_S_ := by
    unfold V
    simp only [hostOps0, hostOps0_1, hostOps0_2, hostOps0_3, hostOps0_4, List.flatten_cons, List.flatten_nil, List.append_nil, List.cons_append, List.nil_append]
    after_results <;> rfl
  rw [h]
  generalize (K_main_v16 (F := Ideal) : S4096x128.Idx → EReal) = g
  pointwise

theorem V_sin (t : Fin 4096) (e : Fin 128) : (V m c main_v23 : S4096x128.Idx → EReal) (ix2 t e) = K_main_v18 (F := Ideal) (ix2 t e) := by
  have h : V m c main_v23 = pad S4096x128 ![0, 0] ![0, 0] ![0, 0] (K_main_v18 (F := Ideal) : S4096x128.Idx → EReal) (sitofp (F := Ideal) .f32 (constantI S_ 32 0#32) : S_.Idx → EReal) pads_S4096x128_S4096x128_000_000 h_S_ := by
    unfold V
    simp only [hostOps0, hostOps0_1, hostOps0_2, hostOps0_3, hostOps0_4, List.flatten_cons, List.flatten_nil, List.append_nil, List.cons_append, List.nil_append]
    after_results <;> rfl
  rw [h]
  generalize (K_main_v18 (F := Ideal) : S4096x128.Idx → EReal) = g
  pointwise

theorem V_gn (k : Fin 2048) : (V m c main_v26 : S1x2048.Idx → EReal) (ix2 0 k) = (m ((c : Thread nD τ).loc main_arg1) : S1x2048.Idx → EReal) (ix2 0 k) := by
  have h : V m c main_v26 = shapeCast _ (shapeCast _ (m ((c : Thread nD τ).loc main_arg1) : S1x2048.Idx → EReal) shapeCasts_S1x2048_S2048) shapeCasts_S2048_S1x2048 := by
    unfold V
    simp only [hostOps0, hostOps0_1, hostOps0_2, hostOps0_3, hostOps0_4, List.flatten_cons, List.flatten_nil, List.append_nil, List.cons_append, List.nil_append]
    after_results <;> rfl
  rw [h]
  generalize (m ((c : Thread nD τ).loc main_arg1) : S1x2048.Idx → EReal) = g
  pointwise

theorem V_s0 : V m c main_v24 = fun _ => (0 : EReal) := by
  have h : V m c main_v24 = broadcastInDim S2x8x256x256 ![] bcast_S_S2x8x256x256 (constant (F := Ideal) S_ .f32 0x00000000#32) := by
    unfold V
    simp only [hostOps0, hostOps0_1, hostOps0_2, hostOps0_3, hostOps0_4, List.flatten_cons, List.flatten_nil, List.append_nil, List.cons_append, List.nil_append]
    after_results <;> rfl
  rw [h]
  exact funext fun i => Ideal.ofBits_zero_f32

end Cert.KernelIdeal.Closed

end
-- ==== Proof.RetBlocks.lean ====
/- The blocks that a grid point of the retention call reads, in terms of the arguments and the tables. -/
module

public import proofs.«01_k».proof.Proof.RetBody
public import proofs.«01_k».proof.Proof.RetTables

@[expose] public section

set_option maxRecDepth 16384

noncomputable section

namespace Cert.KernelIdeal.Closed

open Cert.KernelIdeal Cert.KernelIdeal.Gen Idealize.ShloMosaic Idealize.ShloMosaic.TcCoe Idealize.SL.Sem
open Cert.KernelRefIdeal.Step (K_main_v16 K_main_v18 K_main_v74)

variable (m : (ℓ : Loc nD τ sig) → Buf (Elt Ideal) ℓ) (c : Dev nD)

/-- The two arguments as arrays over their literal shapes. -/
abbrev argZ : S8192x22016.Idx → EReal := m ((c : Thread nD τ).loc main_arg0)
abbrev argG : S1x2048.Idx → EReal := m ((c : Thread nD τ).loc main_arg1)

theorem t_lt (t : Fin cfg0.N) : t.val < 64 := by have := t.isLt; have e : cfg0.N = 64 := N_0; omega

theorem idx_in : ∀ t : Fin cfg0.N,
    (win0_1.index t 0 = t.val ∧ win0_1.index t 1 = 1) ∧ (win0_2.index t 0 = t.val ∧ win0_2.index t 1 = 2)
    ∧ (win0_3.index t 0 = t.val ∧ win0_3.index t 1 = 3) ∧ (win0_4.index t 0 = t.val ∧ win0_4.index t 1 = 4) :=
  (by decide +kernel : ∀ t : Fin grid0.N,
    (win0_1.index t 0 = t.val ∧ win0_1.index t 1 = 1) ∧ (win0_2.index t 0 = t.val ∧ win0_2.index t 1 = 2)
    ∧ (win0_3.index t 0 = t.val ∧ win0_3.index t 1 = 3) ∧ (win0_4.index t 0 = t.val ∧ win0_4.index t 1 = 4))

theorem idx_tab : ∀ t : Fin cfg0.N,
    (win0_5.index t 0 = t.val % 32 ∧ win0_5.index t 1 = 0) ∧ (win0_6.index t 0 = t.val % 32 ∧ win0_6.index t 1 = 0)
    ∧ (win0_7.index t 0 = 0 ∧ win0_7.index t 1 = 0) ∧ win0_0.index t 0 = 0 :=
  (by decide +kernel : ∀ t : Fin grid0.N,
    (win0_5.index t 0 = t.val % 32 ∧ win0_5.index t 1 = 0) ∧ (win0_6.index t 0 = t.val % 32 ∧ win0_6.index t 1 = 0)
    ∧ (win0_7.index t 0 = 0 ∧ win0_7.index t 1 = 0) ∧ win0_0.index t 0 = 0)

theorem X1_apply (t : Fin cfg0.N) (r : Fin 128) (e : Fin 2048) :
    (X0_1 m c t : S128x2048.Idx → EReal) (ix2 r e) = argZ m c (ix2 ⟨t.val * 128 + r.val, by have := t_lt t; omega⟩ ⟨2048 * 1 + e.val, by omega⟩) := by
  unfold X0_1 Pipeline.Window.fill
  rw [dif_pos (moved0_1 t (ix2 r e))]
  show V m c main_arg0 _ = _
  rw [V_main_arg0]
  refine congrArg (argZ m c) (funext fun a => Fin.ext ?_)
  match a with
  | ⟨0, _⟩ => show win0_1.index t 0 * 128 + 1 * r.val = t.val * 128 + r.val; rw [(idx_in t).1.1]; omega
  | ⟨1, _⟩ => show win0_1.index t 1 * 2048 + 1 * e.val = 2048 * 1 + e.val; rw [(idx_in t).1.2]; omega

theorem X2_apply (t : Fin cfg0.N) (r : Fin 128) (e : Fin 2048) :
    (X0_2 m c t : S128x2048.Idx → EReal) (ix2 r e) = argZ m c (ix2 ⟨t.val * 128 + r.val, by have := t_lt t; omega⟩ ⟨2048 * 2 + e.val, by omega⟩) := by
  unfold X0_2 Pipeline.Window.fill
  rw [dif_pos (moved0_2 t (ix2 r e))]
  show V m c main_arg0 _ = _
  rw [V_main_arg0]
  refine congrArg (argZ m c) (funext fun a => Fin.ext ?_)
  match a with
  | ⟨0, _⟩ => show win0_2.index t 0 * 128 + 1 * r.val = t.val * 128 + r.val; rw [(idx_in t).2.1.1]; omega
  | ⟨1, _⟩ => show win0_2.index t 1 * 2048 + 1 * e.val = 2048 * 2 + e.val; rw [(idx_in t).2.1.2]; omega

theorem X3_apply (t : Fin cfg0.N) (r : Fin 128) (e : Fin 2048) :
    (X0_3 m c t : S128x2048.Idx → EReal) (ix2 r e) = argZ m c (ix2 ⟨t.val * 128 + r.val, by have := t_lt t; omega⟩ ⟨2048 * 3 + e.val, by omega⟩) := by
  unfold X0_3 Pipeline.Window.fill
  rw [dif_pos (moved0_3 t (ix2 r e))]
  show V m c main_arg0 _ = _
  rw [V_main_arg0]
  refine congrArg (argZ m c) (funext fun a => Fin.ext ?_)
  match a with
  | ⟨0, _⟩ => show win0_3.index t 0 * 128 + 1 * r.val = t.val * 128 + r.val; rw [(idx_in t).2.2.1.1]; omega
  | ⟨1, _⟩ => show win0_3.index t 1 * 2048 + 1 * e.val = 2048 * 3 + e.val; rw [(idx_in t).2.2.1.2]; omega

theorem X4_apply (t : Fin cfg0.N) (r : Fin 128) (e : Fin 2048) :
    (X0_4 m c t : S128x2048.Idx → EReal) (ix2 r e) = argZ m c (ix2 ⟨t.val * 128 + r.val, by have := t_lt t; omega⟩ ⟨2048 * 4 + e.val, by omega⟩) := by
  unfold X0_4 Pipeline.Window.fill
  rw [dif_pos (moved0_4 t (ix2 r e))]
  show V m c main_arg0 _ = _
  rw [V_main_arg0]
  refine congrArg (argZ m c) (funext fun a => Fin.ext ?_)
  match a with
  | ⟨0, _⟩ => show win0_4.index t 0 * 128 + 1 * r.val = t.val * 128 + r.val; rw [(idx_in t).2.2.2.1]; omega
  | ⟨1, _⟩ => show win0_4.index t 1 * 2048 + 1 * e.val = 2048 * 4 + e.val; rw [(idx_in t).2.2.2.2]; omega

theorem lg_apply (t : Fin cfg0.N) (h : Fin 8) : (iblk m c 0 t : S8.Idx → EReal) (ix1 h) = K_main_v74 (F := Ideal) (ix1 h) := by
  show V m c main_v6 ((win0_0.blk t).view.emb (ix1 h)) = _
  rw [V_lg]
  refine congrArg (K_main_v74 (F := Ideal)) (funext fun a => Fin.ext ?_)
  match a with
  | ⟨0, _⟩ => show win0_0.index t 0 * 8 + 1 * h.val = h.val; rw [(idx_tab t).2.2.2]; omega

theorem cos_apply (t : Fin cfg0.N) (r : Fin 128) (e : Fin 128) :
    (iblk m c 5 t : S128x128.Idx → EReal) (ix2 r e) = K_main_v16 (F := Ideal) (ix2 (⟨128 * (t.val % 32) + r.val, by omega⟩ : Fin 4096) e) := by
  show V m c main_v21 ((win0_5.blk t).view.emb (ix2 r e)) = _
  have h : (win0_5.blk t).view.emb (ix2 r e) = ix2 (⟨128 * (t.val % 32) + r.val, by omega⟩ : Fin 4096) e := funext fun a => Fin.ext (by
    match a with
    | ⟨0, _⟩ => show win0_5.index t 0 * 128 + 1 * r.val = 128 * (t.val % 32) + r.val; rw [(idx_tab t).1.1]; omega
    | ⟨1, _⟩ => show win0_5.index t 1 * 128 + 1 * e.val = e.val; rw [(idx_tab t).1.2]; omega)
  rw [h]
  exact V_cos m c _ e

theorem sin_apply (t : Fin cfg0.N) (r : Fin 128) (e : Fin 128) :
    (iblk m c 6 t : S128x128.Idx → EReal) (ix2 r e) = K_main_v18 (F := Ideal) (ix2 (⟨128 * (t.val % 32) + r.val, by omega⟩ : Fin 4096) e) := by
  show V m c main_v23 ((win0_6.blk t).view.emb (ix2 r e)) = _
  have h : (win0_6.blk t).view.emb (ix2 r e) = ix2 (⟨128 * (t.val % 32) + r.val, by omega⟩ : Fin 4096) e := funext fun a => Fin.ext (by
    match a with
    | ⟨0, _⟩ => show win0_6.index t 0 * 128 + 1 * r.val = 128 * (t.val % 32) + r.val; rw [(idx_tab t).2.1.1]; omega
    | ⟨1, _⟩ => show win0_6.index t 1 * 128 + 1 * e.val = e.val; rw [(idx_tab t).2.1.2]; omega)
  rw [h]
  exact V_sin m c _ e

theorem gn_apply (t : Fin cfg0.N) (k : Fin 2048) : (iblk m c 7 t : S1x2048.Idx → EReal) (ix2 0 k) = argG m c (ix2 0 k) := by
  show V m c main_v26 ((win0_7.blk t).view.emb (ix2 0 k)) = _
  have h : (win0_7.blk t).view.emb (ix2 0 k) = ix2 0 k := funext fun a => Fin.ext (by
    match a with
    | ⟨0, _⟩ => show win0_7.index t 0 * 1 + 1 * 0 = 0; rw [(idx_tab t).2.2.1.1]
    | ⟨1, _⟩ => show win0_7.index t 1 * 2048 + 1 * k.val = k.val; rw [(idx_tab t).2.2.1.2]; omega)
  rw [h]
  exact V_gn m c k

theorem s0_apply (t : Fin cfg0.N) (y : S8x256x256.Idx) : k0_pay3 (F := Ideal) (iblk m c 8 t) y = (0 : EReal) := by
  have h : (iblk m c 8 t : S1x8x256x256.Idx → EReal) = (fun _ => (0 : EReal) : S1x8x256x256.Idx → EReal) := by
    funext x
    show V m c main_v24 _ = (0 : EReal)
    rw [V_s0]
  obtain ⟨a, b, d, rfl⟩ : ∃ (a : Fin 8) (b : Fin 256) (d : Fin 256), y = ix3 a b d := ⟨y 0, y 1, y 2, eq_ix3 y⟩
  rw [h]
  pointwise [k0_pay3]

end Cert.KernelIdeal.Closed

end
-- ==== Proof.RetSweep.lean ====
/- The retention kernel's two result arrays: every chunk's outputs, and the state after the last chunk. -/
module

public import proofs.«01_k».proof.Proof.RetBlocks

@[expose] public section

set_option maxRecDepth 16384

noncomputable section

namespace Cert.KernelIdeal.Closed

open Cert.KernelIdeal Cert.KernelIdeal.Gen Idealize.ShloMosaic Idealize.ShloMosaic.TcCoe Idealize.SL.Sem
open Cert.KernelRefIdeal.Step (K_main_v16 K_main_v18 K_main_v74)

variable (m : (ℓ : Loc nD τ sig) → Buf (Elt Ideal) ℓ) (c : Dev nD)

/-- The log decays, the cosines and the sines as functions. -/
abbrev LG (h : Fin 8) : EReal := K_main_v74 (F := Ideal) (ix1 h)
abbrev CO (t : Fin 4096) (e : Fin 128) : EReal := K_main_v16 (F := Ideal) (ix2 t e)
abbrev SI (t : Fin 4096) (e : Fin 128) : EReal := K_main_v18 (F := Ideal) (ix2 t e)
/-- The arguments as functions of their coordinates. -/
abbrev Z (i : Fin 8192) (j : Fin 22016) : EReal := argZ m c (ix2 i j)
abbrev GN (k : Fin 2048) : EReal := argG m c (ix2 0 k)

variable (t : Fin cfg0.N) (b : Fin 2) (n : Fin 32) (ht : t.val = 32 * b.val + n.val)
include ht

theorem q_apply (h : Fin 8) (r : Fin 128) (e : Fin 256) : cols (X0_1 m c t) h (ix2 r e) = Z m c (Ret.row b n r) (Ret.col 1 h e) :=
  (X1_apply m c t r (Ret.hcol h e)).trans (congrArg (argZ m c) (congrArg₂ ix2 (Fin.ext (by simp; omega)) (Fin.ext rfl)))
theorem k_apply (h : Fin 8) (r : Fin 128) (e : Fin 256) : cols (X0_2 m c t) h (ix2 r e) = Z m c (Ret.row b n r) (Ret.col 2 h e) :=
  (X2_apply m c t r (Ret.hcol h e)).trans (congrArg (argZ m c) (congrArg₂ ix2 (Fin.ext (by simp; omega)) (Fin.ext rfl)))
theorem v_apply (h : Fin 8) (r : Fin 128) (e : Fin 256) : cols (X0_3 m c t) h (ix2 r e) = Z m c (Ret.row b n r) (Ret.col 3 h e) :=
  (X3_apply m c t r (Ret.hcol h e)).trans (congrArg (argZ m c) (congrArg₂ ix2 (Fin.ext (by simp; omega)) (Fin.ext rfl)))
theorem g_apply (h : Fin 8) (r : Fin 128) (e : Fin 256) : cols (X0_4 m c t) h (ix2 r e) = Z m c (Ret.row b n r) (Ret.col 4 h e) :=
  (X4_apply m c t r (Ret.hcol h e)).trans (congrArg (argZ m c) (congrArg₂ ix2 (Fin.ext (by simp; omega)) (Fin.ext rfl)))
theorem co_apply (r e : Fin 128) : (iblk m c 5 t : S128x128.Idx → EReal) (ix2 r e) = CO (Ret.pos n r) e :=
  (cos_apply m c t r e).trans (congrArg (K_main_v16 (F := Ideal)) (congrArg₂ ix2 (Fin.ext (by simp; omega)) rfl))
theorem si_apply (r e : Fin 128) : (iblk m c 6 t : S128x128.Idx → EReal) (ix2 r e) = SI (Ret.pos n r) e :=
  (sin_apply m c t r e).trans (congrArg (K_main_v18 (F := Ideal)) (congrArg₂ ix2 (Fin.ext (by simp; omega)) rfl))

omit ht in
theorem w_apply (h : Fin 8) (e : Fin 256) : rowOf (iblk m c 7 t) h (ix2 0 e) = GN m c (Ret.hcol h e) := gn_apply m c t (Ret.hcol h e)

/-- A point's block of one head is the chunk's results, if the state it reads is the one after the chunks before. -/
theorem outAt_apply (S : Vec Ideal S8x256x256 .f32) (h : Fin 8)
    (hS : ∀ d e, S (ix3 h d e) = Ret.state LG CO SI (Z m c) b h n.val d e) (r : Fin 128) (e : Fin 256) :
    outAt m c t S h (ix2 r e) = Ret.outC LG CO SI (Z m c) (GN m c) b h n r e := by
  unfold outAt
  rw [headOut_apply]
  unfold headMix Ret.outC Ret.mixC Ret.qC Ret.kC Ret.vC
  have hS' : ∀ d e, stOf S h (ix3 0 d e) = Ret.state LG CO SI (Z m c) b h n.val d e := hS
  simp only [q_apply m c t b n ht, k_apply m c t b n ht, v_apply m c t b n ht, g_apply m c t b n ht, co_apply m c t b n ht,
    si_apply m c t b n ht, w_apply m c t, lg_apply m c t, hS']

/-- and the state it leaves is the one after this chunk. -/
theorem stateAt_apply (S : Vec Ideal S8x256x256 .f32) (h : Fin 8)
    (hS : ∀ d e, S (ix3 h d e) = Ret.state LG CO SI (Z m c) b h n.val d e) (d e : Fin 256) :
    stateAt m c t S h (ix3 0 d e) = Ret.state LG CO SI (Z m c) b h (n.val + 1) d e := by
  rw [Ret.state_succ]
  unfold stateAt
  rw [headState_apply]
  unfold Ret.kC Ret.vC
  have hS' : ∀ d e, stOf S h (ix3 0 d e) = Ret.state LG CO SI (Z m c) b h n.val d e := hS
  simp only [k_apply m c t b n ht, v_apply m c t b n ht, co_apply m c t b n ht,
    si_apply m c t b n ht, lg_apply m c t, hS']

/-- What a point leaves, if the state it finds is right (at a batch's first chunk it starts from zero instead). -/
theorem point (acc : Vec Ideal S128x2048 .bf16 × Vec Ideal S1x8x256x256 .f32 × Vec Ideal S8x256x256 .f32)
    (hacc : n.val ≠ 0 → ∀ h d e, acc.2.2 (ix3 h d e) = Ret.state LG CO SI (Z m c) b h n.val d e) :
    (∀ r h e, (Value.stAt0 m c t.val t.isLt acc).1 (ix2 r (Ret.hcol h e)) = Ret.outC LG CO SI (Z m c) (GN m c) b h n r e)
    ∧ (∀ h d e, (Value.stAt0 m c t.val t.isLt acc).2.2 (ix3 h d e) = Ret.state LG CO SI (Z m c) b h (n.val + 1) d e) := by
  have hd : ∀ (h : Fin 8) (e : Fin 256), (256 * h.val + e.val) / 256 = h.val := fun h e => by omega
  have hm : ∀ (h : Fin 8) (e : Fin 256), (256 * h.val + e.val) % 256 = e.val := fun h e => by omega
  have hi : ∀ (S : Vec Ideal S8x256x256 .f32) (r : Fin 128) (h h' : Fin 8) (e e' : Fin 256), h' = h → e' = e →
      outAt m c t S h' (ix2 r e') = outAt m c t S h (ix2 r e) := fun S r h h' e e' a b => by rw [a, b]
  by_cases h0 : n.val = 0
  · have hS : ∀ h d e, k0_pay3 (F := Ideal) (iblk m c 8 t) (ix3 h d e) = Ret.state LG CO SI (Z m c) b h n.val d e := fun h d e => by
      rw [h0]; exact s0_apply m c t _
    refine ⟨fun r h e => ?_, fun h d e => ?_⟩
    · rw [out_A m c t acc (by omega) (by omega)]
      exact (hi _ r h _ e _ (Fin.ext (hd h e)) (Fin.ext (hm h e))).trans (outAt_apply m c t b n ht _ h (hS h) r e)
    · rw [state_A m c t acc (by omega) (by omega)]
      exact stateAt_apply m c t b n ht _ h (hS h) d e
  · by_cases h1 : n.val = 31
    · refine ⟨fun r h e => ?_, fun h d e => ?_⟩
      · rw [out_C m c t acc (by omega) (by omega)]
        exact (hi _ r h _ e _ (Fin.ext (hd h e)) (Fin.ext (hm h e))).trans (outAt_apply m c t b n ht _ h (hacc h0 h) r e)
      · rw [state_C m c t acc (by omega) (by omega)]
        exact stateAt_apply m c t b n ht _ h (hacc h0 h) d e
    · refine ⟨fun r h e => ?_, fun h d e => ?_⟩
      · rw [out_B m c t acc (by omega) (by omega)]
        exact (hi _ r h _ e _ (Fin.ext (hd h e)) (Fin.ext (hm h e))).trans (outAt_apply m c t b n ht _ h (hacc h0 h) r e)
      · rw [state_B m c t acc (by omega) (by omega)]
        exact stateAt_apply m c t b n ht _ h (hacc h0 h) d e

omit ht in
/-- After every point the carried state is the one after the point's chunk. -/
theorem sweep_state : ∀ (k : ℕ) (hk : k < cfg0.N) (b : Fin 2) (n : Fin 32), k = 32 * b.val + n.val → ∀ h d e,
    (outsAt0 m c k hk).2.2 (ix3 h d e) = Ret.state LG CO SI (Z m c) b h (n.val + 1) d e
  | 0, hk, b, n, e => by
    rw [Value.outsAt0_zero]
    exact (point m c ⟨0, hk⟩ b n e _ fun h0 => absurd (by omega) h0).2
  | k + 1, hk, b, n, e => by
    rw [Value.outsAt0_succ]
    refine (point m c ⟨k + 1, hk⟩ b n e _ fun h0 h d x => ?_).2
    have := sweep_state k (Nat.lt_of_succ_lt hk) b ⟨n.val - 1, by omega⟩ (by simp; omega) h d x
    rw [this]
    congr 1
    simp; omega

/-- A point's block of outputs. -/
theorem sweep_out (r : Fin 128) (h : Fin 8) (e : Fin 256) :
    (outsAt0 m c t.val t.isLt).1 (ix2 r (Ret.hcol h e)) = Ret.outC LG CO SI (Z m c) (GN m c) b h n r e := by
  obtain ⟨k, hk⟩ := t
  cases k with
  | zero =>
    rw [Value.outsAt0_zero]
    exact (point m c ⟨0, hk⟩ b n ht _ fun h0 => absurd (by simp at ht; omega) h0).1 r h e
  | succ k =>
    rw [Value.outsAt0_succ]
    refine (point m c ⟨k + 1, hk⟩ b n ht _ fun h0 h d x => ?_).1 r h e
    have := sweep_state m c k (Nat.lt_of_succ_lt hk) b ⟨n.val - 1, by omega⟩ (by simp at ht ⊢; omega) h d x
    rw [this]
    congr 1
    simp; omega

omit ht

/-- The first result array, element by element. -/
theorem G9_apply (b : Fin 2) (n : Fin 32) (r : Fin 128) (h : Fin 8) (e : Fin 256) :
    (Value.G9 m c : S8192x2048.Idx → EReal) (ix2 (Ret.row b n r) (Ret.hcol h e)) = Ret.outC LG CO SI (Z m c) (GN m c) b h n r e := by
  have hN : cfg0.N = 64 := N_0
  have hp : Value.pt9Of (ix2 (Ret.row b n r) (Ret.hcol h e)) = 32 * b.val + n.val := by
    show 1 * ((4096 * b.val + 128 * n.val + r.val) / 128 - 0) + 1 * ((256 * h.val + e.val) / 2048 - 0) = _
    omega
  have hl : Value.loc9Of (ix2 (Ret.row b n r) (Ret.hcol h e)) = ix2 r (Ret.hcol h e) := funext fun a => Fin.ext (by
    match a with
    | ⟨0, _⟩ => show (4096 * b.val + 128 * n.val + r.val) % 128 = r.val; omega
    | ⟨1, _⟩ => show (256 * h.val + e.val) % 2048 = 256 * h.val + e.val; omega)
  have hlt : 32 * b.val + n.val < cfg0.N := by rw [hN]; omega
  unfold Value.G9
  rw [dif_pos (by rw [hp]; exact hlt), Value.fold0_congr m c _ _ (32 * b.val + n.val) (by omega) hp, hl, ← Value.outsAt0_sweep m c _ hlt]
  exact sweep_out m c ⟨32 * b.val + n.val, hlt⟩ b n rfl r h e

/-- The second result array, element by element. -/
theorem G10_apply (b : Fin 2) (h : Fin 8) (d e : Fin 256) :
    (Value.G10 m c : S2x8x256x256.Idx → EReal) (ix4 b h d e) = Ret.state LG CO SI (Z m c) b h 32 d e := by
  have hN : cfg0.N = 64 := N_0
  have hp : Value.pt10Of (ix4 b h d e) = 32 * b.val + 31 := by
    show 32 * (1 * (b.val / 1 - 0) + 1 * (h.val / 8 - 0) + 1 * (d.val / 256 - 0) + 1 * (e.val / 256 - 0)) + 31 = _
    omega
  have hl : Value.loc10Of (ix4 b h d e) = ix4 0 h d e := funext fun a => Fin.ext (by
    match a with
    | ⟨0, _⟩ => show b.val % 1 = 0; omega
    | ⟨1, _⟩ => show h.val % 8 = h.val; omega
    | ⟨2, _⟩ => show d.val % 256 = d.val; omega
    | ⟨3, _⟩ => show e.val % 256 = e.val; omega)
  have hlt : 32 * b.val + 31 < cfg0.N := by rw [hN]; omega
  unfold Value.G10
  rw [dif_pos (by rw [hp]; exact hlt), Value.fold0_congr m c _ _ (32 * b.val + 31) (by omega) hp, hl, ← Value.outsAt0_sweep m c _ hlt]
  refine Eq.trans ?_ (sweep_state m c (32 * b.val + 31) hlt b 31 rfl h d e)
  rw [Value.outsAt0_succ]
  exact copy_C m c ⟨32 * b.val + 31, hlt⟩ _ (by simp) (by simp) h d e

end Cert.KernelIdeal.Closed

end
-- ==== Proof.RetScan.lean ====
/- The retention reference's run told as its scan step iterated from the state before the first chunk. -/
module

public import proofs.«01_k».proof.Proof.Gen.KernelRefIdeal.Run
public import proofs.«01_k».proof.Proof.Gen.KernelRefIdeal.Step

@[expose] public section

set_option maxRecDepth 65536

noncomputable section

namespace Cert.KernelRefIdeal.Closed

open Idealize.ShloMosaic Idealize.ShloMosaic.TcCoe Idealize.SL.Sem Idealize.ShloMosaic.StableHlo
open Cert.KernelRefIdeal Cert.KernelRefIdeal.Gen Cert.KernelRefIdeal.Value
open Cert.KernelRefIdeal.Step (State step init)

variable {F : FTy → Type} [FloatOps F]

/-- The valuation before trip `j`: the scan's carried values are those of the state `s`, its constants are the decay tables, its
    counter is `j`. -/
structure Holds (V0 : Valuation τ sig (Elt F)) (s : State F) (j : ℕ) : Prop where
  f_8 : V0 (Proc.devRef .tc main_v121_8) = s.main_v121_8
  f_9 : V0 (Proc.devRef .tc main_v121_9) = s.main_v121_9
  f_0 : V0 (Proc.devRef .tc main_v121_0) = s.main_v121_0
  f_1 : V0 (Proc.devRef .tc main_v121_1) = s.main_v121_1
  f_2 : V0 (Proc.devRef .tc main_v121_2) = s.main_v121_2
  n_7 : V0 (Proc.devRef .tc main_v121_7) = constantI S_ 32 (BitVec.ofNat 32 j)
  k_3 : V0 (Proc.devRef .tc main_v121_3) = Cert.KernelRefIdeal.Step.K_main_v92 (F := F)
  k_4 : V0 (Proc.devRef .tc main_v121_4) = Cert.KernelRefIdeal.Step.K_main_v101 (F := F)
  k_5 : V0 (Proc.devRef .tc main_v121_5) = Cert.KernelRefIdeal.Step.K_main_v113 (F := F)
  k_6 : V0 (Proc.devRef .tc main_v121_6) = Cert.KernelRefIdeal.Step.K_main_v110 (F := F)

variable {V0 : Valuation τ sig (Elt F)} {s : State F} {j : ℕ}

theorem step_8 (h : Holds V0 s j) : step_main_v121_8 V0 = (step j s).main_v121_8 := by
  unfold step_main_v121_8 res_main_while0b_v154 res_main_while0b_v155
  rw [h.f_8, h.k_5, h.f_1, h.f_2, h.k_6, h.n_7]
  rfl

theorem step_9 (h : Holds V0 s j) : step_main_v121_9 V0 = (step j s).main_v121_9 := by
  unfold step_main_v121_9 res_main_while0b_v153 res_main_while0b_v154 res_main_while0b_v155
  rw [h.f_9, h.f_8, h.k_3, h.k_4, h.f_0, h.f_1, h.f_2, h.n_7]
  rfl

theorem step_7 (h : Holds V0 s j) : step_main_v121_7 V0 = constantI S_ 32 (BitVec.ofNat 32 (j + 1)) := by
  unfold step_main_v121_7
  rw [h.n_7]
  funext i
  show BitVec.ofNat 32 j + 1#32 = BitVec.ofNat 32 (j + 1)
  simp only [BitVec.ofNat_add]

set_option maxRecDepth 8192 in
theorem out_main_v152_holds (h : Holds V0 s j) {x_main_arg0 : (⟨S8192x22016, .f32⟩ : BufTy).Contents (Elt F)} (h_main_arg0 : V0 (Proc.devRef .tc main_arg0) = x_main_arg0) {x_main_arg1 : (⟨S1x2048, .f32⟩ : BufTy).Contents (Elt F)} (h_main_arg1 : V0 (Proc.devRef .tc main_arg1) = x_main_arg1) : out_main_v152 V0 = Cert.KernelRefIdeal.Step.R_main_v152 s x_main_arg0 x_main_arg1 := by
  unfold out_main_v152 Cert.KernelRefIdeal.Step.R_main_v152
  rw [h.f_9, h_main_arg0, h_main_arg1]
  try rfl

/-- One trip keeps the valuation holding: `step` of the state, the same set-up values, the next number. -/
theorem holds_step (h : Holds V0 s j) : Holds (STEP V0) (step j s) (j + 1) where
  f_8 := (STEP_main_v121_8 V0).trans (step_8 h)
  f_9 := (STEP_main_v121_9 V0).trans (step_9 h)
  n_7 := (STEP_main_v121_7 V0).trans (step_7 h)
  k_3 := (STEP_main_v121_3 V0).trans h.k_3
  k_4 := (STEP_main_v121_4 V0).trans h.k_4
  k_5 := (STEP_main_v121_5 V0).trans h.k_5
  k_6 := (STEP_main_v121_6 V0).trans h.k_6
  f_0 := (STEP_main_v121_0 V0).trans h.f_0
  f_1 := (STEP_main_v121_1 V0).trans h.f_1
  f_2 := (STEP_main_v121_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- Every weakly fair execution of `KernelRefIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v152) = Cert.KernelRefIdeal.Step.R_main_v152 (it c 32) (m ((c.tc : Thread nD τ).loc main_arg0)) (m ((c.tc : Thread nD τ).loc main_arg1))
      ∧ r.2.mem ((c.tc : Thread nD τ).loc main_v121_8) = (it c 32).main_v121_8
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 32
    ⟨(h c).1.trans (out_main_v152_holds hk (iter_main_arg0 m c 32) (iter_main_arg1 m c 32)), (h c).2.1.trans hk.f_8, (h c).2.2.1, (h c).2.2.2⟩) (Value.run m ρ)

end Cert.KernelRefIdeal.Closed

end
-- ==== Proof.RetRefArr.lean ====
/- The arrays that the retention reference scans over, read element by element. -/
module

public import proofs.«01_k».proof.Proof.RetScan
public import proofs.«01_k».proof.Proof.RetMath
public import Idealize.ShloMosaic.Lib.DynamicIndex

@[expose] public section

set_option maxRecDepth 16384

noncomputable section

namespace Cert.KernelRefIdeal.Closed

open Cert.KernelRefIdeal Cert.KernelRefIdeal.Gen Idealize.ShloMosaic Idealize.ShloMosaic.TcCoe Idealize.SL.Sem
open Cert.KernelRefIdeal.Step

/-- The queries, before rotation. -/
theorem v3_apply (z : S8192x22016.Idx → EReal) (b : Fin 2) (t : Fin 4096) (h : Fin 8) (e : Fin 256) :
    A_main_v3 (F := Ideal) z (ix4 b t h e) = z (ix2 ⟨b.val * 4096 + t.val, by omega⟩ ⟨2048 + (h.val * 256 + e.val), by omega⟩) := by
  pointwise [A_main_v3, A_main_v2]

/-- The keys, before rotation. -/
theorem v34_apply (z : S8192x22016.Idx → EReal) (b : Fin 2) (t : Fin 4096) (h : Fin 8) (e : Fin 256) :
    A_main_v34 (F := Ideal) z (ix4 b t h e) = z (ix2 ⟨b.val * 4096 + t.val, by omega⟩ ⟨4096 + (h.val * 256 + e.val), by omega⟩) := by
  pointwise [A_main_v34, A_main_v33]

/-- The values. -/
theorem v67_apply (z : S8192x22016.Idx → EReal) (b : Fin 2) (t : Fin 4096) (h : Fin 8) (e : Fin 256) :
    A_main_v67 (F := Ideal) z (ix4 b t h e) = z (ix2 ⟨b.val * 4096 + t.val, by omega⟩ ⟨6144 + (h.val * 256 + e.val), by omega⟩) := by
  pointwise [A_main_v67, A_main_v66]

/-- The queries, rotated. -/
theorem v32_apply (z : S8192x22016.Idx → EReal) (b : Fin 2) (t : Fin 4096) (h : Fin 8) (e : Fin 256) :
    A_main_v32 (F := Ideal) z (ix4 b t h e) = Ret.rot (fun x => K_main_v16 (F := Ideal) (ix2 t x)) (fun x => K_main_v18 (F := Ideal) (ix2 t x))
      (fun x => A_main_v3 (F := Ideal) z (ix4 b t h x)) e := by
  unfold A_main_v32 A_main_v31 A_main_v30 A_main_v28 A_main_v26 A_main_v25 A_main_v23 A_main_v21 A_main_v20 Ret.rot
  generalize A_main_v3 (F := Ideal) z = x
  pointwise [K_main_v22, K_main_v24, K_main_v27, K_main_v29, K_main_v17, K_main_v19]

/-- The keys, rotated and scaled. -/
theorem v65_apply (z : S8192x22016.Idx → EReal) (b : Fin 2) (t : Fin 4096) (h : Fin 8) (e : Fin 256) :
    A_main_v65 (F := Ideal) z (ix4 b t h e) = Ret.rot (fun x => K_main_v16 (F := Ideal) (ix2 t x)) (fun x => K_main_v18 (F := Ideal) (ix2 t x))
      (fun x => A_main_v34 (F := Ideal) z (ix4 b t h x)) e * Ideal.ofBits .f32 0x3D800000#32 := by
  have e1 : K_main_v47 (F := Ideal) = K_main_v16 (F := Ideal) := rfl
  have e2 : K_main_v49 (F := Ideal) = K_main_v18 (F := Ideal) := rfl
  rw [← e1, ← e2]
  unfold A_main_v65 A_main_v63 A_main_v62 A_main_v61 A_main_v59 A_main_v57 A_main_v56 A_main_v54 A_main_v52 A_main_v51 Ret.rot
  generalize A_main_v34 (F := Ideal) z = x
  pointwise [K_main_v53, K_main_v55, K_main_v58, K_main_v60, K_main_v48, K_main_v50, K_main_v64, K_main_cst_4]

/-- The time axis split into chunks and the chunks moved to the front. -/
theorem chunk_apply (x : S2x4096x8x256.Idx → EReal) (n : Fin 32) (b : Fin 2) (r : Fin 128) (h : Fin 8) (d : Fin 256) :
    transpose S32x2x128x8x256 [1, 0, 2, 3, 4] (shapeCast S2x32x128x8x256 x shapeCasts_S2x4096x8x256_S2x32x128x8x256) transposes_S2x32x128x8x256_S32x2x128x8x256_1_0_2_3_4 (ix5 n b r h d)
      = x (ix4 b ⟨n.val * 128 + r.val, by omega⟩ h d) := by
  pointwise

/-- The three arrays the scan slices, chunk by chunk. -/
theorem v115_apply (z : S8192x22016.Idx → EReal) (n : Fin 32) (b : Fin 2) (r : Fin 128) (h : Fin 8) (d : Fin 256) :
    A_main_v115 (F := Ideal) z (ix5 n b r h d) = A_main_v32 (F := Ideal) z (ix4 b ⟨n.val * 128 + r.val, by omega⟩ h d) :=
  chunk_apply (A_main_v32 (F := Ideal) z) n b r h d
theorem v117_apply (z : S8192x22016.Idx → EReal) (n : Fin 32) (b : Fin 2) (r : Fin 128) (h : Fin 8) (d : Fin 256) :
    A_main_v117 (F := Ideal) z (ix5 n b r h d) = A_main_v65 (F := Ideal) z (ix4 b ⟨n.val * 128 + r.val, by omega⟩ h d) :=
  chunk_apply (A_main_v65 (F := Ideal) z) n b r h d
theorem v119_apply (z : S8192x22016.Idx → EReal) (n : Fin 32) (b : Fin 2) (r : Fin 128) (h : Fin 8) (d : Fin 256) :
    A_main_v119 (F := Ideal) z (ix5 n b r h d) = A_main_v67 (F := Ideal) z (ix4 b ⟨n.val * 128 + r.val, by omega⟩ h d) :=
  chunk_apply (A_main_v67 (F := Ideal) z) n b r h d

end Cert.KernelRefIdeal.Closed

end
-- ==== Proof.RetRef.lean ====
/- The retention reference read element by element. -/
module

public import proofs.«01_k».proof.Proof.RetScan
public import proofs.«01_k».proof.Proof.RetMath
public import Idealize.ShloMosaic.Lib.DynamicIndex

@[expose] public section

set_option maxRecDepth 16384

noncomputable section

namespace Cert.KernelRefIdeal.Closed

open Cert.KernelRefIdeal Cert.KernelRefIdeal.Gen Idealize.ShloMosaic Idealize.ShloMosaic.TcCoe Idealize.SL.Sem
open Cert.KernelRefIdeal.Step

/-- A chunk's outputs in the reference's scan step, head by head. -/
theorem b29_apply (j : ℕ) (s : State Ideal) (b : Fin 2) (r : Fin 128) (h : Fin 8) (e : Fin 256) :
    b29 j s (ix4 b r h e) = Ret.mix (K_main_v74 (F := Ideal) (ix1 h)) (fun x d => b5 j s (ix4 b x h d)) (fun x d => b11 j s (ix4 b x h d))
      (fun x d => b17 j s (ix4 b x h d)) (fun d e => s.main_v121_8 (ix4 b h d e)) r e := by
  unfold b29 b28 b27 b26 b25 b24 b23 b22 b21 b20 b19 b18
  generalize b5 j s = q
  generalize b11 j s = k
  generalize b17 j s = v
  generalize s.main_v121_8 = S
  unfold Ret.mix
  have hz : id (constant (F := Ideal) S_ FTy.f32 0#32) ix0 = 0 := Ideal.ofBits_zero_f32
  simp only [← Ret.decay_int _ _ hz, ← Ret.succ_int]
  pointwise [K_main_v101, K_main_v92, K_main_v75, K_main_v76, K_main_v77, K_main_v78,K_main_v79,K_main_v80,K_main_v81,K_main_v82,K_main_v83,K_main_v84,K_main_v85,K_main_v86,K_main_v87,K_main_v88,K_main_v89,K_main_v90,K_main_v91,K_main_c,K_main_c_7,K_main_cst_8,K_main_call0_v0,K_main_call0_v1,K_main_call0_v2,K_main_v93,K_main_v94,K_main_c_9,K_main_v95,K_main_v96,K_main_v97,K_main_v98,K_main_v99,K_main_v100]
  congr 1
  · exact Finset.sum_congr rfl fun x _ => mul_comm _ _
  · congr 1
    exact Finset.sum_congr rfl fun x _ => mul_comm _ _

/-- The state that the scan step hands on, head by head. -/
theorem b37_apply (j : ℕ) (s : State Ideal) (b : Fin 2) (h : Fin 8) (d e : Fin 256) :
    b37 j s (ix4 b h d e) = Ret.next (K_main_v74 (F := Ideal) (ix1 h)) (fun x d => b11 j s (ix4 b x h d))
      (fun x d => b17 j s (ix4 b x h d)) (fun d e => s.main_v121_8 (ix4 b h d e)) d e := by
  unfold b37 b36 b35 b34 b33 b32 b31 b30
  generalize b11 j s = k
  generalize b17 j s = v
  generalize s.main_v121_8 = S
  unfold Ret.next
  simp only [← Ret.rest_int]
  pointwise [K_main_v113, K_main_v112, K_main_v111, K_main_cst_11, K_main_v102, K_main_v103, K_main_v104,K_main_v105,K_main_v106,K_main_v107,K_main_v108,K_main_v109,K_main_v110,K_main_c_10,K_main_v75]

end Cert.KernelRefIdeal.Closed

end
-- ==== Proof.RetRefRes.lean ====
/- The retention reference's slices and results, read element by element. -/
module

public import proofs.«01_k».proof.Proof.RetRef
public import proofs.«01_k».proof.Proof.RetMath
public import Idealize.ShloMosaic.Lib.DynamicIndex

@[expose] public section

set_option maxRecDepth 16384

noncomputable section

namespace Cert.KernelRefIdeal.Closed

open Cert.KernelRefIdeal Cert.KernelRefIdeal.Gen Idealize.ShloMosaic Idealize.ShloMosaic.TcCoe Idealize.SL.Sem
open Cert.KernelRefIdeal.Step

/-- The results after the scan. -/
theorem res_apply (s : State Ideal) (z : S8192x22016.Idx → EReal) (g : S1x2048.Idx → EReal) (n : Fin 32) (b : Fin 2) (r : Fin 128) (h : Fin 8) (e : Fin 256) :
    R_main_v152 (F := Ideal) s z g (ix2 (Ret.row b n r) (Ret.hcol h e))
      = Ret.gnorm (fun x => z (ix2 (Ret.row b n r) (Ret.col 4 h x))) (fun x => g (ix2 0 (Ret.hcol h x))) (fun x => s.main_v121_9 (ix5 n b r h x)) e := by
  unfold R_main_v152 Ret.gnorm Ret.mean
  generalize s.main_v121_9 = S
  pointwise
  have e1 : (4096 * b.val + 128 * n.val + r.val) / 4096 = b.val := by omega
  have e2 : (4096 * b.val + 128 * n.val + r.val) / 4096 * 4096 + (4096 * b.val + 128 * n.val + r.val) % 4096 = 4096 * b.val + 128 * n.val + r.val := by omega
  have e3 : (256 * h.val + e.val) / 256 = h.val := by omega
  have e4 : (256 * h.val + e.val) % 256 = e.val := by omega
  have e5 : 8192 + (256 * h.val + e.val) = 2048 * 4 + (256 * h.val + e.val) := rfl
  simp only [e1, e2, e3, e4]
  have e6 : (⟨b.val * 4096 + (4096 * b.val + 128 * n.val + r.val) % 4096, by omega⟩ : Fin 8192) = Ret.row b n r := Fin.ext (by simp only [Ret.row]; omega)
  simp only [Fin.eta]
  rw [e6]
  simp only [zero_sub]
  rfl

/-- A chunk lies in the whole. -/
theorem sl (n : Fin 32) : S32x2x128x8x256.Slices ![n.val, 0, 0, 0, 0] S1x2x128x8x256 := by
  refine ⟨rfl, fun a => ?_⟩
  match a with
  | ⟨0, _⟩ => exact n.isLt
  | ⟨1, _⟩ => exact Nat.le_refl _
  | ⟨2, _⟩ => exact Nat.le_refl _
  | ⟨3, _⟩ => exact Nat.le_refl _
  | ⟨4, _⟩ => exact Nat.le_refl _

/-- One chunk's slices of the scanned arrays. -/
theorem b5_apply (s : State Ideal) (n : Fin 32) (b : Fin 2) (r : Fin 128) (h : Fin 8) (d : Fin 256) :
    b5 n.val s (ix4 b r h d) = s.main_v121_0 (ix5 n b r h d) := by
  unfold b5 b4
  rw [Host.dynamicSlice_eq_extractStridedSlice _ _ _ ![n.val, 0, 0, 0, 0] _ (sl n)]
  · pointwise
  · intro a
    match a with
    | ⟨0, _⟩ => exact toInt_ofNat_of_lt (by omega)
    | ⟨1, _⟩ => rfl
    | ⟨2, _⟩ => rfl
    | ⟨3, _⟩ => rfl
    | ⟨4, _⟩ => rfl

theorem b11_apply (s : State Ideal) (n : Fin 32) (b : Fin 2) (r : Fin 128) (h : Fin 8) (d : Fin 256) :
    b11 n.val s (ix4 b r h d) = s.main_v121_1 (ix5 n b r h d) := by
  unfold b11 b10
  rw [Host.dynamicSlice_eq_extractStridedSlice _ _ _ ![n.val, 0, 0, 0, 0] _ (sl n)]
  · pointwise
  · intro a
    match a with
    | ⟨0, _⟩ => exact toInt_ofNat_of_lt (by omega)
    | ⟨1, _⟩ => rfl
    | ⟨2, _⟩ => rfl
    | ⟨3, _⟩ => rfl
    | ⟨4, _⟩ => rfl

theorem b17_apply (s : State Ideal) (n : Fin 32) (b : Fin 2) (r : Fin 128) (h : Fin 8) (d : Fin 256) :
    b17 n.val s (ix4 b r h d) = s.main_v121_2 (ix5 n b r h d) := by
  unfold b17 b16
  rw [Host.dynamicSlice_eq_extractStridedSlice _ _ _ ![n.val, 0, 0, 0, 0] _ (sl n)]
  · pointwise
  · intro a
    match a with
    | ⟨0, _⟩ => exact toInt_ofNat_of_lt (by omega)
    | ⟨1, _⟩ => rfl
    | ⟨2, _⟩ => rfl
    | ⟨3, _⟩ => rfl
    | ⟨4, _⟩ => rfl

/-- The mixed rows written into their chunk. -/
theorem b43_apply (s : State Ideal) (j : Fin 32) (n : Fin 32) (b : Fin 2) (r : Fin 128) (h : Fin 8) (d : Fin 256) :
    b43 j.val s (ix5 n b r h d) = if n = j then b29 j.val s (ix4 b r h d) else s.main_v121_9 (ix5 n b r h d) := by
  unfold b43 b38
  generalize b29 j.val s = u
  rw [WordCmp.dynamicUpdateSlice_eq_update _ _ _ _ ![j.val, 0, 0, 0, 0] (sl j)]
  · pointwise
    refine if_congr ⟨fun hh => Fin.ext (by omega), fun hh => ?_⟩ rfl rfl
    subst hh
    omega
  · intro a
    match a with
    | ⟨0, _⟩ => exact toInt_ofNat_of_lt (by omega)
    | ⟨1, _⟩ => rfl
    | ⟨2, _⟩ => rfl
    | ⟨3, _⟩ => rfl
    | ⟨4, _⟩ => rfl

end Cert.KernelRefIdeal.Closed

end
-- ==== Proof.RetRefIter.lean ====
/- The retention reference's scan, state by state: what it carries after `n` chunks. -/
module

public import proofs.«01_k».proof.Proof.RetRefArr
public import proofs.«01_k».proof.Proof.RetRefRes
public import proofs.«01_k».proof.Proof.RetMath
public import Idealize.ShloMosaic.Lib.DynamicIndex

@[expose] public section

set_option maxRecDepth 16384

noncomputable section

namespace Cert.KernelRefIdeal.Closed

open Cert.KernelRefIdeal Cert.KernelRefIdeal.Gen Idealize.ShloMosaic Idealize.ShloMosaic.TcCoe Idealize.SL.Sem
open Cert.KernelRefIdeal.Step

/-- The log decays, the cosines and the sines as functions. -/
abbrev LG (h : Fin 8) : EReal := K_main_v74 (F := Ideal) (ix1 h)
abbrev CO (t : Fin 4096) (e : Fin 128) : EReal := K_main_v16 (F := Ideal) (ix2 t e)
abbrev SI (t : Fin 4096) (e : Fin 128) : EReal := K_main_v18 (F := Ideal) (ix2 t e)

variable (z : S8192x22016.Idx → EReal)

/-- The operand as a function of its coordinates. -/
abbrev Zr (i : Fin 8192) (j : Fin 22016) : EReal := z (ix2 i j)

theorem row_eq (b : Fin 2) (n : Fin 32) (r : Fin 128) (w : Fin 5) (h : Fin 8) (e : Fin 256) (p : Fin 8192) (q : Fin 22016)
    (hp : p.val = b.val * 4096 + (n.val * 128 + r.val)) (hq : q.val = 2048 * w.val + (h.val * 256 + e.val)) :
    z (ix2 p q) = Zr z (Ret.row b n r) (Ret.col w h e) :=
  congrArg z (congrArg₂ ix2 (Fin.ext (by simp only [Ret.row]; omega)) (Fin.ext (by simp only [Ret.col]; omega)))

theorem pos_eq (n : Fin 32) (r : Fin 128) (p : Fin 4096) (hp : p.val = n.val * 128 + r.val) : p = Ret.pos n r :=
  Fin.ext (by simp only [Ret.pos]; omega)

theorem q_at (n : Fin 32) (b : Fin 2) (r : Fin 128) (h : Fin 8) (d : Fin 256) :
    A_main_v115 (F := Ideal) z (ix5 n b r h d) = Ret.qC CO SI (Zr z) b h n r d := by
  rw [v115_apply, v32_apply, pos_eq n r ⟨n.val * 128 + r.val, by omega⟩ rfl]
  unfold Ret.qC
  congr 1
  funext e
  rw [v3_apply]
  exact row_eq z b n r 1 h e _ _ (by simp only [Ret.pos]; omega) rfl

theorem k_at (n : Fin 32) (b : Fin 2) (r : Fin 128) (h : Fin 8) (d : Fin 256) :
    A_main_v117 (F := Ideal) z (ix5 n b r h d) = Ret.kC CO SI (Zr z) b h n r d := by
  rw [v117_apply, v65_apply, pos_eq n r ⟨n.val * 128 + r.val, by omega⟩ rfl]
  unfold Ret.kC
  congr 2
  funext e
  rw [v34_apply]
  exact row_eq z b n r 2 h e _ _ (by simp only [Ret.pos]; omega) rfl

theorem v_at (n : Fin 32) (b : Fin 2) (r : Fin 128) (h : Fin 8) (d : Fin 256) :
    A_main_v119 (F := Ideal) z (ix5 n b r h d) = Ret.vC (Zr z) b h n r d := by
  rw [v119_apply, v67_apply]
  exact row_eq z b n r 3 h d _ _ rfl rfl

/-- What the scan carries before chunk `n`. -/
structure At (n : ℕ) (s : State Ideal) : Prop where
  q : s.main_v121_0 = A_main_v115 (F := Ideal) z
  k : s.main_v121_1 = A_main_v117 (F := Ideal) z
  v : s.main_v121_2 = A_main_v119 (F := Ideal) z
  st : ∀ b h d e, s.main_v121_8 (ix4 b h d e) = Ret.state LG CO SI (Zr z) b h n d e
  out : ∀ (c : Fin 32), c.val < n → ∀ b r h e, s.main_v121_9 (ix5 c b r h e) = Ret.mixC LG CO SI (Zr z) b h c r e

theorem at_init : At z 0 (init (F := Ideal) z) where
  q := rfl
  k := rfl
  v := rfl
  st b h d e := by
    show K_main_v1 (F := Ideal) (ix4 b h d e) = 0
    unfold K_main_v1 K_main_cst
    pointwise
  out c hc := absurd hc (Nat.not_lt_zero _)

theorem at_step (c : Fin 32) (s : State Ideal) (H : At z c.val s) : At z (c.val + 1) (step c.val s) where
  q := H.q
  k := H.k
  v := H.v
  st b h d e := by
    show b37 c.val s (ix4 b h d e) = _
    rw [b37_apply, Ret.state_succ]
    congr 1
    · funext x d
      rw [b11_apply, H.k, k_at]
    · funext x d
      rw [b17_apply, H.v, v_at]
    · funext d e
      exact H.st b h d e
  out n hn b r h e := by
    show b43 c.val s (ix5 n b r h e) = _
    rw [b43_apply]
    by_cases hc : n = c
    · subst hc
      rw [if_pos rfl, b29_apply]
      unfold Ret.mixC
      congr 1
      · funext x d
        rw [b5_apply, H.q, q_at]
      · funext x d
        rw [b11_apply, H.k, k_at]
      · funext x d
        rw [b17_apply, H.v, v_at]
      · funext d e
        exact H.st b h d e
    · rw [if_neg hc]
      exact H.out n (by have : n.val ≠ c.val := fun h => hc (Fin.ext h); omega) b r h e

/-- The states one after another. -/
def states : ℕ → State Ideal
  | 0 => init (F := Ideal) z
  | n + 1 => step n (states n)

theorem at_states : ∀ n, n ≤ 32 → At z n (states z n)
  | 0, _ => at_init z
  | n + 1, h => at_step z ⟨n, h⟩ _ (at_states n (by omega))

/-- The reference's results. -/
theorem res_at (g : S1x2048.Idx → EReal) (n : Fin 32) (b : Fin 2) (r : Fin 128) (h : Fin 8) (e : Fin 256) :
    R_main_v152 (F := Ideal) (states z 32) z g (ix2 (Ret.row b n r) (Ret.hcol h e))
      = Ret.outC LG CO SI (Zr z) (fun k => g (ix2 0 k)) b h n r e := by
  rw [res_apply]
  unfold Ret.outC
  congr 1
  funext x
  exact (at_states z 32 (le_refl _)).out n n.isLt b r h x

end Cert.KernelRefIdeal.Closed

end
-- ==== Proof.KernelClaims.lean ====
/- The claims about the retention call: the frames, the idealization, and the value. -/
module

public import proofs.«01_k».proof.Defs
public import proofs.«01_k».proof.Proof.Gen.Kernel.Frame
public import proofs.«01_k».proof.Proof.RetSweep
public import proofs.«01_k».proof.Proof.RetRefIter
public import Idealize.ShloMosaic.Lib.Quiescent

@[expose] public section

noncomputable section

namespace Cert.Proof.KernelClaims

open Idealize.ShloMosaic Idealize.ShloMosaic.TcCoe Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_KernelRefIdeal := fun m ρ _ =>
  (θ_run Cert.KernelRefIdeal.defs _ _).mono (fun r h => ⟨fun c => (h c).2.2, Idealize.ShloMosaic.sem_eq_zero_of_no_sems (by decide) r.2⟩)
    (Cert.KernelRefIdeal.Value.run (F := Ideal) m ρ)
theorem preserves : Cert.preserves_Kernel_KernelIdeal := trivial

/-- At `Ideal` the kernel's result arrays and the reference's are the same functions of arguments that agree. -/
theorem algebraic : Cert.algebraic_KernelIdeal_KernelRefIdeal := by
  intro m ρ m' ρ' _ hagree
  refine ⟨fun c => Cert.KernelIdeal.Value.G9 m c, fun c => Cert.KernelIdeal.Value.G10 m c, Cert.KernelIdeal.Value.run (F := Ideal) m ρ, ?_⟩
  refine (θ_run Cert.KernelRefIdeal.defs _ _).mono (fun _ h c => ⟨(h c).1.trans ?_, (h c).2.1.trans ?_, (h c).2.2⟩)
    (Cert.KernelRefIdeal.Closed.run_iter m' ρ'
      (fun c => Cert.KernelRefIdeal.Closed.states (m' ((c.tc : Thread Cert.KernelRefIdeal.nD Cert.KernelRefIdeal.τ).loc Cert.KernelRefIdeal.main_arg0)))
      (fun _ => rfl) (fun _ _ => rfl))
  · rw [(hagree c).1, (hagree c).2]
    funext i
    have h0 : (i 0).val < 8192 := (i 0).isLt
    have h1 : (i 1).val < 2048 := (i 1).isLt
    have e : i = ix2 (Cert.Ret.row ⟨(i 0).val / 4096, by omega⟩ ⟨(i 0).val % 4096 / 128, by omega⟩ ⟨(i 0).val % 128, by omega⟩)
        (Cert.Ret.hcol ⟨(i 1).val / 256, by omega⟩ ⟨(i 1).val % 256, by omega⟩) := by
      funext a
      apply Fin.ext
      match a with
      | ⟨0, _⟩ => show (i 0).val = 4096 * ((i 0).val / 4096) + 128 * ((i 0).val % 4096 / 128) + (i 0).val % 128; omega
      | ⟨1, _⟩ => show (i 1).val = 256 * ((i 1).val / 256) + (i 1).val % 256; omega
    rw [e]
    exact (Cert.KernelRefIdeal.Closed.res_at _ _ _ _ _ _ _).trans (Cert.KernelIdeal.Closed.G9_apply m c _ _ _ _ _).symm
  · rw [(hagree c).1]
    funext i
    have e : i = ix4 (i 0) (i 1) (i 2) (i 3) := by
      funext a
      match a with
      | ⟨0, _⟩ => rfl
      | ⟨1, _⟩ => rfl
      | ⟨2, _⟩ => rfl
      | ⟨3, _⟩ => rfl
    rw [e]
    exact ((Cert.KernelRefIdeal.Closed.at_states _ 32 (le_refl _)).st _ _ _ _).trans (Cert.KernelIdeal.Closed.G10_apply m c _ _ _ _).symm

end Cert.Proof.KernelClaims

end
-- ==== Proof.MergeValue.lean ====
/- The gated pair of matrix products: the kernel's result array is `σ(ga) (o₁ w₁) + σ(gb) (o₂ w₂)`, block by block,
   which is what the reference computes over the whole arrays. -/
module

public import proofs.«01_k».proof.Proof.Gen.MergeIdeal.Value
public import proofs.«01_k».proof.Proof.Gen.MergeRefIdeal.Read
public import Idealize.ShloMosaic.Lib.Pointwise

@[expose] public section

set_option maxRecDepth 16384

noncomputable section

namespace Cert.MergeIdeal.Closed

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments as arrays over their literal shapes. -/
abbrev argA (c : Dev nD) : S8192x2048.Idx → EReal := m ((c : Thread nD τ).loc main_arg0)
abbrev argB (c : Dev nD) : S8192x2048.Idx → EReal := m ((c : Thread nD τ).loc main_arg1)
abbrev argZ (c : Dev nD) : S8192x22016.Idx → EReal := m ((c : Thread nD τ).loc main_arg2)
abbrev argU (c : Dev nD) : S1x2048x4096.Idx → EReal := m ((c : Thread nD τ).loc main_arg3)
abbrev argW (c : Dev nD) : S1x2048x4096.Idx → EReal := m ((c : Thread nD τ).loc main_arg4)

/-- The logistic function. -/
def gate (g : EReal) : EReal := Ideal.div 1 (1 + Ideal.exp (-g))

/-- The array the result ends holding. -/
def G (c : Dev nD) : S8192x4096.Idx → EReal := fun i =>
  gate (argZ m c (ix2 (i 0) ⟨13312 + (i 1).val, by have h : (i 1).val < 4096 := (i 1).isLt; omega⟩))
      * ∑ k : Fin 2048, argA m c (ix2 (i 0) k) * argU m c (ix3 0 k (i 1))
    + gate (argZ m c (ix2 (i 0) ⟨17408 + (i 1).val, by have h : (i 1).val < 4096 := (i 1).isLt; omega⟩))
      * ∑ k : Fin 2048, argB m c (ix2 (i 0) k) * argW m c (ix3 0 k (i 1))

theorem hz : (![0, 0] : Fin 2 → Nat) = fun _ => 0 := funext fun a => by fin_cases a <;> rfl

/-- The windows' block indices at a point: the row block is the point's quotient by eight, the column block its
    remainder, the gates' column blocks starting at block 26 and at block 34. -/
theorem idx_facts : ∀ t : Fin cfg0.N, (win0_0.index t 0 = t.val / 8 ∧ win0_0.index t 1 = 0) ∧ (win0_1.index t 0 = t.val / 8 ∧ win0_1.index t 1 = 0)
    ∧ (win0_2.index t 0 = t.val / 8 ∧ win0_2.index t 1 = 26 + t.val % 8) ∧ (win0_3.index t 0 = t.val / 8 ∧ win0_3.index t 1 = 34 + t.val % 8)
    ∧ (win0_4.index t 0 = 0 ∧ win0_4.index t 1 = t.val % 8) ∧ (win0_5.index t 0 = 0 ∧ win0_5.index t 1 = t.val % 8)
    ∧ (win0_6.index t 0 = t.val / 8 ∧ win0_6.index t 1 = t.val % 8) :=
  (by decide +kernel : ∀ t : Fin grid0.N, (win0_0.index t 0 = t.val / 8 ∧ win0_0.index t 1 = 0) ∧ (win0_1.index t 0 = t.val / 8 ∧ win0_1.index t 1 = 0)
    ∧ (win0_2.index t 0 = t.val / 8 ∧ win0_2.index t 1 = 26 + t.val % 8) ∧ (win0_3.index t 0 = t.val / 8 ∧ win0_3.index t 1 = 34 + t.val % 8)
    ∧ (win0_4.index t 0 = 0 ∧ win0_4.index t 1 = t.val % 8) ∧ (win0_5.index t 0 = 0 ∧ win0_5.index t 1 = t.val % 8)
    ∧ (win0_6.index t 0 = t.val / 8 ∧ win0_6.index t 1 = t.val % 8))

theorem V_main_v0 (c : Dev nD) : V m c main_v0 = shapeCast _ (argU m c) shapeCasts_S1x2048x4096_S2048x4096 := by
  unfold V
  after_results <;> rfl

theorem V_main_v1 (c : Dev nD) : V m c main_v1 = shapeCast _ (argW m c) shapeCasts_S1x2048x4096_S2048x4096 := by
  unfold V
  after_results <;> rfl

theorem t_lt (t : Fin cfg0.N) : t.val < 64 := by have := t.isLt; have e : cfg0.N = 64 := N_0; omega

theorem iblk0_apply (c : Dev nD) (t : Fin cfg0.N) (r : Fin 1024) (k : Fin 2048) :
    iblk m c 0 t (ix2 r k) = argA m c (ix2 ⟨t.val / 8 * 1024 + r.val, by have := t_lt t; omega⟩ k) := by
  show V m c main_arg0 ((win0_0.blk t).view.emb (ix2 r k)) = _
  rw [V_main_arg0]
  refine congrArg (argA m c) (funext fun a => Fin.ext ?_)
  match a with
  | ⟨0, _⟩ => show win0_0.index t 0 * 1024 + 1 * r.val = t.val / 8 * 1024 + r.val; rw [(idx_facts t).1.1]; omega
  | ⟨1, _⟩ => show win0_0.index t 1 * 2048 + 1 * k.val = k.val; rw [(idx_facts t).1.2]; omega

theorem iblk1_apply (c : Dev nD) (t : Fin cfg0.N) (r : Fin 1024) (k : Fin 2048) :
    iblk m c 1 t (ix2 r k) = argB m c (ix2 ⟨t.val / 8 * 1024 + r.val, by have := t_lt t; omega⟩ k) := by
  show V m c main_arg1 ((win0_1.blk t).view.emb (ix2 r k)) = _
  rw [V_main_arg1]
  refine congrArg (argB m c) (funext fun a => Fin.ext ?_)
  match a with
  | ⟨0, _⟩ => show win0_1.index t 0 * 1024 + 1 * r.val = t.val / 8 * 1024 + r.val; rw [(idx_facts t).2.1.1]; omega
  | ⟨1, _⟩ => show win0_1.index t 1 * 2048 + 1 * k.val = k.val; rw [(idx_facts t).2.1.2]; omega

theorem iblk2_apply (c : Dev nD) (t : Fin cfg0.N) (r : Fin 1024) (l : Fin 512) :
    iblk m c 2 t (ix2 r l) = argZ m c (ix2 ⟨t.val / 8 * 1024 + r.val, by have := t_lt t; omega⟩ ⟨13312 + (t.val % 8 * 512 + l.val), by omega⟩) := by
  show V m c main_arg2 ((win0_2.blk t).view.emb (ix2 r l)) = _
  rw [V_main_arg2]
  refine congrArg (argZ m c) (funext fun a => Fin.ext ?_)
  match a with
  | ⟨0, _⟩ => show win0_2.index t 0 * 1024 + 1 * r.val = t.val / 8 * 1024 + r.val; rw [(idx_facts t).2.2.1.1]; omega
  | ⟨1, _⟩ => show win0_2.index t 1 * 512 + 1 * l.val = 13312 + (t.val % 8 * 512 + l.val); rw [(idx_facts t).2.2.1.2]; omega

theorem iblk3_apply (c : Dev nD) (t : Fin cfg0.N) (r : Fin 1024) (l : Fin 512) :
    iblk m c 3 t (ix2 r l) = argZ m c (ix2 ⟨t.val / 8 * 1024 + r.val, by have := t_lt t; omega⟩ ⟨17408 + (t.val % 8 * 512 + l.val), by omega⟩) := by
  show V m c main_arg2 ((win0_3.blk t).view.emb (ix2 r l)) = _
  rw [V_main_arg2]
  refine congrArg (argZ m c) (funext fun a => Fin.ext ?_)
  match a with
  | ⟨0, _⟩ => show win0_3.index t 0 * 1024 + 1 * r.val = t.val / 8 * 1024 + r.val; rw [(idx_facts t).2.2.2.1.1]; omega
  | ⟨1, _⟩ => show win0_3.index t 1 * 512 + 1 * l.val = 17408 + (t.val % 8 * 512 + l.val); rw [(idx_facts t).2.2.2.1.2]; omega

theorem iblk4_apply (c : Dev nD) (t : Fin cfg0.N) (k : Fin 2048) (l : Fin 512) :
    iblk m c 4 t (ix2 k l) = argU m c (ix3 0 k ⟨t.val % 8 * 512 + l.val, by omega⟩) := by
  show V m c main_v0 ((win0_4.blk t).view.emb (ix2 k l)) = _
  rw [V_main_v0]
  have e : (win0_4.blk t).view.emb (ix2 k l) = ix2 k ⟨t.val % 8 * 512 + l.val, by omega⟩ := funext fun a => Fin.ext (by
    match a with
    | ⟨0, _⟩ => show win0_4.index t 0 * 2048 + 1 * k.val = k.val; rw [(idx_facts t).2.2.2.2.1.1]; omega
    | ⟨1, _⟩ => show win0_4.index t 1 * 512 + 1 * l.val = t.val % 8 * 512 + l.val; rw [(idx_facts t).2.2.2.2.1.2]; omega)
  rw [e]
  generalize argU m c = w
  pointwise

theorem iblk5_apply (c : Dev nD) (t : Fin cfg0.N) (k : Fin 2048) (l : Fin 512) :
    iblk m c 5 t (ix2 k l) = argW m c (ix3 0 k ⟨t.val % 8 * 512 + l.val, by omega⟩) := by
  show V m c main_v1 ((win0_5.blk t).view.emb (ix2 k l)) = _
  rw [V_main_v1]
  have e : (win0_5.blk t).view.emb (ix2 k l) = ix2 k ⟨t.val % 8 * 512 + l.val, by omega⟩ := funext fun a => Fin.ext (by
    match a with
    | ⟨0, _⟩ => show win0_5.index t 0 * 2048 + 1 * k.val = k.val; rw [(idx_facts t).2.2.2.2.2.1.1]; omega
    | ⟨1, _⟩ => show win0_5.index t 1 * 512 + 1 * l.val = t.val % 8 * 512 + l.val; rw [(idx_facts t).2.2.2.2.2.1.2]; omega)
  rw [e]
  generalize argW m c = w
  pointwise

/-- The body's stored value at an index of the block. -/
theorem pay_apply (x0 x1 : Vec Ideal S1024x2048 .bf16) (w0 w1 : Vec Ideal S2048x512 .f32) (g0 g1 : Vec Ideal S1024x512 .f32)
    (r : Fin 1024) (l : Fin 512) :
    k0_pay1 (F := Ideal) x0 w0 x1 w1 g0 g1 (ix2 r l)
      = gate (g0 (ix2 r l)) * ∑ k : Fin 2048, x0 (ix2 r k) * w0 (ix2 k l)
        + gate (g1 (ix2 r l)) * ∑ k : Fin 2048, x1 (ix2 r k) * w1 (ix2 k l) := by
  unfold gate
  pointwise [k0_pay1]
  simp only [zero_sub]

theorem flushed_eq (c : Dev nD) (t : Fin cfg0.N) :
    (dats m 0 c).flushed 6 t = (win0_6.blk t).view.read (Elt Ideal) (G m c) := by
  rw [Value.flushed6]
  unfold out0_6
  rw [View.canon_unit_zero hz, View.ld_unit_zero hz, View.ld_unit_zero hz, View.ld_unit_zero hz, View.ld_unit_zero hz, View.ld_unit_zero hz, View.ld_unit_zero hz]
  funext j
  obtain ⟨r, l, rfl⟩ : ∃ (r : Fin 1024) (l : Fin 512), j = ix2 r l := ⟨j 0, j 1, eq_ix2 j⟩
  show k0_pay1 (F := Ideal) (iblk m c 0 t) (iblk m c 4 t) (iblk m c 1 t) (iblk m c 5 t) (iblk m c 2 t) (iblk m c 3 t) (ix2 r l) = G m c ((win0_6.blk t).view.emb (ix2 r l))
  have e : (win0_6.blk t).view.emb (ix2 r l)
      = ix2 ⟨t.val / 8 * 1024 + r.val, by have := t_lt t; omega⟩ ⟨t.val % 8 * 512 + l.val, by omega⟩ := funext fun a => Fin.ext (by
    match a with
    | ⟨0, _⟩ => show win0_6.index t 0 * 1024 + 1 * r.val = t.val / 8 * 1024 + r.val; rw [(idx_facts t).2.2.2.2.2.2.1]; omega
    | ⟨1, _⟩ => show win0_6.index t 1 * 512 + 1 * l.val = t.val % 8 * 512 + l.val; rw [(idx_facts t).2.2.2.2.2.2.2]; omega)
  rw [e, pay_apply, iblk2_apply, iblk3_apply]
  simp only [iblk0_apply, iblk1_apply, iblk4_apply, iblk5_apply]
  rfl

theorem mem_blk (t : Fin cfg0.N) (i : S8192x4096.Idx) :
    i ∈ ((cfg0.win 6).blk t).view.set ↔ (t.val / 8 * 1024 ≤ (i 0).val ∧ (i 0).val < t.val / 8 * 1024 + 1024)
      ∧ (t.val % 8 * 512 ≤ (i 1).val ∧ (i 1).val < t.val % 8 * 512 + 512) := by
  show i ∈ ((View.whole main_v2).slice (win0_6.rect t)).set ↔ _
  rw [View.set_slice_whole, Rect.mem_set_unit]
  have e0 : win0_6.index t 0 * win0_6.size 0 = t.val / 8 * 1024 := by rw [(idx_facts t).2.2.2.2.2.2.1]; rfl
  have e1 : win0_6.index t 1 * win0_6.size 1 = t.val % 8 * 512 := by rw [(idx_facts t).2.2.2.2.2.2.2]; rfl
  refine ⟨fun h => ⟨?_, ?_⟩, fun h a => ?_⟩
  · have := h 0
    rw [← e0]; exact this
  · have := h 1
    rw [← e1]; exact this
  · match a with
    | ⟨0, _⟩ => have := h.1; rw [← e0] at this; exact this
    | ⟨1, _⟩ => have := h.2; rw [← e1] at this; exact this

theorem cover (i : S8192x4096.Idx) :
    ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 64 := N_0
  refine ⟨⟨(i 0).val / 1024 * 8 + (i 1).val / 512, by omega⟩, flush0_6 _, ?_⟩
  rw [mem_blk]
  dsimp only
  omega

theorem final (c : Dev nD) : (dats m 0 c).arrAt 6 cfg0.N = G m c :=
  (dats m 0 c).arrAt_eq_of_cover 6 (G m c) (fun t _ => flushed_eq m c t) cover

end Cert.MergeIdeal.Closed

namespace Cert.MergeRefIdeal.Closed

open Cert.MergeRefIdeal Cert.MergeRefIdeal.Gen Idealize.ShloMosaic Idealize.ShloMosaic.TcCoe Idealize.SL.Sem
open Cert.MergeIdeal.Closed (gate)

/-- The reference's result at an index. -/
theorem val_apply (x0 x1 : S8192x2048.Idx → EReal) (x2 : S8192x22016.Idx → EReal) (x3 x4 : S1x2048x4096.Idx → EReal) (i : S8192x4096.Idx) :
    Read.val_main_v23 (F := Ideal) x0 x1 x2 x3 x4 i
      = gate (x2 (ix2 (i 0) ⟨13312 + (i 1).val, by have h : (i 1).val < 4096 := (i 1).isLt; omega⟩))
          * ∑ k : Fin 2048, x0 (ix2 (i 0) k) * x3 (ix3 0 k (i 1))
        + gate (x2 (ix2 (i 0) ⟨17408 + (i 1).val, by have h : (i 1).val < 4096 := (i 1).isLt; omega⟩))
          * ∑ k : Fin 2048, x1 (ix2 (i 0) k) * x4 (ix3 0 k (i 1)) := by
  obtain ⟨r, l, rfl⟩ : ∃ (r : Fin 8192) (l : Fin 4096), i = ix2 r l := ⟨i 0, i 1, eq_ix2 i⟩
  unfold gate
  simp only [Read.val_main_v23, Read.val_main_v22, Read.val_main_v21, Read.val_main_v20, Read.val_main_v19,
    Read.val_main_v18, Read.val_main_v17, Read.val_main_v16, Read.val_main_v15, Read.val_main_v14, Read.val_main_v13,
    Read.val_main_v12, Read.val_main_v11, Read.val_main_v10, Read.val_main_v9, Read.val_main_v8, Read.val_main_v7,
    Read.val_main_v6, Read.val_main_v5, Read.val_main_v4, Read.val_main_v3, Read.val_main_v2, Read.val_main_v1,
    Read.val_main_v0, Read.val_main_cst, Read.val_main_cst_0, Read.val_main_cst_1, Read.val_main_cst_2]
  pointwise

end Cert.MergeRefIdeal.Closed

end
-- ==== Proof.MergeClaims.lean ====
/- The claims about the gated pair of matrix products: the frames, the idealization, and the value. -/
module

public import proofs.«01_k».proof.Defs
public import proofs.«01_k».proof.Proof.Gen.Merge.Frame
public import proofs.«01_k».proof.Proof.MergeValue
public import Idealize.ShloMosaic.Lib.Quiescent

@[expose] public section

noncomputable section

namespace Cert.Proof.MergeClaims

open Idealize.ShloMosaic Idealize.ShloMosaic.TcCoe Idealize.SL.Sem

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)
theorem preserves : Cert.preserves_Merge_MergeIdeal := trivial

/-- At `Ideal` the kernel's result array and the reference's are the same function of arguments that agree. -/
theorem algebraic : Cert.algebraic_MergeIdeal_MergeRefIdeal := by
  intro m ρ m' ρ' _ hagree
  refine ⟨fun c => Cert.MergeIdeal.Closed.G m c, ?_, ?_⟩
  · exact (θ_run Cert.MergeIdeal.defs _ _).mono (fun _ h c => ⟨(h c).1.trans (Cert.MergeIdeal.Closed.final m c), (h c).2⟩)
      (Cert.MergeIdeal.Value.run_blocks (F := Ideal) m ρ)
  · refine (θ_run Cert.MergeRefIdeal.defs _ _).mono (fun _ h c => ⟨(h c).1.trans ?_, (h c).2⟩)
      (Cert.MergeRefIdeal.Value.run (F := Ideal) m' ρ')
    rw [(hagree c).1, (hagree c).2.1, (hagree c).2.2.1, (hagree c).2.2.2.1, (hagree c).2.2.2.2]
    funext i
    exact Cert.MergeRefIdeal.Closed.val_apply _ _ _ _ _ i

end Cert.Proof.MergeClaims

end
-- ==== Proof.OutValue.lean ====
/- The residual matrix product: the kernel's result array is `x + y · w`, block by block, which is what the reference
   computes over the whole arrays. -/
module

public import proofs.«01_k».proof.Proof.Gen.OutIdeal.Value
public import proofs.«01_k».proof.Proof.Gen.OutRefIdeal.Read
public import Idealize.ShloMosaic.Lib.Pointwise

@[expose] public section

set_option maxRecDepth 16384

noncomputable section

namespace Cert.OutIdeal.Closed

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The three arguments as arrays over their literal shapes. -/
abbrev argY (c : Dev nD) : S8192x4096.Idx → EReal := m ((c : Thread nD τ).loc main_arg0)
abbrev argW (c : Dev nD) : S1x4096x4096.Idx → EReal := m ((c : Thread nD τ).loc main_arg1)
abbrev argX (c : Dev nD) : S8192x4096.Idx → EReal := m ((c : Thread nD τ).loc main_arg2)

/-- The array the result ends holding. -/
def G (c : Dev nD) : S8192x4096.Idx → EReal := fun i =>
  argX m c i + ∑ k : Fin 4096, argY m c (ix2 (i 0) k) * argW m c (ix3 0 k (i 1))

theorem hz : (![0, 0] : Fin 2 → Nat) = fun _ => 0 := funext fun a => by fin_cases a <;> rfl

/-- The windows' block indices at a point: the row block is the point's quotient by eight, the column block its
    remainder. -/
theorem idx_facts : ∀ t : Fin cfg0.N,
    (win0_0.index t 0 = t.val / 8 ∧ win0_0.index t 1 = 0) ∧ (win0_1.index t 0 = 0 ∧ win0_1.index t 1 = t.val % 8)
    ∧ (win0_2.index t 0 = t.val / 8 ∧ win0_2.index t 1 = t.val % 8)
    ∧ (win0_3.index t 0 = t.val / 8 ∧ win0_3.index t 1 = t.val % 8) :=
  (by decide +kernel : ∀ t : Fin grid0.N,
    (win0_0.index t 0 = t.val / 8 ∧ win0_0.index t 1 = 0) ∧ (win0_1.index t 0 = 0 ∧ win0_1.index t 1 = t.val % 8)
    ∧ (win0_2.index t 0 = t.val / 8 ∧ win0_2.index t 1 = t.val % 8)
    ∧ (win0_3.index t 0 = t.val / 8 ∧ win0_3.index t 1 = t.val % 8))

theorem V_main_v0 (c : Dev nD) : V m c main_v0 = shapeCast _ (argW m c) shapeCasts_S1x4096x4096_S4096x4096 := by
  unfold V
  after_results <;> rfl

theorem t_lt (t : Fin cfg0.N) : t.val < 64 := by have := t.isLt; have e : cfg0.N = 64 := N_0; omega

theorem iblk0_apply (c : Dev nD) (t : Fin cfg0.N) (r : Fin 1024) (k : Fin 4096) :
    iblk m c 0 t (ix2 r k) = argY m c (ix2 ⟨t.val / 8 * 1024 + r.val, by have := t_lt t; omega⟩ k) := by
  show V m c main_arg0 ((win0_0.blk t).view.emb (ix2 r k)) = _
  rw [V_main_arg0]
  refine congrArg (argY m c) (funext fun a => Fin.ext ?_)
  match a with
  | ⟨0, _⟩ => show win0_0.index t 0 * 1024 + 1 * r.val = t.val / 8 * 1024 + r.val; rw [(idx_facts t).1.1]; omega
  | ⟨1, _⟩ => show win0_0.index t 1 * 4096 + 1 * k.val = k.val; rw [(idx_facts t).1.2]; omega

theorem iblk1_apply (c : Dev nD) (t : Fin cfg0.N) (k : Fin 4096) (l : Fin 512) :
    iblk m c 1 t (ix2 k l) = argW m c (ix3 0 k ⟨t.val % 8 * 512 + l.val, by omega⟩) := by
  show V m c main_v0 ((win0_1.blk t).view.emb (ix2 k l)) = _
  rw [V_main_v0]
  have e : (win0_1.blk t).view.emb (ix2 k l) = ix2 k ⟨t.val % 8 * 512 + l.val, by omega⟩ := funext fun a => Fin.ext (by
    match a with
    | ⟨0, _⟩ => show win0_1.index t 0 * 4096 + 1 * k.val = k.val; rw [(idx_facts t).2.1.1]; omega
    | ⟨1, _⟩ => show win0_1.index t 1 * 512 + 1 * l.val = t.val % 8 * 512 + l.val; rw [(idx_facts t).2.1.2]; omega)
  rw [e]
  generalize argW m c = w
  pointwise

theorem iblk2_apply (c : Dev nD) (t : Fin cfg0.N) (r : Fin 1024) (l : Fin 512) :
    iblk m c 2 t (ix2 r l) = argX m c (ix2 ⟨t.val / 8 * 1024 + r.val, by have := t_lt t; omega⟩ ⟨t.val % 8 * 512 + l.val, by omega⟩) := by
  show V m c main_arg2 ((win0_2.blk t).view.emb (ix2 r l)) = _
  rw [V_main_arg2]
  refine congrArg (argX m c) (funext fun a => Fin.ext ?_)
  match a with
  | ⟨0, _⟩ => show win0_2.index t 0 * 1024 + 1 * r.val = t.val / 8 * 1024 + r.val; rw [(idx_facts t).2.2.1.1]; omega
  | ⟨1, _⟩ => show win0_2.index t 1 * 512 + 1 * l.val = t.val % 8 * 512 + l.val; rw [(idx_facts t).2.2.1.2]; omega

/-- The body's stored value at an index of the block. -/
theorem pay_apply (x : Vec Ideal S1024x512 .f32) (y : Vec Ideal S1024x4096 .bf16) (w : Vec Ideal S4096x512 .f32)
    (r : Fin 1024) (l : Fin 512) :
    k0_pay1 (F := Ideal) x y w (ix2 r l) = x (ix2 r l) + ∑ k : Fin 4096, y (ix2 r k) * w (ix2 k l) := by
  pointwise [k0_pay1]

theorem flushed_eq (c : Dev nD) (t : Fin cfg0.N) :
    (dats m 0 c).flushed 3 t = (win0_3.blk t).view.read (Elt Ideal) (G m c) := by
  rw [Value.flushed3]
  unfold out0_3
  rw [View.canon_unit_zero hz, View.ld_unit_zero hz, View.ld_unit_zero hz, View.ld_unit_zero hz]
  funext j
  obtain ⟨r, l, rfl⟩ : ∃ (r : Fin 1024) (l : Fin 512), j = ix2 r l := ⟨j 0, j 1, eq_ix2 j⟩
  show k0_pay1 (F := Ideal) (iblk m c 2 t) (iblk m c 0 t) (iblk m c 1 t) (ix2 r l) = G m c ((win0_3.blk t).view.emb (ix2 r l))
  have e : (win0_3.blk t).view.emb (ix2 r l)
      = ix2 ⟨t.val / 8 * 1024 + r.val, by have := t_lt t; omega⟩ ⟨t.val % 8 * 512 + l.val, by omega⟩ := funext fun a => Fin.ext (by
    match a with
    | ⟨0, _⟩ => show win0_3.index t 0 * 1024 + 1 * r.val = t.val / 8 * 1024 + r.val; rw [(idx_facts t).2.2.2.1]; omega
    | ⟨1, _⟩ => show win0_3.index t 1 * 512 + 1 * l.val = t.val % 8 * 512 + l.val; rw [(idx_facts t).2.2.2.2]; omega)
  rw [e, pay_apply, iblk2_apply]
  simp only [iblk0_apply, iblk1_apply]
  rfl

theorem mem_blk (t : Fin cfg0.N) (i : S8192x4096.Idx) :
    i ∈ ((cfg0.win 3).blk t).view.set ↔ (t.val / 8 * 1024 ≤ (i 0).val ∧ (i 0).val < t.val / 8 * 1024 + 1024)
      ∧ (t.val % 8 * 512 ≤ (i 1).val ∧ (i 1).val < t.val % 8 * 512 + 512) := by
  show i ∈ ((View.whole main_v1).slice (win0_3.rect t)).set ↔ _
  rw [View.set_slice_whole, Rect.mem_set_unit]
  have e0 : win0_3.index t 0 * win0_3.size 0 = t.val / 8 * 1024 := by rw [(idx_facts t).2.2.2.1]; rfl
  have e1 : win0_3.index t 1 * win0_3.size 1 = t.val % 8 * 512 := by rw [(idx_facts t).2.2.2.2]; rfl
  refine ⟨fun h => ⟨?_, ?_⟩, fun h a => ?_⟩
  · have := h 0
    rw [← e0]; exact this
  · have := h 1
    rw [← e1]; exact this
  · match a with
    | ⟨0, _⟩ => have := h.1; rw [← e0] at this; exact this
    | ⟨1, _⟩ => have := h.2; rw [← e1] at this; exact this

theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 64 := N_0
  refine ⟨⟨(i 0).val / 1024 * 8 + (i 1).val / 512, by omega⟩, flush0_3 _, ?_⟩
  rw [mem_blk]
  dsimp only
  omega

theorem final (c : Dev nD) : (dats m 0 c).arrAt 3 cfg0.N = G m c :=
  (dats m 0 c).arrAt_eq_of_cover 3 (G m c) (fun t _ => flushed_eq m c t) cover

end Cert.OutIdeal.Closed

namespace Cert.OutRefIdeal.Closed

open Cert.OutRefIdeal Cert.OutRefIdeal.Gen Idealize.ShloMosaic Idealize.ShloMosaic.TcCoe Idealize.SL.Sem

/-- The reference's result at an index. -/
theorem val_apply (x0 : S8192x4096.Idx → EReal) (x1 : S1x4096x4096.Idx → EReal) (x2 : S8192x4096.Idx → EReal) (i : S8192x4096.Idx) :
    Read.val_main_v3 (F := Ideal) x0 x1 x2 i = x2 i + ∑ k : Fin 4096, x0 (ix2 (i 0) k) * x1 (ix3 0 k (i 1)) := by
  obtain ⟨r, l, rfl⟩ : ∃ (r : Fin 8192) (l : Fin 4096), i = ix2 r l := ⟨i 0, i 1, eq_ix2 i⟩
  pointwise [Read.val_main_v3, Read.val_main_v2, Read.val_main_v1, Read.val_main_v0]

end Cert.OutRefIdeal.Closed

end
-- ==== Proof.OutClaims.lean ====
/- The claims about the residual matrix product: the frames, the idealization, and the value. -/
module

public import proofs.«01_k».proof.Defs
public import proofs.«01_k».proof.Proof.Gen.Out.Frame
public import proofs.«01_k».proof.Proof.OutValue
public import Idealize.ShloMosaic.Lib.Quiescent

@[expose] public section

noncomputable section

namespace Cert.Proof.OutClaims

open Idealize.ShloMosaic Idealize.ShloMosaic.TcCoe Idealize.SL.Sem

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)
theorem preserves : Cert.preserves_Out_OutIdeal := trivial

/-- At `Ideal` the kernel's result array and the reference's are the same function of arguments that agree. -/
theorem algebraic : Cert.algebraic_OutIdeal_OutRefIdeal := by
  intro m ρ m' ρ' _ hagree
  refine ⟨fun c => Cert.OutIdeal.Closed.G m c, ?_, ?_⟩
  · exact (θ_run Cert.OutIdeal.defs _ _).mono (fun _ h c => ⟨(h c).1.trans (Cert.OutIdeal.Closed.final m c), (h c).2⟩)
      (Cert.OutIdeal.Value.run_blocks (F := Ideal) m ρ)
  · refine (θ_run Cert.OutRefIdeal.defs _ _).mono (fun _ h c => ⟨(h c).1.trans ?_, (h c).2⟩)
      (Cert.OutRefIdeal.Value.run (F := Ideal) m' ρ')
    rw [(hagree c).1, (hagree c).2.1, (hagree c).2.2]
    funext i
    exact Cert.OutRefIdeal.Closed.val_apply _ _ _ i

end Cert.Proof.OutClaims

end
-- ==== Proof.FfnIdealRun.lean ====
/-
  The runs of the feed-forward kernel's body at one grid point of `FfnIdeal`: the first feed-forward tile of a row block (the
  rows of x arrive by the body's own copy and are normalised), a middle tile, and the last tile (the block is normalised).
  What each buffer ends with is the list of the stores the run meets.
-/
module

public import proofs.«01_k».proof.Proof.Gen.FfnIdeal.Frame
public import proofs.«01_k».proof.Proof.Gen.FfnIdeal.Skeleton

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev MM (F : FTy → Type) [FloatOps F] := MT nD τ sig Unit (Elt F) ℕ (Pipeline.UD sig nD τ) ℕ

/-- The condition under which the body starts a row block, and the one under which it ends one. -/
abbrev cond0 (i : grid0.Coords) : Prop := k0_cond1 i = 1#1
abbrev cond1 (i : grid0.Coords) : Prop :=
  (Scalar.cmpi .ne (Scalar.extui (Scalar.cmpi .eq (BitVec.ofNat 32 (i 1).val) 42#32)) 0#32) = 1#1

/-- The operand left where it is (the rows of x), the scratch of the normalised rows, and the copy's semaphore. -/
abbrev hbM : Memref sig .tc .hbm S8192x4096 .f32 := Memref.whole main_arg0
abbrev scM : Memref sig .tc .vmem S1024x4096 .bf16 := Memref.whole cc0_scratch0
abbrev HbBuf (c : Dev nD) : Type := Buf (Elt F) (hbM.view.loc (c : Thread nD τ))
abbrev hbPt (c : Dev nD) (f : HbBuf (F := F) c) : sProp (MM F) := hbM.view.loc (c : Thread nD τ) ↦{fullShare} f

set_option maxHeartbeats 4000000 in
/-- The first tile of a row block: from any contents of the block and of the scratch. -/
noncomputable def runA (c : Dev nD) (i : grid0.Coords)
    (arg3 : Memref sig .tc .vmem S1x4096 .f32) (harg3 : arg3.IsWhole) (arg4 : Memref sig .tc .vmem S4096x256 .f32) (harg4 : arg4.IsWhole)
    (arg5 : Memref sig .tc .vmem S4096x256 .f32) (harg5 : arg5.IsWhole) (arg6 : Memref sig .tc .vmem S256x4096 .f32) (harg6 : arg6.IsWhole)
    (arg7 : Memref sig .tc .vmem S1x4096 .f32) (harg7 : arg7.IsWhole) (arg8 : Memref sig .tc .vmem S1024x4096 .f32) (harg8 : arg8.IsWhole)
    (hc0 : cond0 i) (hc1 : ¬cond1 i)
    (x0 : Vec F S1x4096 .f32) (x1 x2 : Vec F S4096x256 .f32) (x3 : Vec F S256x4096 .f32) (x4 : Vec F S1x4096 .f32)
    (fh : HbBuf (F := F) c) (o0 : Vec F S1024x4096 .f32) (h0 : Vec F S1024x4096 .bf16) :
    Σ' (L8 : List (View.Piece (Elt F) S1024x4096 .f32)), { L9 : List (View.Piece (Elt F) S1024x4096 .bf16) //
      ∀ (W : Waits sig Unit) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare o0 ∗ owns (c : Thread nD τ) scM fullShare h0 ∗ semVal ((c : Thread nD τ), SemLoc.dma 9) 0 ∗ hbPt c fh ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ (∃ f, scM.view.loc (c : Thread nD τ) ↦[scM.view.set]{fullShare} scM.view.writes (Elt F) f L9) ∗ semVal ((c : Thread nD τ), SemLoc.dma 9) 0 ∗ hbPt c fh ∗ (∃ W', owes (c : Thread nD τ) 0 W')) -∗ K ⟨⟩))
          ⊢ wp frame (wpE (defs₀ (F := F)) Variants.none c none) Set.univ
              (cc0_ffn i hbM (Memref.isWhole_whole _) arg3 harg3 arg4 harg4 arg5 harg5 arg6 harg6 arg7 harg7 arg8 harg8
                scM (Memref.isWhole_whole _) cc0_scratch1) K } := by
  refine ⟨?_, ?_, fun W K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hq, Hh, HW, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := (Memref.isWhole_whole cc0_scratch0).eq_unread hfs
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS]; · iexists _; iexact HS
    isplitl [Hq]; · iexact Hq
    isplitl [Hh]; · iexact Hh
    iexists _; iexact HW

set_option maxHeartbeats 4000000 in
/-- A middle tile: over the block and the scratch as the tile before left them. -/
noncomputable def runB (c : Dev nD) (i : grid0.Coords)
    (arg3 : Memref sig .tc .vmem S1x4096 .f32) (harg3 : arg3.IsWhole) (arg4 : Memref sig .tc .vmem S4096x256 .f32) (harg4 : arg4.IsWhole)
    (arg5 : Memref sig .tc .vmem S4096x256 .f32) (harg5 : arg5.IsWhole) (arg6 : Memref sig .tc .vmem S256x4096 .f32) (harg6 : arg6.IsWhole)
    (arg7 : Memref sig .tc .vmem S1x4096 .f32) (harg7 : arg7.IsWhole) (arg8 : Memref sig .tc .vmem S1024x4096 .f32) (harg8 : arg8.IsWhole)
    (hc0 : ¬cond0 i) (hc1 : ¬cond1 i)
    (x0 : Vec F S1x4096 .f32) (x1 x2 : Vec F S4096x256 .f32) (x3 : Vec F S256x4096 .f32) (x4 : Vec F S1x4096 .f32)
    (o0 : Vec F S1024x4096 .f32) (h0 : Vec F S1024x4096 .bf16) :
    { L8 : List (View.Piece (Elt F) S1024x4096 .f32) //
      ∀ (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare o0 ∗ owns (c : Thread nD τ) scM fullShare h0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ owns (c : Thread nD τ) scM fullShare h0) -∗ K ⟨⟩))
          ⊢ wp frame (wpE (defs₀ (F := F)) Variants.none c none) Set.univ
              (cc0_ffn i hbM (Memref.isWhole_whole _) arg3 harg3 arg4 harg4 arg5 harg5 arg6 harg6 arg7 harg7 arg8 harg8
                scM (Memref.isWhole_whole _) cc0_scratch1) K } := by
  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := (Memref.isWhole_whole cc0_scratch0).eq_unread hfs
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; isplitr; · ipureintro; exact (Memref.isWhole_whole cc0_scratch0).read_unread _
    iexact HS

set_option maxHeartbeats 4000000 in
/-- The last tile of a row block, at whose end the block is normalised. -/
noncomputable def runC (c : Dev nD) (i : grid0.Coords)
    (arg3 : Memref sig .tc .vmem S1x4096 .f32) (harg3 : arg3.IsWhole) (arg4 : Memref sig .tc .vmem S4096x256 .f32) (harg4 : arg4.IsWhole)
    (arg5 : Memref sig .tc .vmem S4096x256 .f32) (harg5 : arg5.IsWhole) (arg6 : Memref sig .tc .vmem S256x4096 .f32) (harg6 : arg6.IsWhole)
    (arg7 : Memref sig .tc .vmem S1x4096 .f32) (harg7 : arg7.IsWhole) (arg8 : Memref sig .tc .vmem S1024x4096 .f32) (harg8 : arg8.IsWhole)
    (hc0 : ¬cond0 i) (hc1 : cond1 i)
    (x0 : Vec F S1x4096 .f32) (x1 x2 : Vec F S4096x256 .f32) (x3 : Vec F S256x4096 .f32) (x4 : Vec F S1x4096 .f32)
    (o0 : Vec F S1024x4096 .f32) (h0 : Vec F S1024x4096 .bf16) :
    { L8 : List (View.Piece (Elt F) S1024x4096 .f32) //
      ∀ (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare o0 ∗ owns (c : Thread nD τ) scM fullShare h0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ owns (c : Thread nD τ) scM fullShare h0) -∗ K ⟨⟩))
          ⊢ wp frame (wpE (defs₀ (F := F)) Variants.none c none) Set.univ
              (cc0_ffn i hbM (Memref.isWhole_whole _) arg3 harg3 arg4 harg4 arg5 harg5 arg6 harg6 arg7 harg7 arg8 harg8
                scM (Memref.isWhole_whole _) cc0_scratch1) K } := by
  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := (Memref.isWhole_whole cc0_scratch0).eq_unread hfs
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; isplitr; · ipureintro; exact (Memref.isWhole_whole cc0_scratch0).read_unread _
    iexact HS

end Cert.FfnIdeal.Hand

end
-- ==== Proof.FfnIdealVals.lean ====
/-
  What the feed-forward kernel's body leaves at a grid point of `FfnIdeal`, as functions of whole buffers: the normalised rows,
  the block with one tile's products added, and the normalised block. The stores of eight row or column pieces are read back.
-/
module

public import proofs.«01_k».proof.Proof.FfnIdealRun
public import Idealize.ShloMosaic.Lib.Pointwise
public import Idealize.ShloMosaic.Lib.Pipeline.ValueKit
public import Idealize.ShloMosaic.Lib.Pipeline.ReadBack
public import Idealize.ShloMosaic.Lib.Pipeline.Value
public import Idealize.ShloMosaic.Lib.Pipeline.ValueKit.Acc
public import Idealize.ShloMosaic.Lib.Pipeline.ValueKit.Tiles

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL.Sem

variable {F : FTy → Type} [FloatOps F]

/-- Rows `128 k ..` of a block, and columns `512 k ..` of a block and of a tile of the down projection. -/
def rowsOf (X : Vec F S1024x4096 .f32) (k : Fin 8) : Vec F S128x4096 .f32 :=
  fun z => X (ix2 ⟨128 * k.val + (z 0).val, by have := (z 0).isLt; simp at this; omega⟩ (z 1))
def colsOf (X : Vec F S1024x4096 .f32) (k : Fin 8) : Vec F S1024x512 .f32 :=
  fun z => X (ix2 (z 0) ⟨512 * k.val + (z 1).val, by have := (z 1).isLt; simp at this; omega⟩)
def wcolsOf (w : Vec F S256x4096 .f32) (k : Fin 8) : Vec F S256x512 .f32 :=
  fun z => w (ix2 (z 0) ⟨512 * k.val + (z 1).val, by have := (z 1).isLt; simp at this; omega⟩)

/-- The normalised rows the scratch holds, the block after one tile, and the normalised block. -/
def hOf (X : Vec F S1024x4096 .f32) (g : Vec F S1x4096 .f32) : Vec F S1024x4096 .bf16 := fun y =>
  k0_pay6 (rowsOf X ⟨(y 0).val / 128, by have := (y 0).isLt; simp at this; omega⟩) g
    (ix2 ⟨(y 0).val % 128, Nat.mod_lt _ (by decide)⟩ (y 1))
def finOf (X : Vec F S1024x4096 .f32) (g : Vec F S1x4096 .f32) : Vec F S1024x4096 .f32 := fun y =>
  k0_pay5 (rowsOf X ⟨(y 0).val / 128, by have := (y 0).isLt; simp at this; omega⟩) g
    (ix2 ⟨(y 0).val % 128, Nat.mod_lt _ (by decide)⟩ (y 1))
def accOf (X : Vec F S1024x4096 .f32) (a : FVec F S1024x256 .bf16) (w : Vec F S256x4096 .f32) : Vec F S1024x4096 .f32 := fun y =>
  k0_pay1 a (colsOf X ⟨(y 1).val / 512, by have := (y 1).isLt; simp at this; omega⟩)
    (wcolsOf w ⟨(y 1).val / 512, by have := (y 1).isLt; simp at this; omega⟩)
    (ix2 (y 0) ⟨(y 1).val % 512, Nat.mod_lt _ (by decide)⟩)

theorem ld_rows (X : Vec F S1024x4096 .f32) (k : Fin 8) (o : Nat) (ho : o = 128 * k.val)
    (inb : ∀ a, (![o, 0] : Fin 2 → Nat) a + (![128, 4096] : Fin 2 → Nat) a ≤ S1024x4096.size a) :
    View.ld (Val := Elt F) (e' := .f32) X (Rect.unit ![o, 0] ![128, 4096] inb) = rowsOf X k := by
  funext z
  refine View.ld_unit_apply_of (Val := Elt F) (e := .f32) _ _ _ _ _ _ fun a => ?_
  match a with
  | ⟨0, _⟩ => exact congrArg (· + (z 0).val) ho.symm
  | ⟨1, _⟩ => exact (Nat.zero_add _).symm
theorem ld_cols (X : Vec F S1024x4096 .f32) (k : Fin 8) (o : Nat) (ho : o = 512 * k.val)
    (inb : ∀ a, (![0, o] : Fin 2 → Nat) a + (![1024, 512] : Fin 2 → Nat) a ≤ S1024x4096.size a) :
    View.ld (Val := Elt F) (e' := .f32) X (Rect.unit ![0, o] ![1024, 512] inb) = colsOf X k := by
  funext z
  refine View.ld_unit_apply_of (Val := Elt F) (e := .f32) _ _ _ _ _ _ fun a => ?_
  match a with
  | ⟨0, _⟩ => exact (Nat.zero_add _).symm
  | ⟨1, _⟩ => exact congrArg (· + (z 1).val) ho.symm
theorem ld_wcols (X : Vec F S256x4096 .f32) (k : Fin 8) (o : Nat) (ho : o = 512 * k.val)
    (inb : ∀ a, (![0, o] : Fin 2 → Nat) a + (![256, 512] : Fin 2 → Nat) a ≤ S256x4096.size a) :
    View.ld (Val := Elt F) (e' := .f32) X (Rect.unit ![0, o] ![256, 512] inb) = wcolsOf X k := by
  funext z
  refine View.ld_unit_apply_of (Val := Elt F) (e := .f32) _ _ _ _ _ _ fun a => ?_
  match a with
  | ⟨0, _⟩ => exact (Nat.zero_add _).symm
  | ⟨1, _⟩ => exact congrArg (· + (z 1).val) ho.symm

/-- A row or column piece's place in the block. -/
theorem emb_rows {e : EltTy} (f : Fin 8 → S128x4096.Idx → Elt F e) (k : Fin 8) (o : Nat) (ho : o = 128 * k.val)
    (inb : ∀ a, (![o, 0] : Fin 2 → Nat) a + (![128, 4096] : Fin 2 → Nat) a ≤ S1024x4096.size a) (x : S128x4096.Idx)
    (y : S1024x4096.Idx) (hy : y = (Rect.unit (s := S1024x4096) ![o, 0] ![128, 4096] inb).emb x) :
    f ⟨(y 0).val / 128, by have := (y 0).isLt; simp at this; omega⟩ (ix2 ⟨(y 0).val % 128, Nat.mod_lt _ (by decide)⟩ (y 1)) = f k x := by
  have hx : (x 0).val < 128 := (x 0).isLt
  have h0 : (y 0).val = o + (x 0).val := by rw [hy, Rect.emb_apply]; show o + 1 * (x 0).val = _; omega
  have h1 : (y 1).val = (x 1).val := by rw [hy, Rect.emb_apply]; show 0 + 1 * (x 1).val = _; omega
  refine congr (congrArg f (Fin.ext (show (y 0).val / 128 = k.val by omega))) (funext fun a => Fin.ext ?_)
  match a with
  | ⟨0, _⟩ => show (y 0).val % 128 = (x 0).val; omega
  | ⟨1, _⟩ => exact h1
theorem emb_cols (f : Fin 8 → S1024x512.Idx → Elt F .f32) (k : Fin 8) (o : Nat) (ho : o = 512 * k.val)
    (inb : ∀ a, (![0, o] : Fin 2 → Nat) a + (![1024, 512] : Fin 2 → Nat) a ≤ S1024x4096.size a) (x : S1024x512.Idx)
    (y : S1024x4096.Idx) (hy : y = (Rect.unit (s := S1024x4096) ![0, o] ![1024, 512] inb).emb x) :
    f ⟨(y 1).val / 512, by have := (y 1).isLt; simp at this; omega⟩ (ix2 (y 0) ⟨(y 1).val % 512, Nat.mod_lt _ (by decide)⟩) = f k x := by
  have hx : (x 1).val < 512 := (x 1).isLt
  have h0 : (y 0).val = (x 0).val := by rw [hy, Rect.emb_apply]; show 0 + 1 * (x 0).val = _; omega
  have h1 : (y 1).val = o + (x 1).val := by rw [hy, Rect.emb_apply]; show o + 1 * (x 1).val = _; omega
  refine congr (congrArg f (Fin.ext (show (y 1).val / 512 = k.val by omega))) (funext fun a => Fin.ext ?_)
  match a with
  | ⟨0, _⟩ => exact h0
  | ⟨1, _⟩ => show (y 1).val % 512 = (x 1).val; omega

/-- One piece of each function. -/
theorem h_piece (X : Vec F S1024x4096 .f32) (g : Vec F S1x4096 .f32) (k : Fin 8) (o : Nat) (ho : o = 128 * k.val)
    (inb : ∀ a, (![o, 0] : Fin 2 → Nat) a + (![128, 4096] : Fin 2 → Nat) a ≤ S1024x4096.size a) (x : S128x4096.Idx) :
    k0_pay6 (View.ld (Val := Elt F) (e' := .f32) X (Rect.unit ![o, 0] ![128, 4096] inb)) g x
      = hOf X g ((Rect.unit (s := S1024x4096) ![o, 0] ![128, 4096] inb).emb x) := by
  rw [ld_rows X k o ho inb]
  exact (emb_rows (e := .bf16) (fun k => k0_pay6 (rowsOf X k) g) k o ho inb x _ rfl).symm
theorem fin_piece (X : Vec F S1024x4096 .f32) (g : Vec F S1x4096 .f32) (k : Fin 8) (o : Nat) (ho : o = 128 * k.val)
    (inb : ∀ a, (![o, 0] : Fin 2 → Nat) a + (![128, 4096] : Fin 2 → Nat) a ≤ S1024x4096.size a) (x : S128x4096.Idx) :
    k0_pay5 (View.ld (Val := Elt F) (e' := .f32) X (Rect.unit ![o, 0] ![128, 4096] inb)) g x
      = finOf X g ((Rect.unit (s := S1024x4096) ![o, 0] ![128, 4096] inb).emb x) := by
  rw [ld_rows X k o ho inb]
  exact (emb_rows (e := .f32) (fun k => k0_pay5 (rowsOf X k) g) k o ho inb x _ rfl).symm
theorem acc_piece (X : Vec F S1024x4096 .f32) (a : FVec F S1024x256 .bf16) (w : Vec F S256x4096 .f32) (k : Fin 8) (o : Nat) (ho : o = 512 * k.val)
    (inb : ∀ a, (![0, o] : Fin 2 → Nat) a + (![1024, 512] : Fin 2 → Nat) a ≤ S1024x4096.size a)
    (inb' : ∀ a, (![0, o] : Fin 2 → Nat) a + (![256, 512] : Fin 2 → Nat) a ≤ S256x4096.size a) (x : S1024x512.Idx) :
    k0_pay1 a (View.ld (Val := Elt F) (e' := .f32) X (Rect.unit ![0, o] ![1024, 512] inb))
        (View.ld (Val := Elt F) (e' := .f32) w (Rect.unit ![0, o] ![256, 512] inb')) x
      = accOf X a w ((Rect.unit (s := S1024x4096) ![0, o] ![1024, 512] inb).emb x) := by
  rw [ld_cols X k o ho inb, ld_wcols w k o ho inb']
  exact (emb_cols (fun k => k0_pay1 a (colsOf X k) (wcolsOf w k)) k o ho inb x _ rfl).symm

/-- A load after a transfer filled the buffer reads what the transfer brought. -/
theorem readCov_whole {sp : Space} {S : Shape} {e : EltTy} (v : View sig .tc sp S e) (Z : S.Idx → Elt F e) (r : Rect S) :
    v.readCov [⟨Rect.whole S, Z⟩] r.toLoadRect = View.ld (Val := Elt F) Z r := by
  rw [View.readCov_eq_canon']
  have h : View.canon [(⟨Rect.whole S, Z⟩ : View.Piece (Elt F) S e)] = Z := View.canon_unit_zero rfl _ Z
  rw [h]

/-- The eight column pieces of a tile, over whatever was there before, leave the block with the tile's products added. -/
abbrev accList (X : Vec F S1024x4096 .f32) (h : Vec F S1024x4096 .bf16) (x1 x2 : Vec F S4096x256 .f32) (w : Vec F S256x4096 .f32)
    (L' : List (View.Piece (Elt F) S1024x4096 .f32)) : List (View.Piece (Elt F) S1024x4096 .f32) :=
  (⟨Rect.unit ![0, 3584] ![1024, 512] inb_S1024x4096_S1024x512_0_3584, k0_pay3 (k0_pay35 h x1 x2) (View.ld (Val := Elt F) (e' := .f32) X (Rect.unit ![0, 3584] ![1024, 512] inb_S1024x4096_S1024x512_0_3584)) (View.ld (Val := Elt F) (e' := .f32) w (Rect.unit ![0, 3584] ![256, 512] inb_S256x4096_S256x512_0_3584))⟩ : View.Piece (Elt F) S1024x4096 .f32) ::
  (⟨Rect.unit ![0, 3072] ![1024, 512] inb_S1024x4096_S1024x512_0_3072, k0_pay2 (k0_pay35 h x1 x2) (View.ld (Val := Elt F) (e' := .f32) X (Rect.unit ![0, 3072] ![1024, 512] inb_S1024x4096_S1024x512_0_3072)) (View.ld (Val := Elt F) (e' := .f32) w (Rect.unit ![0, 3072] ![256, 512] inb_S256x4096_S256x512_0_3072))⟩ : View.Piece (Elt F) S1024x4096 .f32) ::
  (⟨Rect.unit ![0, 2560] ![1024, 512] inb_S1024x4096_S1024x512_0_2560, k0_pay1 (k0_pay35 h x1 x2) (View.ld (Val := Elt F) (e' := .f32) X (Rect.unit ![0, 2560] ![1024, 512] inb_S1024x4096_S1024x512_0_2560)) (View.ld (Val := Elt F) (e' := .f32) w (Rect.unit ![0, 2560] ![256, 512] inb_S256x4096_S256x512_0_2560))⟩ : View.Piece (Elt F) S1024x4096 .f32) ::
  (⟨Rect.unit ![0, 2048] ![1024, 512] inb_S1024x4096_S1024x512_0_2048, k0_pay40 (k0_pay35 h x1 x2) (View.ld (Val := Elt F) (e' := .f32) X (Rect.unit ![0, 2048] ![1024, 512] inb_S1024x4096_S1024x512_0_2048)) (View.ld (Val := Elt F) (e' := .f32) w (Rect.unit ![0, 2048] ![256, 512] inb_S256x4096_S256x512_0_2048))⟩ : View.Piece (Elt F) S1024x4096 .f32) ::
  (⟨Rect.unit ![0, 1536] ![1024, 512] inb_S1024x4096_S1024x512_0_1536, k0_pay39 (k0_pay35 h x1 x2) (View.ld (Val := Elt F) (e' := .f32) X (Rect.unit ![0, 1536] ![1024, 512] inb_S1024x4096_S1024x512_0_1536)) (View.ld (Val := Elt F) (e' := .f32) w (Rect.unit ![0, 1536] ![256, 512] inb_S256x4096_S256x512_0_1536))⟩ : View.Piece (Elt F) S1024x4096 .f32) ::
  (⟨Rect.unit ![0, 1024] ![1024, 512] inb_S1024x4096_S1024x512_0_1024, k0_pay38 (k0_pay35 h x1 x2) (View.ld (Val := Elt F) (e' := .f32) X (Rect.unit ![0, 1024] ![1024, 512] inb_S1024x4096_S1024x512_0_1024)) (View.ld (Val := Elt F) (e' := .f32) w (Rect.unit ![0, 1024] ![256, 512] inb_S256x4096_S256x512_0_1024))⟩ : View.Piece (Elt F) S1024x4096 .f32) ::
  (⟨Rect.unit ![0, 512] ![1024, 512] inb_S1024x4096_S1024x512_0_512, k0_pay37 (k0_pay35 h x1 x2) (View.ld (Val := Elt F) (e' := .f32) X (Rect.unit ![0, 512] ![1024, 512] inb_S1024x4096_S1024x512_0_512)) (View.ld (Val := Elt F) (e' := .f32) w (Rect.unit ![0, 512] ![256, 512] inb_S256x4096_S256x512_0_512))⟩ : View.Piece (Elt F) S1024x4096 .f32) ::
  (⟨Rect.unit ![0, 0] ![1024, 512] inb_S1024x4096_S1024x512_0_0, k0_pay36 h x1 x2 (View.ld (Val := Elt F) (e' := .f32) X (Rect.unit ![0, 0] ![1024, 512] inb_S1024x4096_S1024x512_0_0)) (View.ld (Val := Elt F) (e' := .f32) w (Rect.unit ![0, 0] ![256, 512] inb_S256x4096_S256x512_0_0))⟩ : View.Piece (Elt F) S1024x4096 .f32) ::
    L'

theorem canon_acc (X : Vec F S1024x4096 .f32) (h : Vec F S1024x4096 .bf16) (x1 x2 : Vec F S4096x256 .f32) (w : Vec F S256x4096 .f32)
    (L' : List (View.Piece (Elt F) S1024x4096 .f32)) :
    View.canon (accList X h x1 x2 w L') = accOf X (k0_pay35 h x1 x2) w := by
  funext y
  refine View.canon_append_of_piecesOf (accOf X (k0_pay35 h x1 x2) w) L' [_, _, _, _, _, _, _, _] ?_ y
    (View.cover_of_tiledL _ ![1024, 512] (by sl_kernel_rfl) y)
  refine ⟨?_, ?_, ?_, ?_, ?_, ?_, ?_, ?_, trivial⟩
  · exact fun x => acc_piece X _ w 7 _ rfl _ _ x
  · exact fun x => acc_piece X _ w 6 _ rfl _ _ x
  · exact fun x => acc_piece X _ w 5 _ rfl _ _ x
  · exact fun x => acc_piece X _ w 4 _ rfl _ _ x
  · exact fun x => acc_piece X _ w 3 _ rfl _ _ x
  · exact fun x => acc_piece X _ w 2 _ rfl _ _ x
  · exact fun x => acc_piece X _ w 1 _ rfl _ _ x
  · exact fun x => acc_piece X _ w 0 _ rfl _ _ x

theorem readCov_acc {sp : Space} (v : View sig .tc sp S1024x4096 .f32) (X : Vec F S1024x4096 .f32) (h : Vec F S1024x4096 .bf16)
    (x1 x2 : Vec F S4096x256 .f32) (w : Vec F S256x4096 .f32) (L' : List (View.Piece (Elt F) S1024x4096 .f32)) (r : Rect S1024x4096) :
    v.readCov (
      (⟨Rect.unit ![0, 3584] ![1024, 512] inb_S1024x4096_S1024x512_0_3584, k0_pay3 (k0_pay35 h x1 x2) (View.ld (Val := Elt F) (e' := .f32) X (Rect.unit ![0, 3584] ![1024, 512] inb_S1024x4096_S1024x512_0_3584)) (View.ld (Val := Elt F) (e' := .f32) w (Rect.unit ![0, 3584] ![256, 512] inb_S256x4096_S256x512_0_3584))⟩ : View.Piece (Elt F) S1024x4096 .f32) ::
      (⟨Rect.unit ![0, 3072] ![1024, 512] inb_S1024x4096_S1024x512_0_3072, k0_pay2 (k0_pay35 h x1 x2) (View.ld (Val := Elt F) (e' := .f32) X (Rect.unit ![0, 3072] ![1024, 512] inb_S1024x4096_S1024x512_0_3072)) (View.ld (Val := Elt F) (e' := .f32) w (Rect.unit ![0, 3072] ![256, 512] inb_S256x4096_S256x512_0_3072))⟩ : View.Piece (Elt F) S1024x4096 .f32) ::
      (⟨Rect.unit ![0, 2560] ![1024, 512] inb_S1024x4096_S1024x512_0_2560, k0_pay1 (k0_pay35 h x1 x2) (View.ld (Val := Elt F) (e' := .f32) X (Rect.unit ![0, 2560] ![1024, 512] inb_S1024x4096_S1024x512_0_2560)) (View.ld (Val := Elt F) (e' := .f32) w (Rect.unit ![0, 2560] ![256, 512] inb_S256x4096_S256x512_0_2560))⟩ : View.Piece (Elt F) S1024x4096 .f32) ::
      (⟨Rect.unit ![0, 2048] ![1024, 512] inb_S1024x4096_S1024x512_0_2048, k0_pay40 (k0_pay35 h x1 x2) (View.ld (Val := Elt F) (e' := .f32) X (Rect.unit ![0, 2048] ![1024, 512] inb_S1024x4096_S1024x512_0_2048)) (View.ld (Val := Elt F) (e' := .f32) w (Rect.unit ![0, 2048] ![256, 512] inb_S256x4096_S256x512_0_2048))⟩ : View.Piece (Elt F) S1024x4096 .f32) ::
      (⟨Rect.unit ![0, 1536] ![1024, 512] inb_S1024x4096_S1024x512_0_1536, k0_pay39 (k0_pay35 h x1 x2) (View.ld (Val := Elt F) (e' := .f32) X (Rect.unit ![0, 1536] ![1024, 512] inb_S1024x4096_S1024x512_0_1536)) (View.ld (Val := Elt F) (e' := .f32) w (Rect.unit ![0, 1536] ![256, 512] inb_S256x4096_S256x512_0_1536))⟩ : View.Piece (Elt F) S1024x4096 .f32) ::
      (⟨Rect.unit ![0, 1024] ![1024, 512] inb_S1024x4096_S1024x512_0_1024, k0_pay38 (k0_pay35 h x1 x2) (View.ld (Val := Elt F) (e' := .f32) X (Rect.unit ![0, 1024] ![1024, 512] inb_S1024x4096_S1024x512_0_1024)) (View.ld (Val := Elt F) (e' := .f32) w (Rect.unit ![0, 1024] ![256, 512] inb_S256x4096_S256x512_0_1024))⟩ : View.Piece (Elt F) S1024x4096 .f32) ::
      (⟨Rect.unit ![0, 512] ![1024, 512] inb_S1024x4096_S1024x512_0_512, k0_pay37 (k0_pay35 h x1 x2) (View.ld (Val := Elt F) (e' := .f32) X (Rect.unit ![0, 512] ![1024, 512] inb_S1024x4096_S1024x512_0_512)) (View.ld (Val := Elt F) (e' := .f32) w (Rect.unit ![0, 512] ![256, 512] inb_S256x4096_S256x512_0_512))⟩ : View.Piece (Elt F) S1024x4096 .f32) ::
      (⟨Rect.unit ![0, 0] ![1024, 512] inb_S1024x4096_S1024x512_0_0, k0_pay36 h x1 x2 (View.ld (Val := Elt F) (e' := .f32) X (Rect.unit ![0, 0] ![1024, 512] inb_S1024x4096_S1024x512_0_0)) (View.ld (Val := Elt F) (e' := .f32) w (Rect.unit ![0, 0] ![256, 512] inb_S256x4096_S256x512_0_0))⟩ : View.Piece (Elt F) S1024x4096 .f32) ::
      L') r.toLoadRect = View.ld (Val := Elt F) (e' := .f32) (accOf X (k0_pay35 h x1 x2) w) r := by
  rw [View.readCov_eq_canon']
  have e := canon_acc X h x1 x2 w L'
  unfold accList at e
  rw [e]

/-- The eight row pieces leave the normalised rows. -/
abbrev hList (X : Vec F S1024x4096 .f32) (g : Vec F S1x4096 .f32) : List (View.Piece (Elt F) S1024x4096 .bf16) :=
  (⟨Rect.unit ![896, 0] ![128, 4096] inb_S1024x4096_S128x4096_896_0, k0_pay34 (k0_pay19 (View.ld (Val := Elt F) (e' := .f32) X (Rect.unit ![896, 0] ![128, 4096] inb_S1024x4096_S128x4096_896_0))) (k0_pay20 g)⟩ : View.Piece (Elt F) S1024x4096 .bf16) ::
  (⟨Rect.unit ![768, 0] ![128, 4096] inb_S1024x4096_S128x4096_768_0, k0_pay18 (View.ld (Val := Elt F) (e' := .f32) X (Rect.unit ![768, 0] ![128, 4096] inb_S1024x4096_S128x4096_768_0)) g⟩ : View.Piece (Elt F) S1024x4096 .bf16) ::
  (⟨Rect.unit ![640, 0] ![128, 4096] inb_S1024x4096_S128x4096_640_0, k0_pay17 (k0_pay15 (View.ld (Val := Elt F) (e' := .f32) X (Rect.unit ![640, 0] ![128, 4096] inb_S1024x4096_S128x4096_640_0))) (k0_pay16 g)⟩ : View.Piece (Elt F) S1024x4096 .bf16) ::
  (⟨Rect.unit ![512, 0] ![128, 4096] inb_S1024x4096_S128x4096_512_0, k0_pay14 (View.ld (Val := Elt F) (e' := .f32) X (Rect.unit ![512, 0] ![128, 4096] inb_S1024x4096_S128x4096_512_0)) g⟩ : View.Piece (Elt F) S1024x4096 .bf16) ::
  (⟨Rect.unit ![384, 0] ![128, 4096] inb_S1024x4096_S128x4096_384_0, k0_pay13 (k0_pay11 (View.ld (Val := Elt F) (e' := .f32) X (Rect.unit ![384, 0] ![128, 4096] inb_S1024x4096_S128x4096_384_0))) (k0_pay12 g)⟩ : View.Piece (Elt F) S1024x4096 .bf16) ::
  (⟨Rect.unit ![256, 0] ![128, 4096] inb_S1024x4096_S128x4096_256_0, k0_pay10 (View.ld (Val := Elt F) (e' := .f32) X (Rect.unit ![256, 0] ![128, 4096] inb_S1024x4096_S128x4096_256_0)) g⟩ : View.Piece (Elt F) S1024x4096 .bf16) ::
  (⟨Rect.unit ![128, 0] ![128, 4096] inb_S1024x4096_S128x4096_128_0, k0_pay9 (k0_pay7 (View.ld (Val := Elt F) (e' := .f32) X (Rect.unit ![128, 0] ![128, 4096] inb_S1024x4096_S128x4096_128_0))) (k0_pay8 g)⟩ : View.Piece (Elt F) S1024x4096 .bf16) ::
  (⟨Rect.unit ![0, 0] ![128, 4096] inb_S1024x4096_S128x4096_0_0, k0_pay6 (View.ld (Val := Elt F) (e' := .f32) X (Rect.unit ![0, 0] ![128, 4096] inb_S1024x4096_S128x4096_0_0)) g⟩ : View.Piece (Elt F) S1024x4096 .bf16) ::
    []

theorem canon_h (X : Vec F S1024x4096 .f32) (g : Vec F S1x4096 .f32) : View.canon (hList X g) = hOf X g := by
  funext y
  refine View.canon_apply_of_pieces _ _ (View.PiecesOf.mem ?_) y (View.cover_of_tiledL _ ![128, 4096] (by sl_kernel_rfl) y)
  refine ⟨?_, ?_, ?_, ?_, ?_, ?_, ?_, ?_, trivial⟩
  · exact fun x => h_piece X g 7 _ rfl _ x
  · exact fun x => h_piece X g 6 _ rfl _ x
  · exact fun x => h_piece X g 5 _ rfl _ x
  · exact fun x => h_piece X g 4 _ rfl _ x
  · exact fun x => h_piece X g 3 _ rfl _ x
  · exact fun x => h_piece X g 2 _ rfl _ x
  · exact fun x => h_piece X g 1 _ rfl _ x
  · exact fun x => h_piece X g 0 _ rfl _ x

theorem readCov_h {sp : Space} (v : View sig .tc sp S1024x4096 .bf16) (X : Vec F S1024x4096 .f32) (g : Vec F S1x4096 .f32) (r : Rect S1024x4096) :
    v.readCov (
      (⟨Rect.unit ![896, 0] ![128, 4096] inb_S1024x4096_S128x4096_896_0, k0_pay34 (k0_pay19 (View.ld (Val := Elt F) (e' := .f32) X (Rect.unit ![896, 0] ![128, 4096] inb_S1024x4096_S128x4096_896_0))) (k0_pay20 g)⟩ : View.Piece (Elt F) S1024x4096 .bf16) ::
      (⟨Rect.unit ![768, 0] ![128, 4096] inb_S1024x4096_S128x4096_768_0, k0_pay18 (View.ld (Val := Elt F) (e' := .f32) X (Rect.unit ![768, 0] ![128, 4096] inb_S1024x4096_S128x4096_768_0)) g⟩ : View.Piece (Elt F) S1024x4096 .bf16) ::
      (⟨Rect.unit ![640, 0] ![128, 4096] inb_S1024x4096_S128x4096_640_0, k0_pay17 (k0_pay15 (View.ld (Val := Elt F) (e' := .f32) X (Rect.unit ![640, 0] ![128, 4096] inb_S1024x4096_S128x4096_640_0))) (k0_pay16 g)⟩ : View.Piece (Elt F) S1024x4096 .bf16) ::
      (⟨Rect.unit ![512, 0] ![128, 4096] inb_S1024x4096_S128x4096_512_0, k0_pay14 (View.ld (Val := Elt F) (e' := .f32) X (Rect.unit ![512, 0] ![128, 4096] inb_S1024x4096_S128x4096_512_0)) g⟩ : View.Piece (Elt F) S1024x4096 .bf16) ::
      (⟨Rect.unit ![384, 0] ![128, 4096] inb_S1024x4096_S128x4096_384_0, k0_pay13 (k0_pay11 (View.ld (Val := Elt F) (e' := .f32) X (Rect.unit ![384, 0] ![128, 4096] inb_S1024x4096_S128x4096_384_0))) (k0_pay12 g)⟩ : View.Piece (Elt F) S1024x4096 .bf16) ::
      (⟨Rect.unit ![256, 0] ![128, 4096] inb_S1024x4096_S128x4096_256_0, k0_pay10 (View.ld (Val := Elt F) (e' := .f32) X (Rect.unit ![256, 0] ![128, 4096] inb_S1024x4096_S128x4096_256_0)) g⟩ : View.Piece (Elt F) S1024x4096 .bf16) ::
      (⟨Rect.unit ![128, 0] ![128, 4096] inb_S1024x4096_S128x4096_128_0, k0_pay9 (k0_pay7 (View.ld (Val := Elt F) (e' := .f32) X (Rect.unit ![128, 0] ![128, 4096] inb_S1024x4096_S128x4096_128_0))) (k0_pay8 g)⟩ : View.Piece (Elt F) S1024x4096 .bf16) ::
      (⟨Rect.unit ![0, 0] ![128, 4096] inb_S1024x4096_S128x4096_0_0, k0_pay6 (View.ld (Val := Elt F) (e' := .f32) X (Rect.unit ![0, 0] ![128, 4096] inb_S1024x4096_S128x4096_0_0)) g⟩ : View.Piece (Elt F) S1024x4096 .bf16) ::
      []) r.toLoadRect = View.ld (Val := Elt F) (e' := .bf16) (hOf X g) r := by
  rw [View.readCov_eq_canon']
  have e := canon_h X g
  unfold hList at e
  rw [e]

section Runs

variable (c : Dev nD) (i : grid0.Coords)
    (arg3 : Memref sig .tc .vmem S1x4096 .f32) (harg3 : arg3.IsWhole) (arg4 : Memref sig .tc .vmem S4096x256 .f32) (harg4 : arg4.IsWhole)
    (arg5 : Memref sig .tc .vmem S4096x256 .f32) (harg5 : arg5.IsWhole) (arg6 : Memref sig .tc .vmem S256x4096 .f32) (harg6 : arg6.IsWhole)
    (arg7 : Memref sig .tc .vmem S1x4096 .f32) (harg7 : arg7.IsWhole) (arg8 : Memref sig .tc .vmem S1024x4096 .f32) (harg8 : arg8.IsWhole)
    (x0 : Vec F S1x4096 .f32) (x1 x2 : Vec F S4096x256 .f32) (x3 : Vec F S256x4096 .f32) (x4 : Vec F S1x4096 .f32)

/-- A middle tile adds its products to the block. -/
theorem runB_cover (hc0 : ¬cond0 i) (hc1 : ¬cond1 i) (o0 : Vec F S1024x4096 .f32) (h0 : Vec F S1024x4096 .bf16) (y : S1024x4096.Idx) :
    ∃ p ∈ (runB c i arg3 harg3 arg4 harg4 arg5 harg5 arg6 harg6 arg7 harg7 arg8 harg8 hc0 hc1 x0 x1 x2 x3 x4 o0 h0).1, y ∈ p.1.set :=
  View.cover_of_tiledL _ ![1024, 512] (by sl_kernel_rfl) y

theorem runB_canon (hc0 : ¬cond0 i) (hc1 : ¬cond1 i) (o0 : Vec F S1024x4096 .f32) (h0 : Vec F S1024x4096 .bf16) :
    View.canon (runB c i arg3 harg3 arg4 harg4 arg5 harg5 arg6 harg6 arg7 harg7 arg8 harg8 hc0 hc1 x0 x1 x2 x3 x4 o0 h0).1
      = accOf o0 (k0_pay35 h0 x1 x2) x3 := by
  frame_open
  simp (disch := decide) only [View.readAt_eq_ld, Memref.IsWhole.read_unread, read_unread_whole, View.ld_unit_lit']
  exact canon_acc o0 h0 x1 x2 x3 []

/-- The last tile adds its products and then normalises the block. -/
theorem runC_cover (hc0 : ¬cond0 i) (hc1 : cond1 i) (o0 : Vec F S1024x4096 .f32) (h0 : Vec F S1024x4096 .bf16) (y : S1024x4096.Idx) :
    ∃ p ∈ (runC c i arg3 harg3 arg4 harg4 arg5 harg5 arg6 harg6 arg7 harg7 arg8 harg8 hc0 hc1 x0 x1 x2 x3 x4 o0 h0).1, y ∈ p.1.set := by
  frame_open
  obtain ⟨p, hp, hy⟩ := View.cover_of_tiledL (s := S1024x4096) (Val := Elt F) (e := .f32) [_, _, _, _, _, _, _, _] ![128, 4096] (by sl_kernel_rfl) y
  exact ⟨p, List.mem_append_left [_, _, _, _, _, _, _, _] hp, hy⟩

set_option maxHeartbeats 2000000 in
theorem runC_canon (hc0 : ¬cond0 i) (hc1 : cond1 i) (o0 : Vec F S1024x4096 .f32) (h0 : Vec F S1024x4096 .bf16) :
    View.canon (runC c i arg3 harg3 arg4 harg4 arg5 harg5 arg6 harg6 arg7 harg7 arg8 harg8 hc0 hc1 x0 x1 x2 x3 x4 o0 h0).1
      = finOf (accOf o0 (k0_pay35 h0 x1 x2) x3) x4 := by
  funext y
  frame_open
  simp (disch := decide) only [↓ View.readCov_skip, View.readAt_eq_ld, Memref.IsWhole.read_unread, read_unread_whole, View.ld_unit_lit']
  simp only [readCov_acc]
  refine View.canon_append_of_piecesOf (finOf (accOf o0 (k0_pay35 h0 x1 x2) x3) x4) [_, _, _, _, _, _, _, _] [_, _, _, _, _, _, _, _] ?_ y
    (View.cover_of_tiledL _ ![128, 4096] (by sl_kernel_rfl) y)
  refine ⟨?_, ?_, ?_, ?_, ?_, ?_, ?_, ?_, trivial⟩
  · exact fun x => fin_piece _ x4 7 _ rfl _ x
  · exact fun x => fin_piece _ x4 6 _ rfl _ x
  · exact fun x => fin_piece _ x4 5 _ rfl _ x
  · exact fun x => fin_piece _ x4 4 _ rfl _ x
  · exact fun x => fin_piece _ x4 3 _ rfl _ x
  · exact fun x => fin_piece _ x4 2 _ rfl _ x
  · exact fun x => fin_piece _ x4 1 _ rfl _ x
  · exact fun x => fin_piece _ x4 0 _ rfl _ x

/-- The first tile: the rows brought from the operand are normalised into the scratch, and the tile's products added to them. -/
abbrev rowsIn (hc0 : cond0 i) (fh : HbBuf (F := F) c) : Vec F S1024x4096 .f32 := runA.sl.dma0 c i hc0 fh

theorem runA_coverH (hc0 : cond0 i) (hc1 : ¬cond1 i) (fh : HbBuf (F := F) c) (o0 : Vec F S1024x4096 .f32) (h0 : Vec F S1024x4096 .bf16) (y : S1024x4096.Idx) :
    ∃ p ∈ (runA c i arg3 harg3 arg4 harg4 arg5 harg5 arg6 harg6 arg7 harg7 arg8 harg8 hc0 hc1 x0 x1 x2 x3 x4 fh o0 h0).2.1, y ∈ p.1.set :=
  View.cover_of_tiledL _ ![128, 4096] (by sl_kernel_rfl) y

theorem runA_coverO (hc0 : cond0 i) (hc1 : ¬cond1 i) (fh : HbBuf (F := F) c) (o0 : Vec F S1024x4096 .f32) (h0 : Vec F S1024x4096 .bf16) (y : S1024x4096.Idx) :
    ∃ p ∈ (runA c i arg3 harg3 arg4 harg4 arg5 harg5 arg6 harg6 arg7 harg7 arg8 harg8 hc0 hc1 x0 x1 x2 x3 x4 fh o0 h0).1, y ∈ p.1.set := by
  frame_open
  obtain ⟨p, hp, hy⟩ := View.cover_of_tiledL (s := S1024x4096) (Val := Elt F) (e := .f32) [_, _, _, _, _, _, _, _] ![1024, 512] (by sl_kernel_rfl) y
  exact ⟨p, List.mem_append_left [_] hp, hy⟩

set_option maxHeartbeats 2000000 in
theorem runA_canonH (hc0 : cond0 i) (hc1 : ¬cond1 i) (fh : HbBuf (F := F) c) (o0 : Vec F S1024x4096 .f32) (h0 : Vec F S1024x4096 .bf16) :
    View.canon (runA c i arg3 harg3 arg4 harg4 arg5 harg5 arg6 harg6 arg7 harg7 arg8 harg8 hc0 hc1 x0 x1 x2 x3 x4 fh o0 h0).2.1 = hOf (rowsIn c i hc0 fh) x0 := by
  frame_open
  simp (disch := decide) only [readCov_whole, View.readAt_eq_ld, Memref.IsWhole.read_unread, read_unread_whole, View.ld_unit_lit']
  exact canon_h _ x0

set_option maxHeartbeats 2000000 in
theorem runA_canonO (hc0 : cond0 i) (hc1 : ¬cond1 i) (fh : HbBuf (F := F) c) (o0 : Vec F S1024x4096 .f32) (h0 : Vec F S1024x4096 .bf16) :
    View.canon (runA c i arg3 harg3 arg4 harg4 arg5 harg5 arg6 harg6 arg7 harg7 arg8 harg8 hc0 hc1 x0 x1 x2 x3 x4 fh o0 h0).1
      = accOf (rowsIn c i hc0 fh) (k0_pay35 (hOf (rowsIn c i hc0 fh) x0) x1 x2) x3 := by
  frame_open
  simp (disch := decide) only [↓ View.readCov_skip, readCov_whole, View.readAt_eq_ld, Memref.IsWhole.read_unread, read_unread_whole, View.ld_unit_lit']
  simp (disch := decide) only [readCov_h, View.ld_unit_lit']
  exact canon_acc (rowsIn c i hc0 fh) (hOf (rowsIn c i hc0 fh) x0) x1 x2 x3 _

end Runs

end Cert.FfnIdeal.Hand

end
-- ==== Proof.FfnIdealFrame.lean ====
/-
  The frame of the feed-forward kernel `FfnIdeal`: what the output block and the scratch of normalised rows hold after every
  grid point, the body's obligation at each point, the run of the whole program, and its frame.
-/
module

public import proofs.«01_k».proof.Proof.FfnIdealVals

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The conditions at a point -/

theorem hcond0 : ∀ t : Fin cfg0.N, cond0 (grid0.coords t) ↔ t.val % 43 = 0 :=
  fun t : Fin grid0.N => by
    have ht : t.val < 344 := Nat.lt_of_lt_of_eq t.isLt N_0
    have e0 : (grid0.coords t 0).val = t.val / 43 % 8 := Pipeline.Grid.coords_val t 0 (by decide) rfl
    have e1 : (grid0.coords t 1).val = t.val / 1 % 43 := Pipeline.Grid.coords_val t 1 (by decide) rfl
    simp only [cond0, k0_cond1, e0, e1]; word_cmp
theorem hcond1 : ∀ t : Fin cfg0.N, cond1 (grid0.coords t) ↔ t.val % 43 = 42 :=
  fun t : Fin grid0.N => by
    have ht : t.val < 344 := Nat.lt_of_lt_of_eq t.isLt N_0
    have e1 : (grid0.coords t 1).val = t.val / 1 % 43 := Pipeline.Grid.coords_val t 1 (by decide) rfl
    simp only [cond1, e1]; word_cmp

/-! ## @main up to the region -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

section Before
variable {c : Dev nD} (dat : Dat τ (Elt F) Unit ℕ (Pipeline.UD sig nD τ) ℕ cfg0 c)
theorem beforeD_0 (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1 (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeD_2 (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_3 (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeD_4 (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Before

abbrev osem0 : Fin 1 → SemLoc sig := fun j => (![SemLoc.dma 9] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = semVal ((c : Thread nD τ), SemLoc.dma 9) 0 := by
  rw [Pipeline.ownSems0_eq_of_list c osem0 [0] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp (MM F)) = hbPt c (V m c main_arg0) := by
  rw [BI.bigSep_eq_bigSepL_of_eq [main_arg0] (by decide) (by decide)]; rfl
theorem PhiD0_eq (c : Dev nD) :
    (Pipeline.ΦD osem0 spec0 H0 (V m) c : sProp (MM F))
      = iprop((∃ d, owns (c : Thread nD τ) scM fullShare d) ∗ (∃ r, prngReg c r)
          ∗ semVal ((c : Thread nD τ), SemLoc.dma 9) 0 ∗ hbPt c (V m c main_arg0)) := by
  rw [Pipeline.ΦD_eq, scopedRest0_eq, ownSems00_eq, hbmPts0_eq]
  simp only [scM, owns_whole]; rfl

/-! ## The block and the scratch after each point -/

/-- The weights' and the scales' blocks at a point, at the types the body takes them. -/
abbrev X0 (c : Dev nD) (t : Fin cfg0.N) : Vec F S1x4096 .f32 := iblk m c 0 t
abbrev X1 (c : Dev nD) (t : Fin cfg0.N) : Vec F S4096x256 .f32 := iblk m c 1 t
abbrev X2 (c : Dev nD) (t : Fin cfg0.N) : Vec F S4096x256 .f32 := iblk m c 2 t
abbrev X3 (c : Dev nD) (t : Fin cfg0.N) : Vec F S256x4096 .f32 := iblk m c 3 t
abbrev X4 (c : Dev nD) (t : Fin cfg0.N) : Vec F S1x4096 .f32 := iblk m c 4 t

/-- One point: the block and the scratch after it, from what they were before. -/
def step (c : Dev nD) (t : Fin cfg0.N) (prev : Vec F S1024x4096 .f32 × Vec F S1024x4096 .bf16) :
    Vec F S1024x4096 .f32 × Vec F S1024x4096 .bf16 := by
  classical exact
  if h0 : cond0 (grid0.coords t) then
    (accOf (rowsIn c (grid0.coords t) h0 (V m c main_arg0))
        (k0_pay35 (hOf (rowsIn c (grid0.coords t) h0 (V m c main_arg0)) (X0 m c t)) (X1 m c t) (X2 m c t)) (X3 m c t),
      hOf (rowsIn c (grid0.coords t) h0 (V m c main_arg0)) (X0 m c t))
  else if cond1 (grid0.coords t) then
    (finOf (accOf prev.1 (k0_pay35 prev.2 (X1 m c t) (X2 m c t)) (X3 m c t)) (X4 m c t), prev.2)
  else (accOf prev.1 (k0_pay35 prev.2 (X1 m c t) (X2 m c t)) (X3 m c t), prev.2)

theorem step_A (c : Dev nD) (t : Fin cfg0.N) (prev) (h0 : cond0 (grid0.coords t)) :
    step m c t prev = (accOf (rowsIn c (grid0.coords t) h0 (V m c main_arg0))
        (k0_pay35 (hOf (rowsIn c (grid0.coords t) h0 (V m c main_arg0)) (X0 m c t)) (X1 m c t) (X2 m c t)) (X3 m c t),
      hOf (rowsIn c (grid0.coords t) h0 (V m c main_arg0)) (X0 m c t)) := by
  unfold step; exact dif_pos h0
theorem step_C (c : Dev nD) (t : Fin cfg0.N) (prev) (h0 : ¬cond0 (grid0.coords t)) (h1 : cond1 (grid0.coords t)) :
    step m c t prev = (finOf (accOf prev.1 (k0_pay35 prev.2 (X1 m c t) (X2 m c t)) (X3 m c t)) (X4 m c t), prev.2) := by
  unfold step; rw [dif_neg h0]; exact if_pos h1
theorem step_B (c : Dev nD) (t : Fin cfg0.N) (prev) (h0 : ¬cond0 (grid0.coords t)) (h1 : ¬cond1 (grid0.coords t)) :
    step m c t prev = (accOf prev.1 (k0_pay35 prev.2 (X1 m c t) (X2 m c t)) (X3 m c t), prev.2) := by
  unfold step; rw [dif_neg h0]; exact if_neg h1

/-- The block and the scratch before point `n`. -/
def stN (c : Dev nD) : ℕ → Vec F S1024x4096 .f32 × Vec F S1024x4096 .bf16
  | 0 => (View.canon [], View.canon [])
  | n + 1 => if h : n < cfg0.N then step m c ⟨n, h⟩ (stN c n) else stN c n

theorem stN_succ (c : Dev nD) (t : Fin cfg0.N) : stN m c (t.val + 1) = step m c t (stN m c t.val) := by
  rw [stN]; exact dif_pos t.isLt

/-! ## The proof data -/

def PhiS (c : Dev nD) (n : ℕ) : sProp (MM F) :=
  iprop((∃ d, ⌜n % 43 ≠ 0 → d = (stN m c n).2⌝ ∗ owns (c : Thread nD τ) scM fullShare d) ∗ (∃ r, prngReg c r)
    ∗ semVal ((c : Thread nD τ), SemLoc.dma 9) 0 ∗ hbPt c (V m c main_arg0))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stN m c (t.val + 1)).1
  Φ n := PhiS m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (stN m c (t.val + 1)).1 := by dsimp only [dats]
theorem before0_0 (c : Dev nD) (t : Fin cfg0.N) (d) : (dats m 0 c).before 0 t d = iblk m c 0 t := beforeD_0 m _ (A_eq m c 0) (after0_0 m c) t d
theorem before0_1 (c : Dev nD) (t : Fin cfg0.N) (d) : (dats m 0 c).before 1 t d = iblk m c 1 t := beforeD_1 m _ (A_eq m c 1) (after0_1 m c) t d
theorem before0_2 (c : Dev nD) (t : Fin cfg0.N) (d) : (dats m 0 c).before 2 t d = iblk m c 2 t := beforeD_2 m _ (A_eq m c 2) (after0_2 m c) t d
theorem before0_3 (c : Dev nD) (t : Fin cfg0.N) (d) : (dats m 0 c).before 3 t d = iblk m c 3 t := beforeD_3 m _ (A_eq m c 3) (after0_3 m c) t d
theorem before0_4 (c : Dev nD) (t : Fin cfg0.N) (d) : (dats m 0 c).before 4 t d = iblk m c 4 t := beforeD_4 m _ (A_eq m c 4) (after0_4 m c) t d

/-- The output block before a point that does not start a row block is what the point before left. -/
theorem before0_5_kept (c : Dev nD) (t : Fin cfg0.N) (h : t.val % 43 ≠ 0) (d) : (dats m 0 c).before 5 t d = (stN m c t.val).1 := by
  have ht : t.val ≠ 0 := fun h0 => h (by rw [h0])
  rw [Dat.before_out_kept (dats m 0 c) 5 rfl t ht
    (Bool.eq_false_iff.mpr fun hf => h (by have := (flush0_5 _).mp hf; dsimp only at this; omega))
    (fun _ => rfl) (fun _ _ => rfl) d, after0_5]
  dsimp only
  rw [Nat.sub_add_cancel (Nat.one_le_iff_ne_zero.mpr ht)]

def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = PhiS m c t.val from rfl, show (dats m 0 c).Φ t.succ = PhiS m c (t.val + 1) from rfl]
  rw [after0_0, after0_1, after0_2, after0_3, after0_4, after0_5]
  simp only [before0_0, before0_1, before0_2, before0_3, before0_4]
  unfold Dat.owesAt Pipeline.owesWithin PhiS
  rw [show (dats m 0 c).owed t.castSucc = 0 from rfl, show (dats m 0 c).owed t.succ = 0 from rfl]
  by_cases h0 : cond0 (grid0.coords t)
  · have h1 : ¬cond1 (grid0.coords t) := fun h => by
      have a := (hcond0 t).mp h0
      have b := (hcond1 t).mp h
      omega
    iintro ⟨⟨⟨%ds, -, HS⟩, Hg, Hq, Hh⟩, ⟨%W, -, HW⟩, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ h0 h1 (X0 m c t) (X1 m c t) (X2 m c t) (X3 m c t) (X4 m c t)
      (V m c main_arg0) ((dats m 0 c).before 5 t d5) ds).2.2 W _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [Hq]; · iexact Hq
    isplitl [Hh]; · iexact Hh
    isplitl [HW]; · iexact HW
    iintro ⟨H0, H1, H2, H3, H4, ⟨%e5, H5⟩, ⟨%es, HS⟩, Hq, Hh, ⟨%W', HW'⟩⟩
    isplitl [HS Hg Hq Hh]
    · isplitl [HS]
      · iexists _; isplitr; swap
        · unfold owns; iexists _; isplitr; swap
          · iexact HS
          ipureintro
          exact (View.read_writes_eq_canon _ _ _ (runA_coverH c _ _ _ _ _ _ _ _ _ _ _ _ _ _ _ _ _ _ h0 h1 _ _ _)).trans
            (runA_canonH c _ _ _ _ _ _ _ _ _ _ _ _ _ _ _ _ _ _ h0 h1 _ _ _)
        · ipureintro; intro _
          rw [stN_succ, step_A m c t _ h0]
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    unfold owns; iexists _; isplitr; swap
    · iexact H5
    ipureintro
    rw [stN_succ, step_A m c t _ h0]
    exact (View.read_writes_eq_canon _ _ _ (runA_coverO c _ _ _ _ _ _ _ _ _ _ _ _ _ _ _ _ _ _ h0 h1 _ _ _)).trans
      (runA_canonO c _ _ _ _ _ _ _ _ _ _ _ _ _ _ _ _ _ _ h0 h1 _ _ _)
  · have hn : t.val % 43 ≠ 0 := fun h => h0 ((hcond0 t).mpr h)
    simp only [before0_5_kept m c t hn]
    by_cases h1 : cond1 (grid0.coords t)
    · iintro ⟨⟨⟨%ds, %hds, HS⟩, Hg, Hq, Hh⟩, ⟨%W, -, HW⟩, ⟨%d0, H0⟩, ⟨%d1, H1⟩, ⟨%d2, H2⟩, ⟨%d3, H3⟩, ⟨%d4, H4⟩, ⟨%d5, H5⟩⟩
      obtain rfl := hds hn
      iapply ((runC c (grid0.coords t) _ _ _ _ _ _ _ _ _ _ _ _ h0 h1 (X0 m c t) (X1 m c t) (X2 m c t) (X3 m c t) (X4 m c t)
        (stN m c t.val).1 (stN m c t.val).2).2 _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, ⟨%e5, H5⟩, HS⟩
      isplitl [HS Hg Hq Hh]
      · isplitl [HS]
        · iexists _; isplitr; swap
          · iexact HS
          · ipureintro; intro _
            rw [stN_succ, step_C m c t _ h0 h1]
        isplitl [Hg]; · iexact Hg
        isplitl [Hq]; · iexact Hq
        iexact Hh
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      unfold owns; iexists _; isplitr; swap
      · iexact H5
      ipureintro
      rw [stN_succ, step_C m c t _ h0 h1]
      exact (View.read_writes_eq_canon _ _ _ (runC_cover c _ _ _ _ _ _ _ _ _ _ _ _ _ _ _ _ _ _ h0 h1 _ _)).trans
        (runC_canon c _ _ _ _ _ _ _ _ _ _ _ _ _ _ _ _ _ _ h0 h1 _ _)
    · iintro ⟨⟨⟨%ds, %hds, HS⟩, Hg, Hq, Hh⟩, ⟨%W, -, HW⟩, ⟨%d0, H0⟩, ⟨%d1, H1⟩, ⟨%d2, H2⟩, ⟨%d3, H3⟩, ⟨%d4, H4⟩, ⟨%d5, H5⟩⟩
      obtain rfl := hds hn
      iapply ((runB c (grid0.coords t) _ _ _ _ _ _ _ _ _ _ _ _ h0 h1 (X0 m c t) (X1 m c t) (X2 m c t) (X3 m c t) (X4 m c t)
        (stN m c t.val).1 (stN m c t.val).2).2 _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, ⟨%e5, H5⟩, HS⟩
      isplitl [HS Hg Hq Hh]
      · isplitl [HS]
        · iexists _; isplitr; swap
          · iexact HS
          · ipureintro; intro _
            rw [stN_succ, step_B m c t _ h0 h1]
        isplitl [Hg]; · iexact Hg
        isplitl [Hq]; · iexact Hq
        iexact Hh
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      unfold owns; iexists _; isplitr; swap
      · iexact H5
      ipureintro
      rw [stN_succ, step_B m c t _ h0 h1]
      exact (View.read_writes_eq_canon _ _ _ (runB_cover c _ _ _ _ _ _ _ _ _ _ _ _ _ _ _ _ _ _ h0 h1 _ _)).trans
        (runB_canon c _ _ _ _ _ _ _ _ _ _ _ _ _ _ _ _ _ _ h0 h1 _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin0 (c : Dev nD) : (Pipeline.ΦD osem0 spec0 H0 (V m) c : sProp (MM F)) ⊢ PhiS m c 0 := by
  rw [PhiD0_eq]; unfold PhiS
  iintro ⟨⟨%d, HS⟩, Hg, Hq, Hh⟩
  isplitl [HS]
  · iexists d; isplitr
    · ipureintro; exact fun h => absurd rfl h
    iexact HS
  isplitl [Hg]; · iexact Hg
  isplitl [Hq]; · iexact Hq
  iexact Hh
theorem hout0 (c : Dev nD) (n : ℕ) : PhiS m c n ⊢ (Pipeline.ΦD osem0 spec0 H0 (V m) c : sProp (MM F)) := by
  rw [PhiD0_eq]; unfold PhiS
  iintro ⟨⟨%d, -, HS⟩, Hg, Hq, Hh⟩
  isplitl [HS]
  · iexists d; iexact HS
  isplitl [Hg]; · iexact Hg
  isplitl [Hq]; · iexact Hq
  iexact Hh

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => hin0 m c) (hout := fun c => hout0 m c _)

/-- The arguments are as they were launched and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.FfnIdeal.Hand

end
-- ==== Proof.FfnMath.lean ====
/-
  The feed-forward layer on one row, in extended reals: the root-mean-square norm, the gated activation, and the row's
  residual sum, tile by tile as a kernel adds it and all at once as a formula does; the two are equal.
-/
module

public import Idealize.ShloMosaic.Lib.Pointwise

@[expose] public section

noncomputable section

namespace Cert.FfnMath

open Idealize.ShloMosaic

/-- One half, as the constant of the programs. -/
def half : EReal := Ideal.ofBits .f32 0x3F000000#32

theorem half_eq : half = ((1 / 2 : ℝ) : EReal) := by
  simp [half, Ideal.ofBits, Ideal.ieee, -EReal.coe_mul]; norm_num

/-- A row over its root mean square. -/
def rms (f : Fin 4096 → EReal) (k : Fin 4096) : EReal :=
  f k * Ideal.rsqrt (Ideal.div (∑ x, f x * f x) (Ideal.ofBits .f32 0x45800000#32) + Ideal.ofBits .f32 0x358637BD#32)

/-- The gate times its logistic. -/
def silu (a : EReal) : EReal := a * Ideal.div 1 (1 + Ideal.exp (-a))

/-- One column of the gated activation of a normalised row. -/
def act (h : Fin 4096 → EReal) (wg wu : Fin 4096 → Fin 11008 → EReal) (l : Fin 11008) : EReal :=
  silu (∑ x, h x * wg x l) * ∑ x, h x * wu x l

/-- One term of the product with the last weight, as a tile adds it. -/
def term (g : Fin 11008 → EReal) (wd : Fin 11008 → Fin 4096 → EReal) (k : Fin 4096) (l : ℕ) : EReal :=
  if h : l < 11008 then g ⟨l, h⟩ * half * wd ⟨l, h⟩ k else 0

/-- The row after `n` tiles. -/
def accN (x : Fin 4096 → EReal) (g : Fin 11008 → EReal) (wd : Fin 11008 → Fin 4096 → EReal) (n : ℕ) (k : Fin 4096) : EReal :=
  x k + ∑ J ∈ Finset.range n, ∑ q : Fin 256, term g wd k (256 * J + q.val)

theorem accN_succ (x : Fin 4096 → EReal) (g : Fin 11008 → EReal) (wd : Fin 11008 → Fin 4096 → EReal) (n : ℕ) (k : Fin 4096) :
    accN x g wd (n + 1) k = accN x g wd n k + ∑ q : Fin 256, term g wd k (256 * n + q.val) := by
  unfold accN; rw [Finset.sum_range_succ, add_assoc]

theorem sum_tiles (T : ℕ → EReal) (n : ℕ) :
    ∑ J ∈ Finset.range n, ∑ q : Fin 256, T (256 * J + q.val) = ∑ l ∈ Finset.range (256 * n), T l := by
  induction n with
  | zero => simp
  | succ n ih =>
    rw [Finset.sum_range_succ, ih, Nat.mul_succ, Finset.sum_range_add, Finset.sum_range (fun q => T (256 * n + q))]

theorem half_mul_sum {ι : Type} (s : Finset ι) (f : ι → EReal) : half * ∑ l ∈ s, f l = ∑ l ∈ s, half * f l := by
  classical
  induction s using Finset.induction_on with
  | empty => simp
  | insert a s ha ih =>
    rw [Finset.sum_insert ha, Finset.sum_insert ha, ← ih]
    rw [half_eq]
    exact EReal.left_distrib_of_nonneg_of_ne_top (by exact_mod_cast (by norm_num : (0 : ℝ) ≤ 1 / 2)) (EReal.coe_ne_top _) _ _

theorem accN_all (x : Fin 4096 → EReal) (g : Fin 11008 → EReal) (wd : Fin 11008 → Fin 4096 → EReal) (k : Fin 4096) :
    accN x g wd 43 k = x k + half * ∑ l, g l * wd l k := by
  unfold accN
  rw [sum_tiles (term g wd k) 43, half_mul_sum, Finset.sum_range (fun l => term g wd k l)]
  refine congrArg (x k + ·) (Finset.sum_congr rfl fun l _ => ?_)
  unfold term
  rw [dif_pos l.isLt, mul_comm (g l) half, mul_assoc]

end Cert.FfnMath

end
-- ==== Proof.FfnValue.lean ====
/-
  What the feed-forward kernel computes: every row block ends as the rows' residual sums over their root mean squares.
  The block and the scratch are followed through the 43 tiles of a row block.
-/
module

public import proofs.«01_k».proof.Proof.FfnIdealFrame
public import proofs.«01_k».proof.Proof.FfnMath

@[expose] public section

set_option maxRecDepth 16384

noncomputable section

namespace Cert.FfnIdeal.Closed

open Cert.FfnIdeal Cert.FfnIdeal.Gen Cert.FfnIdeal.Hand Idealize.ShloMosaic Idealize.ShloMosaic.TcCoe Idealize.SL.Sem Cert.FfnMath
open Idealize.ShloMosaic.Pipeline (Dat)

/-! ## The payloads at an index -/

theorem pay6_apply (X : Vec Ideal S128x4096 .f32) (g : Vec Ideal S1x4096 .f32) (r : Fin 128) (k : Fin 4096) :
    k0_pay6 (F := Ideal) X g (ix2 r k) = rms (fun k => X (ix2 r k)) k * g (ix2 0 k) := by
  unfold rms
  pointwise [k0_pay6]
theorem pay5_apply (X : Vec Ideal S128x4096 .f32) (g : Vec Ideal S1x4096 .f32) (r : Fin 128) (k : Fin 4096) :
    k0_pay5 (F := Ideal) X g (ix2 r k) = rms (fun k => X (ix2 r k)) k * g (ix2 0 k) := by
  unfold rms
  pointwise [k0_pay5]
theorem pay35_apply (h : Vec Ideal S1024x4096 .bf16) (wg wu : Vec Ideal S4096x256 .f32) (r : Fin 1024) (q : Fin 256) :
    k0_pay35 (F := Ideal) h wg wu (ix2 r q)
      = silu (∑ x, h (ix2 r x) * wg (ix2 x q)) * (∑ x, h (ix2 r x) * wu (ix2 x q)) * half := by
  unfold silu half
  pointwise [k0_pay35]
  rw [zero_sub]
theorem pay1_apply (a : FVec Ideal S1024x256 .bf16) (o : Vec Ideal S1024x512 .f32) (w : Vec Ideal S256x512 .f32) (r : Fin 1024) (k : Fin 512) :
    k0_pay1 (F := Ideal) a o w (ix2 r k) = o (ix2 r k) + ∑ q, a (ix2 r q) * w (ix2 q k) := by
  pointwise [k0_pay1]

theorem hOf_apply (X : Vec Ideal S1024x4096 .f32) (g : Vec Ideal S1x4096 .f32) (r : Fin 1024) (k : Fin 4096) :
    hOf (F := Ideal) X g (ix2 r k) = rms (fun k => X (ix2 r k)) k * g (ix2 0 k) := by
  unfold hOf
  refine (pay6_apply _ g ⟨r.val % 128, Nat.mod_lt _ (by decide)⟩ k).trans ?_
  refine congrArg (rms · k * g (ix2 0 k)) (funext fun q => congrArg X ?_)
  exact congrArg (ix2 · q) (Fin.ext (Nat.div_add_mod _ _))
theorem finOf_apply (X : Vec Ideal S1024x4096 .f32) (g : Vec Ideal S1x4096 .f32) (r : Fin 1024) (k : Fin 4096) :
    finOf (F := Ideal) X g (ix2 r k) = rms (fun k => X (ix2 r k)) k * g (ix2 0 k) := by
  unfold finOf
  refine (pay5_apply _ g ⟨r.val % 128, Nat.mod_lt _ (by decide)⟩ k).trans ?_
  refine congrArg (rms · k * g (ix2 0 k)) (funext fun q => congrArg X ?_)
  exact congrArg (ix2 · q) (Fin.ext (Nat.div_add_mod _ _))
theorem accOf_apply (X : Vec Ideal S1024x4096 .f32) (a : FVec Ideal S1024x256 .bf16) (w : Vec Ideal S256x4096 .f32) (r : Fin 1024) (k : Fin 4096) :
    accOf (F := Ideal) X a w (ix2 r k) = X (ix2 r k) + ∑ q, a (ix2 r q) * w (ix2 q k) := by
  unfold accOf
  refine (pay1_apply a _ _ r ⟨k.val % 512, Nat.mod_lt _ (by decide)⟩).trans ?_
  have e : ∀ p : k.val / 512 < 8, (⟨512 * (⟨k.val / 512, p⟩ : Fin 8).val + k.val % 512, by omega⟩ : Fin 4096) = k :=
    fun _ => Fin.ext (Nat.div_add_mod _ _)
  refine congr (congrArg HAdd.hAdd (congrArg X (congrArg (ix2 r) (e (by omega))))) (Finset.sum_congr rfl fun q _ => ?_)
  exact congrArg (a (ix2 r q) * ·) (congrArg w (congrArg (ix2 q) (e (by omega))))

/-! ## The arguments and the windows' blocks -/

variable (m : (ℓ : Loc nD τ sig) → Buf (Elt Ideal) ℓ) (ρ : Dev nD → PrngReg)

abbrev argX (c : Dev nD) : S8192x4096.Idx → EReal := m ((c : Thread nD τ).loc main_arg0)
abbrev argN (c : Dev nD) : S1x4096.Idx → EReal := m ((c : Thread nD τ).loc main_arg1)
abbrev argWg (c : Dev nD) : S1x4096x11008.Idx → EReal := m ((c : Thread nD τ).loc main_arg2)
abbrev argWu (c : Dev nD) : S1x4096x11008.Idx → EReal := m ((c : Thread nD τ).loc main_arg3)
abbrev argWd (c : Dev nD) : S1x11008x4096.Idx → EReal := m ((c : Thread nD τ).loc main_arg4)
abbrev argF (c : Dev nD) : S4096.Idx → EReal := m ((c : Thread nD τ).loc main_arg5)

theorem t_lt (t : Fin cfg0.N) : t.val < 344 := by have := t.isLt; have e : cfg0.N = 344 := N_0; omega

theorem idx_facts : ∀ t : Fin cfg0.N,
    (win0_0.index t 0 = 0 ∧ win0_0.index t 1 = 0) ∧ (win0_1.index t 0 = 0 ∧ win0_1.index t 1 = t.val % 43)
    ∧ (win0_2.index t 0 = 0 ∧ win0_2.index t 1 = t.val % 43) ∧ (win0_3.index t 0 = t.val % 43 ∧ win0_3.index t 1 = 0)
    ∧ (win0_4.index t 0 = 0 ∧ win0_4.index t 1 = 0) ∧ (win0_5.index t 0 = t.val / 43 ∧ win0_5.index t 1 = 0) :=
  (by decide +kernel : ∀ t : Fin grid0.N,
    (win0_0.index t 0 = 0 ∧ win0_0.index t 1 = 0) ∧ (win0_1.index t 0 = 0 ∧ win0_1.index t 1 = t.val % 43)
    ∧ (win0_2.index t 0 = 0 ∧ win0_2.index t 1 = t.val % 43) ∧ (win0_3.index t 0 = t.val % 43 ∧ win0_3.index t 1 = 0)
    ∧ (win0_4.index t 0 = 0 ∧ win0_4.index t 1 = 0) ∧ (win0_5.index t 0 = t.val / 43 ∧ win0_5.index t 1 = 0))

theorem V_main_v4 (c : Dev nD) :
    V m c main_v4 = shapeCast _ (shapeCast _ (argN m c) shapeCasts_S1x4096_S4096) shapeCasts_S4096_S1x4096 := by
  unfold V
  after_results <;> rfl
theorem V_main_v1 (c : Dev nD) : V m c main_v1 = shapeCast _ (argWg m c) shapeCasts_S1x4096x11008_S4096x11008 := by
  unfold V
  after_results <;> rfl
theorem V_main_v2 (c : Dev nD) : V m c main_v2 = shapeCast _ (argWu m c) shapeCasts_S1x4096x11008_S4096x11008 := by
  unfold V
  after_results <;> rfl
theorem V_main_v3 (c : Dev nD) : V m c main_v3 = shapeCast _ (argWd m c) shapeCasts_S1x11008x4096_S11008x4096 := by
  unfold V
  after_results <;> rfl
theorem V_main_v5 (c : Dev nD) : V m c main_v5 = shapeCast _ (argF m c) shapeCasts_S4096_S1x4096 := by
  unfold V
  after_results <;> rfl

theorem X0_apply (c : Dev nD) (t : Fin cfg0.N) (k : Fin 4096) : X0 m c t (ix2 0 k) = argN m c (ix2 0 k) := by
  show V m c main_v4 ((win0_0.blk t).view.emb (ix2 0 k)) = _
  rw [V_main_v4]
  have e : (win0_0.blk t).view.emb (ix2 0 k) = ix2 0 k := funext fun a => Fin.ext (by
    match a with
    | ⟨0, _⟩ => show win0_0.index t 0 * 1 + 1 * 0 = 0; rw [(idx_facts t).1.1]
    | ⟨1, _⟩ => show win0_0.index t 1 * 4096 + 1 * k.val = k.val; rw [(idx_facts t).1.2]; omega)
  rw [e]
  generalize argN m c = w
  pointwise
theorem X1_apply (c : Dev nD) (t : Fin cfg0.N) (k : Fin 4096) (q : Fin 256) :
    X1 m c t (ix2 k q) = argWg m c (ix3 0 k ⟨256 * (t.val % 43) + q.val, by omega⟩) := by
  show V m c main_v1 ((win0_1.blk t).view.emb (ix2 k q)) = _
  rw [V_main_v1]
  have e : (win0_1.blk t).view.emb (ix2 k q) = ix2 k ⟨256 * (t.val % 43) + q.val, by omega⟩ := funext fun a => Fin.ext (by
    match a with
    | ⟨0, _⟩ => show win0_1.index t 0 * 4096 + 1 * k.val = k.val; rw [(idx_facts t).2.1.1]; omega
    | ⟨1, _⟩ => show win0_1.index t 1 * 256 + 1 * q.val = 256 * (t.val % 43) + q.val; rw [(idx_facts t).2.1.2]; omega)
  rw [e]
  generalize argWg m c = w
  pointwise
theorem X2_apply (c : Dev nD) (t : Fin cfg0.N) (k : Fin 4096) (q : Fin 256) :
    X2 m c t (ix2 k q) = argWu m c (ix3 0 k ⟨256 * (t.val % 43) + q.val, by omega⟩) := by
  show V m c main_v2 ((win0_2.blk t).view.emb (ix2 k q)) = _
  rw [V_main_v2]
  have e : (win0_2.blk t).view.emb (ix2 k q) = ix2 k ⟨256 * (t.val % 43) + q.val, by omega⟩ := funext fun a => Fin.ext (by
    match a with
    | ⟨0, _⟩ => show win0_2.index t 0 * 4096 + 1 * k.val = k.val; rw [(idx_facts t).2.2.1.1]; omega
    | ⟨1, _⟩ => show win0_2.index t 1 * 256 + 1 * q.val = 256 * (t.val % 43) + q.val; rw [(idx_facts t).2.2.1.2]; omega)
  rw [e]
  generalize argWu m c = w
  pointwise
theorem X3_apply (c : Dev nD) (t : Fin cfg0.N) (q : Fin 256) (k : Fin 4096) :
    X3 m c t (ix2 q k) = argWd m c (ix3 0 ⟨256 * (t.val % 43) + q.val, by omega⟩ k) := by
  show V m c main_v3 ((win0_3.blk t).view.emb (ix2 q k)) = _
  rw [V_main_v3]
  have e : (win0_3.blk t).view.emb (ix2 q k) = ix2 ⟨256 * (t.val % 43) + q.val, by omega⟩ k := funext fun a => Fin.ext (by
    match a with
    | ⟨0, _⟩ => show win0_3.index t 0 * 256 + 1 * q.val = 256 * (t.val % 43) + q.val; rw [(idx_facts t).2.2.2.1.1]; omega
    | ⟨1, _⟩ => show win0_3.index t 1 * 4096 + 1 * k.val = k.val; rw [(idx_facts t).2.2.2.1.2]; omega)
  rw [e]
  generalize argWd m c = w
  pointwise
theorem X4_apply (c : Dev nD) (t : Fin cfg0.N) (k : Fin 4096) : X4 m c t (ix2 0 k) = argF m c (ix1 k) := by
  show V m c main_v5 ((win0_4.blk t).view.emb (ix2 0 k)) = _
  rw [V_main_v5]
  have e : (win0_4.blk t).view.emb (ix2 0 k) = ix2 0 k := funext fun a => Fin.ext (by
    match a with
    | ⟨0, _⟩ => show win0_4.index t 0 * 1 + 1 * 0 = 0; rw [(idx_facts t).2.2.2.2.1.1]
    | ⟨1, _⟩ => show win0_4.index t 1 * 4096 + 1 * k.val = k.val; rw [(idx_facts t).2.2.2.2.1.2]; omega)
  rw [e]
  generalize argF m c = w
  pointwise

/-- The rows the body's copy brings at the first tile of a row block. -/
theorem off_eq (t : Fin cfg0.N) : k0_off1 (grid0.coords t) 0 = t.val / 43 * 1024 ∧ k0_off1 (grid0.coords t) 1 = 0 :=
  (by decide +kernel : ∀ t : Fin grid0.N, k0_off1 (grid0.coords t) 0 = t.val / 43 * 1024 ∧ k0_off1 (grid0.coords t) 1 = 0) t
theorem rowsIn_apply (c : Dev nD) (t : Fin cfg0.N) (h0 : cond0 (grid0.coords t)) (r : Fin 1024) (k : Fin 4096) :
    rowsIn c (grid0.coords t) h0 (V m c main_arg0) (ix2 r k) = argX m c (ix2 ⟨t.val / 43 * 1024 + r.val, by have := t_lt t; omega⟩ k) := by
  rw [V_main_arg0]
  refine congrArg (argX m c) (funext fun a => Fin.ext ?_)
  match a with
  | ⟨0, _⟩ => show k0_off1 (grid0.coords t) 0 + 1 * r.val = t.val / 43 * 1024 + r.val; rw [(off_eq t).1]; omega
  | ⟨1, _⟩ => show k0_off1 (grid0.coords t) 1 + 1 * k.val = k.val; rw [(off_eq t).2]; omega

/-! ## One row through the tiles -/

/-- A row of the input, its normalised row, its gated activation, and the last weight. -/
def xRow (c : Dev nD) (R : Fin 8192) (k : Fin 4096) : EReal := argX m c (ix2 R k)
def hRow (c : Dev nD) (R : Fin 8192) (k : Fin 4096) : EReal := rms (xRow m c R) k * argN m c (ix2 0 k)
def gRow (c : Dev nD) (R : Fin 8192) (l : Fin 11008) : EReal :=
  act (hRow m c R) (fun k l => argWg m c (ix3 0 k l)) (fun k l => argWu m c (ix3 0 k l)) l
def wdn (c : Dev nD) (l : Fin 11008) (k : Fin 4096) : EReal := argWd m c (ix3 0 l k)

/-- The array the result ends holding. -/
def G (c : Dev nD) : S8192x4096.Idx → EReal := fun i =>
  rms (accN (xRow m c (i 0)) (gRow m c (i 0)) (wdn m c) 43) (i 1) * argF m c (ix1 (i 1))

/-- The tile's products, from the normalised rows. -/
theorem tile_apply (c : Dev nD) (t : Fin cfg0.N) (h : Vec Ideal S1024x4096 .bf16) (r : Fin 1024) (R : Fin 8192)
    (hh : ∀ k, h (ix2 r k) = hRow m c R k) (k : Fin 4096) :
    ∑ q : Fin 256, k0_pay35 (F := Ideal) h (X1 m c t) (X2 m c t) (ix2 r q) * X3 m c t (ix2 q k)
      = ∑ q : Fin 256, term (gRow m c R) (wdn m c) k (256 * (t.val % 43) + q.val) := by
  refine Finset.sum_congr rfl fun q _ => ?_
  rw [pay35_apply, X3_apply]
  unfold term
  rw [dif_pos (show 256 * (t.val % 43) + q.val < 11008 by omega)]
  simp only [hh, X1_apply, X2_apply]
  rfl

/-- The row block a position lies in, and its rows. -/
abbrev rowOf (n : ℕ) (hn : n < 344) (r : Fin 1024) : Fin 8192 := ⟨n / 43 * 1024 + r.val, by omega⟩

/-- The same just after a row block's first tile. -/
theorem st_first (c : Dev nD) (n : ℕ) (hn : n < 344) (h0 : n % 43 = 0) :
    (∀ (r : Fin 1024) (k : Fin 4096), (stN m c (n + 1)).1 (ix2 r k)
        = accN (xRow m c (rowOf n hn r)) (gRow m c (rowOf n hn r)) (wdn m c) (n % 43 + 1) k)
    ∧ (∀ (r : Fin 1024) (k : Fin 4096), (stN m c (n + 1)).2 (ix2 r k) = hRow m c (rowOf n hn r) k) := by
  have hN : cfg0.N = 344 := N_0
  let t : Fin cfg0.N := ⟨n, by omega⟩
  have c0 : cond0 (grid0.coords t) := (hcond0 t).mpr h0
  have es : stN m c (n + 1) = _ := (stN_succ m c t).trans (step_A m c t _ c0)
  have hh : ∀ (r : Fin 1024) (k : Fin 4096),
      hOf (rowsIn c (grid0.coords t) c0 (V m c main_arg0)) (X0 m c t) (ix2 r k) = hRow m c (rowOf n hn r) k := fun r k => by
    rw [hOf_apply, X0_apply]
    exact congrArg (rms · k * argN m c (ix2 0 k)) (funext fun q => rowsIn_apply m c t c0 r q)
  rw [es]
  refine ⟨fun r k => ?_, hh⟩
  show accOf _ _ _ (ix2 r k) = _
  rw [accOf_apply, tile_apply m c t _ r (rowOf n hn r) (hh r) k, rowsIn_apply]
  rw [accN_succ]
  show _ + ∑ q : Fin 256, term _ _ _ (256 * (n % 43) + q.val) = _
  rw [h0]
  refine congrArg (· + _) ?_
  unfold accN
  simp
  rfl

/-- Just after a tile that is not the last: the block holds the partial sums, the scratch the normalised rows. -/
theorem st_inv (c : Dev nD) : ∀ (n : ℕ) (hn : n < 344), n % 43 ≠ 42 →
    (∀ (r : Fin 1024) (k : Fin 4096), (stN m c (n + 1)).1 (ix2 r k)
        = accN (xRow m c (rowOf n hn r)) (gRow m c (rowOf n hn r)) (wdn m c) (n % 43 + 1) k)
    ∧ (∀ (r : Fin 1024) (k : Fin 4096), (stN m c (n + 1)).2 (ix2 r k) = hRow m c (rowOf n hn r) k) := by
  intro n
  induction n with
  | zero => intro hn _; exact st_first m c 0 hn rfl
  | succ n ih =>
    intro hn h42
    by_cases h0 : (n + 1) % 43 = 0
    · exact st_first m c (n + 1) hn h0
    · have hp := ih (by omega) (by omega)
      have hd : n / 43 = (n + 1) / 43 := by omega
      have hm : (n + 1) % 43 = n % 43 + 1 := by omega
      have hr : ∀ r, rowOf n (by omega) r = rowOf (n + 1) hn r := fun r => Fin.ext (by show n / 43 * 1024 + r.val = (n + 1) / 43 * 1024 + r.val; rw [hd])
      have hN : cfg0.N = 344 := N_0
      let t : Fin cfg0.N := ⟨n + 1, by omega⟩
      have c0 : ¬cond0 (grid0.coords t) := fun h => h0 ((hcond0 t).mp h)
      have c1 : ¬cond1 (grid0.coords t) := fun h => h42 ((hcond1 t).mp h)
      have es : stN m c (n + 1 + 1) = _ := (stN_succ m c t).trans (step_B m c t _ c0 c1)
      rw [es]
      refine ⟨fun r k => ?_, fun r k => (hp.2 r k).trans (by rw [hr])⟩
      show accOf _ _ _ (ix2 r k) = _
      rw [accOf_apply, tile_apply m c t _ r (rowOf (n + 1) hn r) (fun k => (hp.2 r k).trans (by rw [hr])) k]
      rw [hm, accN_succ, ← hr r, ← hp.1 r k]

/-- After the last tile the block holds the rows of the result. -/
theorem st_last (c : Dev nD) (n : ℕ) (hn : n < 344) (h42 : n % 43 = 42) (r : Fin 1024) (k : Fin 4096) :
    (stN m c (n + 1)).1 (ix2 r k) = G m c (ix2 (rowOf n hn r) k) := by
  have hN : cfg0.N = 344 := N_0
  obtain ⟨p, rfl⟩ : ∃ p, n = p + 1 := ⟨n - 1, by omega⟩
  have hp := st_inv m c p (by omega) (by omega)
  have hd : p / 43 = (p + 1) / 43 := by omega
  have hr : ∀ r, rowOf p (by omega) r = rowOf (p + 1) hn r := fun r => Fin.ext (by show p / 43 * 1024 + r.val = (p + 1) / 43 * 1024 + r.val; rw [hd])
  let t : Fin cfg0.N := ⟨p + 1, by omega⟩
  have c0 : ¬cond0 (grid0.coords t) := fun h => by have := (hcond0 t).mp h; simp only [t] at this; omega
  have c1 : cond1 (grid0.coords t) := (hcond1 t).mpr h42
  have es : stN m c (p + 1 + 1) = _ := (stN_succ m c t).trans (step_C m c t _ c0 c1)
  rw [es]
  show finOf _ _ (ix2 r k) = _
  rw [finOf_apply, X4_apply]
  refine congrArg (rms · k * argF m c (ix1 k)) (funext fun q => ?_)
  rw [accOf_apply, tile_apply m c t _ r (rowOf (p + 1) hn r) (fun k => (hp.2 r k).trans (by rw [hr])) q]
  rw [show (stN m c t.val).1 (ix2 r q) = _ from hp.1 r q, hr]
  have e42 : p % 43 + 1 = 42 := by omega
  rw [e42]
  show _ + ∑ q : Fin 256, term _ _ _ (256 * ((p + 1) % 43) + q.val) = accN (xRow m c (rowOf (p + 1) hn r)) (gRow m c (rowOf (p + 1) hn r)) (wdn m c) 43 q
  rw [accN_succ (xRow m c (rowOf (p + 1) hn r)) (gRow m c (rowOf (p + 1) hn r)) (wdn m c) 42 q, h42]

/-! ## The result array -/

theorem flushed_eq (c : Dev nD) (t : Fin cfg0.N) (hf : (cfg0.win 5).flush t = true) :
    (dats m 0 c).flushed 5 t = (win0_5.blk t).view.read (Elt Ideal) (G m c) := by
  show (cfg0.win 5).cut (grid0.coords t) ((dats m 0 c).after 5 t) = _
  rw [after0_5]
  funext j
  obtain ⟨r, k, rfl⟩ : ∃ (r : Fin 1024) (k : Fin 4096), j = ix2 r k := ⟨j 0, j 1, eq_ix2 j⟩
  have h42 : t.val % 43 = 42 := (flush0_5 t).mp hf
  show (stN m c (t.val + 1)).1 (ix2 r k) = G m c ((win0_5.blk t).view.emb (ix2 r k))
  rw [st_last m c t.val (t_lt t) h42]
  refine congrArg (G m c) (funext fun a => Fin.ext ?_)
  match a with
  | ⟨0, _⟩ => show t.val / 43 * 1024 + r.val = win0_5.index t 0 * 1024 + 1 * r.val; rw [(idx_facts t).2.2.2.2.2.1]; omega
  | ⟨1, _⟩ => show k.val = win0_5.index t 1 * 4096 + 1 * k.val; rw [(idx_facts t).2.2.2.2.2.2]; omega

theorem mem_blk (t : Fin cfg0.N) (i : S8192x4096.Idx) :
    i ∈ ((cfg0.win 5).blk t).view.set ↔ (t.val / 43 * 1024 ≤ (i 0).val ∧ (i 0).val < t.val / 43 * 1024 + 1024) := by
  show i ∈ ((View.whole main_v6).slice (win0_5.rect t)).set ↔ _
  rw [View.set_slice_whole, Rect.mem_set_unit]
  have e0 : win0_5.index t 0 * win0_5.size 0 = t.val / 43 * 1024 := by rw [(idx_facts t).2.2.2.2.2.1]; rfl
  have e1 : win0_5.index t 1 * win0_5.size 1 = 0 := by rw [(idx_facts t).2.2.2.2.2.2]; exact Nat.zero_mul _
  refine ⟨fun h => ?_, fun h a => ?_⟩
  · have := h 0
    rw [← e0]; exact this
  · match a with
    | ⟨0, _⟩ => rw [← e0] at h; exact h
    | ⟨1, _⟩ =>
      have h1 : (i 1).val < 4096 := (i 1).isLt
      have hb : win0_5.index t 1 * win0_5.size 1 ≤ (i 1).val ∧ (i 1).val < win0_5.index t 1 * win0_5.size 1 + 4096 := by rw [e1]; omega
      exact hb

theorem cover (i : S8192x4096.Idx) :
    ∃ t : Fin cfg0.N, (cfg0.win 5).flush t = true ∧ i ∈ ((cfg0.win 5).blk t).view.set := by
  have h0 : (i 0).val < 8192 := (i 0).isLt
  have hN : cfg0.N = 344 := N_0
  refine ⟨⟨(i 0).val / 1024 * 43 + 42, by omega⟩, (flush0_5 _).mpr (by dsimp only; omega), ?_⟩
  rw [mem_blk]
  dsimp only
  omega

theorem final (c : Dev nD) : (dats m 0 c).arrAt 5 cfg0.N = G m c :=
  (dats m 0 c).arrAt_eq_of_cover 5 (G m c) (fun t hf => flushed_eq m c t hf) cover

end Cert.FfnIdeal.Closed

end
-- ==== Proof.FfnRefValue.lean ====
/-
  The reference feed-forward layer with the closing norm, read at an index: each row is its residual sum over its root mean
  square.
-/
module

public import proofs.«01_k».proof.Proof.Gen.FfnRefIdeal.Read
public import proofs.«01_k».proof.Proof.FfnMath

@[expose] public section

set_option maxRecDepth 16384

noncomputable section

namespace Cert.FfnRefIdeal.Closed

open Cert.FfnRefIdeal Cert.FfnRefIdeal.Gen Idealize.ShloMosaic Idealize.ShloMosaic.TcCoe Idealize.SL.Sem Cert.FfnMath

variable (x0 : S8192x4096.Idx → EReal) (x1 : S1x4096.Idx → EReal) (x2 x3 : S1x4096x11008.Idx → EReal)
  (x4 : S1x11008x4096.Idx → EReal) (x5 : S4096.Idx → EReal)

theorem v13 (r : Fin 8192) (k : Fin 4096) :
    Read.val_main_v13 (F := Ideal) x0 x1 (ix2 r k) = rms (fun k => x0 (ix2 r k)) k * x1 (ix2 0 k) := by
  unfold rms
  pointwise [Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1]

theorem v15 (r : Fin 8192) (l : Fin 11008) :
    Read.val_main_v15 (F := Ideal) x0 x1 x2 (ix2 r l) = ∑ k, Read.val_main_v13 (F := Ideal) x0 x1 (ix2 r k) * x2 (ix3 0 k l) := by
  unfold Read.val_main_v15
  generalize Read.val_main_v13 (F := Ideal) x0 x1 = h
  pointwise [Read.val_main_v14]

theorem v18 (r : Fin 8192) (l : Fin 11008) :
    Read.val_main_v18 (F := Ideal) x0 x1 x3 (ix2 r l) = ∑ k, Read.val_main_v13 (F := Ideal) x0 x1 (ix2 r k) * x3 (ix3 0 k l) := by
  unfold Read.val_main_v18
  generalize Read.val_main_v13 (F := Ideal) x0 x1 = h
  pointwise [Read.val_main_v17]

theorem v16 (r : Fin 8192) (l : Fin 11008) :
    Read.val_main_v16 (F := Ideal) x0 x1 x2 (ix2 r l) = silu (Read.val_main_v15 (F := Ideal) x0 x1 x2 (ix2 r l)) := by
  unfold Read.val_main_v16 Read.val_main_call0_v5 Read.val_main_call0_v3 Read.val_main_call0_v1 Read.val_main_call0_v0 silu
  generalize Read.val_main_v15 (F := Ideal) x0 x1 x2 = h
  pointwise [Read.val_main_call0_v2, Read.val_main_call0_v4, Read.val_main_call0_cst, Read.val_main_call0_cst_0]

theorem v19 (r : Fin 8192) (l : Fin 11008) :
    Read.val_main_v19 (F := Ideal) x0 x1 x2 x3 (ix2 r l)
      = act (fun k => rms (fun k => x0 (ix2 r k)) k * x1 (ix2 0 k)) (fun k l => x2 (ix3 0 k l)) (fun k l => x3 (ix3 0 k l)) l := by
  rw [Read.val_main_v19_apply, v16, v15, v18]
  unfold act
  simp only [v13]
  rfl

theorem v24 (r : Fin 8192) (k : Fin 4096) :
    Read.val_main_v24 (F := Ideal) x0 x1 x2 x3 x4 (ix2 r k)
      = x0 (ix2 r k) + half * ∑ l, Read.val_main_v19 (F := Ideal) x0 x1 x2 x3 (ix2 r l) * x4 (ix3 0 l k) := by
  unfold Read.val_main_v24 Read.val_main_v23 Read.val_main_v21 half
  generalize Read.val_main_v19 (F := Ideal) x0 x1 x2 x3 = h
  pointwise [Read.val_main_v22, Read.val_main_v20, Read.val_main_cst_2]

theorem v37 (r : Fin 8192) (k : Fin 4096) :
    Read.val_main_v37 (F := Ideal) x0 x1 x2 x3 x4 x5 (ix2 r k)
      = rms (fun k => Read.val_main_v24 (F := Ideal) x0 x1 x2 x3 x4 (ix2 r k)) k * x5 (ix1 k) := by
  unfold Read.val_main_v37 Read.val_main_v34 Read.val_main_v33 Read.val_main_v32 Read.val_main_v31 Read.val_main_v29
    Read.val_main_v27 Read.val_main_v26 Read.val_main_v25 rms
  generalize Read.val_main_v24 (F := Ideal) x0 x1 x2 x3 x4 = h
  pointwise [Read.val_main_v36, Read.val_main_v35, Read.val_main_v30, Read.val_main_v28, Read.val_main_cst_3, Read.val_main_cst_4, Read.val_main_cst_5]

/-- The reference's result at an index. -/
theorem val_apply (r : Fin 8192) (k : Fin 4096) :
    Read.val_main_v37 (F := Ideal) x0 x1 x2 x3 x4 x5 (ix2 r k)
      = rms (accN (fun k => x0 (ix2 r k))
          (act (fun k => rms (fun k => x0 (ix2 r k)) k * x1 (ix2 0 k)) (fun k l => x2 (ix3 0 k l)) (fun k l => x3 (ix3 0 k l)))
          (fun l k => x4 (ix3 0 l k)) 43) k * x5 (ix1 k) := by
  rw [v37]
  refine congrArg (rms · k * x5 (ix1 k)) (funext fun k => ?_)
  rw [v24, accN_all]
  simp only [v19]

end Cert.FfnRefIdeal.Closed

end
-- ==== Proof.FfnClaims.lean ====
/- The claims about the second feed-forward layer with the closing norm: the frames, the idealization, and the value. -/
module

public import proofs.«01_k».proof.Defs
public import proofs.«01_k».proof.Proof.FfnFrame
public import proofs.«01_k».proof.Proof.FfnValue
public import proofs.«01_k».proof.Proof.FfnRefValue
public import Idealize.ShloMosaic.Lib.Quiescent

@[expose] public section

set_option maxRecDepth 16384

noncomputable section

namespace Cert.Proof.FfnClaims

open Idealize.ShloMosaic Idealize.ShloMosaic.TcCoe Idealize.SL.Sem

theorem frame_p : Cert.quiescent_Ffn := fun m ρ _ => Cert.Ffn.Hand.frame m ρ
theorem frame_pi : Cert.quiescent_FfnIdeal := fun m ρ _ => Cert.FfnIdeal.Hand.frame m ρ
theorem frame_ri : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)
theorem preserves : Cert.preserves_Ffn_FfnIdeal := trivial

/-- At `Ideal` the kernel's result array and the reference's are the same function of arguments that agree. -/
theorem algebraic : Cert.algebraic_FfnIdeal_FfnRefIdeal := by
  intro m ρ m' ρ' _ hagree
  refine ⟨fun c => Cert.FfnIdeal.Closed.G m c, ?_, ?_⟩
  · refine (θ_run Cert.FfnIdeal.defs _ _).mono (fun _ h c => ⟨?_, ?_, ?_, ?_, ?_, ?_, ?_⟩) (Cert.FfnIdeal.Hand.run_main (F := Ideal) m ρ)
    · exact ((h.1 c).1 5).trans (Cert.FfnIdeal.Closed.final m c)
    · exact ((h.1 c).2 Cert.FfnIdeal.main_arg0 (Pipeline.mem_restRefs_of Cert.FfnIdeal.main_arg0 (by decide) (by decide))).trans (Cert.FfnIdeal.Gen.V_main_arg0 m c)
    · exact ((h.1 c).2 Cert.FfnIdeal.main_arg1 (Pipeline.mem_restRefs_of Cert.FfnIdeal.main_arg1 (by decide) (by decide))).trans (Cert.FfnIdeal.Gen.V_main_arg1 m c)
    · exact ((h.1 c).2 Cert.FfnIdeal.main_arg2 (Pipeline.mem_restRefs_of Cert.FfnIdeal.main_arg2 (by decide) (by decide))).trans (Cert.FfnIdeal.Gen.V_main_arg2 m c)
    · exact ((h.1 c).2 Cert.FfnIdeal.main_arg3 (Pipeline.mem_restRefs_of Cert.FfnIdeal.main_arg3 (by decide) (by decide))).trans (Cert.FfnIdeal.Gen.V_main_arg3 m c)
    · exact ((h.1 c).2 Cert.FfnIdeal.main_arg4 (Pipeline.mem_restRefs_of Cert.FfnIdeal.main_arg4 (by decide) (by decide))).trans (Cert.FfnIdeal.Gen.V_main_arg4 m c)
    · exact ((h.1 c).2 Cert.FfnIdeal.main_arg5 (Pipeline.mem_restRefs_of Cert.FfnIdeal.main_arg5 (by decide) (by decide))).trans (Cert.FfnIdeal.Gen.V_main_arg5 m c)
  · refine (θ_run Cert.FfnRefIdeal.defs _ _).mono (fun _ h c => ⟨(h c).1.trans ?_, (h c).2⟩)
      (Cert.FfnRefIdeal.Value.run (F := Ideal) m' ρ')
    rw [Cert.FfnRefIdeal.Read.val_main_v37_eq, (hagree c).1, (hagree c).2.1, (hagree c).2.2.1, (hagree c).2.2.2.1, (hagree c).2.2.2.2.1, (hagree c).2.2.2.2.2]
    funext i
    obtain ⟨r, k, rfl⟩ : ∃ (r : Fin 8192) (k : Fin 4096), i = ix2 r k := ⟨i 0, i 1, eq_ix2 i⟩
    exact Cert.FfnRefIdeal.Closed.val_apply _ _ _ _ _ _ r k

end Cert.Proof.FfnClaims

end
-- ==== Proof.ProjIdealOk.lean ====
/- The table of first rows that the projection reads: where each tile's block of the weights begins, and that every block lies inside. -/
module

public import proofs.«01_k».proof.Proof.Gen.ProjIdeal.Frame
public import Idealize.ShloMosaic.Lib.Pointwise

@[expose] public section

set_option maxRecDepth 16384

noncomputable section

namespace Cert.ProjIdeal.Hand

open Cert.ProjIdeal Cert.ProjIdeal.Gen Idealize.ShloMosaic Idealize.ShloMosaic.TcCoe Idealize.SL.Sem

variable {F : FTy → Type} [FloatOps F]
variable (m : (ℓ : Loc nD τ sig) → Buf (Elt F) ℓ)

/-- The table of first rows, by its number. -/
def starts (i : S43.Idx) : BitVec 32 := lit0 (S43.rowMajor i)

theorem starts_apply : ∀ j : Fin 43, starts (ix1 j) = lit0 j :=
  fun j => congrArg lit0 (Fin.ext ((by decide +kernel : ∀ j : Fin 43, (S43.rowMajor (ix1 j)).val = j.val) j))

/-- The table as the host's constant lists it. -/
theorem V_main_c (c : Dev nD) : V m c main_c = starts := by
  unfold V
  simp only [hostOps0, hostOps0_1, hostOps0_2, List.flatten_cons, List.flatten_nil, List.append_nil, List.cons_append, List.nil_append]
  after_results <;> rfl
theorem tbl_eq : tbl m 0 = starts := V_main_c m 0

theorem coord_word (j : Fin 43) : (Scalar.indexCast (BitVec.ofNat 32 j.val)).toNat = j.val :=
  (by decide +kernel : ∀ j : Fin 43, (Scalar.indexCast (BitVec.ofNat 32 j.val)).toNat = j.val) j

/-- The row of the weights at which a tile's block begins. -/
theorem start_eq (pf : pre0.Contents (Elt F)) (hpf : pf 0 = starts) (i : grid0.Coords) :
    k0_mult1 pf i = Scalar.muli (lit0 (i 1)) 8#32 := by
  unfold k0_mult1
  refine congrArg (Scalar.muli · 8#32) ?_
  show pf.atD 0 ![(Scalar.indexCast (BitVec.ofNat 32 (i 1).val)).toNat] = _
  unfold Pipeline.Prefetch.Contents.atD
  split
  · rw [hpf]
    refine (congrArg starts (funext fun a => Fin.ext ?_)).trans (starts_apply (i 1))
    match a with
    | ⟨0, _⟩ => exact coord_word (i 1)
  · next hn => exact absurd (fun a => by match a with | ⟨0, _⟩ => exact k0_off1_inb i 0) hn

theorem off_eq (pf : pre0.Contents (Elt F)) (hpf : pf 0 = starts) (i : grid0.Coords) :
    cc0_transform_3 k0_off1_inb numel1_S1 pf i = ![(Scalar.muli (lit0 (i 1)) 8#32).toNat, 0] := by
  unfold cc0_transform_3
  refine congrArg (fun w => ![(Scalar.muli w 8#32).toNat, 0]) ?_
  show pf 0 _ = _
  rw [hpf]
  refine (congrArg starts (funext fun a => Fin.ext ?_)).trans (starts_apply (i 1))
  match a with
  | ⟨0, _⟩ => exact coord_word (i 1)

theorem dvd_lit : ∀ j : Fin 43, (8 : Int) ∣ (Scalar.muli (lit0 j) 8#32).toInt := by decide +kernel
theorem le_lit : ∀ j : Fin 43, (Scalar.muli (lit0 j) 8#32).toNat + 512 ≤ 21552 := by decide +kernel

/-- Every block of the weights lies inside them, at a multiple of eight rows. -/
theorem ok : Ok m := by
  refine ⟨fun i => ?_, fun i => ⟨fun a => ?_, .inl rfl⟩⟩
  · rw [start_eq _ (tbl_eq m)]; exact dvd_lit (i 1)
  · rw [off_eq _ (tbl_eq m)]
    match a with
    | ⟨0, _⟩ => exact le_lit (i 1)
    | ⟨1, _⟩ => exact le_rfl

end Cert.ProjIdeal.Hand

end
-- ==== Proof.ProjVals.lean ====
/-
  What the projection kernel's body leaves at a grid point of `ProjIdeal`: the normalised rows in the scratch, and one tile of
  products in the output block.
-/
module

public import proofs.«01_k».proof.Proof.ProjIdealOk
public import proofs.«01_k».proof.Proof.FfnMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjIdeal.Closed

open Cert.ProjIdeal Cert.ProjIdeal.Gen Cert.ProjIdeal.Hand Idealize.ShloMosaic Idealize.ShloMosaic.TcCoe Idealize.SL.Sem Cert.FfnMath
open Idealize.ShloMosaic.Pipeline (Dat)

variable (m : (ℓ : Loc nD τ sig) → Buf (Elt Ideal) ℓ) (ρ : Dev nD → PrngReg)

/-- A block's rows over their root mean squares, times the row of weights. -/
def hOf (X : Vec Ideal S1024x4096 .f32) (g : Vec Ideal S1x4096 .f32) : Vec Ideal S1024x4096 .bf16 := fun y =>
  rms (fun k => X (ix2 (y 0) k)) (y 1) * g (ix2 0 (y 1))

theorem pay1_apply (X : Vec Ideal S128x4096 .f32) (g : Vec Ideal S1x4096 .f32) (r : Fin 128) (k : Fin 4096) :
    k0_pay1 (F := Ideal) X g (ix2 r k) = rms (fun k => X (ix2 r k)) k * g (ix2 0 k) := by
  unfold rms
  pointwise [k0_pay1]
theorem pay2_apply (X : Vec Ideal S128x4096 .f32) (g : Vec Ideal S1x4096 .f32) (r : Fin 128) (k : Fin 4096) :
    k0_pay2 (F := Ideal) X g (ix2 r k) = rms (fun k => X (ix2 r k)) k * g (ix2 0 k) := by
  unfold rms
  pointwise [k0_pay2]
theorem pay5_apply (X : Vec Ideal S128x4096 .f32) (g : Vec Ideal S1x4096 .f32) (r : Fin 128) (k : Fin 4096) :
    k0_pay5 (F := Ideal) X g (ix2 r k) = rms (fun k => X (ix2 r k)) k * g (ix2 0 k) := by
  unfold rms
  pointwise [k0_pay5]
theorem pay6_apply (X : Vec Ideal S128x4096 .f32) (g : Vec Ideal S1x4096 .f32) (r : Fin 128) (k : Fin 4096) :
    k0_pay6 (F := Ideal) X g (ix2 r k) = rms (fun k => X (ix2 r k)) k * g (ix2 0 k) := by
  unfold rms
  pointwise [k0_pay6]
theorem pay7_apply (X : Vec Ideal S128x4096 .f32) (g : Vec Ideal S1x4096 .f32) (r : Fin 128) (k : Fin 4096) :
    k0_pay7 (F := Ideal) X g (ix2 r k) = rms (fun k => X (ix2 r k)) k * g (ix2 0 k) := by
  unfold rms
  pointwise [k0_pay7]
theorem pay8_apply (X : Vec Ideal S128x4096 .f32) (g : Vec Ideal S1x4096 .f32) (r : Fin 128) (k : Fin 4096) :
    k0_pay8 (F := Ideal) X g (ix2 r k) = rms (fun k => X (ix2 r k)) k * g (ix2 0 k) := by
  unfold rms
  pointwise [k0_pay8]
theorem pay9_apply (X : Vec Ideal S128x4096 .f32) (g : Vec Ideal S1x4096 .f32) (r : Fin 128) (k : Fin 4096) :
    k0_pay9 (F := Ideal) X g (ix2 r k) = rms (fun k => X (ix2 r k)) k * g (ix2 0 k) := by
  unfold rms
  pointwise [k0_pay9]
theorem pay10_apply (X : Vec Ideal S128x4096 .f32) (g : Vec Ideal S1x4096 .f32) (r : Fin 128) (k : Fin 4096) :
    k0_pay10 (F := Ideal) X g (ix2 r k) = rms (fun k => X (ix2 r k)) k * g (ix2 0 k) := by
  unfold rms
  pointwise [k0_pay10]
theorem pay3_apply (h : Vec Ideal S1024x4096 .bf16) (w : Vec Ideal S512x4096 .f32) (r : Fin 1024) (q : Fin 512) :
    k0_pay3 (F := Ideal) h w (ix2 r q) = ∑ k, h (ix2 r k) * w (ix2 q k) := by
  pointwise [k0_pay3]
theorem pay4_apply (h : Vec Ideal S1024x4096 .bf16) (w : Vec Ideal S512x4096 .bf16) (r : Fin 1024) (q : Fin 512) :
    k0_pay4 (F := Ideal) h w (ix2 r q) = ∑ k, h (ix2 r k) * w (ix2 q k) := by
  pointwise [k0_pay4]

/-- One piece of eight of the normalised rows. -/
theorem piece (f : Vec Ideal S128x4096 .f32 → Vec Ideal S1x4096 .f32 → FVec Ideal S128x4096 .bf16)
    (hf : ∀ X g r k, f X g (ix2 r k) = rms (fun k => X (ix2 r k)) k * g (ix2 0 k))
    (X : Vec Ideal S1024x4096 .f32) (g : Vec Ideal S1x4096 .f32) (o : Nat)
    (inb : ∀ a, (![o, 0] : Fin 2 → Nat) a + (![128, 4096] : Fin 2 → Nat) a ≤ S1024x4096.size a)
    (x : S128x4096.Idx) (y : S1024x4096.Idx) (h0 : (y 0).val = o + (x 0).val) (h1 : (y 1).val = (x 1).val) :
    f (View.ld (Val := Elt Ideal) (e' := .f32) X (Rect.unit ![o, 0] ![128, 4096] inb)) g x = hOf X g y := by
  obtain ⟨r, k, rfl⟩ : ∃ (r : Fin 128) (k : Fin 4096), x = ix2 r k := ⟨x 0, x 1, eq_ix2 x⟩
  obtain ⟨R, K, rfl⟩ : ∃ (R : Fin 1024) (K : Fin 4096), y = ix2 R K := ⟨y 0, y 1, eq_ix2 y⟩
  have eK : K = k := Fin.ext h1
  subst eK
  rw [hf]
  show _ = rms (fun k => X (ix2 R k)) K * g (ix2 0 K)
  refine congrArg (rms · K * g (ix2 0 K)) (funext fun q => ?_)
  refine View.ld_unit_apply_of (Val := Elt Ideal) (e := .f32) _ _ _ _ _ _ fun a => ?_
  match a with
  | ⟨0, _⟩ => exact h0
  | ⟨1, _⟩ => exact (Nat.zero_add _).symm

variable (c : Dev nD) (t : Fin (cfgM m (ok m)).N)

/-- The blocks the point reads. -/
abbrev X0 : Vec Ideal S1x4096 .f32 := iblk m (ok m) c 0 t
abbrev X1 : Vec Ideal S1024x4096 .f32 := iblk m (ok m) c 1 t
abbrev X2 : Vec Ideal S512x4096 .bf16 := iblk m (ok m) c 2 t
abbrev X3 : Vec Ideal S512x4096 .f32 := iblk m (ok m) c 3 t

/-- The output block and the scratch after `n` points. -/
abbrev prev : Vec Ideal S1024x512 .f32 × Vec Ideal S1024x4096 .bf16 :=
  outsAt0 m (ok m) c (t.val - 1) (Nat.lt_of_le_of_lt (Nat.sub_le _ _) t.isLt)

theorem rd0 : View.read (Elt Ideal) (ms0_0 m (ok m) t).view ((hs0_0 m (ok m) t).unread (X0 m c t)) = X0 m c t :=
  Memref.IsWhole.read_unread _ _
theorem rd1 : View.read (Elt Ideal) (ms0_1 m (ok m) t).view ((hs0_1 m (ok m) t).unread (X1 m c t)) = X1 m c t :=
  Memref.IsWhole.read_unread _ _
theorem rd2 : View.read (Elt Ideal) (ms0_2 m (ok m) t).view ((hs0_2 m (ok m) t).unread (X2 m c t)) = X2 m c t :=
  Memref.IsWhole.read_unread _ _
theorem rd3 : View.read (Elt Ideal) (ms0_3 m (ok m) t).view ((hs0_3 m (ok m) t).unread (X3 m c t)) = X3 m c t :=
  Memref.IsWhole.read_unread _ _

theorem sc_B (h0 : ¬t.val % 43 = 0) (h1 : t.val % 43 ≤ 41) (h2 : ¬t.val % 43 = 42) :
    (outsAt0 m (ok m) c t.val t.isLt).2 = (prev m c t).2 := by
  rw [outsAt0_B m (ok m) c t h0 h1 h2]
  rfl
theorem sc_C (h0 : ¬t.val % 43 = 0) (h1 : ¬t.val % 43 ≤ 41) (h2 : t.val % 43 = 42) :
    (outsAt0 m (ok m) c t.val t.isLt).2 = (prev m c t).2 := by
  rw [outsAt0_C m (ok m) c t h0 h1 h2]
  rfl

theorem sc_A (h0 : t.val % 43 = 0) (h1 : t.val % 43 ≤ 41) (h2 : ¬t.val % 43 = 42) :
    (outsAt0 m (ok m) c t.val t.isLt).2 = hOf (X1 m c t) (X0 m c t) := by
  rw [outsAt0_A m (ok m) c t h0 h1 h2]
  funext y
  frame_open
  simp (disch := decide) only [↓ View.readCov_skip, ↓ View.readCov_cons_toLoadRect, ↓ View.readCov_fill]
  frame_out
  rw [rd0 m c t, rd1 m c t]
  canon_tiles x h
  case piece0 => exact piece _ pay2_apply _ _ 896 _ x y h0 h1
  case piece1 => exact piece _ pay1_apply _ _ 768 _ x y h0 h1
  case piece2 => exact piece _ pay10_apply _ _ 640 _ x y h0 h1
  case piece3 => exact piece _ pay9_apply _ _ 512 _ x y h0 h1
  case piece4 => exact piece _ pay8_apply _ _ 384 _ x y h0 h1
  case piece5 => exact piece _ pay7_apply _ _ 256 _ x y h0 h1
  case piece6 => exact piece _ pay6_apply _ _ 128 _ x y h0 h1
  case piece7 => exact piece _ pay5_apply _ _ 0 _ x y (h0.trans (Nat.zero_add _).symm) h1

theorem out_B (h0 : ¬t.val % 43 = 0) (h1 : t.val % 43 ≤ 41) (h2 : ¬t.val % 43 = 42) :
    (outsAt0 m (ok m) c t.val t.isLt).1 = k0_pay3 (prev m c t).2 (X3 m c t) := by
  rw [outsAt0_B m (ok m) c t h0 h1 h2]
  dsimp only
  frame_out
  simp only [read_unread_whole]
  rw [rd3 m c t]
theorem out_C (h0 : ¬t.val % 43 = 0) (h1 : ¬t.val % 43 ≤ 41) (h2 : t.val % 43 = 42) :
    (outsAt0 m (ok m) c t.val t.isLt).1 = k0_pay4 (prev m c t).2 (X2 m c t) := by
  rw [outsAt0_C m (ok m) c t h0 h1 h2]
  dsimp only
  frame_out
  simp only [read_unread_whole]
  rw [rd2 m c t]

theorem out_A (h0 : t.val % 43 = 0) (h1 : t.val % 43 ≤ 41) (h2 : ¬t.val % 43 = 42) :
    (outsAt0 m (ok m) c t.val t.isLt).1 = k0_pay3 (hOf (X1 m c t) (X0 m c t)) (X3 m c t) := by
  rw [← sc_A m c t h0 h1 h2, outsAt0_A m (ok m) c t h0 h1 h2]
  dsimp only
  frame_out
  rw [rd3 m c t]
  refine congrArg (k0_pay3 · (X3 m c t)) ?_
  rw [View.readCov_eq_canon']
  exact View.ld_unit_zero (funext fun a => by match a with | ⟨0, _⟩ => rfl | ⟨1, _⟩ => rfl) _ _

end Cert.ProjIdeal.Closed

end
-- ==== Proof.ProjMath.lean ====
/-
  The columns of the projection: where each column of the result stands among the columns of the weights.
-/
module

public import proofs.«01_k».proof.Proof.FfnMath

@[expose] public section

noncomputable section

namespace Cert.ProjMath

open Idealize.ShloMosaic

/-- The column of the weights that a column of the result before 21504 is a product with: the queries, the retention columns,
    the keys and values, the gates. -/
def zcol (C : ℕ) : ℕ := if C < 2048 then C else if C < 10240 then C + 3120 else if C < 13312 then C - 8192 else C + 48

theorem zcol_lt {C : ℕ} (h : C < 21504) : zcol C < 21552 := by unfold zcol; split_ifs <;> omega

/-- A tile of 512 columns keeps its order. -/
theorem zcol_tile (j q : ℕ) (hq : q < 512) : zcol (512 * j) + q = zcol (512 * j + q) := by
  unfold zcol; split_ifs <;> omega

/-- The column of the weights behind column `p` of the four groups of twelve gates, each group padded to 128. -/
def gcol (p : ℕ) : ℕ := 5120 + p % 128 / 4 * 16 + p / 128 * 4 + p % 128 % 4

theorem gcol_lt {p : ℕ} (h : p < 512) (h' : p % 128 < 12) : gcol p < 21552 := by unfold gcol; omega

/-- The padded group columns. -/
def wg (w : Fin 4096 → Fin 21552 → EReal) (p : Fin 512) (k : Fin 4096) : EReal :=
  if h : p.val % 128 < 12 then w k ⟨gcol p.val, gcol_lt p.isLt h⟩ else 0

/-- The weights' columns in the order of the result's. -/
def wz (w : Fin 4096 → Fin 21552 → EReal) (C : Fin 22016) (k : Fin 4096) : EReal :=
  if h : C.val < 21504 then w k ⟨zcol C.val, zcol_lt h⟩ else wg w ⟨C.val - 21504, by have := C.isLt; omega⟩ k

end Cert.ProjMath

end
-- ==== Proof.ProjTables.lean ====
/- The arrays the host prepares for the projection, read at an index: the norm's weights, the weights' rows, the padded gates. -/
module

public import proofs.«01_k».proof.Proof.ProjVals
public import proofs.«01_k».proof.Proof.ProjMath
public import Idealize.ShloMosaic.Lib.KernelVsHost

@[expose] public section

set_option maxRecDepth 16384

noncomputable section

namespace Cert.ProjIdeal.Closed

open Cert.ProjIdeal Cert.ProjIdeal.Gen Cert.ProjIdeal.Hand Idealize.ShloMosaic Idealize.ShloMosaic.TcCoe Idealize.SL.Sem Cert.FfnMath Cert.ProjMath

variable (m : (ℓ : Loc nD τ sig) → Buf (Elt Ideal) ℓ) (c : Dev nD)

abbrev argX : S8192x4096.Idx → EReal := m ((c : Thread nD τ).loc main_arg0)
abbrev argN : S1x4096.Idx → EReal := m ((c : Thread nD τ).loc main_arg1)
abbrev argW : S1x4096x21552.Idx → EReal := m ((c : Thread nD τ).loc main_arg2)

theorem V_gamma (k : Fin 4096) : (V m c main_v11 : S1x4096.Idx → EReal) (ix2 0 k) = argN m c (ix2 0 k) := by
  have h : V m c main_v11 = shapeCast _ (shapeCast _ (argN m c) shapeCasts_S1x4096_S4096) shapeCasts_S4096_S1x4096 := by
    unfold V
    simp only [hostOps0, hostOps0_1, hostOps0_2, List.flatten_cons, List.flatten_nil, List.append_nil, List.cons_append, List.nil_append]
    after_results <;> rfl
  rw [h]
  generalize argN m c = g
  pointwise

theorem V_w (a : Fin 21552) (k : Fin 4096) : (V m c main_v7 : S21552x4096.Idx → EReal) (ix2 a k) = argW m c (ix3 0 k a) := by
  have h : V m c main_v7 = transpose S21552x4096 [1, 0] (shapeCast S4096x21552 (argW m c) shapeCasts_S1x4096x21552_S4096x21552) transposes_S4096x21552_S21552x4096_1_0 := by
    unfold V
    simp only [hostOps0, hostOps0_1, hostOps0_2, List.flatten_cons, List.flatten_nil, List.append_nil, List.cons_append, List.nil_append]
    after_results <;> rfl
  rw [h]
  generalize argW m c = g
  pointwise

theorem V_gates (p : Fin 512) (k : Fin 4096) :
    (V m c main_v9 : S512x4096.Idx → EReal) (ix2 p k) = wg (fun k a => argW m c (ix3 0 k a)) p k := by
  have h : V m c main_v9 = truncf (F := Ideal) .bf16 (transpose S512x4096 [1, 0] (shapeCast S4096x512
      (pad S4096x4x128 ![0, 0, 0] ![0, 0, 116] ![0, 0, 0]
        (shapeCast S4096x4x12 (transpose S4096x4x3x4 [0, 2, 1, 3] (shapeCast S4096x3x4x4
          (extractStridedSlice S4096x48 ![0, 5120] (shapeCast S4096x21552 (argW m c) shapeCasts_S1x4096x21552_S4096x21552) slices_S4096x21552_S4096x48_0_5120)
          shapeCasts_S4096x48_S4096x3x4x4) transposes_S4096x3x4x4_S4096x4x3x4_0_2_1_3) shapeCasts_S4096x4x3x4_S4096x4x12)
        (sitofp (F := Ideal) .f32 (constantI S_ 32 0#32) : S_.Idx → EReal) pads_S4096x4x12_S4096x4x128_000_000_01160 h_S_)
      shapeCasts_S4096x4x128_S4096x512) transposes_S4096x512_S512x4096_1_0 : FVec Ideal S512x4096 .f32) bitsLt_bf16_f32 := by
    unfold V
    simp only [hostOps0, hostOps0_1, hostOps0_2, List.flatten_cons, List.flatten_nil, List.append_nil, List.cons_append, List.nil_append]
    after_results <;> rfl
  rw [h]
  generalize argW m c = g
  unfold wg
  pointwise
  have hd : p.val / 128 < 4 := by omega
  split
  · next h1 =>
    split
    · refine congrArg g (congrArg (ix3 0 k) (Fin.ext ?_))
      show _ = gcol p.val
      unfold gcol
      dsimp only
      omega
    · next h2 => exact absurd h1.2 h2
  · next h1 =>
    split
    · next h2 => exact absurd ⟨hd, h2⟩ h1
    · exact sitofp_zero (φ := .f32)

end Cert.ProjIdeal.Closed

end
-- ==== Proof.ProjValue.lean ====
/-
  What the projection kernel computes: each row over its root mean square, times the weights' columns in their new order. The
  scratch is followed through the 43 tiles of a row block, and the tiles of products are put together into the result.
-/
module

public import proofs.«01_k».proof.Proof.ProjTables

@[expose] public section

set_option maxRecDepth 16384

noncomputable section

namespace Cert.ProjIdeal.Closed

open Cert.ProjIdeal Cert.ProjIdeal.Gen Cert.ProjIdeal.Hand Idealize.ShloMosaic Idealize.ShloMosaic.TcCoe Idealize.SL.Sem Cert.FfnMath Cert.ProjMath
open Idealize.ShloMosaic.Pipeline (Dat)

variable (m : (ℓ : Loc nD τ sig) → Buf (Elt Ideal) ℓ) (ρ : Dev nD → PrngReg) (c : Dev nD)

/-- A row of the input, its normalised row, the weights, and the array the result ends holding. -/
def hRow (R : Fin 8192) (k : Fin 4096) : EReal := rms (fun k => argX m c (ix2 R k)) k * argN m c (ix2 0 k)
def wts (k : Fin 4096) (a : Fin 21552) : EReal := argW m c (ix3 0 k a)
def G : S8192x22016.Idx → EReal := fun i => ∑ k, hRow m c (i 0) k * wz (wts m c) (i 1) k

/-! ## The windows' blocks -/

theorem t_lt (t : Fin (cfgM m (ok m)).N) : t.val < 344 := lt_of_lt_of_eq t.isLt (show (cfgM m (ok m)).N = 344 from N_0)

theorem coords_1 (t : Fin grid0.N) : (grid0.coords t 1).val = t.val % 43 :=
  (by decide +kernel : ∀ t : Fin grid0.N, (grid0.coords t 1).val = t.val % 43) t

theorem tr_facts (t : Fin grid0.N) :
    (cc0_transform_0 (grid0.coords t) 0 = 0 ∧ cc0_transform_0 (grid0.coords t) 1 = 0)
    ∧ (cc0_transform_1 (grid0.coords t) 0 = t.val / 43 ∧ cc0_transform_1 (grid0.coords t) 1 = 0)
    ∧ (cc0_transform_2 (grid0.coords t) 0 = 0 ∧ cc0_transform_2 (grid0.coords t) 1 = 0)
    ∧ (cc0_transform_4 (grid0.coords t) 0 = t.val / 43 ∧ cc0_transform_4 (grid0.coords t) 1 = t.val % 43) :=
  (by decide +kernel : ∀ t : Fin grid0.N, (cc0_transform_0 (grid0.coords t) 0 = 0 ∧ cc0_transform_0 (grid0.coords t) 1 = 0)
    ∧ (cc0_transform_1 (grid0.coords t) 0 = t.val / 43 ∧ cc0_transform_1 (grid0.coords t) 1 = 0)
    ∧ (cc0_transform_2 (grid0.coords t) 0 = 0 ∧ cc0_transform_2 (grid0.coords t) 1 = 0)
    ∧ (cc0_transform_4 (grid0.coords t) 0 = t.val / 43 ∧ cc0_transform_4 (grid0.coords t) 1 = t.val % 43)) t

theorem lit_tile : ∀ j : Fin 43, j.val < 42 → (Scalar.muli (lit0 j) 8#32).toNat = zcol (512 * j.val) := by decide +kernel

/-- The first row of a tile's block of weights is the tile's first column. -/
theorem start_row (t : Fin grid0.N) (ht : t.val % 43 < 42) :
    (Scalar.muli (lit0 (grid0.coords t 1)) 8#32).toNat = zcol (512 * (t.val % 43)) := by
  have e : (grid0.coords t 1 : Fin 43) = ⟨t.val % 43, Nat.mod_lt _ (by decide)⟩ := Fin.ext (coords_1 t)
  exact (congrArg (fun j : Fin 43 => (Scalar.muli (lit0 j) 8#32).toNat) e).trans (lit_tile ⟨t.val % 43, Nat.mod_lt _ (by decide)⟩ ht)

variable (t : Fin (cfgM m (ok m)).N)

theorem X0_apply (k : Fin 4096) : X0 m c t (ix2 0 k) = argN m c (ix2 0 k) := by
  rw [← V_gamma m c k]
  refine congrArg (V m c main_v11 : S1x4096.Idx → EReal) (funext fun a => Fin.ext ?_)
  match a with
  | ⟨0, _⟩ => show cc0_transform_0 (grid0.coords t) 0 * 1 + 1 * 0 = 0; rw [(tr_facts t).1.1]
  | ⟨1, _⟩ => show cc0_transform_0 (grid0.coords t) 1 * 4096 + 1 * k.val = k.val; rw [(tr_facts t).1.2]; omega

theorem X1_apply (r : Fin 1024) (k : Fin 4096) :
    X1 m c t (ix2 r k) = argX m c (ix2 ⟨t.val / 43 * 1024 + r.val, by have := t_lt m t; omega⟩ k) := by
  show (V m c main_arg0 : S8192x4096.Idx → EReal) _ = _
  rw [V_main_arg0]
  refine congrArg (argX m c) (funext fun a => Fin.ext ?_)
  match a with
  | ⟨0, _⟩ => show cc0_transform_1 (grid0.coords t) 0 * 1024 + 1 * r.val = t.val / 43 * 1024 + r.val; rw [(tr_facts t).2.1.1]; omega
  | ⟨1, _⟩ => show cc0_transform_1 (grid0.coords t) 1 * 4096 + 1 * k.val = k.val; rw [(tr_facts t).2.1.2]; omega

theorem X2_apply (q : Fin 512) (k : Fin 4096) : X2 m c t (ix2 q k) = wg (wts m c) q k := by
  refine Eq.trans ?_ (V_gates m c q k)
  refine congrArg (V m c main_v9 : S512x4096.Idx → EReal) (funext fun a => Fin.ext ?_)
  match a with
  | ⟨0, _⟩ => show cc0_transform_2 (grid0.coords t) 0 * 512 + 1 * q.val = q.val; rw [(tr_facts t).2.2.1.1]; omega
  | ⟨1, _⟩ => show cc0_transform_2 (grid0.coords t) 1 * 4096 + 1 * k.val = k.val; rw [(tr_facts t).2.2.1.2]; omega

theorem X3_apply (ht : t.val % 43 < 42) (q : Fin 512) (k : Fin 4096) :
    X3 m c t (ix2 q k) = wts m c k ⟨zcol (512 * (t.val % 43) + q.val), zcol_lt (by omega)⟩ := by
  refine Eq.trans ?_ (V_w m c _ k)
  refine congrArg (V m c main_v7 : S21552x4096.Idx → EReal) (funext fun a => Fin.ext ?_)
  have e := off_eq (tbl m) (tbl_eq m) (grid0.coords t)
  match a with
  | ⟨0, _⟩ =>
    show cc0_transform_3 k0_off1_inb numel1_S1 (tbl m) (grid0.coords t) 0 + 1 * q.val = zcol (512 * (t.val % 43) + q.val)
    rw [e]
    refine (congrArg (· + 1 * q.val) (start_row t ht)).trans ?_
    rw [Nat.one_mul, zcol_tile _ _ q.isLt]
  | ⟨1, _⟩ =>
    show cc0_transform_3 k0_off1_inb numel1_S1 (tbl m) (grid0.coords t) 1 + 1 * k.val = k.val
    rw [e]
    show 0 + 1 * k.val = k.val
    omega

/-! ## The scratch and the output through a row block -/

/-- The row block a position lies in, and its rows. -/
abbrev rowOf (n : ℕ) (hn : n < 344) (r : Fin 1024) : Fin 8192 := ⟨n / 43 * 1024 + r.val, by omega⟩

/-- After every point the scratch holds the normalised rows of the point's row block. -/
theorem sc_inv : ∀ (n : ℕ) (hn : n < (cfgM m (ok m)).N) (r : Fin 1024) (k : Fin 4096),
    (outsAt0 m (ok m) c n hn).2 (ix2 r k) = hRow m c (rowOf n (t_lt m ⟨n, hn⟩) r) k := by
  have hA : ∀ (t : Fin (cfgM m (ok m)).N) (h0 : t.val % 43 = 0) (r : Fin 1024) (k : Fin 4096),
      (outsAt0 m (ok m) c t.val t.isLt).2 (ix2 r k) = hRow m c (rowOf t.val (t_lt m t) r) k := fun t h0 r k => by
    rw [sc_A m c t h0 (by omega) (by omega)]
    show rms (fun k => X1 m c t (ix2 r k)) k * X0 m c t (ix2 0 k) = _
    rw [X0_apply]
    exact congrArg (rms · k * argN m c (ix2 0 k)) (funext fun q => X1_apply m c t r q)
  intro n
  induction n with
  | zero => intro hn r k; exact hA ⟨0, hn⟩ rfl r k
  | succ n ih =>
    intro hn r k
    by_cases h0 : (n + 1) % 43 = 0
    · exact hA ⟨n + 1, hn⟩ h0 r k
    · have hp := ih (by omega) r k
      have e : rowOf n (t_lt m ⟨n, by omega⟩) r = rowOf (n + 1) (t_lt m ⟨n + 1, hn⟩) r :=
        Fin.ext (by show n / 43 * 1024 + r.val = (n + 1) / 43 * 1024 + r.val; rw [show n / 43 = (n + 1) / 43 by omega])
      rw [e] at hp
      by_cases h1 : (n + 1) % 43 ≤ 41
      · rw [sc_B m c ⟨n + 1, hn⟩ h0 h1 (by dsimp only; omega)]
        exact hp
      · rw [sc_C m c ⟨n + 1, hn⟩ h0 h1 (by dsimp only; omega)]
        exact hp

/-- The column a tile's column stands at. -/
abbrev colOf (n : ℕ) (q : Fin 512) : Fin 22016 := ⟨n % 43 * 512 + q.val, by omega⟩

theorem out_apply (r : Fin 1024) (q : Fin 512) :
    (outsAt0 m (ok m) c t.val t.isLt).1 (ix2 r q) = G m c (ix2 (rowOf t.val (t_lt m t) r) (colOf t.val q)) := by
  show _ = ∑ k, hRow m c (rowOf t.val (t_lt m t) r) k * wz (wts m c) (colOf t.val q) k
  have hw3 : t.val % 43 ≤ 41 → ∀ k, X3 m c t (ix2 q k) = wz (wts m c) (colOf t.val q) k := fun h k => by
    rw [X3_apply m c t (by omega)]
    unfold wz
    rw [dif_pos (show t.val % 43 * 512 + q.val < 21504 by omega)]
    exact congrArg (wts m c k) (Fin.ext (congrArg zcol (by dsimp only; omega)))
  have hs := sc_inv m c t.val t.isLt r
  by_cases h0 : t.val % 43 = 0
  · rw [out_A m c t h0 (by omega) (by omega), pay3_apply, ← sc_A m c t h0 (by omega) (by omega)]
    exact Finset.sum_congr rfl fun k _ => by rw [hs k, hw3 (by omega) k]
  · by_cases h1 : t.val % 43 ≤ 41
    · rw [out_B m c t h0 h1 (by omega), pay3_apply, ← sc_B m c t h0 h1 (by omega)]
      exact Finset.sum_congr rfl fun k _ => by rw [hs k, hw3 h1 k]
    · have h2 : t.val % 43 = 42 := by omega
      rw [out_C m c t h0 h1 h2, pay4_apply, ← sc_C m c t h0 h1 h2]
      refine Finset.sum_congr rfl fun k _ => ?_
      rw [hs k, X2_apply]
      unfold wz
      rw [dif_neg (show ¬t.val % 43 * 512 + q.val < 21504 by omega)]
      exact congrArg (fun p => hRow m c _ k * wg (wts m c) p k) (Fin.ext (by dsimp only; omega))

/-! ## The result array -/

theorem flushed_eq (hf : ((cfgM m (ok m)).win 4).flush t = true) :
    (dats m (ok m) 0 c).flushed 4 t = (((cfgM m (ok m)).win 4).blk t).view.read (Elt Ideal) (G m c) := by
  show ((cfgM m (ok m)).win 4).cut (grid0.coords t) ((dats m (ok m) 0 c).after 4 t) = _
  rw [after0_4]
  refine funext fun (j : S1024x512.Idx) => ?_
  obtain ⟨r, q, rfl⟩ : ∃ (r : Fin 1024) (q : Fin 512), j = ix2 r q := ⟨j 0, j 1, eq_ix2 j⟩
  refine (out_apply m c t r q).trans (congrArg (G m c) (funext fun a => Fin.ext ?_))
  match a with
  | ⟨0, _⟩ => show t.val / 43 * 1024 + r.val = cc0_transform_4 (grid0.coords t) 0 * 1024 + 1 * r.val; rw [(tr_facts t).2.2.2.1]; omega
  | ⟨1, _⟩ => show t.val % 43 * 512 + q.val = cc0_transform_4 (grid0.coords t) 1 * 512 + 1 * q.val; rw [(tr_facts t).2.2.2.2]; omega

theorem cover (i : S8192x22016.Idx) :
    ∃ t : Fin (cfgM m (ok m)).N, ((cfgM m (ok m)).win 4).flush t = true ∧ i ∈ (((cfgM m (ok m)).win 4).blk t).view.set := by
  have h0 : (i 0).val < 8192 := (i 0).isLt
  have h1 : (i 1).val < 22016 := (i 1).isLt
  have hN : (cfgM m (ok m)).N = 344 := N_0
  let t : Fin (cfgM m (ok m)).N := ⟨(i 0).val / 1024 * 43 + (i 1).val / 512, by omega⟩
  refine ⟨t, flush0_4 _ t, ?_⟩
  refine (ValueKit.mem_set_slice_whole_iff main_v12 (((cfgM m (ok m)).win 4).rect t) i (((cfgM m (ok m)).win 4).mem_rect_iff t i)).mpr fun a => ?_
  have e0 : cc0_transform_4 (grid0.coords t) 0 = ((i 0).val / 1024 * 43 + (i 1).val / 512) / 43 := (tr_facts t).2.2.2.1
  have e1 : cc0_transform_4 (grid0.coords t) 1 = ((i 0).val / 1024 * 43 + (i 1).val / 512) % 43 := (tr_facts t).2.2.2.2
  match a with
  | ⟨0, _⟩ =>
    show cc0_transform_4 (grid0.coords t) 0 * 1024 ≤ (i 0).val ∧ (i 0).val < cc0_transform_4 (grid0.coords t) 0 * 1024 + 1024
    rw [e0]; omega
  | ⟨1, _⟩ =>
    show cc0_transform_4 (grid0.coords t) 1 * 512 ≤ (i 1).val ∧ (i 1).val < cc0_transform_4 (grid0.coords t) 1 * 512 + 512
    rw [e1]; omega

theorem final : (dats m (ok m) 0 c).arrAt 4 (cfgM m (ok m)).N = G m c :=
  (dats m (ok m) 0 c).arrAt_eq_of_cover 4 (G m c) (fun t hf => flushed_eq m c t hf) (cover m)

end Cert.ProjIdeal.Closed

end
-- ==== Proof.ProjRefValue.lean ====
/-
  The reference projection read at an index: each row over its root mean square, times the weights' columns in their new order.
-/
module

public import proofs.«01_k».proof.Proof.Gen.ProjRefIdeal.Read
public import proofs.«01_k».proof.Proof.ProjMath

@[expose] public section

set_option maxRecDepth 16384

noncomputable section

namespace Cert.ProjRefIdeal.Closed

open Cert.ProjRefIdeal Cert.ProjRefIdeal.Gen Idealize.ShloMosaic Idealize.ShloMosaic.TcCoe Idealize.SL.Sem Cert.FfnMath Cert.ProjMath

variable (x0 : S8192x4096.Idx → EReal) (x1 : S1x4096.Idx → EReal) (x2 : S1x4096x21552.Idx → EReal)

theorem v13 (r : Fin 8192) (k : Fin 4096) :
    Read.val_main_v13 (F := Ideal) x0 x1 (ix2 r k) = rms (fun k => x0 (ix2 r k)) k * x1 (ix2 0 k) := by
  unfold rms
  pointwise [Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1]

theorem v15 (r : Fin 8192) (l : Fin 21552) :
    Read.val_main_v15 (F := Ideal) x0 x1 x2 (ix2 r l) = ∑ k, Read.val_main_v13 (F := Ideal) x0 x1 (ix2 r k) * x2 (ix3 0 k l) := by
  unfold Read.val_main_v15
  generalize Read.val_main_v13 (F := Ideal) x0 x1 = h
  pointwise [Read.val_main_v14]

/-- The padded groups of gates. -/
theorem v26 (r : Fin 8192) (p : Fin 512) :
    Read.val_main_v26 (F := Ideal) x0 x1 x2 (ix2 r p)
      = if h : p.val % 128 < 12 then Read.val_main_v15 (F := Ideal) x0 x1 x2 (ix2 r ⟨gcol p.val, gcol_lt p.isLt h⟩) else 0 := by
  unfold Read.val_main_v26 Read.val_main_v25 Read.val_main_v23 Read.val_main_v22 Read.val_main_v21 Read.val_main_v18
  generalize Read.val_main_v15 (F := Ideal) x0 x1 x2 = z
  pointwise [Read.val_main_v24, Read.val_main_cst_2]
  split
  · refine congrArg z (congrArg (ix2 r) (Fin.ext ?_))
    show _ = gcol p.val
    unfold gcol
    dsimp only
    omega
  · rfl

theorem v27 (r : Fin 8192) (C : Fin 22016) :
    Read.val_main_v27 (F := Ideal) x0 x1 x2 (ix2 r C)
      = if h : C.val < 21504 then Read.val_main_v15 (F := Ideal) x0 x1 x2 (ix2 r ⟨zcol C.val, zcol_lt h⟩)
        else Read.val_main_v26 (F := Ideal) x0 x1 x2 (ix2 r ⟨C.val - 21504, by have := C.isLt; omega⟩) := by
  unfold Read.val_main_v27 Read.val_main_v16 Read.val_main_v17 Read.val_main_v19 Read.val_main_v20
  generalize Read.val_main_v26 (F := Ideal) x0 x1 x2 = g
  generalize Read.val_main_v15 (F := Ideal) x0 x1 x2 = z
  pointwise
  have hC := C.isLt
  have ez : ∀ (n : ℕ) (hn : n < 21552) (h : C.val < 21504), n = zcol C.val → z (ix2 r ⟨n, hn⟩) = z (ix2 r ⟨zcol C.val, zcol_lt h⟩) :=
    fun n hn h e => congrArg z (congrArg (ix2 r) (Fin.ext e))
  split
  · rw [dif_pos (show C.val < 21504 by omega)]
    exact ez _ _ (by omega) (by unfold zcol; split_ifs <;> omega)
  split
  · rw [dif_pos (show C.val < 21504 by omega)]
    exact ez _ _ (by omega) (by unfold zcol; split_ifs <;> omega)
  split
  · rw [dif_pos (show C.val < 21504 by omega)]
    exact ez _ _ (by omega) (by unfold zcol; split_ifs <;> omega)
  split
  · rw [dif_pos (show C.val < 21504 by omega)]
    exact ez _ _ (by omega) (by unfold zcol; split_ifs <;> omega)
  · rw [dif_neg (show ¬C.val < 21504 by omega)]
    exact congrArg g (congrArg (ix2 r) (Fin.ext (by dsimp only; omega)))

/-- The reference's result at an index. -/
theorem val_apply (r : Fin 8192) (C : Fin 22016) :
    Read.val_main_v27 (F := Ideal) x0 x1 x2 (ix2 r C)
      = ∑ k, (rms (fun k => x0 (ix2 r k)) k * x1 (ix2 0 k)) * wz (fun k a => x2 (ix3 0 k a)) C k := by
  rw [v27]
  unfold wz
  split
  · rw [v15]; simp only [v13]
  · rw [v26]
    unfold wg
    dsimp only
    split
    · rw [v15]; simp only [v13]
    · simp only [mul_zero, Finset.sum_const_zero]

end Cert.ProjRefIdeal.Closed

end
-- ==== Proof.ProjClaims.lean ====
/- The claims about the projection behind the norm: the frames, the idealization, and the value. -/
module

public import proofs.«01_k».proof.Defs
public import proofs.«01_k».proof.Proof.ProjOk
public import proofs.«01_k».proof.Proof.ProjValue
public import proofs.«01_k».proof.Proof.ProjRefValue
public import Idealize.ShloMosaic.Lib.Quiescent

@[expose] public section

set_option maxRecDepth 16384

noncomputable section

namespace Cert.Proof.ProjClaims

open Idealize.ShloMosaic Idealize.ShloMosaic.TcCoe Idealize.SL.Sem

theorem frame_p : Cert.quiescent_Proj := fun m ρ _ => Cert.Proj.Gen.frame m ρ (Cert.Proj.Hand.ok m)
theorem frame_pi : Cert.quiescent_ProjIdeal := fun m ρ _ => Cert.ProjIdeal.Gen.frame m ρ (Cert.ProjIdeal.Hand.ok m)
theorem frame_ri : Cert.quiescent_ProjRefIdeal := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)
theorem preserves : Cert.preserves_Proj_ProjIdeal := trivial

/-- At `Ideal` the kernel's result array and the reference's are the same function of arguments that agree. -/
theorem algebraic : Cert.algebraic_ProjIdeal_ProjRefIdeal := by
  intro m ρ m' ρ' _ hagree
  refine ⟨fun c => Cert.ProjIdeal.Closed.G m c, ?_, ?_⟩
  · refine (θ_run Cert.ProjIdeal.defs _ _).mono (fun _ h c => ⟨?_, h.2 c⟩)
      (θ_run_and (Cert.ProjIdeal.Gen.run_main (F := Ideal) m ρ (Cert.ProjIdeal.Hand.ok m))
        (Cert.ProjIdeal.Gen.unchanged (F := Ideal) m ρ (Cert.ProjIdeal.Hand.ok m)))
    exact ((h.1 c).1 4).trans (Cert.ProjIdeal.Closed.final m c)
  · refine (θ_run Cert.ProjRefIdeal.defs _ _).mono (fun _ h c => ⟨(h c).1.trans ?_, (h c).2⟩)
      (Cert.ProjRefIdeal.Value.run (F := Ideal) m' ρ')
    rw [Cert.ProjRefIdeal.Read.val_main_v27_eq, (hagree c).1, (hagree c).2.1, (hagree c).2.2]
    funext i
    obtain ⟨r, k, rfl⟩ : ∃ (r : Fin 8192) (k : Fin 22016), i = ix2 r k := ⟨i 0, i 1, eq_ix2 i⟩
    exact Cert.ProjRefIdeal.Closed.val_apply _ _ _ r k

end Cert.Proof.ProjClaims

end
-- ==== Proof.ProjSIdealOk.lean ====
/- The table of first rows that the sample's projection reads: where each tile's block of the weights begins, and that every block lies inside. -/
module

public import proofs.«01_k».proof.Proof.Gen.ProjSIdeal.Frame
public import Idealize.ShloMosaic.Lib.Pointwise

@[expose] public section

set_option maxRecDepth 16384

noncomputable section

namespace Cert.ProjSIdeal.Hand

open Cert.ProjSIdeal Cert.ProjSIdeal.Gen Idealize.ShloMosaic Idealize.ShloMosaic.TcCoe Idealize.SL.Sem

variable {F : FTy → Type} [FloatOps F]
variable (m : (ℓ : Loc nD τ sig) → Buf (Elt F) ℓ)

/-- The table of first rows, by its number. -/
def starts (i : S43.Idx) : BitVec 32 := lit0 (S43.rowMajor i)

theorem starts_apply : ∀ j : Fin 43, starts (ix1 j) = lit0 j :=
  fun j => congrArg lit0 (Fin.ext ((by decide +kernel : ∀ j : Fin 43, (S43.rowMajor (ix1 j)).val = j.val) j))

/-- The table as the host's constant lists it. -/
theorem V_main_c (c : Dev nD) : V m c main_c = starts := by
  unfold V
  simp only [hostOps0, hostOps0_1, hostOps0_2, List.flatten_cons, List.flatten_nil, List.append_nil, List.cons_append, List.nil_append]
  after_results <;> rfl
theorem tbl_eq : tbl m 0 = starts := V_main_c m 0

theorem coord_word (j : Fin 43) : (Scalar.indexCast (BitVec.ofNat 32 j.val)).toNat = j.val :=
  (by decide +kernel : ∀ j : Fin 43, (Scalar.indexCast (BitVec.ofNat 32 j.val)).toNat = j.val) j

/-- The row of the weights at which a tile's block begins. -/
theorem start_eq (pf : pre0.Contents (Elt F)) (hpf : pf 0 = starts) (i : grid0.Coords) :
    k0_mult1 pf i = Scalar.muli (lit0 (i 1)) 8#32 := by
  unfold k0_mult1
  refine congrArg (Scalar.muli · 8#32) ?_
  show pf.atD 0 ![(Scalar.indexCast (BitVec.ofNat 32 (i 1).val)).toNat] = _
  unfold Pipeline.Prefetch.Contents.atD
  split
  · rw [hpf]
    refine (congrArg starts (funext fun a => Fin.ext ?_)).trans (starts_apply (i 1))
    match a with
    | ⟨0, _⟩ => exact coord_word (i 1)
  · next hn => exact absurd (fun a => by match a with | ⟨0, _⟩ => exact k0_off1_inb i 0) hn

theorem off_eq (pf : pre0.Contents (Elt F)) (hpf : pf 0 = starts) (i : grid0.Coords) :
    cc0_transform_3 k0_off1_inb numel1_S1 pf i = ![(Scalar.muli (lit0 (i 1)) 8#32).toNat, 0] := by
  unfold cc0_transform_3
  refine congrArg (fun w => ![(Scalar.muli w 8#32).toNat, 0]) ?_
  show pf 0 _ = _
  rw [hpf]
  refine (congrArg starts (funext fun a => Fin.ext ?_)).trans (starts_apply (i 1))
  match a with
  | ⟨0, _⟩ => exact coord_word (i 1)

theorem dvd_lit : ∀ j : Fin 43, (8 : Int) ∣ (Scalar.muli (lit0 j) 8#32).toInt := by decide +kernel
theorem le_lit : ∀ j : Fin 43, (Scalar.muli (lit0 j) 8#32).toNat + 512 ≤ 21552 := by decide +kernel

/-- Every block of the weights lies inside them, at a multiple of eight rows. -/
theorem ok : Ok m := by
  refine ⟨fun i => ?_, fun i => ⟨fun a => ?_, .inl rfl⟩⟩
  · rw [start_eq _ (tbl_eq m)]; exact dvd_lit (i 1)
  · rw [off_eq _ (tbl_eq m)]
    match a with
    | ⟨0, _⟩ => exact le_lit (i 1)
    | ⟨1, _⟩ => exact le_rfl

end Cert.ProjSIdeal.Hand

end
-- ==== Proof.ProjSVals.lean ====
/-
  What the projection kernel's body leaves at a grid point of `ProjSIdeal`: the normalised rows in the scratch, and one tile of
  products in the output block.
-/
module

public import proofs.«01_k».proof.Proof.ProjSIdealOk
public import proofs.«01_k».proof.Proof.FfnMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjSIdeal.Closed

open Cert.ProjSIdeal Cert.ProjSIdeal.Gen Cert.ProjSIdeal.Hand Idealize.ShloMosaic Idealize.ShloMosaic.TcCoe Idealize.SL.Sem Cert.FfnMath
open Idealize.ShloMosaic.Pipeline (Dat)

variable (m : (ℓ : Loc nD τ sig) → Buf (Elt Ideal) ℓ) (ρ : Dev nD → PrngReg)

/-- A block's rows over their root mean squares, times the row of weights. -/
def hOf (X : Vec Ideal S512x4096 .f32) (g : Vec Ideal S1x4096 .f32) : Vec Ideal S512x4096 .bf16 := fun y =>
  rms (fun k => X (ix2 (y 0) k)) (y 1) * g (ix2 0 (y 1))

theorem pay1_apply (X : Vec Ideal S64x4096 .f32) (g : Vec Ideal S1x4096 .f32) (r : Fin 64) (k : Fin 4096) :
    k0_pay1 (F := Ideal) X g (ix2 r k) = rms (fun k => X (ix2 r k)) k * g (ix2 0 k) := by
  unfold rms
  pointwise [k0_pay1]
theorem pay2_apply (X : Vec Ideal S64x4096 .f32) (g : Vec Ideal S1x4096 .f32) (r : Fin 64) (k : Fin 4096) :
    k0_pay2 (F := Ideal) X g (ix2 r k) = rms (fun k => X (ix2 r k)) k * g (ix2 0 k) := by
  unfold rms
  pointwise [k0_pay2]
theorem pay5_apply (X : Vec Ideal S64x4096 .f32) (g : Vec Ideal S1x4096 .f32) (r : Fin 64) (k : Fin 4096) :
    k0_pay5 (F := Ideal) X g (ix2 r k) = rms (fun k => X (ix2 r k)) k * g (ix2 0 k) := by
  unfold rms
  pointwise [k0_pay5]
theorem pay6_apply (X : Vec Ideal S64x4096 .f32) (g : Vec Ideal S1x4096 .f32) (r : Fin 64) (k : Fin 4096) :
    k0_pay6 (F := Ideal) X g (ix2 r k) = rms (fun k => X (ix2 r k)) k * g (ix2 0 k) := by
  unfold rms
  pointwise [k0_pay6]
theorem pay7_apply (X : Vec Ideal S64x4096 .f32) (g : Vec Ideal S1x4096 .f32) (r : Fin 64) (k : Fin 4096) :
    k0_pay7 (F := Ideal) X g (ix2 r k) = rms (fun k => X (ix2 r k)) k * g (ix2 0 k) := by
  unfold rms
  pointwise [k0_pay7]
theorem pay8_apply (X : Vec Ideal S64x4096 .f32) (g : Vec Ideal S1x4096 .f32) (r : Fin 64) (k : Fin 4096) :
    k0_pay8 (F := Ideal) X g (ix2 r k) = rms (fun k => X (ix2 r k)) k * g (ix2 0 k) := by
  unfold rms
  pointwise [k0_pay8]
theorem pay9_apply (X : Vec Ideal S64x4096 .f32) (g : Vec Ideal S1x4096 .f32) (r : Fin 64) (k : Fin 4096) :
    k0_pay9 (F := Ideal) X g (ix2 r k) = rms (fun k => X (ix2 r k)) k * g (ix2 0 k) := by
  unfold rms
  pointwise [k0_pay9]
theorem pay10_apply (X : Vec Ideal S64x4096 .f32) (g : Vec Ideal S1x4096 .f32) (r : Fin 64) (k : Fin 4096) :
    k0_pay10 (F := Ideal) X g (ix2 r k) = rms (fun k => X (ix2 r k)) k * g (ix2 0 k) := by
  unfold rms
  pointwise [k0_pay10]
theorem pay3_apply (h : Vec Ideal S512x4096 .bf16) (w : Vec Ideal S512x4096 .f32) (r : Fin 512) (q : Fin 512) :
    k0_pay3 (F := Ideal) h w (ix2 r q) = ∑ k, h (ix2 r k) * w (ix2 q k) := by
  pointwise [k0_pay3]
theorem pay4_apply (h : Vec Ideal S512x4096 .bf16) (w : Vec Ideal S512x4096 .bf16) (r : Fin 512) (q : Fin 512) :
    k0_pay4 (F := Ideal) h w (ix2 r q) = ∑ k, h (ix2 r k) * w (ix2 q k) := by
  pointwise [k0_pay4]

/-- One piece of eight of the normalised rows. -/
theorem piece (f : Vec Ideal S64x4096 .f32 → Vec Ideal S1x4096 .f32 → FVec Ideal S64x4096 .bf16)
    (hf : ∀ X g r k, f X g (ix2 r k) = rms (fun k => X (ix2 r k)) k * g (ix2 0 k))
    (X : Vec Ideal S512x4096 .f32) (g : Vec Ideal S1x4096 .f32) (o : Nat)
    (inb : ∀ a, (![o, 0] : Fin 2 → Nat) a + (![64, 4096] : Fin 2 → Nat) a ≤ S512x4096.size a)
    (x : S64x4096.Idx) (y : S512x4096.Idx) (h0 : (y 0).val = o + (x 0).val) (h1 : (y 1).val = (x 1).val) :
    f (View.ld (Val := Elt Ideal) (e' := .f32) X (Rect.unit ![o, 0] ![64, 4096] inb)) g x = hOf X g y := by
  obtain ⟨r, k, rfl⟩ : ∃ (r : Fin 64) (k : Fin 4096), x = ix2 r k := ⟨x 0, x 1, eq_ix2 x⟩
  obtain ⟨R, K, rfl⟩ : ∃ (R : Fin 512) (K : Fin 4096), y = ix2 R K := ⟨y 0, y 1, eq_ix2 y⟩
  have eK : K = k := Fin.ext h1
  subst eK
  rw [hf]
  show _ = rms (fun k => X (ix2 R k)) K * g (ix2 0 K)
  refine congrArg (rms · K * g (ix2 0 K)) (funext fun q => ?_)
  refine View.ld_unit_apply_of (Val := Elt Ideal) (e := .f32) _ _ _ _ _ _ fun a => ?_
  match a with
  | ⟨0, _⟩ => exact h0
  | ⟨1, _⟩ => exact (Nat.zero_add _).symm

variable (c : Dev nD) (t : Fin (cfgM m (ok m)).N)

/-- The blocks the point reads. -/
abbrev X0 : Vec Ideal S1x4096 .f32 := iblk m (ok m) c 0 t
abbrev X1 : Vec Ideal S512x4096 .f32 := iblk m (ok m) c 1 t
abbrev X2 : Vec Ideal S512x4096 .bf16 := iblk m (ok m) c 2 t
abbrev X3 : Vec Ideal S512x4096 .f32 := iblk m (ok m) c 3 t

/-- The output block and the scratch after `n` points. -/
abbrev prev : Vec Ideal S512x512 .f32 × Vec Ideal S512x4096 .bf16 :=
  outsAt0 m (ok m) c (t.val - 1) (Nat.lt_of_le_of_lt (Nat.sub_le _ _) t.isLt)

theorem rd0 : View.read (Elt Ideal) (ms0_0 m (ok m) t).view ((hs0_0 m (ok m) t).unread (X0 m c t)) = X0 m c t :=
  Memref.IsWhole.read_unread _ _
theorem rd1 : View.read (Elt Ideal) (ms0_1 m (ok m) t).view ((hs0_1 m (ok m) t).unread (X1 m c t)) = X1 m c t :=
  Memref.IsWhole.read_unread _ _
theorem rd2 : View.read (Elt Ideal) (ms0_2 m (ok m) t).view ((hs0_2 m (ok m) t).unread (X2 m c t)) = X2 m c t :=
  Memref.IsWhole.read_unread _ _
theorem rd3 : View.read (Elt Ideal) (ms0_3 m (ok m) t).view ((hs0_3 m (ok m) t).unread (X3 m c t)) = X3 m c t :=
  Memref.IsWhole.read_unread _ _

theorem lt_42 (h : t.val % 43 ≤ 41) : t.val < 42 := by
  have e : t.val < 43 := lt_of_lt_of_eq t.isLt (show (cfgM m (ok m)).N = 43 from N_0)
  omega
theorem not_lt_42 (h : ¬t.val % 43 ≤ 41) : ¬t.val < 42 := by omega

theorem sc_B (h0 : ¬t.val % 43 = 0) (h1 : t.val % 43 ≤ 41) (h2 : ¬t.val % 43 = 42) :
    (outsAt0 m (ok m) c t.val t.isLt).2 = (prev m c t).2 := by
  rw [outsAt0_B m (ok m) c t h0 (lt_42 m t h1) h2]
  rfl
theorem sc_C (h0 : ¬t.val % 43 = 0) (h1 : ¬t.val % 43 ≤ 41) (h2 : t.val % 43 = 42) :
    (outsAt0 m (ok m) c t.val t.isLt).2 = (prev m c t).2 := by
  rw [outsAt0_C m (ok m) c t h0 (not_lt_42 m t h1) h2]
  rfl

theorem sc_A (h0 : t.val % 43 = 0) (h1 : t.val % 43 ≤ 41) (h2 : ¬t.val % 43 = 42) :
    (outsAt0 m (ok m) c t.val t.isLt).2 = hOf (X1 m c t) (X0 m c t) := by
  rw [outsAt0_A m (ok m) c t h0 (lt_42 m t h1) h2]
  funext y
  frame_open
  simp (disch := decide) only [↓ View.readCov_skip, ↓ View.readCov_cons_toLoadRect, ↓ View.readCov_fill]
  frame_out
  rw [rd0 m c t, rd1 m c t]
  canon_tiles x h
  case piece0 => exact piece _ pay2_apply _ _ 448 _ x y h0 h1
  case piece1 => exact piece _ pay1_apply _ _ 384 _ x y h0 h1
  case piece2 => exact piece _ pay10_apply _ _ 320 _ x y h0 h1
  case piece3 => exact piece _ pay9_apply _ _ 256 _ x y h0 h1
  case piece4 => exact piece _ pay8_apply _ _ 192 _ x y h0 h1
  case piece5 => exact piece _ pay7_apply _ _ 128 _ x y h0 h1
  case piece6 => exact piece _ pay6_apply _ _ 64 _ x y h0 h1
  case piece7 => exact piece _ pay5_apply _ _ 0 _ x y (h0.trans (Nat.zero_add _).symm) h1

theorem out_B (h0 : ¬t.val % 43 = 0) (h1 : t.val % 43 ≤ 41) (h2 : ¬t.val % 43 = 42) :
    (outsAt0 m (ok m) c t.val t.isLt).1 = k0_pay3 (prev m c t).2 (X3 m c t) := by
  rw [outsAt0_B m (ok m) c t h0 (lt_42 m t h1) h2]
  dsimp only
  frame_out
  simp only [read_unread_whole]
  rw [rd3 m c t]
theorem out_C (h0 : ¬t.val % 43 = 0) (h1 : ¬t.val % 43 ≤ 41) (h2 : t.val % 43 = 42) :
    (outsAt0 m (ok m) c t.val t.isLt).1 = k0_pay4 (prev m c t).2 (X2 m c t) := by
  rw [outsAt0_C m (ok m) c t h0 (not_lt_42 m t h1) h2]
  dsimp only
  frame_out
  simp only [read_unread_whole]
  rw [rd2 m c t]

theorem out_A (h0 : t.val % 43 = 0) (h1 : t.val % 43 ≤ 41) (h2 : ¬t.val % 43 = 42) :
    (outsAt0 m (ok m) c t.val t.isLt).1 = k0_pay3 (hOf (X1 m c t) (X0 m c t)) (X3 m c t) := by
  rw [← sc_A m c t h0 h1 h2, outsAt0_A m (ok m) c t h0 (lt_42 m t h1) h2]
  dsimp only
  frame_out
  rw [rd3 m c t]
  refine congrArg (k0_pay3 · (X3 m c t)) ?_
  rw [View.readCov_eq_canon']
  exact View.ld_unit_zero (funext fun a => by match a with | ⟨0, _⟩ => rfl | ⟨1, _⟩ => rfl) _ _

end Cert.ProjSIdeal.Closed

end
-- ==== Proof.ProjSTables.lean ====
/- The arrays the host prepares for the sample's projection, read at an index: the norm's weights, the weights' rows, the padded gates. -/
module

public import proofs.«01_k».proof.Proof.ProjSVals
public import proofs.«01_k».proof.Proof.ProjMath
public import Idealize.ShloMosaic.Lib.KernelVsHost

@[expose] public section

set_option maxRecDepth 16384

noncomputable section

namespace Cert.ProjSIdeal.Closed

open Cert.ProjSIdeal Cert.ProjSIdeal.Gen Cert.ProjSIdeal.Hand Idealize.ShloMosaic Idealize.ShloMosaic.TcCoe Idealize.SL.Sem Cert.FfnMath Cert.ProjMath

variable (m : (ℓ : Loc nD τ sig) → Buf (Elt Ideal) ℓ) (c : Dev nD)

abbrev argX : S512x4096.Idx → EReal := m ((c : Thread nD τ).loc main_arg0)
abbrev argN : S1x4096.Idx → EReal := m ((c : Thread nD τ).loc main_arg1)
abbrev argW : S1x4096x21552.Idx → EReal := m ((c : Thread nD τ).loc main_arg2)

theorem V_gamma (k : Fin 4096) : (V m c main_v11 : S1x4096.Idx → EReal) (ix2 0 k) = argN m c (ix2 0 k) := by
  have h : V m c main_v11 = shapeCast _ (shapeCast _ (argN m c) shapeCasts_S1x4096_S4096) shapeCasts_S4096_S1x4096 := by
    unfold V
    simp only [hostOps0, hostOps0_1, hostOps0_2, List.flatten_cons, List.flatten_nil, List.append_nil, List.cons_append, List.nil_append]
    after_results <;> rfl
  rw [h]
  generalize argN m c = g
  pointwise

theorem V_w (a : Fin 21552) (k : Fin 4096) : (V m c main_v7 : S21552x4096.Idx → EReal) (ix2 a k) = argW m c (ix3 0 k a) := by
  have h : V m c main_v7 = transpose S21552x4096 [1, 0] (shapeCast S4096x21552 (argW m c) shapeCasts_S1x4096x21552_S4096x21552) transposes_S4096x21552_S21552x4096_1_0 := by
    unfold V
    simp only [hostOps0, hostOps0_1, hostOps0_2, List.flatten_cons, List.flatten_nil, List.append_nil, List.cons_append, List.nil_append]
    after_results <;> rfl
  rw [h]
  generalize argW m c = g
  pointwise

theorem V_gates (p : Fin 512) (k : Fin 4096) :
    (V m c main_v9 : S512x4096.Idx → EReal) (ix2 p k) = wg (fun k a => argW m c (ix3 0 k a)) p k := by
  have h : V m c main_v9 = truncf (F := Ideal) .bf16 (transpose S512x4096 [1, 0] (shapeCast S4096x512
      (pad S4096x4x128 ![0, 0, 0] ![0, 0, 116] ![0, 0, 0]
        (shapeCast S4096x4x12 (transpose S4096x4x3x4 [0, 2, 1, 3] (shapeCast S4096x3x4x4
          (extractStridedSlice S4096x48 ![0, 5120] (shapeCast S4096x21552 (argW m c) shapeCasts_S1x4096x21552_S4096x21552) slices_S4096x21552_S4096x48_0_5120)
          shapeCasts_S4096x48_S4096x3x4x4) transposes_S4096x3x4x4_S4096x4x3x4_0_2_1_3) shapeCasts_S4096x4x3x4_S4096x4x12)
        (sitofp (F := Ideal) .f32 (constantI S_ 32 0#32) : S_.Idx → EReal) pads_S4096x4x12_S4096x4x128_000_000_01160 h_S_)
      shapeCasts_S4096x4x128_S4096x512) transposes_S4096x512_S512x4096_1_0 : FVec Ideal S512x4096 .f32) bitsLt_bf16_f32 := by
    unfold V
    simp only [hostOps0, hostOps0_1, hostOps0_2, List.flatten_cons, List.flatten_nil, List.append_nil, List.cons_append, List.nil_append]
    after_results <;> rfl
  rw [h]
  generalize argW m c = g
  unfold wg
  pointwise
  have hd : p.val / 128 < 4 := by omega
  split
  · next h1 =>
    split
    · refine congrArg g (congrArg (ix3 0 k) (Fin.ext ?_))
      show _ = gcol p.val
      unfold gcol
      dsimp only
      omega
    · next h2 => exact absurd h1.2 h2
  · next h1 =>
    split
    · next h2 => exact absurd ⟨hd, h2⟩ h1
    · exact sitofp_zero (φ := .f32)

end Cert.ProjSIdeal.Closed

end
-- ==== Proof.ProjSValue.lean ====
/-
  What the projection kernel computes on the sample's 512 rows: each row over its root mean square, times the weights' columns in their new order. The
  scratch is followed through the 43 tiles of the one row block, and the tiles of products are put together into the result.
-/
module

public import proofs.«01_k».proof.Proof.ProjSTables

@[expose] public section

set_option maxRecDepth 16384

noncomputable section

namespace Cert.ProjSIdeal.Closed

open Cert.ProjSIdeal Cert.ProjSIdeal.Gen Cert.ProjSIdeal.Hand Idealize.ShloMosaic Idealize.ShloMosaic.TcCoe Idealize.SL.Sem Cert.FfnMath Cert.ProjMath
open Idealize.ShloMosaic.Pipeline (Dat)

variable (m : (ℓ : Loc nD τ sig) → Buf (Elt Ideal) ℓ) (ρ : Dev nD → PrngReg) (c : Dev nD)

/-- A row of the input, its normalised row, the weights, and the array the result ends holding. -/
def hRow (R : Fin 512) (k : Fin 4096) : EReal := rms (fun k => argX m c (ix2 R k)) k * argN m c (ix2 0 k)
def wts (k : Fin 4096) (a : Fin 21552) : EReal := argW m c (ix3 0 k a)
def G : S512x22016.Idx → EReal := fun i => ∑ k, hRow m c (i 0) k * wz (wts m c) (i 1) k

/-! ## The windows' blocks -/

theorem t_lt (t : Fin (cfgM m (ok m)).N) : t.val < 43 := lt_of_lt_of_eq t.isLt (show (cfgM m (ok m)).N = 43 from N_0)

theorem coords_1 (t : Fin grid0.N) : (grid0.coords t 1).val = t.val % 43 :=
  (by decide +kernel : ∀ t : Fin grid0.N, (grid0.coords t 1).val = t.val % 43) t

theorem tr_facts (t : Fin grid0.N) :
    (cc0_transform_0 (grid0.coords t) 0 = 0 ∧ cc0_transform_0 (grid0.coords t) 1 = 0)
    ∧ (cc0_transform_1 (grid0.coords t) 0 = t.val / 43 ∧ cc0_transform_1 (grid0.coords t) 1 = 0)
    ∧ (cc0_transform_2 (grid0.coords t) 0 = 0 ∧ cc0_transform_2 (grid0.coords t) 1 = 0)
    ∧ (cc0_transform_4 (grid0.coords t) 0 = t.val / 43 ∧ cc0_transform_4 (grid0.coords t) 1 = t.val % 43) :=
  (by decide +kernel : ∀ t : Fin grid0.N, (cc0_transform_0 (grid0.coords t) 0 = 0 ∧ cc0_transform_0 (grid0.coords t) 1 = 0)
    ∧ (cc0_transform_1 (grid0.coords t) 0 = t.val / 43 ∧ cc0_transform_1 (grid0.coords t) 1 = 0)
    ∧ (cc0_transform_2 (grid0.coords t) 0 = 0 ∧ cc0_transform_2 (grid0.coords t) 1 = 0)
    ∧ (cc0_transform_4 (grid0.coords t) 0 = t.val / 43 ∧ cc0_transform_4 (grid0.coords t) 1 = t.val % 43)) t

theorem lit_tile : ∀ j : Fin 43, j.val < 42 → (Scalar.muli (lit0 j) 8#32).toNat = zcol (512 * j.val) := by decide +kernel

/-- The first row of a tile's block of weights is the tile's first column. -/
theorem start_row (t : Fin grid0.N) (ht : t.val % 43 < 42) :
    (Scalar.muli (lit0 (grid0.coords t 1)) 8#32).toNat = zcol (512 * (t.val % 43)) := by
  have e : (grid0.coords t 1 : Fin 43) = ⟨t.val % 43, Nat.mod_lt _ (by decide)⟩ := Fin.ext (coords_1 t)
  exact (congrArg (fun j : Fin 43 => (Scalar.muli (lit0 j) 8#32).toNat) e).trans (lit_tile ⟨t.val % 43, Nat.mod_lt _ (by decide)⟩ ht)

variable (t : Fin (cfgM m (ok m)).N)

theorem X0_apply (k : Fin 4096) : X0 m c t (ix2 0 k) = argN m c (ix2 0 k) := by
  rw [← V_gamma m c k]
  refine congrArg (V m c main_v11 : S1x4096.Idx → EReal) (funext fun a => Fin.ext ?_)
  match a with
  | ⟨0, _⟩ => show cc0_transform_0 (grid0.coords t) 0 * 1 + 1 * 0 = 0; rw [(tr_facts t).1.1]
  | ⟨1, _⟩ => show cc0_transform_0 (grid0.coords t) 1 * 4096 + 1 * k.val = k.val; rw [(tr_facts t).1.2]; omega

theorem X1_apply (r : Fin 512) (k : Fin 4096) :
    X1 m c t (ix2 r k) = argX m c (ix2 ⟨t.val / 43 * 512 + r.val, by have := t_lt m t; omega⟩ k) := by
  show (V m c main_arg0 : S512x4096.Idx → EReal) _ = _
  rw [V_main_arg0]
  refine congrArg (argX m c) (funext fun a => Fin.ext ?_)
  match a with
  | ⟨0, _⟩ => show cc0_transform_1 (grid0.coords t) 0 * 512 + 1 * r.val = t.val / 43 * 512 + r.val; rw [(tr_facts t).2.1.1]; omega
  | ⟨1, _⟩ => show cc0_transform_1 (grid0.coords t) 1 * 4096 + 1 * k.val = k.val; rw [(tr_facts t).2.1.2]; omega

theorem X2_apply (q : Fin 512) (k : Fin 4096) : X2 m c t (ix2 q k) = wg (wts m c) q k := by
  refine Eq.trans ?_ (V_gates m c q k)
  refine congrArg (V m c main_v9 : S512x4096.Idx → EReal) (funext fun a => Fin.ext ?_)
  match a with
  | ⟨0, _⟩ => show cc0_transform_2 (grid0.coords t) 0 * 512 + 1 * q.val = q.val; rw [(tr_facts t).2.2.1.1]; omega
  | ⟨1, _⟩ => show cc0_transform_2 (grid0.coords t) 1 * 4096 + 1 * k.val = k.val; rw [(tr_facts t).2.2.1.2]; omega

theorem X3_apply (ht : t.val % 43 < 42) (q : Fin 512) (k : Fin 4096) :
    X3 m c t (ix2 q k) = wts m c k ⟨zcol (512 * (t.val % 43) + q.val), zcol_lt (by omega)⟩ := by
  refine Eq.trans ?_ (V_w m c _ k)
  refine congrArg (V m c main_v7 : S21552x4096.Idx → EReal) (funext fun a => Fin.ext ?_)
  have e := off_eq (tbl m) (tbl_eq m) (grid0.coords t)
  match a with
  | ⟨0, _⟩ =>
    show cc0_transform_3 k0_off1_inb numel1_S1 (tbl m) (grid0.coords t) 0 + 1 * q.val = zcol (512 * (t.val % 43) + q.val)
    rw [e]
    refine (congrArg (· + 1 * q.val) (start_row t ht)).trans ?_
    rw [Nat.one_mul, zcol_tile _ _ q.isLt]
  | ⟨1, _⟩ =>
    show cc0_transform_3 k0_off1_inb numel1_S1 (tbl m) (grid0.coords t) 1 + 1 * k.val = k.val
    rw [e]
    show 0 + 1 * k.val = k.val
    omega

/-! ## The scratch and the output through a row block -/

/-- The row block a position lies in, and its rows. -/
abbrev rowOf (n : ℕ) (hn : n < 43) (r : Fin 512) : Fin 512 := ⟨n / 43 * 512 + r.val, by omega⟩

/-- After every point the scratch holds the normalised rows of the point's row block. -/
theorem sc_inv : ∀ (n : ℕ) (hn : n < (cfgM m (ok m)).N) (r : Fin 512) (k : Fin 4096),
    (outsAt0 m (ok m) c n hn).2 (ix2 r k) = hRow m c (rowOf n (t_lt m ⟨n, hn⟩) r) k := by
  have hA : ∀ (t : Fin (cfgM m (ok m)).N) (h0 : t.val % 43 = 0) (r : Fin 512) (k : Fin 4096),
      (outsAt0 m (ok m) c t.val t.isLt).2 (ix2 r k) = hRow m c (rowOf t.val (t_lt m t) r) k := fun t h0 r k => by
    rw [sc_A m c t h0 (by omega) (by omega)]
    show rms (fun k => X1 m c t (ix2 r k)) k * X0 m c t (ix2 0 k) = _
    rw [X0_apply]
    exact congrArg (rms · k * argN m c (ix2 0 k)) (funext fun q => X1_apply m c t r q)
  intro n
  induction n with
  | zero => intro hn r k; exact hA ⟨0, hn⟩ rfl r k
  | succ n ih =>
    intro hn r k
    by_cases h0 : (n + 1) % 43 = 0
    · exact hA ⟨n + 1, hn⟩ h0 r k
    · have hp := ih (by omega) r k
      have e : rowOf n (t_lt m ⟨n, by omega⟩) r = rowOf (n + 1) (t_lt m ⟨n + 1, hn⟩) r :=
        Fin.ext (by show n / 43 * 512 + r.val = (n + 1) / 43 * 512 + r.val; rw [show n / 43 = (n + 1) / 43 by omega])
      rw [e] at hp
      by_cases h1 : (n + 1) % 43 ≤ 41
      · rw [sc_B m c ⟨n + 1, hn⟩ h0 h1 (by dsimp only; omega)]
        exact hp
      · rw [sc_C m c ⟨n + 1, hn⟩ h0 h1 (by dsimp only; omega)]
        exact hp

/-- The column a tile's column stands at. -/
abbrev colOf (n : ℕ) (q : Fin 512) : Fin 22016 := ⟨n % 43 * 512 + q.val, by omega⟩

theorem out_apply (r : Fin 512) (q : Fin 512) :
    (outsAt0 m (ok m) c t.val t.isLt).1 (ix2 r q) = G m c (ix2 (rowOf t.val (t_lt m t) r) (colOf t.val q)) := by
  show _ = ∑ k, hRow m c (rowOf t.val (t_lt m t) r) k * wz (wts m c) (colOf t.val q) k
  have hw3 : t.val % 43 ≤ 41 → ∀ k, X3 m c t (ix2 q k) = wz (wts m c) (colOf t.val q) k := fun h k => by
    rw [X3_apply m c t (by omega)]
    unfold wz
    rw [dif_pos (show t.val % 43 * 512 + q.val < 21504 by omega)]
    exact congrArg (wts m c k) (Fin.ext (congrArg zcol (by dsimp only; omega)))
  have hs := sc_inv m c t.val t.isLt r
  by_cases h0 : t.val % 43 = 0
  · rw [out_A m c t h0 (by omega) (by omega), pay3_apply, ← sc_A m c t h0 (by omega) (by omega)]
    exact Finset.sum_congr rfl fun k _ => by rw [hs k, hw3 (by omega) k]
  · by_cases h1 : t.val % 43 ≤ 41
    · rw [out_B m c t h0 h1 (by omega), pay3_apply, ← sc_B m c t h0 h1 (by omega)]
      exact Finset.sum_congr rfl fun k _ => by rw [hs k, hw3 h1 k]
    · have h2 : t.val % 43 = 42 := by omega
      rw [out_C m c t h0 h1 h2, pay4_apply, ← sc_C m c t h0 h1 h2]
      refine Finset.sum_congr rfl fun k _ => ?_
      rw [hs k, X2_apply]
      unfold wz
      rw [dif_neg (show ¬t.val % 43 * 512 + q.val < 21504 by omega)]
      have e : q = ⟨t.val % 43 * 512 + q.val - 21504, by omega⟩ := Fin.ext (by dsimp only; omega)
      exact congrArg (hRow m c (rowOf t.val (t_lt m t) r) k * ·) (congrArg (fun p => wg (wts m c) p k) e)

/-! ## The result array -/

theorem flushed_eq (hf : ((cfgM m (ok m)).win 4).flush t = true) :
    (dats m (ok m) 0 c).flushed 4 t = (((cfgM m (ok m)).win 4).blk t).view.read (Elt Ideal) (G m c) := by
  show ((cfgM m (ok m)).win 4).cut (grid0.coords t) ((dats m (ok m) 0 c).after 4 t) = _
  rw [after0_4]
  refine funext fun (j : S512x512.Idx) => ?_
  obtain ⟨r, q, rfl⟩ : ∃ (r : Fin 512) (q : Fin 512), j = ix2 r q := ⟨j 0, j 1, eq_ix2 j⟩
  refine (out_apply m c t r q).trans (congrArg (G m c) (funext fun a => Fin.ext ?_))
  match a with
  | ⟨0, _⟩ => show t.val / 43 * 512 + r.val = cc0_transform_4 (grid0.coords t) 0 * 512 + 1 * r.val; rw [(tr_facts t).2.2.2.1]; omega
  | ⟨1, _⟩ => show t.val % 43 * 512 + q.val = cc0_transform_4 (grid0.coords t) 1 * 512 + 1 * q.val; rw [(tr_facts t).2.2.2.2]; omega

theorem cover (i : S512x22016.Idx) :
    ∃ t : Fin (cfgM m (ok m)).N, ((cfgM m (ok m)).win 4).flush t = true ∧ i ∈ (((cfgM m (ok m)).win 4).blk t).view.set := by
  have h0 : (i 0).val < 512 := (i 0).isLt
  have h1 : (i 1).val < 22016 := (i 1).isLt
  have hN : (cfgM m (ok m)).N = 43 := N_0
  let t : Fin (cfgM m (ok m)).N := ⟨(i 0).val / 512 * 43 + (i 1).val / 512, by omega⟩
  refine ⟨t, flush0_4 _ t, ?_⟩
  refine (ValueKit.mem_set_slice_whole_iff main_v12 (((cfgM m (ok m)).win 4).rect t) i (((cfgM m (ok m)).win 4).mem_rect_iff t i)).mpr fun a => ?_
  have e0 : cc0_transform_4 (grid0.coords t) 0 = ((i 0).val / 512 * 43 + (i 1).val / 512) / 43 := (tr_facts t).2.2.2.1
  have e1 : cc0_transform_4 (grid0.coords t) 1 = ((i 0).val / 512 * 43 + (i 1).val / 512) % 43 := (tr_facts t).2.2.2.2
  match a with
  | ⟨0, _⟩ =>
    show cc0_transform_4 (grid0.coords t) 0 * 512 ≤ (i 0).val ∧ (i 0).val < cc0_transform_4 (grid0.coords t) 0 * 512 + 512
    rw [e0]; omega
  | ⟨1, _⟩ =>
    show cc0_transform_4 (grid0.coords t) 1 * 512 ≤ (i 1).val ∧ (i 1).val < cc0_transform_4 (grid0.coords t) 1 * 512 + 512
    rw [e1]; omega

theorem final : (dats m (ok m) 0 c).arrAt 4 (cfgM m (ok m)).N = G m c :=
  (dats m (ok m) 0 c).arrAt_eq_of_cover 4 (G m c) (fun t hf => flushed_eq m c t hf) (cover m)

end Cert.ProjSIdeal.Closed

end
-- ==== Proof.ProjSRefValue.lean ====
/-
  The reference projection of the sample read at an index: each row over its root mean square, times the weights' columns in their new order.
-/
module

public import proofs.«01_k».proof.Proof.Gen.ProjSRefIdeal.Read
public import proofs.«01_k».proof.Proof.ProjMath

@[expose] public section

set_option maxRecDepth 16384

noncomputable section

namespace Cert.ProjSRefIdeal.Closed

open Cert.ProjSRefIdeal Cert.ProjSRefIdeal.Gen Idealize.ShloMosaic Idealize.ShloMosaic.TcCoe Idealize.SL.Sem Cert.FfnMath Cert.ProjMath

variable (x0 : S512x4096.Idx → EReal) (x1 : S1x4096.Idx → EReal) (x2 : S1x4096x21552.Idx → EReal)

theorem v13 (r : Fin 512) (k : Fin 4096) :
    Read.val_main_v13 (F := Ideal) x0 x1 (ix2 r k) = rms (fun k => x0 (ix2 r k)) k * x1 (ix2 0 k) := by
  unfold rms
  pointwise [Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1]

theorem v15 (r : Fin 512) (l : Fin 21552) :
    Read.val_main_v15 (F := Ideal) x0 x1 x2 (ix2 r l) = ∑ k, Read.val_main_v13 (F := Ideal) x0 x1 (ix2 r k) * x2 (ix3 0 k l) := by
  unfold Read.val_main_v15
  generalize Read.val_main_v13 (F := Ideal) x0 x1 = h
  pointwise [Read.val_main_v14]

/-- The padded groups of gates. -/
theorem v26 (r : Fin 512) (p : Fin 512) :
    Read.val_main_v26 (F := Ideal) x0 x1 x2 (ix2 r p)
      = if h : p.val % 128 < 12 then Read.val_main_v15 (F := Ideal) x0 x1 x2 (ix2 r ⟨gcol p.val, gcol_lt p.isLt h⟩) else 0 := by
  unfold Read.val_main_v26 Read.val_main_v25 Read.val_main_v23 Read.val_main_v22 Read.val_main_v21 Read.val_main_v18
  generalize Read.val_main_v15 (F := Ideal) x0 x1 x2 = z
  pointwise [Read.val_main_v24, Read.val_main_cst_2]
  split
  · refine congrArg z (congrArg (ix2 r) (Fin.ext ?_))
    show _ = gcol p.val
    unfold gcol
    dsimp only
    omega
  · rfl

theorem v27 (r : Fin 512) (C : Fin 22016) :
    Read.val_main_v27 (F := Ideal) x0 x1 x2 (ix2 r C)
      = if h : C.val < 21504 then Read.val_main_v15 (F := Ideal) x0 x1 x2 (ix2 r ⟨zcol C.val, zcol_lt h⟩)
        else Read.val_main_v26 (F := Ideal) x0 x1 x2 (ix2 r ⟨C.val - 21504, by have := C.isLt; omega⟩) := by
  unfold Read.val_main_v27 Read.val_main_v16 Read.val_main_v17 Read.val_main_v19 Read.val_main_v20
  generalize Read.val_main_v26 (F := Ideal) x0 x1 x2 = g
  generalize Read.val_main_v15 (F := Ideal) x0 x1 x2 = z
  pointwise
  have hC := C.isLt
  have ez : ∀ (n : ℕ) (hn : n < 21552) (h : C.val < 21504), n = zcol C.val → z (ix2 r ⟨n, hn⟩) = z (ix2 r ⟨zcol C.val, zcol_lt h⟩) :=
    fun n hn h e => congrArg z (congrArg (ix2 r) (Fin.ext e))
  split
  · rw [dif_pos (show C.val < 21504 by omega)]
    exact ez _ _ (by omega) (by unfold zcol; split_ifs <;> omega)
  split
  · rw [dif_pos (show C.val < 21504 by omega)]
    exact ez _ _ (by omega) (by unfold zcol; split_ifs <;> omega)
  split
  · rw [dif_pos (show C.val < 21504 by omega)]
    exact ez _ _ (by omega) (by unfold zcol; split_ifs <;> omega)
  split
  · rw [dif_pos (show C.val < 21504 by omega)]
    exact ez _ _ (by omega) (by unfold zcol; split_ifs <;> omega)
  · rw [dif_neg (show ¬C.val < 21504 by omega)]
    exact congrArg g (congrArg (ix2 r) (Fin.ext (by dsimp only; omega)))

/-- The reference's result at an index. -/
theorem val_apply (r : Fin 512) (C : Fin 22016) :
    Read.val_main_v27 (F := Ideal) x0 x1 x2 (ix2 r C)
      = ∑ k, (rms (fun k => x0 (ix2 r k)) k * x1 (ix2 0 k)) * wz (fun k a => x2 (ix3 0 k a)) C k := by
  rw [v27]
  unfold wz
  split
  · rw [v15]; simp only [v13]
  · rw [v26]
    unfold wg
    dsimp only
    split
    · rw [v15]; simp only [v13]
    · simp only [mul_zero, Finset.sum_const_zero]

end Cert.ProjSRefIdeal.Closed

end
-- ==== Proof.ProjSClaims.lean ====
/- The claims about the projection behind the norm on the sample's 512 rows: the frames, the idealization, and the value. -/
module

public import proofs.«01_k».proof.Defs
public import proofs.«01_k».proof.Proof.ProjSOk
public import proofs.«01_k».proof.Proof.ProjSValue
public import proofs.«01_k».proof.Proof.ProjSRefValue
public import Idealize.ShloMosaic.Lib.Quiescent

@[expose] public section

set_option maxRecDepth 16384

noncomputable section

namespace Cert.Proof.ProjSClaims

open Idealize.ShloMosaic Idealize.ShloMosaic.TcCoe Idealize.SL.Sem

theorem frame_p : Cert.quiescent_ProjS := fun m ρ _ => Cert.ProjS.Gen.frame m ρ (Cert.ProjS.Hand.ok m)
theorem frame_pi : Cert.quiescent_ProjSIdeal := fun m ρ _ => Cert.ProjSIdeal.Gen.frame m ρ (Cert.ProjSIdeal.Hand.ok m)
theorem frame_ri : Cert.quiescent_ProjSRefIdeal := fun m ρ _ =>
  (θ_run Cert.ProjSRefIdeal.defs _ _).mono (fun r h => ⟨fun c => (h c).2, Idealize.ShloMosaic.sem_eq_zero_of_no_sems (by decide) r.2⟩)
    (Cert.ProjSRefIdeal.Value.run (F := Ideal) m ρ)
theorem preserves : Cert.preserves_ProjS_ProjSIdeal := trivial

/-- At `Ideal` the kernel's result array and the reference's are the same function of arguments that agree. -/
theorem algebraic : Cert.algebraic_ProjSIdeal_ProjSRefIdeal := by
  intro m ρ m' ρ' _ hagree
  refine ⟨fun c => Cert.ProjSIdeal.Closed.G m c, ?_, ?_⟩
  · refine (θ_run Cert.ProjSIdeal.defs _ _).mono (fun _ h c => ⟨?_, h.2 c⟩)
      (θ_run_and (Cert.ProjSIdeal.Gen.run_main (F := Ideal) m ρ (Cert.ProjSIdeal.Hand.ok m))
        (Cert.ProjSIdeal.Gen.unchanged (F := Ideal) m ρ (Cert.ProjSIdeal.Hand.ok m)))
    exact ((h.1 c).1 4).trans (Cert.ProjSIdeal.Closed.final m c)
  · refine (θ_run Cert.ProjSRefIdeal.defs _ _).mono (fun _ h c => ⟨(h c).1.trans ?_, (h c).2⟩)
      (Cert.ProjSRefIdeal.Value.run (F := Ideal) m' ρ')
    rw [Cert.ProjSRefIdeal.Read.val_main_v27_eq, (hagree c).1, (hagree c).2.1, (hagree c).2.2]
    funext i
    obtain ⟨r, k, rfl⟩ : ∃ (r : Fin 512) (k : Fin 22016), i = ix2 r k := ⟨i 0, i 1, eq_ix2 i⟩
    exact Cert.ProjSRefIdeal.Closed.val_apply _ _ _ r k

end Cert.Proof.ProjSClaims

end
-- ==== Proof.FfnSIdealRun.lean ====
/-
  The runs of the feed-forward kernel's body at one grid point of `FfnSIdeal`: the first feed-forward tile of a row block (the
  rows of x arrive by the body's own copy and are normalised), a middle tile, and the last tile (the block is normalised).
  What each buffer ends with is the list of the stores the run meets.
-/
module

public import proofs.«01_k».proof.Proof.Gen.FfnSIdeal.Frame
public import proofs.«01_k».proof.Proof.Gen.FfnSIdeal.Skeleton

@[expose] public section

set_option maxRecDepth 16384

noncomputable section

namespace Cert.FfnSIdeal.Hand

open Cert.FfnSIdeal Cert.FfnSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev MM (F : FTy → Type) [FloatOps F] := MT nD τ sig Unit (Elt F) ℕ (Pipeline.UD sig nD τ) ℕ

/-- The condition under which the body starts a row block, and the one under which it ends one. -/
abbrev cond0 (i : grid0.Coords) : Prop := k0_cond1 i = 1#1
abbrev cond1 (i : grid0.Coords) : Prop :=
  (Scalar.cmpi .ne (Scalar.extui (Scalar.cmpi .eq (BitVec.ofNat 32 (i 1).val) 42#32)) 0#32) = 1#1

/-- The operand left where it is (the rows of x), the scratch of the normalised rows, and the copy's semaphore. -/
abbrev hbM : Memref sig .tc .hbm S512x4096 .f32 := Memref.whole main_arg0
abbrev scM : Memref sig .tc .vmem S512x4096 .bf16 := Memref.whole cc0_scratch0
abbrev HbBuf (c : Dev nD) : Type := Buf (Elt F) (hbM.view.loc (c : Thread nD τ))
abbrev hbPt (c : Dev nD) (f : HbBuf (F := F) c) : sProp (MM F) := hbM.view.loc (c : Thread nD τ) ↦{fullShare} f

set_option maxHeartbeats 4000000 in
/-- The first tile of a row block: from any contents of the block and of the scratch. -/
noncomputable def runA (c : Dev nD) (i : grid0.Coords)
    (arg3 : Memref sig .tc .vmem S1x4096 .f32) (harg3 : arg3.IsWhole) (arg4 : Memref sig .tc .vmem S4096x256 .f32) (harg4 : arg4.IsWhole)
    (arg5 : Memref sig .tc .vmem S4096x256 .f32) (harg5 : arg5.IsWhole) (arg6 : Memref sig .tc .vmem S256x4096 .f32) (harg6 : arg6.IsWhole)
    (arg7 : Memref sig .tc .vmem S1x4096 .f32) (harg7 : arg7.IsWhole) (arg8 : Memref sig .tc .vmem S512x4096 .f32) (harg8 : arg8.IsWhole)
    (hc0 : cond0 i) (hc1 : ¬cond1 i)
    (x0 : Vec F S1x4096 .f32) (x1 x2 : Vec F S4096x256 .f32) (x3 : Vec F S256x4096 .f32) (x4 : Vec F S1x4096 .f32)
    (fh : HbBuf (F := F) c) (o0 : Vec F S512x4096 .f32) (h0 : Vec F S512x4096 .bf16) :
    Σ' (L8 : List (View.Piece (Elt F) S512x4096 .f32)), { L9 : List (View.Piece (Elt F) S512x4096 .bf16) //
      ∀ (W : Waits sig Unit) (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare o0 ∗ owns (c : Thread nD τ) scM fullShare h0 ∗ semVal ((c : Thread nD τ), SemLoc.dma 9) 0 ∗ hbPt c fh ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ (∃ f, scM.view.loc (c : Thread nD τ) ↦[scM.view.set]{fullShare} scM.view.writes (Elt F) f L9) ∗ semVal ((c : Thread nD τ), SemLoc.dma 9) 0 ∗ hbPt c fh ∗ (∃ W', owes (c : Thread nD τ) 0 W')) -∗ K ⟨⟩))
          ⊢ wp frame (wpE (defs₀ (F := F)) Variants.none c none) Set.univ
              (cc0_ffn i hbM (Memref.isWhole_whole _) arg3 harg3 arg4 harg4 arg5 harg5 arg6 harg6 arg7 harg7 arg8 harg8
                scM (Memref.isWhole_whole _) cc0_scratch1) K } := by
  refine ⟨?_, ?_, fun W K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hq, Hh, HW, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := (Memref.isWhole_whole cc0_scratch0).eq_unread hfs
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS]; · iexists _; iexact HS
    isplitl [Hq]; · iexact Hq
    isplitl [Hh]; · iexact Hh
    iexists _; iexact HW

set_option maxHeartbeats 4000000 in
/-- A middle tile: over the block and the scratch as the tile before left them. -/
noncomputable def runB (c : Dev nD) (i : grid0.Coords)
    (arg3 : Memref sig .tc .vmem S1x4096 .f32) (harg3 : arg3.IsWhole) (arg4 : Memref sig .tc .vmem S4096x256 .f32) (harg4 : arg4.IsWhole)
    (arg5 : Memref sig .tc .vmem S4096x256 .f32) (harg5 : arg5.IsWhole) (arg6 : Memref sig .tc .vmem S256x4096 .f32) (harg6 : arg6.IsWhole)
    (arg7 : Memref sig .tc .vmem S1x4096 .f32) (harg7 : arg7.IsWhole) (arg8 : Memref sig .tc .vmem S512x4096 .f32) (harg8 : arg8.IsWhole)
    (hc0 : ¬cond0 i) (hc1 : ¬cond1 i)
    (x0 : Vec F S1x4096 .f32) (x1 x2 : Vec F S4096x256 .f32) (x3 : Vec F S256x4096 .f32) (x4 : Vec F S1x4096 .f32)
    (o0 : Vec F S512x4096 .f32) (h0 : Vec F S512x4096 .bf16) :
    { L8 : List (View.Piece (Elt F) S512x4096 .f32) //
      ∀ (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare o0 ∗ owns (c : Thread nD τ) scM fullShare h0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ owns (c : Thread nD τ) scM fullShare h0) -∗ K ⟨⟩))
          ⊢ wp frame (wpE (defs₀ (F := F)) Variants.none c none) Set.univ
              (cc0_ffn i hbM (Memref.isWhole_whole _) arg3 harg3 arg4 harg4 arg5 harg5 arg6 harg6 arg7 harg7 arg8 harg8
                scM (Memref.isWhole_whole _) cc0_scratch1) K } := by
  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := (Memref.isWhole_whole cc0_scratch0).eq_unread hfs
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; isplitr; · ipureintro; exact (Memref.isWhole_whole cc0_scratch0).read_unread _
    iexact HS

set_option maxHeartbeats 4000000 in
/-- The last tile of a row block, at whose end the block is normalised. -/
noncomputable def runC (c : Dev nD) (i : grid0.Coords)
    (arg3 : Memref sig .tc .vmem S1x4096 .f32) (harg3 : arg3.IsWhole) (arg4 : Memref sig .tc .vmem S4096x256 .f32) (harg4 : arg4.IsWhole)
    (arg5 : Memref sig .tc .vmem S4096x256 .f32) (harg5 : arg5.IsWhole) (arg6 : Memref sig .tc .vmem S256x4096 .f32) (harg6 : arg6.IsWhole)
    (arg7 : Memref sig .tc .vmem S1x4096 .f32) (harg7 : arg7.IsWhole) (arg8 : Memref sig .tc .vmem S512x4096 .f32) (harg8 : arg8.IsWhole)
    (hc0 : ¬cond0 i) (hc1 : cond1 i)
    (x0 : Vec F S1x4096 .f32) (x1 x2 : Vec F S4096x256 .f32) (x3 : Vec F S256x4096 .f32) (x4 : Vec F S1x4096 .f32)
    (o0 : Vec F S512x4096 .f32) (h0 : Vec F S512x4096 .bf16) :
    { L8 : List (View.Piece (Elt F) S512x4096 .f32) //
      ∀ (K : PUnit → sProp (MM F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare o0 ∗ owns (c : Thread nD τ) scM fullShare h0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ owns (c : Thread nD τ) scM fullShare h0) -∗ K ⟨⟩))
          ⊢ wp frame (wpE (defs₀ (F := F)) Variants.none c none) Set.univ
              (cc0_ffn i hbM (Memref.isWhole_whole _) arg3 harg3 arg4 harg4 arg5 harg5 arg6 harg6 arg7 harg7 arg8 harg8
                scM (Memref.isWhole_whole _) cc0_scratch1) K } := by
  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := (Memref.isWhole_whole cc0_scratch0).eq_unread hfs
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; isplitr; · ipureintro; exact (Memref.isWhole_whole cc0_scratch0).read_unread _
    iexact HS

end Cert.FfnSIdeal.Hand

end
-- ==== Proof.FfnSIdealVals.lean ====
/-
  What the feed-forward kernel's body leaves at a grid point of `FfnSIdeal`, as functions of whole buffers: the normalised rows,
  the block with one tile's products added, and the normalised block. The stores of eight row or column pieces are read back.
-/
module

public import proofs.«01_k».proof.Proof.FfnSIdealRun
public import Idealize.ShloMosaic.Lib.Pointwise
public import Idealize.ShloMosaic.Lib.Pipeline.ValueKit
public import Idealize.ShloMosaic.Lib.Pipeline.ReadBack
public import Idealize.ShloMosaic.Lib.Pipeline.Value
public import Idealize.ShloMosaic.Lib.Pipeline.ValueKit.Acc
public import Idealize.ShloMosaic.Lib.Pipeline.ValueKit.Tiles

@[expose] public section

set_option maxRecDepth 16384

noncomputable section

namespace Cert.FfnSIdeal.Hand

open Cert.FfnSIdeal Cert.FfnSIdeal.Gen
open Idealize.ShloMosaic Idealize.ShloMosaic.TcCoe Idealize.ShloMosaic.Tactic
open Idealize.SL.Sem

variable {F : FTy → Type} [FloatOps F]

/-- Rows `64 k ..` of a block, and columns `512 k ..` of a block and of a tile of the down projection. -/
def rowsOf (X : Vec F S512x4096 .f32) (k : Fin 8) : Vec F S64x4096 .f32 :=
  fun z => X (ix2 ⟨64 * k.val + (z 0).val, by have := (z 0).isLt; simp at this; omega⟩ (z 1))
def colsOf (X : Vec F S512x4096 .f32) (k : Fin 8) : Vec F S512x512 .f32 :=
  fun z => X (ix2 (z 0) ⟨512 * k.val + (z 1).val, by have := (z 1).isLt; simp at this; omega⟩)
def wcolsOf (w : Vec F S256x4096 .f32) (k : Fin 8) : Vec F S256x512 .f32 :=
  fun z => w (ix2 (z 0) ⟨512 * k.val + (z 1).val, by have := (z 1).isLt; simp at this; omega⟩)

/-- The normalised rows the scratch holds, the block after one tile, and the normalised block. -/
def hOf (X : Vec F S512x4096 .f32) (g : Vec F S1x4096 .f32) : Vec F S512x4096 .bf16 := fun y =>
  k0_pay6 (rowsOf X ⟨(y 0).val / 64, by have := (y 0).isLt; simp at this; omega⟩) g
    (ix2 ⟨(y 0).val % 64, Nat.mod_lt _ (by decide)⟩ (y 1))
def finOf (X : Vec F S512x4096 .f32) (g : Vec F S1x4096 .f32) : Vec F S512x4096 .f32 := fun y =>
  k0_pay5 (rowsOf X ⟨(y 0).val / 64, by have := (y 0).isLt; simp at this; omega⟩) g
    (ix2 ⟨(y 0).val % 64, Nat.mod_lt _ (by decide)⟩ (y 1))
def accOf (X : Vec F S512x4096 .f32) (a : FVec F S512x256 .bf16) (w : Vec F S256x4096 .f32) : Vec F S512x4096 .f32 := fun y =>
  k0_pay1 a (colsOf X ⟨(y 1).val / 512, by have := (y 1).isLt; simp at this; omega⟩)
    (wcolsOf w ⟨(y 1).val / 512, by have := (y 1).isLt; simp at this; omega⟩)
    (ix2 (y 0) ⟨(y 1).val % 512, Nat.mod_lt _ (by decide)⟩)

theorem ld_rows (X : Vec F S512x4096 .f32) (k : Fin 8) (o : Nat) (ho : o = 64 * k.val)
    (inb : ∀ a, (![o, 0] : Fin 2 → Nat) a + (![64, 4096] : Fin 2 → Nat) a ≤ S512x4096.size a) :
    View.ld (Val := Elt F) (e' := .f32) X (Rect.unit ![o, 0] ![64, 4096] inb) = rowsOf X k := by
  funext z
  refine View.ld_unit_apply_of (Val := Elt F) (e := .f32) _ _ _ _ _ _ fun a => ?_
  match a with
  | ⟨0, _⟩ => exact congrArg (· + (z 0).val) ho.symm
  | ⟨1, _⟩ => exact (Nat.zero_add _).symm
theorem ld_cols (X : Vec F S512x4096 .f32) (k : Fin 8) (o : Nat) (ho : o = 512 * k.val)
    (inb : ∀ a, (![0, o] : Fin 2 → Nat) a + (![512, 512] : Fin 2 → Nat) a ≤ S512x4096.size a) :
    View.ld (Val := Elt F) (e' := .f32) X (Rect.unit ![0, o] ![512, 512] inb) = colsOf X k := by
  funext z
  refine View.ld_unit_apply_of (Val := Elt F) (e := .f32) _ _ _ _ _ _ fun a => ?_
  match a with
  | ⟨0, _⟩ => exact (Nat.zero_add _).symm
  | ⟨1, _⟩ => exact congrArg (· + (z 1).val) ho.symm
theorem ld_wcols (X : Vec F S256x4096 .f32) (k : Fin 8) (o : Nat) (ho : o = 512 * k.val)
    (inb : ∀ a, (![0, o] : Fin 2 → Nat) a + (![256, 512] : Fin 2 → Nat) a ≤ S256x4096.size a) :
    View.ld (Val := Elt F) (e' := .f32) X (Rect.unit ![0, o] ![256, 512] inb) = wcolsOf X k := by
  funext z
  refine View.ld_unit_apply_of (Val := Elt F) (e := .f32) _ _ _ _ _ _ fun a => ?_
  match a with
  | ⟨0, _⟩ => exact (Nat.zero_add _).symm
  | ⟨1, _⟩ => exact congrArg (· + (z 1).val) ho.symm

/-- A row or column piece's place in the block. -/
theorem emb_rows {e : EltTy} (f : Fin 8 → S64x4096.Idx → Elt F e) (k : Fin 8) (o : Nat) (ho : o = 64 * k.val)
    (inb : ∀ a, (![o, 0] : Fin 2 → Nat) a + (![64, 4096] : Fin 2 → Nat) a ≤ S512x4096.size a) (x : S64x4096.Idx)
    (y : S512x4096.Idx) (hy : y = (Rect.unit (s := S512x4096) ![o, 0] ![64, 4096] inb).emb x) :
    f ⟨(y 0).val / 64, by have := (y 0).isLt; simp at this; omega⟩ (ix2 ⟨(y 0).val % 64, Nat.mod_lt _ (by decide)⟩ (y 1)) = f k x := by
  have hx : (x 0).val < 64 := (x 0).isLt
  have h0 : (y 0).val = o + (x 0).val := by rw [hy, Rect.emb_apply]; show o + 1 * (x 0).val = _; omega
  have h1 : (y 1).val = (x 1).val := by rw [hy, Rect.emb_apply]; show 0 + 1 * (x 1).val = _; omega
  refine congr (congrArg f (Fin.ext (show (y 0).val / 64 = k.val by omega))) (funext fun a => Fin.ext ?_)
  match a with
  | ⟨0, _⟩ => show (y 0).val % 64 = (x 0).val; omega
  | ⟨1, _⟩ => exact h1
theorem emb_cols (f : Fin 8 → S512x512.Idx → Elt F .f32) (k : Fin 8) (o : Nat) (ho : o = 512 * k.val)
    (inb : ∀ a, (![0, o] : Fin 2 → Nat) a + (![512, 512] : Fin 2 → Nat) a ≤ S512x4096.size a) (x : S512x512.Idx)
    (y : S512x4096.Idx) (hy : y = (Rect.unit (s := S512x4096) ![0, o] ![512, 512] inb).emb x) :
    f ⟨(y 1).val / 512, by have := (y 1).isLt; simp at this; omega⟩ (ix2 (y 0) ⟨(y 1).val % 512, Nat.mod_lt _ (by decide)⟩) = f k x := by
  have hx : (x 1).val < 512 := (x 1).isLt
  have h0 : (y 0).val = (x 0).val := by rw [hy, Rect.emb_apply]; show 0 + 1 * (x 0).val = _; omega
  have h1 : (y 1).val = o + (x 1).val := by rw [hy, Rect.emb_apply]; show o + 1 * (x 1).val = _; omega
  refine congr (congrArg f (Fin.ext (show (y 1).val / 512 = k.val by omega))) (funext fun a => Fin.ext ?_)
  match a with
  | ⟨0, _⟩ => exact h0
  | ⟨1, _⟩ => show (y 1).val % 512 = (x 1).val; omega

/-- One piece of each function. -/
theorem h_piece (X : Vec F S512x4096 .f32) (g : Vec F S1x4096 .f32) (k : Fin 8) (o : Nat) (ho : o = 64 * k.val)
    (inb : ∀ a, (![o, 0] : Fin 2 → Nat) a + (![64, 4096] : Fin 2 → Nat) a ≤ S512x4096.size a) (x : S64x4096.Idx) :
    k0_pay6 (View.ld (Val := Elt F) (e' := .f32) X (Rect.unit ![o, 0] ![64, 4096] inb)) g x
      = hOf X g ((Rect.unit (s := S512x4096) ![o, 0] ![64, 4096] inb).emb x) := by
  rw [ld_rows X k o ho inb]
  exact (emb_rows (e := .bf16) (fun k => k0_pay6 (rowsOf X k) g) k o ho inb x _ rfl).symm
theorem fin_piece (X : Vec F S512x4096 .f32) (g : Vec F S1x4096 .f32) (k : Fin 8) (o : Nat) (ho : o = 64 * k.val)
    (inb : ∀ a, (![o, 0] : Fin 2 → Nat) a + (![64, 4096] : Fin 2 → Nat) a ≤ S512x4096.size a) (x : S64x4096.Idx) :
    k0_pay5 (View.ld (Val := Elt F) (e' := .f32) X (Rect.unit ![o, 0] ![64, 4096] inb)) g x
      = finOf X g ((Rect.unit (s := S512x4096) ![o, 0] ![64, 4096] inb).emb x) := by
  rw [ld_rows X k o ho inb]
  exact (emb_rows (e := .f32) (fun k => k0_pay5 (rowsOf X k) g) k o ho inb x _ rfl).symm
theorem acc_piece (X : Vec F S512x4096 .f32) (a : FVec F S512x256 .bf16) (w : Vec F S256x4096 .f32) (k : Fin 8) (o : Nat) (ho : o = 512 * k.val)
    (inb : ∀ a, (![0, o] : Fin 2 → Nat) a + (![512, 512] : Fin 2 → Nat) a ≤ S512x4096.size a)
    (inb' : ∀ a, (![0, o] : Fin 2 → Nat) a + (![256, 512] : Fin 2 → Nat) a ≤ S256x4096.size a) (x : S512x512.Idx) :
    k0_pay1 a (View.ld (Val := Elt F) (e' := .f32) X (Rect.unit ![0, o] ![512, 512] inb))
        (View.ld (Val := Elt F) (e' := .f32) w (Rect.unit ![0, o] ![256, 512] inb')) x
      = accOf X a w ((Rect.unit (s := S512x4096) ![0, o] ![512, 512] inb).emb x) := by
  rw [ld_cols X k o ho inb, ld_wcols w k o ho inb']
  exact (emb_cols (fun k => k0_pay1 a (colsOf X k) (wcolsOf w k)) k o ho inb x _ rfl).symm

/-- A load after a transfer filled the buffer reads what the transfer brought. -/
theorem readCov_whole {sp : Space} {S : Shape} {e : EltTy} (v : View sig .tc sp S e) (Z : S.Idx → Elt F e) (r : Rect S) :
    v.readCov [⟨Rect.whole S, Z⟩] r.toLoadRect = View.ld (Val := Elt F) Z r := by
  rw [View.readCov_eq_canon']
  have h : View.canon [(⟨Rect.whole S, Z⟩ : View.Piece (Elt F) S e)] = Z := View.canon_unit_zero rfl _ Z
  rw [h]

/-- The eight column pieces of a tile, over whatever was there before, leave the block with the tile's products added. -/
abbrev accList (X : Vec F S512x4096 .f32) (h : Vec F S512x4096 .bf16) (x1 x2 : Vec F S4096x256 .f32) (w : Vec F S256x4096 .f32)
    (L' : List (View.Piece (Elt F) S512x4096 .f32)) : List (View.Piece (Elt F) S512x4096 .f32) :=
  (⟨Rect.unit ![0, 3584] ![512, 512] inb_S512x4096_S512x512_0_3584, k0_pay3 (k0_pay35 h x1 x2) (View.ld (Val := Elt F) (e' := .f32) X (Rect.unit ![0, 3584] ![512, 512] inb_S512x4096_S512x512_0_3584)) (View.ld (Val := Elt F) (e' := .f32) w (Rect.unit ![0, 3584] ![256, 512] inb_S256x4096_S256x512_0_3584))⟩ : View.Piece (Elt F) S512x4096 .f32) ::
  (⟨Rect.unit ![0, 3072] ![512, 512] inb_S512x4096_S512x512_0_3072, k0_pay2 (k0_pay35 h x1 x2) (View.ld (Val := Elt F) (e' := .f32) X (Rect.unit ![0, 3072] ![512, 512] inb_S512x4096_S512x512_0_3072)) (View.ld (Val := Elt F) (e' := .f32) w (Rect.unit ![0, 3072] ![256, 512] inb_S256x4096_S256x512_0_3072))⟩ : View.Piece (Elt F) S512x4096 .f32) ::
  (⟨Rect.unit ![0, 2560] ![512, 512] inb_S512x4096_S512x512_0_2560, k0_pay1 (k0_pay35 h x1 x2) (View.ld (Val := Elt F) (e' := .f32) X (Rect.unit ![0, 2560] ![512, 512] inb_S512x4096_S512x512_0_2560)) (View.ld (Val := Elt F) (e' := .f32) w (Rect.unit ![0, 2560] ![256, 512] inb_S256x4096_S256x512_0_2560))⟩ : View.Piece (Elt F) S512x4096 .f32) ::
  (⟨Rect.unit ![0, 2048] ![512, 512] inb_S512x4096_S512x512_0_2048, k0_pay40 (k0_pay35 h x1 x2) (View.ld (Val := Elt F) (e' := .f32) X (Rect.unit ![0, 2048] ![512, 512] inb_S512x4096_S512x512_0_2048)) (View.ld (Val := Elt F) (e' := .f32) w (Rect.unit ![0, 2048] ![256, 512] inb_S256x4096_S256x512_0_2048))⟩ : View.Piece (Elt F) S512x4096 .f32) ::
  (⟨Rect.unit ![0, 1536] ![512, 512] inb_S512x4096_S512x512_0_1536, k0_pay39 (k0_pay35 h x1 x2) (View.ld (Val := Elt F) (e' := .f32) X (Rect.unit ![0, 1536] ![512, 512] inb_S512x4096_S512x512_0_1536)) (View.ld (Val := Elt F) (e' := .f32) w (Rect.unit ![0, 1536] ![256, 512] inb_S256x4096_S256x512_0_1536))⟩ : View.Piece (Elt F) S512x4096 .f32) ::
  (⟨Rect.unit ![0, 1024] ![512, 512] inb_S512x4096_S512x512_0_1024, k0_pay38 (k0_pay35 h x1 x2) (View.ld (Val := Elt F) (e' := .f32) X (Rect.unit ![0, 1024] ![512, 512] inb_S512x4096_S512x512_0_1024)) (View.ld (Val := Elt F) (e' := .f32) w (Rect.unit ![0, 1024] ![256, 512] inb_S256x4096_S256x512_0_1024))⟩ : View.Piece (Elt F) S512x4096 .f32) ::
  (⟨Rect.unit ![0, 512] ![512, 512] inb_S512x4096_S512x512_0_512, k0_pay37 (k0_pay35 h x1 x2) (View.ld (Val := Elt F) (e' := .f32) X (Rect.unit ![0, 512] ![512, 512] inb_S512x4096_S512x512_0_512)) (View.ld (Val := Elt F) (e' := .f32) w (Rect.unit ![0, 512] ![256, 512] inb_S256x4096_S256x512_0_512))⟩ : View.Piece (Elt F) S512x4096 .f32) ::
  (⟨Rect.unit ![0, 0] ![512, 512] inb_S512x4096_S512x512_0_0, k0_pay36 h x1 x2 (View.ld (Val := Elt F) (e' := .f32) X (Rect.unit ![0, 0] ![512, 512] inb_S512x4096_S512x512_0_0)) (View.ld (Val := Elt F) (e' := .f32) w (Rect.unit ![0, 0] ![256, 512] inb_S256x4096_S256x512_0_0))⟩ : View.Piece (Elt F) S512x4096 .f32) ::
    L'

theorem canon_acc (X : Vec F S512x4096 .f32) (h : Vec F S512x4096 .bf16) (x1 x2 : Vec F S4096x256 .f32) (w : Vec F S256x4096 .f32)
    (L' : List (View.Piece (Elt F) S512x4096 .f32)) :
    View.canon (accList X h x1 x2 w L') = accOf X (k0_pay35 h x1 x2) w := by
  funext y
  refine View.canon_append_of_piecesOf (accOf X (k0_pay35 h x1 x2) w) L' [_, _, _, _, _, _, _, _] ?_ y
    (View.cover_of_tiledL _ ![512, 512] (by sl_kernel_rfl) y)
  refine ⟨?_, ?_, ?_, ?_, ?_, ?_, ?_, ?_, trivial⟩
  · exact fun x => acc_piece X _ w 7 _ rfl _ _ x
  · exact fun x => acc_piece X _ w 6 _ rfl _ _ x
  · exact fun x => acc_piece X _ w 5 _ rfl _ _ x
  · exact fun x => acc_piece X _ w 4 _ rfl _ _ x
  · exact fun x => acc_piece X _ w 3 _ rfl _ _ x
  · exact fun x => acc_piece X _ w 2 _ rfl _ _ x
  · exact fun x => acc_piece X _ w 1 _ rfl _ _ x
  · exact fun x => acc_piece X _ w 0 _ rfl _ _ x

theorem readCov_acc {sp : Space} (v : View sig .tc sp S512x4096 .f32) (X : Vec F S512x4096 .f32) (h : Vec F S512x4096 .bf16)
    (x1 x2 : Vec F S4096x256 .f32) (w : Vec F S256x4096 .f32) (L' : List (View.Piece (Elt F) S512x4096 .f32)) (r : Rect S512x4096) :
    v.readCov (
      (⟨Rect.unit ![0, 3584] ![512, 512] inb_S512x4096_S512x512_0_3584, k0_pay3 (k0_pay35 h x1 x2) (View.ld (Val := Elt F) (e' := .f32) X (Rect.unit ![0, 3584] ![512, 512] inb_S512x4096_S512x512_0_3584)) (View.ld (Val := Elt F) (e' := .f32) w (Rect.unit ![0, 3584] ![256, 512] inb_S256x4096_S256x512_0_3584))⟩ : View.Piece (Elt F) S512x4096 .f32) ::
      (⟨Rect.unit ![0, 3072] ![512, 512] inb_S512x4096_S512x512_0_3072, k0_pay2 (k0_pay35 h x1 x2) (View.ld (Val := Elt F) (e' := .f32) X (Rect.unit ![0, 3072] ![512, 512] inb_S512x4096_S512x512_0_3072)) (View.ld (Val := Elt F) (e' := .f32) w (Rect.unit ![0, 3072] ![256, 512] inb_S256x4096_S256x512_0_3072))⟩ : View.Piece (Elt F) S512x4096 .f32) ::
      (⟨Rect.unit ![0, 2560] ![512, 512] inb_S512x4096_S512x512_0_2560, k0_pay1 (k0_pay35 h x1 x2) (View.ld (Val := Elt F) (e' := .f32) X (Rect.unit ![0, 2560] ![512, 512] inb_S512x4096_S512x512_0_2560)) (View.ld (Val := Elt F) (e' := .f32) w (Rect.unit ![0, 2560] ![256, 512] inb_S256x4096_S256x512_0_2560))⟩ : View.Piece (Elt F) S512x4096 .f32) ::
      (⟨Rect.unit ![0, 2048] ![512, 512] inb_S512x4096_S512x512_0_2048, k0_pay40 (k0_pay35 h x1 x2) (View.ld (Val := Elt F) (e' := .f32) X (Rect.unit ![0, 2048] ![512, 512] inb_S512x4096_S512x512_0_2048)) (View.ld (Val := Elt F) (e' := .f32) w (Rect.unit ![0, 2048] ![256, 512] inb_S256x4096_S256x512_0_2048))⟩ : View.Piece (Elt F) S512x4096 .f32) ::
      (⟨Rect.unit ![0, 1536] ![512, 512] inb_S512x4096_S512x512_0_1536, k0_pay39 (k0_pay35 h x1 x2) (View.ld (Val := Elt F) (e' := .f32) X (Rect.unit ![0, 1536] ![512, 512] inb_S512x4096_S512x512_0_1536)) (View.ld (Val := Elt F) (e' := .f32) w (Rect.unit ![0, 1536] ![256, 512] inb_S256x4096_S256x512_0_1536))⟩ : View.Piece (Elt F) S512x4096 .f32) ::
      (⟨Rect.unit ![0, 1024] ![512, 512] inb_S512x4096_S512x512_0_1024, k0_pay38 (k0_pay35 h x1 x2) (View.ld (Val := Elt F) (e' := .f32) X (Rect.unit ![0, 1024] ![512, 512] inb_S512x4096_S512x512_0_1024)) (View.ld (Val := Elt F) (e' := .f32) w (Rect.unit ![0, 1024] ![256, 512] inb_S256x4096_S256x512_0_1024))⟩ : View.Piece (Elt F) S512x4096 .f32) ::
      (⟨Rect.unit ![0, 512] ![512, 512] inb_S512x4096_S512x512_0_512, k0_pay37 (k0_pay35 h x1 x2) (View.ld (Val := Elt F) (e' := .f32) X (Rect.unit ![0, 512] ![512, 512] inb_S512x4096_S512x512_0_512)) (View.ld (Val := Elt F) (e' := .f32) w (Rect.unit ![0, 512] ![256, 512] inb_S256x4096_S256x512_0_512))⟩ : View.Piece (Elt F) S512x4096 .f32) ::
      (⟨Rect.unit ![0, 0] ![512, 512] inb_S512x4096_S512x512_0_0, k0_pay36 h x1 x2 (View.ld (Val := Elt F) (e' := .f32) X (Rect.unit ![0, 0] ![512, 512] inb_S512x4096_S512x512_0_0)) (View.ld (Val := Elt F) (e' := .f32) w (Rect.unit ![0, 0] ![256, 512] inb_S256x4096_S256x512_0_0))⟩ : View.Piece (Elt F) S512x4096 .f32) ::
      L') r.toLoadRect = View.ld (Val := Elt F) (e' := .f32) (accOf X (k0_pay35 h x1 x2) w) r := by
  rw [View.readCov_eq_canon']
  have e := canon_acc X h x1 x2 w L'
  unfold accList at e
  rw [e]

/-- The eight row pieces leave the normalised rows. -/
abbrev hList (X : Vec F S512x4096 .f32) (g : Vec F S1x4096 .f32) : List (View.Piece (Elt F) S512x4096 .bf16) :=
  (⟨Rect.unit ![448, 0] ![64, 4096] inb_S512x4096_S64x4096_448_0, k0_pay34 (k0_pay19 (View.ld (Val := Elt F) (e' := .f32) X (Rect.unit ![448, 0] ![64, 4096] inb_S512x4096_S64x4096_448_0))) (k0_pay20 g)⟩ : View.Piece (Elt F) S512x4096 .bf16) ::
  (⟨Rect.unit ![384, 0] ![64, 4096] inb_S512x4096_S64x4096_384_0, k0_pay18 (View.ld (Val := Elt F) (e' := .f32) X (Rect.unit ![384, 0] ![64, 4096] inb_S512x4096_S64x4096_384_0)) g⟩ : View.Piece (Elt F) S512x4096 .bf16) ::
  (⟨Rect.unit ![320, 0] ![64, 4096] inb_S512x4096_S64x4096_320_0, k0_pay17 (k0_pay15 (View.ld (Val := Elt F) (e' := .f32) X (Rect.unit ![320, 0] ![64, 4096] inb_S512x4096_S64x4096_320_0))) (k0_pay16 g)⟩ : View.Piece (Elt F) S512x4096 .bf16) ::
  (⟨Rect.unit ![256, 0] ![64, 4096] inb_S512x4096_S64x4096_256_0, k0_pay14 (View.ld (Val := Elt F) (e' := .f32) X (Rect.unit ![256, 0] ![64, 4096] inb_S512x4096_S64x4096_256_0)) g⟩ : View.Piece (Elt F) S512x4096 .bf16) ::
  (⟨Rect.unit ![192, 0] ![64, 4096] inb_S512x4096_S64x4096_192_0, k0_pay13 (k0_pay11 (View.ld (Val := Elt F) (e' := .f32) X (Rect.unit ![192, 0] ![64, 4096] inb_S512x4096_S64x4096_192_0))) (k0_pay12 g)⟩ : View.Piece (Elt F) S512x4096 .bf16) ::
  (⟨Rect.unit ![128, 0] ![64, 4096] inb_S512x4096_S64x4096_128_0, k0_pay10 (View.ld (Val := Elt F) (e' := .f32) X (Rect.unit ![128, 0] ![64, 4096] inb_S512x4096_S64x4096_128_0)) g⟩ : View.Piece (Elt F) S512x4096 .bf16) ::
  (⟨Rect.unit ![64, 0] ![64, 4096] inb_S512x4096_S64x4096_64_0, k0_pay9 (k0_pay7 (View.ld (Val := Elt F) (e' := .f32) X (Rect.unit ![64, 0] ![64, 4096] inb_S512x4096_S64x4096_64_0))) (k0_pay8 g)⟩ : View.Piece (Elt F) S512x4096 .bf16) ::
  (⟨Rect.unit ![0, 0] ![64, 4096] inb_S512x4096_S64x4096_0_0, k0_pay6 (View.ld (Val := Elt F) (e' := .f32) X (Rect.unit ![0, 0] ![64, 4096] inb_S512x4096_S64x4096_0_0)) g⟩ : View.Piece (Elt F) S512x4096 .bf16) ::
    []

theorem canon_h (X : Vec F S512x4096 .f32) (g : Vec F S1x4096 .f32) : View.canon (hList X g) = hOf X g := by
  funext y
  refine View.canon_apply_of_pieces _ _ (View.PiecesOf.mem ?_) y (View.cover_of_tiledL _ ![64, 4096] (by sl_kernel_rfl) y)
  refine ⟨?_, ?_, ?_, ?_, ?_, ?_, ?_, ?_, trivial⟩
  · exact fun x => h_piece X g 7 _ rfl _ x
  · exact fun x => h_piece X g 6 _ rfl _ x
  · exact fun x => h_piece X g 5 _ rfl _ x
  · exact fun x => h_piece X g 4 _ rfl _ x
  · exact fun x => h_piece X g 3 _ rfl _ x
  · exact fun x => h_piece X g 2 _ rfl _ x
  · exact fun x => h_piece X g 1 _ rfl _ x
  · exact fun x => h_piece X g 0 _ rfl _ x

theorem readCov_h {sp : Space} (v : View sig .tc sp S512x4096 .bf16) (X : Vec F S512x4096 .f32) (g : Vec F S1x4096 .f32) (r : Rect S512x4096) :
    v.readCov (
      (⟨Rect.unit ![448, 0] ![64, 4096] inb_S512x4096_S64x4096_448_0, k0_pay34 (k0_pay19 (View.ld (Val := Elt F) (e' := .f32) X (Rect.unit ![448, 0] ![64, 4096] inb_S512x4096_S64x4096_448_0))) (k0_pay20 g)⟩ : View.Piece (Elt F) S512x4096 .bf16) ::
      (⟨Rect.unit ![384, 0] ![64, 4096] inb_S512x4096_S64x4096_384_0, k0_pay18 (View.ld (Val := Elt F) (e' := .f32) X (Rect.unit ![384, 0] ![64, 4096] inb_S512x4096_S64x4096_384_0)) g⟩ : View.Piece (Elt F) S512x4096 .bf16) ::
      (⟨Rect.unit ![320, 0] ![64, 4096] inb_S512x4096_S64x4096_320_0, k0_pay17 (k0_pay15 (View.ld (Val := Elt F) (e' := .f32) X (Rect.unit ![320, 0] ![64, 4096] inb_S512x4096_S64x4096_320_0))) (k0_pay16 g)⟩ : View.Piece (Elt F) S512x4096 .bf16) ::
      (⟨Rect.unit ![256, 0] ![64, 4096] inb_S512x4096_S64x4096_256_0, k0_pay14 (View.ld (Val := Elt F) (e' := .f32) X (Rect.unit ![256, 0] ![64, 4096] inb_S512x4096_S64x4096_256_0)) g⟩ : View.Piece (Elt F) S512x4096 .bf16) ::
      (⟨Rect.unit ![192, 0] ![64, 4096] inb_S512x4096_S64x4096_192_0, k0_pay13 (k0_pay11 (View.ld (Val := Elt F) (e' := .f32) X (Rect.unit ![192, 0] ![64, 4096] inb_S512x4096_S64x4096_192_0))) (k0_pay12 g)⟩ : View.Piece (Elt F) S512x4096 .bf16) ::
      (⟨Rect.unit ![128, 0] ![64, 4096] inb_S512x4096_S64x4096_128_0, k0_pay10 (View.ld (Val := Elt F) (e' := .f32) X (Rect.unit ![128, 0] ![64, 4096] inb_S512x4096_S64x4096_128_0)) g⟩ : View.Piece (Elt F) S512x4096 .bf16) ::
      (⟨Rect.unit ![64, 0] ![64, 4096] inb_S512x4096_S64x4096_64_0, k0_pay9 (k0_pay7 (View.ld (Val := Elt F) (e' := .f32) X (Rect.unit ![64, 0] ![64, 4096] inb_S512x4096_S64x4096_64_0))) (k0_pay8 g)⟩ : View.Piece (Elt F) S512x4096 .bf16) ::
      (⟨Rect.unit ![0, 0] ![64, 4096] inb_S512x4096_S64x4096_0_0, k0_pay6 (View.ld (Val := Elt F) (e' := .f32) X (Rect.unit ![0, 0] ![64, 4096] inb_S512x4096_S64x4096_0_0)) g⟩ : View.Piece (Elt F) S512x4096 .bf16) ::
      []) r.toLoadRect = View.ld (Val := Elt F) (e' := .bf16) (hOf X g) r := by
  rw [View.readCov_eq_canon']
  have e := canon_h X g
  unfold hList at e
  rw [e]

section Runs

variable (c : Dev nD) (i : grid0.Coords)
    (arg3 : Memref sig .tc .vmem S1x4096 .f32) (harg3 : arg3.IsWhole) (arg4 : Memref sig .tc .vmem S4096x256 .f32) (harg4 : arg4.IsWhole)
    (arg5 : Memref sig .tc .vmem S4096x256 .f32) (harg5 : arg5.IsWhole) (arg6 : Memref sig .tc .vmem S256x4096 .f32) (harg6 : arg6.IsWhole)
    (arg7 : Memref sig .tc .vmem S1x4096 .f32) (harg7 : arg7.IsWhole) (arg8 : Memref sig .tc .vmem S512x4096 .f32) (harg8 : arg8.IsWhole)
    (x0 : Vec F S1x4096 .f32) (x1 x2 : Vec F S4096x256 .f32) (x3 : Vec F S256x4096 .f32) (x4 : Vec F S1x4096 .f32)

/-- A middle tile adds its products to the block. -/
theorem runB_cover (hc0 : ¬cond0 i) (hc1 : ¬cond1 i) (o0 : Vec F S512x4096 .f32) (h0 : Vec F S512x4096 .bf16) (y : S512x4096.Idx) :
    ∃ p ∈ (runB c i arg3 harg3 arg4 harg4 arg5 harg5 arg6 harg6 arg7 harg7 arg8 harg8 hc0 hc1 x0 x1 x2 x3 x4 o0 h0).1, y ∈ p.1.set :=
  View.cover_of_tiledL _ ![512, 512] (by sl_kernel_rfl) y

theorem runB_canon (hc0 : ¬cond0 i) (hc1 : ¬cond1 i) (o0 : Vec F S512x4096 .f32) (h0 : Vec F S512x4096 .bf16) :
    View.canon (runB c i arg3 harg3 arg4 harg4 arg5 harg5 arg6 harg6 arg7 harg7 arg8 harg8 hc0 hc1 x0 x1 x2 x3 x4 o0 h0).1
      = accOf o0 (k0_pay35 h0 x1 x2) x3 := by
  frame_open
  simp (disch := decide) only [View.readAt_eq_ld, Memref.IsWhole.read_unread, read_unread_whole, View.ld_unit_lit']
  exact canon_acc o0 h0 x1 x2 x3 []

/-- The last tile adds its products and then normalises the block. -/
theorem runC_cover (hc0 : ¬cond0 i) (hc1 : cond1 i) (o0 : Vec F S512x4096 .f32) (h0 : Vec F S512x4096 .bf16) (y : S512x4096.Idx) :
    ∃ p ∈ (runC c i arg3 harg3 arg4 harg4 arg5 harg5 arg6 harg6 arg7 harg7 arg8 harg8 hc0 hc1 x0 x1 x2 x3 x4 o0 h0).1, y ∈ p.1.set := by
  frame_open
  obtain ⟨p, hp, hy⟩ := View.cover_of_tiledL (s := S512x4096) (Val := Elt F) (e := .f32) [_, _, _, _, _, _, _, _] ![64, 4096] (by sl_kernel_rfl) y
  exact ⟨p, List.mem_append_left [_, _, _, _, _, _, _, _] hp, hy⟩

set_option maxHeartbeats 2000000 in
theorem runC_canon (hc0 : ¬cond0 i) (hc1 : cond1 i) (o0 : Vec F S512x4096 .f32) (h0 : Vec F S512x4096 .bf16) :
    View.canon (runC c i arg3 harg3 arg4 harg4 arg5 harg5 arg6 harg6 arg7 harg7 arg8 harg8 hc0 hc1 x0 x1 x2 x3 x4 o0 h0).1
      = finOf (accOf o0 (k0_pay35 h0 x1 x2) x3) x4 := by
  funext y
  frame_open
  simp (disch := decide) only [↓ View.readCov_skip, View.readAt_eq_ld, Memref.IsWhole.read_unread, read_unread_whole, View.ld_unit_lit']
  simp only [readCov_acc]
  refine View.canon_append_of_piecesOf (finOf (accOf o0 (k0_pay35 h0 x1 x2) x3) x4) [_, _, _, _, _, _, _, _] [_, _, _, _, _, _, _, _] ?_ y
    (View.cover_of_tiledL _ ![64, 4096] (by sl_kernel_rfl) y)
  refine ⟨?_, ?_, ?_, ?_, ?_, ?_, ?_, ?_, trivial⟩
  · exact fun x => fin_piece _ x4 7 _ rfl _ x
  · exact fun x => fin_piece _ x4 6 _ rfl _ x
  · exact fun x => fin_piece _ x4 5 _ rfl _ x
  · exact fun x => fin_piece _ x4 4 _ rfl _ x
  · exact fun x => fin_piece _ x4 3 _ rfl _ x
  · exact fun x => fin_piece _ x4 2 _ rfl _ x
  · exact fun x => fin_piece _ x4 1 _ rfl _ x
  · exact fun x => fin_piece _ x4 0 _ rfl _ x

/-- The first tile: the rows brought from the operand are normalised into the scratch, and the tile's products added to them. -/
abbrev rowsIn (hc0 : cond0 i) (fh : HbBuf (F := F) c) : Vec F S512x4096 .f32 := runA.sl.dma0 c i hc0 fh

theorem runA_coverH (hc0 : cond0 i) (hc1 : ¬cond1 i) (fh : HbBuf (F := F) c) (o0 : Vec F S512x4096 .f32) (h0 : Vec F S512x4096 .bf16) (y : S512x4096.Idx) :
    ∃ p ∈ (runA c i arg3 harg3 arg4 harg4 arg5 harg5 arg6 harg6 arg7 harg7 arg8 harg8 hc0 hc1 x0 x1 x2 x3 x4 fh o0 h0).2.1, y ∈ p.1.set :=
  View.cover_of_tiledL _ ![64, 4096] (by sl_kernel_rfl) y

theorem runA_coverO (hc0 : cond0 i) (hc1 : ¬cond1 i) (fh : HbBuf (F := F) c) (o0 : Vec F S512x4096 .f32) (h0 : Vec F S512x4096 .bf16) (y : S512x4096.Idx) :
    ∃ p ∈ (runA c i arg3 harg3 arg4 harg4 arg5 harg5 arg6 harg6 arg7 harg7 arg8 harg8 hc0 hc1 x0 x1 x2 x3 x4 fh o0 h0).1, y ∈ p.1.set := by
  frame_open
  obtain ⟨p, hp, hy⟩ := View.cover_of_tiledL (s := S512x4096) (Val := Elt F) (e := .f32) [_, _, _, _, _, _, _, _] ![512, 512] (by sl_kernel_rfl) y
  exact ⟨p, List.mem_append_left [_] hp, hy⟩

set_option maxHeartbeats 2000000 in
theorem runA_canonH (hc0 : cond0 i) (hc1 : ¬cond1 i) (fh : HbBuf (F := F) c) (o0 : Vec F S512x4096 .f32) (h0 : Vec F S512x4096 .bf16) :
    View.canon (runA c i arg3 harg3 arg4 harg4 arg5 harg5 arg6 harg6 arg7 harg7 arg8 harg8 hc0 hc1 x0 x1 x2 x3 x4 fh o0 h0).2.1 = hOf (rowsIn c i hc0 fh) x0 := by
  frame_open
  simp (disch := decide) only [readCov_whole, View.readAt_eq_ld, Memref.IsWhole.read_unread, read_unread_whole, View.ld_unit_lit']
  exact canon_h _ x0

set_option maxHeartbeats 2000000 in
theorem runA_canonO (hc0 : cond0 i) (hc1 : ¬cond1 i) (fh : HbBuf (F := F) c) (o0 : Vec F S512x4096 .f32) (h0 : Vec F S512x4096 .bf16) :
    View.canon (runA c i arg3 harg3 arg4 harg4 arg5 harg5 arg6 harg6 arg7 harg7 arg8 harg8 hc0 hc1 x0 x1 x2 x3 x4 fh o0 h0).1
      = accOf (rowsIn c i hc0 fh) (k0_pay35 (hOf (rowsIn c i hc0 fh) x0) x1 x2) x3 := by
  frame_open
  simp (disch := decide) only [↓ View.readCov_skip, readCov_whole, View.readAt_eq_ld, Memref.IsWhole.read_unread, read_unread_whole, View.ld_unit_lit']
  simp (disch := decide) only [readCov_h, View.ld_unit_lit']
  exact canon_acc (rowsIn c i hc0 fh) (hOf (rowsIn c i hc0 fh) x0) x1 x2 x3 _

end Runs

end Cert.FfnSIdeal.Hand

end
-- ==== Proof.FfnSIdealFrame.lean ====
/-
  The frame of the feed-forward kernel `FfnSIdeal`: what the output block and the scratch of normalised rows hold after every
  grid point, the body's obligation at each point, the run of the whole program, and its frame.
-/
module

public import proofs.«01_k».proof.Proof.FfnSIdealVals

@[expose] public section

set_option maxRecDepth 16384

noncomputable section

namespace Cert.FfnSIdeal.Hand

open Cert.FfnSIdeal Cert.FfnSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The conditions at a point -/

theorem hcond0 : ∀ t : Fin cfg0.N, cond0 (grid0.coords t) ↔ t.val % 43 = 0 :=
  fun t : Fin grid0.N => by
    have ht : t.val < 43 := Nat.lt_of_lt_of_eq t.isLt N_0
    have e0 : (grid0.coords t 0).val = t.val / 43 % 1 := Pipeline.Grid.coords_val t 0 (by decide) rfl
    have e1 : (grid0.coords t 1).val = t.val / 1 % 43 := Pipeline.Grid.coords_val t 1 (by decide) rfl
    simp only [cond0, k0_cond1, e0, e1]; word_cmp
theorem hcond1 : ∀ t : Fin cfg0.N, cond1 (grid0.coords t) ↔ t.val % 43 = 42 :=
  fun t : Fin grid0.N => by
    have ht : t.val < 43 := Nat.lt_of_lt_of_eq t.isLt N_0
    have e1 : (grid0.coords t 1).val = t.val / 1 % 43 := Pipeline.Grid.coords_val t 1 (by decide) rfl
    simp only [cond1, e1]; word_cmp

/-! ## @main up to the region -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

section Before
variable {c : Dev nD} (dat : Dat τ (Elt F) Unit ℕ (Pipeline.UD sig nD τ) ℕ cfg0 c)
theorem beforeD_0 (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1 (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeD_2 (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_3 (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeD_4 (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Before

abbrev osem0 : Fin 1 → SemLoc sig := fun j => (![SemLoc.dma 9] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = semVal ((c : Thread nD τ), SemLoc.dma 9) 0 := by
  rw [Pipeline.ownSems0_eq_of_list c osem0 [0] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp (MM F)) = hbPt c (V m c main_arg0) := by
  rw [BI.bigSep_eq_bigSepL_of_eq [main_arg0] (by decide) (by decide)]; rfl
theorem PhiD0_eq (c : Dev nD) :
    (Pipeline.ΦD osem0 spec0 H0 (V m) c : sProp (MM F))
      = iprop((∃ d, owns (c : Thread nD τ) scM fullShare d) ∗ (∃ r, prngReg c r)
          ∗ semVal ((c : Thread nD τ), SemLoc.dma 9) 0 ∗ hbPt c (V m c main_arg0)) := by
  rw [Pipeline.ΦD_eq, scopedRest0_eq, ownSems00_eq, hbmPts0_eq]
  simp only [scM, owns_whole]; rfl

/-! ## The block and the scratch after each point -/

/-- The weights' and the scales' blocks at a point, at the types the body takes them. -/
abbrev X0 (c : Dev nD) (t : Fin cfg0.N) : Vec F S1x4096 .f32 := iblk m c 0 t
abbrev X1 (c : Dev nD) (t : Fin cfg0.N) : Vec F S4096x256 .f32 := iblk m c 1 t
abbrev X2 (c : Dev nD) (t : Fin cfg0.N) : Vec F S4096x256 .f32 := iblk m c 2 t
abbrev X3 (c : Dev nD) (t : Fin cfg0.N) : Vec F S256x4096 .f32 := iblk m c 3 t
abbrev X4 (c : Dev nD) (t : Fin cfg0.N) : Vec F S1x4096 .f32 := iblk m c 4 t

/-- One point: the block and the scratch after it, from what they were before. -/
def step (c : Dev nD) (t : Fin cfg0.N) (prev : Vec F S512x4096 .f32 × Vec F S512x4096 .bf16) :
    Vec F S512x4096 .f32 × Vec F S512x4096 .bf16 := by
  classical exact
  if h0 : cond0 (grid0.coords t) then
    (accOf (rowsIn c (grid0.coords t) h0 (V m c main_arg0))
        (k0_pay35 (hOf (rowsIn c (grid0.coords t) h0 (V m c main_arg0)) (X0 m c t)) (X1 m c t) (X2 m c t)) (X3 m c t),
      hOf (rowsIn c (grid0.coords t) h0 (V m c main_arg0)) (X0 m c t))
  else if cond1 (grid0.coords t) then
    (finOf (accOf prev.1 (k0_pay35 prev.2 (X1 m c t) (X2 m c t)) (X3 m c t)) (X4 m c t), prev.2)
  else (accOf prev.1 (k0_pay35 prev.2 (X1 m c t) (X2 m c t)) (X3 m c t), prev.2)

theorem step_A (c : Dev nD) (t : Fin cfg0.N) (prev) (h0 : cond0 (grid0.coords t)) :
    step m c t prev = (accOf (rowsIn c (grid0.coords t) h0 (V m c main_arg0))
        (k0_pay35 (hOf (rowsIn c (grid0.coords t) h0 (V m c main_arg0)) (X0 m c t)) (X1 m c t) (X2 m c t)) (X3 m c t),
      hOf (rowsIn c (grid0.coords t) h0 (V m c main_arg0)) (X0 m c t)) := by
  unfold step; exact dif_pos h0
theorem step_C (c : Dev nD) (t : Fin cfg0.N) (prev) (h0 : ¬cond0 (grid0.coords t)) (h1 : cond1 (grid0.coords t)) :
    step m c t prev = (finOf (accOf prev.1 (k0_pay35 prev.2 (X1 m c t) (X2 m c t)) (X3 m c t)) (X4 m c t), prev.2) := by
  unfold step; rw [dif_neg h0]; exact if_pos h1
theorem step_B (c : Dev nD) (t : Fin cfg0.N) (prev) (h0 : ¬cond0 (grid0.coords t)) (h1 : ¬cond1 (grid0.coords t)) :
    step m c t prev = (accOf prev.1 (k0_pay35 prev.2 (X1 m c t) (X2 m c t)) (X3 m c t), prev.2) := by
  unfold step; rw [dif_neg h0]; exact if_neg h1

/-- The block and the scratch before point `n`. -/
def stN (c : Dev nD) : ℕ → Vec F S512x4096 .f32 × Vec F S512x4096 .bf16
  | 0 => (View.canon [], View.canon [])
  | n + 1 => if h : n < cfg0.N then step m c ⟨n, h⟩ (stN c n) else stN c n

theorem stN_succ (c : Dev nD) (t : Fin cfg0.N) : stN m c (t.val + 1) = step m c t (stN m c t.val) := by
  rw [stN]; exact dif_pos t.isLt

/-! ## The proof data -/

def PhiS (c : Dev nD) (n : ℕ) : sProp (MM F) :=
  iprop((∃ d, ⌜n % 43 ≠ 0 → d = (stN m c n).2⌝ ∗ owns (c : Thread nD τ) scM fullShare d) ∗ (∃ r, prngReg c r)
    ∗ semVal ((c : Thread nD τ), SemLoc.dma 9) 0 ∗ hbPt c (V m c main_arg0))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stN m c (t.val + 1)).1
  Φ n := PhiS m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (stN m c (t.val + 1)).1 := by dsimp only [dats]
theorem before0_0 (c : Dev nD) (t : Fin cfg0.N) (d) : (dats m 0 c).before 0 t d = iblk m c 0 t := beforeD_0 m _ (A_eq m c 0) (after0_0 m c) t d
theorem before0_1 (c : Dev nD) (t : Fin cfg0.N) (d) : (dats m 0 c).before 1 t d = iblk m c 1 t := beforeD_1 m _ (A_eq m c 1) (after0_1 m c) t d
theorem before0_2 (c : Dev nD) (t : Fin cfg0.N) (d) : (dats m 0 c).before 2 t d = iblk m c 2 t := beforeD_2 m _ (A_eq m c 2) (after0_2 m c) t d
theorem before0_3 (c : Dev nD) (t : Fin cfg0.N) (d) : (dats m 0 c).before 3 t d = iblk m c 3 t := beforeD_3 m _ (A_eq m c 3) (after0_3 m c) t d
theorem before0_4 (c : Dev nD) (t : Fin cfg0.N) (d) : (dats m 0 c).before 4 t d = iblk m c 4 t := beforeD_4 m _ (A_eq m c 4) (after0_4 m c) t d

/-- The output block before a point that does not start a row block is what the point before left. -/
theorem before0_5_kept (c : Dev nD) (t : Fin cfg0.N) (h : t.val % 43 ≠ 0) (d) : (dats m 0 c).before 5 t d = (stN m c t.val).1 := by
  have ht : t.val ≠ 0 := fun h0 => h (by rw [h0])
  rw [Dat.before_out_kept (dats m 0 c) 5 rfl t ht
    (Bool.eq_false_iff.mpr fun hf => h (by have := (flush0_5 _).mp hf; dsimp only at this; omega))
    (fun _ => rfl) (fun _ _ => rfl) d, after0_5]
  dsimp only
  rw [Nat.sub_add_cancel (Nat.one_le_iff_ne_zero.mpr ht)]

def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = PhiS m c t.val from rfl, show (dats m 0 c).Φ t.succ = PhiS m c (t.val + 1) from rfl]
  rw [after0_0, after0_1, after0_2, after0_3, after0_4, after0_5]
  simp only [before0_0, before0_1, before0_2, before0_3, before0_4]
  unfold Dat.owesAt Pipeline.owesWithin PhiS
  rw [show (dats m 0 c).owed t.castSucc = 0 from rfl, show (dats m 0 c).owed t.succ = 0 from rfl]
  by_cases h0 : cond0 (grid0.coords t)
  · have h1 : ¬cond1 (grid0.coords t) := fun h => by
      have a := (hcond0 t).mp h0
      have b := (hcond1 t).mp h
      omega
    iintro ⟨⟨⟨%ds, -, HS⟩, Hg, Hq, Hh⟩, ⟨%W, -, HW⟩, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ h0 h1 (X0 m c t) (X1 m c t) (X2 m c t) (X3 m c t) (X4 m c t)
      (V m c main_arg0) ((dats m 0 c).before 5 t d5) ds).2.2 W _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [Hq]; · iexact Hq
    isplitl [Hh]; · iexact Hh
    isplitl [HW]; · iexact HW
    iintro ⟨H0, H1, H2, H3, H4, ⟨%e5, H5⟩, ⟨%es, HS⟩, Hq, Hh, ⟨%W', HW'⟩⟩
    isplitl [HS Hg Hq Hh]
    · isplitl [HS]
      · iexists _; isplitr; swap
        · unfold owns; iexists _; isplitr; swap
          · iexact HS
          ipureintro
          exact (View.read_writes_eq_canon _ _ _ (runA_coverH c _ _ _ _ _ _ _ _ _ _ _ _ _ _ _ _ _ _ h0 h1 _ _ _)).trans
            (runA_canonH c _ _ _ _ _ _ _ _ _ _ _ _ _ _ _ _ _ _ h0 h1 _ _ _)
        · ipureintro; intro _
          rw [stN_succ, step_A m c t _ h0]
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    unfold owns; iexists _; isplitr; swap
    · iexact H5
    ipureintro
    rw [stN_succ, step_A m c t _ h0]
    exact (View.read_writes_eq_canon _ _ _ (runA_coverO c _ _ _ _ _ _ _ _ _ _ _ _ _ _ _ _ _ _ h0 h1 _ _ _)).trans
      (runA_canonO c _ _ _ _ _ _ _ _ _ _ _ _ _ _ _ _ _ _ h0 h1 _ _ _)
  · have hn : t.val % 43 ≠ 0 := fun h => h0 ((hcond0 t).mpr h)
    simp only [before0_5_kept m c t hn]
    by_cases h1 : cond1 (grid0.coords t)
    · iintro ⟨⟨⟨%ds, %hds, HS⟩, Hg, Hq, Hh⟩, ⟨%W, -, HW⟩, ⟨%d0, H0⟩, ⟨%d1, H1⟩, ⟨%d2, H2⟩, ⟨%d3, H3⟩, ⟨%d4, H4⟩, ⟨%d5, H5⟩⟩
      obtain rfl := hds hn
      iapply ((runC c (grid0.coords t) _ _ _ _ _ _ _ _ _ _ _ _ h0 h1 (X0 m c t) (X1 m c t) (X2 m c t) (X3 m c t) (X4 m c t)
        (stN m c t.val).1 (stN m c t.val).2).2 _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, ⟨%e5, H5⟩, HS⟩
      isplitl [HS Hg Hq Hh]
      · isplitl [HS]
        · iexists _; isplitr; swap
          · iexact HS
          · ipureintro; intro _
            rw [stN_succ, step_C m c t _ h0 h1]
        isplitl [Hg]; · iexact Hg
        isplitl [Hq]; · iexact Hq
        iexact Hh
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      unfold owns; iexists _; isplitr; swap
      · iexact H5
      ipureintro
      rw [stN_succ, step_C m c t _ h0 h1]
      exact (View.read_writes_eq_canon _ _ _ (runC_cover c _ _ _ _ _ _ _ _ _ _ _ _ _ _ _ _ _ _ h0 h1 _ _)).trans
        (runC_canon c _ _ _ _ _ _ _ _ _ _ _ _ _ _ _ _ _ _ h0 h1 _ _)
    · iintro ⟨⟨⟨%ds, %hds, HS⟩, Hg, Hq, Hh⟩, ⟨%W, -, HW⟩, ⟨%d0, H0⟩, ⟨%d1, H1⟩, ⟨%d2, H2⟩, ⟨%d3, H3⟩, ⟨%d4, H4⟩, ⟨%d5, H5⟩⟩
      obtain rfl := hds hn
      iapply ((runB c (grid0.coords t) _ _ _ _ _ _ _ _ _ _ _ _ h0 h1 (X0 m c t) (X1 m c t) (X2 m c t) (X3 m c t) (X4 m c t)
        (stN m c t.val).1 (stN m c t.val).2).2 _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, ⟨%e5, H5⟩, HS⟩
      isplitl [HS Hg Hq Hh]
      · isplitl [HS]
        · iexists _; isplitr; swap
          · iexact HS
          · ipureintro; intro _
            rw [stN_succ, step_B m c t _ h0 h1]
        isplitl [Hg]; · iexact Hg
        isplitl [Hq]; · iexact Hq
        iexact Hh
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      unfold owns; iexists _; isplitr; swap
      · iexact H5
      ipureintro
      rw [stN_succ, step_B m c t _ h0 h1]
      exact (View.read_writes_eq_canon _ _ _ (runB_cover c _ _ _ _ _ _ _ _ _ _ _ _ _ _ _ _ _ _ h0 h1 _ _)).trans
        (runB_canon c _ _ _ _ _ _ _ _ _ _ _ _ _ _ _ _ _ _ h0 h1 _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin0 (c : Dev nD) : (Pipeline.ΦD osem0 spec0 H0 (V m) c : sProp (MM F)) ⊢ PhiS m c 0 := by
  rw [PhiD0_eq]; unfold PhiS
  iintro ⟨⟨%d, HS⟩, Hg, Hq, Hh⟩
  isplitl [HS]
  · iexists d; isplitr
    · ipureintro; exact fun h => absurd rfl h
    iexact HS
  isplitl [Hg]; · iexact Hg
  isplitl [Hq]; · iexact Hq
  iexact Hh
theorem hout0 (c : Dev nD) (n : ℕ) : PhiS m c n ⊢ (Pipeline.ΦD osem0 spec0 H0 (V m) c : sProp (MM F)) := by
  rw [PhiD0_eq]; unfold PhiS
  iintro ⟨⟨%d, -, HS⟩, Hg, Hq, Hh⟩
  isplitl [HS]
  · iexists d; iexact HS
  isplitl [Hg]; · iexact Hg
  isplitl [Hq]; · iexact Hq
  iexact Hh

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => hin0 m c) (hout := fun c => hout0 m c _)

/-- The arguments are as they were launched and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.FfnSIdeal.Hand

end
-- ==== Proof.FfnSValue.lean ====
/-
  What the feed-forward kernel computes: every row block ends as the rows' residual sums over their root mean squares.
  The block and the scratch are followed through the 43 tiles of a row block.
-/
module

public import proofs.«01_k».proof.Proof.FfnSIdealFrame
public import proofs.«01_k».proof.Proof.FfnMath

@[expose] public section

set_option maxRecDepth 16384

noncomputable section

namespace Cert.FfnSIdeal.Closed

open Cert.FfnSIdeal Cert.FfnSIdeal.Gen Cert.FfnSIdeal.Hand Idealize.ShloMosaic Idealize.ShloMosaic.TcCoe Idealize.SL.Sem Cert.FfnMath
open Idealize.ShloMosaic.Pipeline (Dat)

/-! ## The payloads at an index -/

theorem pay6_apply (X : Vec Ideal S64x4096 .f32) (g : Vec Ideal S1x4096 .f32) (r : Fin 64) (k : Fin 4096) :
    k0_pay6 (F := Ideal) X g (ix2 r k) = rms (fun k => X (ix2 r k)) k * g (ix2 0 k) := by
  unfold rms
  pointwise [k0_pay6]
theorem pay5_apply (X : Vec Ideal S64x4096 .f32) (g : Vec Ideal S1x4096 .f32) (r : Fin 64) (k : Fin 4096) :
    k0_pay5 (F := Ideal) X g (ix2 r k) = rms (fun k => X (ix2 r k)) k * g (ix2 0 k) := by
  unfold rms
  pointwise [k0_pay5]
theorem pay35_apply (h : Vec Ideal S512x4096 .bf16) (wg wu : Vec Ideal S4096x256 .f32) (r : Fin 512) (q : Fin 256) :
    k0_pay35 (F := Ideal) h wg wu (ix2 r q)
      = silu (∑ x, h (ix2 r x) * wg (ix2 x q)) * (∑ x, h (ix2 r x) * wu (ix2 x q)) * half := by
  unfold silu half
  pointwise [k0_pay35]
  rw [zero_sub]
theorem pay1_apply (a : FVec Ideal S512x256 .bf16) (o : Vec Ideal S512x512 .f32) (w : Vec Ideal S256x512 .f32) (r : Fin 512) (k : Fin 512) :
    k0_pay1 (F := Ideal) a o w (ix2 r k) = o (ix2 r k) + ∑ q, a (ix2 r q) * w (ix2 q k) := by
  pointwise [k0_pay1]

theorem hOf_apply (X : Vec Ideal S512x4096 .f32) (g : Vec Ideal S1x4096 .f32) (r : Fin 512) (k : Fin 4096) :
    hOf (F := Ideal) X g (ix2 r k) = rms (fun k => X (ix2 r k)) k * g (ix2 0 k) := by
  unfold hOf
  refine (pay6_apply _ g ⟨r.val % 64, Nat.mod_lt _ (by decide)⟩ k).trans ?_
  refine congrArg (rms · k * g (ix2 0 k)) (funext fun q => congrArg X ?_)
  exact congrArg (ix2 · q) (Fin.ext (Nat.div_add_mod _ _))
theorem finOf_apply (X : Vec Ideal S512x4096 .f32) (g : Vec Ideal S1x4096 .f32) (r : Fin 512) (k : Fin 4096) :
    finOf (F := Ideal) X g (ix2 r k) = rms (fun k => X (ix2 r k)) k * g (ix2 0 k) := by
  unfold finOf
  refine (pay5_apply _ g ⟨r.val % 64, Nat.mod_lt _ (by decide)⟩ k).trans ?_
  refine congrArg (rms · k * g (ix2 0 k)) (funext fun q => congrArg X ?_)
  exact congrArg (ix2 · q) (Fin.ext (Nat.div_add_mod _ _))
theorem accOf_apply (X : Vec Ideal S512x4096 .f32) (a : FVec Ideal S512x256 .bf16) (w : Vec Ideal S256x4096 .f32) (r : Fin 512) (k : Fin 4096) :
    accOf (F := Ideal) X a w (ix2 r k) = X (ix2 r k) + ∑ q, a (ix2 r q) * w (ix2 q k) := by
  unfold accOf
  refine (pay1_apply a _ _ r ⟨k.val % 512, Nat.mod_lt _ (by decide)⟩).trans ?_
  have e : ∀ p : k.val / 512 < 8, (⟨512 * (⟨k.val / 512, p⟩ : Fin 8).val + k.val % 512, by omega⟩ : Fin 4096) = k :=
    fun _ => Fin.ext (Nat.div_add_mod _ _)
  refine congr (congrArg HAdd.hAdd (congrArg X (congrArg (ix2 r) (e (by omega))))) (Finset.sum_congr rfl fun q _ => ?_)
  exact congrArg (a (ix2 r q) * ·) (congrArg w (congrArg (ix2 q) (e (by omega))))

/-! ## The arguments and the windows' blocks -/

variable (m : (ℓ : Loc nD τ sig) → Buf (Elt Ideal) ℓ) (ρ : Dev nD → PrngReg)

abbrev argX (c : Dev nD) : S512x4096.Idx → EReal := m ((c : Thread nD τ).loc main_arg0)
abbrev argN (c : Dev nD) : S1x4096.Idx → EReal := m ((c : Thread nD τ).loc main_arg1)
abbrev argWg (c : Dev nD) : S1x4096x11008.Idx → EReal := m ((c : Thread nD τ).loc main_arg2)
abbrev argWu (c : Dev nD) : S1x4096x11008.Idx → EReal := m ((c : Thread nD τ).loc main_arg3)
abbrev argWd (c : Dev nD) : S1x11008x4096.Idx → EReal := m ((c : Thread nD τ).loc main_arg4)
abbrev argF (c : Dev nD) : S4096.Idx → EReal := m ((c : Thread nD τ).loc main_arg5)

theorem t_lt (t : Fin cfg0.N) : t.val < 43 := by have := t.isLt; have e : cfg0.N = 43 := N_0; omega

theorem idx_facts : ∀ t : Fin cfg0.N,
    (win0_0.index t 0 = 0 ∧ win0_0.index t 1 = 0) ∧ (win0_1.index t 0 = 0 ∧ win0_1.index t 1 = t.val % 43)
    ∧ (win0_2.index t 0 = 0 ∧ win0_2.index t 1 = t.val % 43) ∧ (win0_3.index t 0 = t.val % 43 ∧ win0_3.index t 1 = 0)
    ∧ (win0_4.index t 0 = 0 ∧ win0_4.index t 1 = 0) ∧ (win0_5.index t 0 = t.val / 43 ∧ win0_5.index t 1 = 0) :=
  (by decide +kernel : ∀ t : Fin grid0.N,
    (win0_0.index t 0 = 0 ∧ win0_0.index t 1 = 0) ∧ (win0_1.index t 0 = 0 ∧ win0_1.index t 1 = t.val % 43)
    ∧ (win0_2.index t 0 = 0 ∧ win0_2.index t 1 = t.val % 43) ∧ (win0_3.index t 0 = t.val % 43 ∧ win0_3.index t 1 = 0)
    ∧ (win0_4.index t 0 = 0 ∧ win0_4.index t 1 = 0) ∧ (win0_5.index t 0 = t.val / 43 ∧ win0_5.index t 1 = 0))

theorem V_main_v4 (c : Dev nD) :
    V m c main_v4 = shapeCast _ (shapeCast _ (argN m c) shapeCasts_S1x4096_S4096) shapeCasts_S4096_S1x4096 := by
  unfold V
  after_results <;> rfl
theorem V_main_v1 (c : Dev nD) : V m c main_v1 = shapeCast _ (argWg m c) shapeCasts_S1x4096x11008_S4096x11008 := by
  unfold V
  after_results <;> rfl
theorem V_main_v2 (c : Dev nD) : V m c main_v2 = shapeCast _ (argWu m c) shapeCasts_S1x4096x11008_S4096x11008 := by
  unfold V
  after_results <;> rfl
theorem V_main_v3 (c : Dev nD) : V m c main_v3 = shapeCast _ (argWd m c) shapeCasts_S1x11008x4096_S11008x4096 := by
  unfold V
  after_results <;> rfl
theorem V_main_v5 (c : Dev nD) : V m c main_v5 = shapeCast _ (argF m c) shapeCasts_S4096_S1x4096 := by
  unfold V
  after_results <;> rfl

theorem X0_apply (c : Dev nD) (t : Fin cfg0.N) (k : Fin 4096) : X0 m c t (ix2 0 k) = argN m c (ix2 0 k) := by
  show V m c main_v4 ((win0_0.blk t).view.emb (ix2 0 k)) = _
  rw [V_main_v4]
  have e : (win0_0.blk t).view.emb (ix2 0 k) = ix2 0 k := funext fun a => Fin.ext (by
    match a with
    | ⟨0, _⟩ => show win0_0.index t 0 * 1 + 1 * 0 = 0; rw [(idx_facts t).1.1]
    | ⟨1, _⟩ => show win0_0.index t 1 * 4096 + 1 * k.val = k.val; rw [(idx_facts t).1.2]; omega)
  rw [e]
  generalize argN m c = w
  pointwise
theorem X1_apply (c : Dev nD) (t : Fin cfg0.N) (k : Fin 4096) (q : Fin 256) :
    X1 m c t (ix2 k q) = argWg m c (ix3 0 k ⟨256 * (t.val % 43) + q.val, by omega⟩) := by
  show V m c main_v1 ((win0_1.blk t).view.emb (ix2 k q)) = _
  rw [V_main_v1]
  have e : (win0_1.blk t).view.emb (ix2 k q) = ix2 k ⟨256 * (t.val % 43) + q.val, by omega⟩ := funext fun a => Fin.ext (by
    match a with
    | ⟨0, _⟩ => show win0_1.index t 0 * 4096 + 1 * k.val = k.val; rw [(idx_facts t).2.1.1]; omega
    | ⟨1, _⟩ => show win0_1.index t 1 * 256 + 1 * q.val = 256 * (t.val % 43) + q.val; rw [(idx_facts t).2.1.2]; omega)
  rw [e]
  generalize argWg m c = w
  pointwise
theorem X2_apply (c : Dev nD) (t : Fin cfg0.N) (k : Fin 4096) (q : Fin 256) :
    X2 m c t (ix2 k q) = argWu m c (ix3 0 k ⟨256 * (t.val % 43) + q.val, by omega⟩) := by
  show V m c main_v2 ((win0_2.blk t).view.emb (ix2 k q)) = _
  rw [V_main_v2]
  have e : (win0_2.blk t).view.emb (ix2 k q) = ix2 k ⟨256 * (t.val % 43) + q.val, by omega⟩ := funext fun a => Fin.ext (by
    match a with
    | ⟨0, _⟩ => show win0_2.index t 0 * 4096 + 1 * k.val = k.val; rw [(idx_facts t).2.2.1.1]; omega
    | ⟨1, _⟩ => show win0_2.index t 1 * 256 + 1 * q.val = 256 * (t.val % 43) + q.val; rw [(idx_facts t).2.2.1.2]; omega)
  rw [e]
  generalize argWu m c = w
  pointwise
theorem X3_apply (c : Dev nD) (t : Fin cfg0.N) (q : Fin 256) (k : Fin 4096) :
    X3 m c t (ix2 q k) = argWd m c (ix3 0 ⟨256 * (t.val % 43) + q.val, by omega⟩ k) := by
  show V m c main_v3 ((win0_3.blk t).view.emb (ix2 q k)) = _
  rw [V_main_v3]
  have e : (win0_3.blk t).view.emb (ix2 q k) = ix2 ⟨256 * (t.val % 43) + q.val, by omega⟩ k := funext fun a => Fin.ext (by
    match a with
    | ⟨0, _⟩ => show win0_3.index t 0 * 256 + 1 * q.val = 256 * (t.val % 43) + q.val; rw [(idx_facts t).2.2.2.1.1]; omega
    | ⟨1, _⟩ => show win0_3.index t 1 * 4096 + 1 * k.val = k.val; rw [(idx_facts t).2.2.2.1.2]; omega)
  rw [e]
  generalize argWd m c = w
  pointwise
theorem X4_apply (c : Dev nD) (t : Fin cfg0.N) (k : Fin 4096) : X4 m c t (ix2 0 k) = argF m c (ix1 k) := by
  show V m c main_v5 ((win0_4.blk t).view.emb (ix2 0 k)) = _
  rw [V_main_v5]
  have e : (win0_4.blk t).view.emb (ix2 0 k) = ix2 0 k := funext fun a => Fin.ext (by
    match a with
    | ⟨0, _⟩ => show win0_4.index t 0 * 1 + 1 * 0 = 0; rw [(idx_facts t).2.2.2.2.1.1]
    | ⟨1, _⟩ => show win0_4.index t 1 * 4096 + 1 * k.val = k.val; rw [(idx_facts t).2.2.2.2.1.2]; omega)
  rw [e]
  generalize argF m c = w
  pointwise

/-- The rows the body's copy brings at the first tile of a row block. -/
theorem off_eq (t : Fin cfg0.N) : k0_off1 (grid0.coords t) 0 = t.val / 43 * 512 ∧ k0_off1 (grid0.coords t) 1 = 0 :=
  (by decide +kernel : ∀ t : Fin grid0.N, k0_off1 (grid0.coords t) 0 = t.val / 43 * 512 ∧ k0_off1 (grid0.coords t) 1 = 0) t
theorem rowsIn_apply (c : Dev nD) (t : Fin cfg0.N) (h0 : cond0 (grid0.coords t)) (r : Fin 512) (k : Fin 4096) :
    rowsIn c (grid0.coords t) h0 (V m c main_arg0) (ix2 r k) = argX m c (ix2 ⟨t.val / 43 * 512 + r.val, by have := t_lt t; omega⟩ k) := by
  rw [V_main_arg0]
  refine congrArg (argX m c) (funext fun a => Fin.ext ?_)
  match a with
  | ⟨0, _⟩ => show k0_off1 (grid0.coords t) 0 + 1 * r.val = t.val / 43 * 512 + r.val; rw [(off_eq t).1]; omega
  | ⟨1, _⟩ => show k0_off1 (grid0.coords t) 1 + 1 * k.val = k.val; rw [(off_eq t).2]; omega

/-! ## One row through the tiles -/

/-- A row of the input, its normalised row, its gated activation, and the last weight. -/
def xRow (c : Dev nD) (R : Fin 512) (k : Fin 4096) : EReal := argX m c (ix2 R k)
def hRow (c : Dev nD) (R : Fin 512) (k : Fin 4096) : EReal := rms (xRow m c R) k * argN m c (ix2 0 k)
def gRow (c : Dev nD) (R : Fin 512) (l : Fin 11008) : EReal :=
  act (hRow m c R) (fun k l => argWg m c (ix3 0 k l)) (fun k l => argWu m c (ix3 0 k l)) l
def wdn (c : Dev nD) (l : Fin 11008) (k : Fin 4096) : EReal := argWd m c (ix3 0 l k)

/-- The array the result ends holding. -/
def G (c : Dev nD) : S512x4096.Idx → EReal := fun i =>
  rms (accN (xRow m c (i 0)) (gRow m c (i 0)) (wdn m c) 43) (i 1) * argF m c (ix1 (i 1))

/-- The tile's products, from the normalised rows. -/
theorem tile_apply (c : Dev nD) (t : Fin cfg0.N) (h : Vec Ideal S512x4096 .bf16) (r : Fin 512) (R : Fin 512)
    (hh : ∀ k, h (ix2 r k) = hRow m c R k) (k : Fin 4096) :
    ∑ q : Fin 256, k0_pay35 (F := Ideal) h (X1 m c t) (X2 m c t) (ix2 r q) * X3 m c t (ix2 q k)
      = ∑ q : Fin 256, term (gRow m c R) (wdn m c) k (256 * (t.val % 43) + q.val) := by
  refine Finset.sum_congr rfl fun q _ => ?_
  rw [pay35_apply, X3_apply]
  unfold term
  rw [dif_pos (show 256 * (t.val % 43) + q.val < 11008 by omega)]
  simp only [hh, X1_apply, X2_apply]
  rfl

/-- The row block a position lies in, and its rows. -/
abbrev rowOf (n : ℕ) (hn : n < 43) (r : Fin 512) : Fin 512 := ⟨n / 43 * 512 + r.val, by omega⟩

/-- The same just after a row block's first tile. -/
theorem st_first (c : Dev nD) (n : ℕ) (hn : n < 43) (h0 : n % 43 = 0) :
    (∀ (r : Fin 512) (k : Fin 4096), (stN m c (n + 1)).1 (ix2 r k)
        = accN (xRow m c (rowOf n hn r)) (gRow m c (rowOf n hn r)) (wdn m c) (n % 43 + 1) k)
    ∧ (∀ (r : Fin 512) (k : Fin 4096), (stN m c (n + 1)).2 (ix2 r k) = hRow m c (rowOf n hn r) k) := by
  have hN : cfg0.N = 43 := N_0
  let t : Fin cfg0.N := ⟨n, by omega⟩
  have c0 : cond0 (grid0.coords t) := (hcond0 t).mpr h0
  have es : stN m c (n + 1) = _ := (stN_succ m c t).trans (step_A m c t _ c0)
  have hh : ∀ (r : Fin 512) (k : Fin 4096),
      hOf (rowsIn c (grid0.coords t) c0 (V m c main_arg0)) (X0 m c t) (ix2 r k) = hRow m c (rowOf n hn r) k := fun r k => by
    rw [hOf_apply, X0_apply]
    exact congrArg (rms · k * argN m c (ix2 0 k)) (funext fun q => rowsIn_apply m c t c0 r q)
  rw [es]
  refine ⟨fun r k => ?_, hh⟩
  show accOf _ _ _ (ix2 r k) = _
  rw [accOf_apply, tile_apply m c t _ r (rowOf n hn r) (hh r) k, rowsIn_apply]
  rw [accN_succ]
  show _ + ∑ q : Fin 256, term _ _ _ (256 * (n % 43) + q.val) = _
  rw [h0]
  refine congrArg (· + _) ?_
  unfold accN
  simp
  rfl

/-- Just after a tile that is not the last: the block holds the partial sums, the scratch the normalised rows. -/
theorem st_inv (c : Dev nD) : ∀ (n : ℕ) (hn : n < 43), n % 43 ≠ 42 →
    (∀ (r : Fin 512) (k : Fin 4096), (stN m c (n + 1)).1 (ix2 r k)
        = accN (xRow m c (rowOf n hn r)) (gRow m c (rowOf n hn r)) (wdn m c) (n % 43 + 1) k)
    ∧ (∀ (r : Fin 512) (k : Fin 4096), (stN m c (n + 1)).2 (ix2 r k) = hRow m c (rowOf n hn r) k) := by
  intro n
  induction n with
  | zero => intro hn _; exact st_first m c 0 hn rfl
  | succ n ih =>
    intro hn h42
    by_cases h0 : (n + 1) % 43 = 0
    · exact st_first m c (n + 1) hn h0
    · have hp := ih (by omega) (by omega)
      have hd : n / 43 = (n + 1) / 43 := by omega
      have hm : (n + 1) % 43 = n % 43 + 1 := by omega
      have hr : ∀ r, rowOf n (by omega) r = rowOf (n + 1) hn r := fun r => Fin.ext (by show n / 43 * 512 + r.val = (n + 1) / 43 * 512 + r.val; rw [hd])
      have hN : cfg0.N = 43 := N_0
      let t : Fin cfg0.N := ⟨n + 1, by omega⟩
      have c0 : ¬cond0 (grid0.coords t) := fun h => h0 ((hcond0 t).mp h)
      have c1 : ¬cond1 (grid0.coords t) := fun h => h42 ((hcond1 t).mp h)
      have es : stN m c (n + 1 + 1) = _ := (stN_succ m c t).trans (step_B m c t _ c0 c1)
      rw [es]
      refine ⟨fun r k => ?_, fun r k => (hp.2 r k).trans (by rw [hr])⟩
      show accOf _ _ _ (ix2 r k) = _
      rw [accOf_apply, tile_apply m c t _ r (rowOf (n + 1) hn r) (fun k => (hp.2 r k).trans (by rw [hr])) k]
      rw [hm, accN_succ, ← hr r, ← hp.1 r k]

/-- After the last tile the block holds the rows of the result. -/
theorem st_last (c : Dev nD) (n : ℕ) (hn : n < 43) (h42 : n % 43 = 42) (r : Fin 512) (k : Fin 4096) :
    (stN m c (n + 1)).1 (ix2 r k) = G m c (ix2 (rowOf n hn r) k) := by
  have hN : cfg0.N = 43 := N_0
  obtain ⟨p, rfl⟩ : ∃ p, n = p + 1 := ⟨n - 1, by omega⟩
  have hp := st_inv m c p (by omega) (by omega)
  have hd : p / 43 = (p + 1) / 43 := by omega
  have hr : ∀ r, rowOf p (by omega) r = rowOf (p + 1) hn r := fun r => Fin.ext (by show p / 43 * 512 + r.val = (p + 1) / 43 * 512 + r.val; rw [hd])
  let t : Fin cfg0.N := ⟨p + 1, by omega⟩
  have c0 : ¬cond0 (grid0.coords t) := fun h => by have := (hcond0 t).mp h; simp only [t] at this; omega
  have c1 : cond1 (grid0.coords t) := (hcond1 t).mpr h42
  have es : stN m c (p + 1 + 1) = _ := (stN_succ m c t).trans (step_C m c t _ c0 c1)
  rw [es]
  show finOf _ _ (ix2 r k) = _
  rw [finOf_apply, X4_apply]
  refine congrArg (rms · k * argF m c (ix1 k)) (funext fun q => ?_)
  rw [accOf_apply, tile_apply m c t _ r (rowOf (p + 1) hn r) (fun k => (hp.2 r k).trans (by rw [hr])) q]
  rw [show (stN m c t.val).1 (ix2 r q) = _ from hp.1 r q, hr]
  have e42 : p % 43 + 1 = 42 := by omega
  rw [e42]
  show _ + ∑ q : Fin 256, term _ _ _ (256 * ((p + 1) % 43) + q.val) = accN (xRow m c (rowOf (p + 1) hn r)) (gRow m c (rowOf (p + 1) hn r)) (wdn m c) 43 q
  rw [accN_succ (xRow m c (rowOf (p + 1) hn r)) (gRow m c (rowOf (p + 1) hn r)) (wdn m c) 42 q, h42]

/-! ## The result array -/

theorem flushed_eq (c : Dev nD) (t : Fin cfg0.N) (hf : (cfg0.win 5).flush t = true) :
    (dats m 0 c).flushed 5 t = (win0_5.blk t).view.read (Elt Ideal) (G m c) := by
  show (cfg0.win 5).cut (grid0.coords t) ((dats m 0 c).after 5 t) = _
  rw [after0_5]
  funext j
  obtain ⟨r, k, rfl⟩ : ∃ (r : Fin 512) (k : Fin 4096), j = ix2 r k := ⟨j 0, j 1, eq_ix2 j⟩
  have h42 : t.val % 43 = 42 := (flush0_5 t).mp hf
  show (stN m c (t.val + 1)).1 (ix2 r k) = G m c ((win0_5.blk t).view.emb (ix2 r k))
  rw [st_last m c t.val (t_lt t) h42]
  refine congrArg (G m c) (funext fun a => Fin.ext ?_)
  match a with
  | ⟨0, _⟩ => show t.val / 43 * 512 + r.val = win0_5.index t 0 * 512 + 1 * r.val; rw [(idx_facts t).2.2.2.2.2.1]; omega
  | ⟨1, _⟩ => show k.val = win0_5.index t 1 * 4096 + 1 * k.val; rw [(idx_facts t).2.2.2.2.2.2]; omega

theorem mem_blk (t : Fin cfg0.N) (i : S512x4096.Idx) :
    i ∈ ((cfg0.win 5).blk t).view.set ↔ (t.val / 43 * 512 ≤ (i 0).val ∧ (i 0).val < t.val / 43 * 512 + 512) := by
  show i ∈ ((View.whole main_v6).slice (win0_5.rect t)).set ↔ _
  rw [View.set_slice_whole, Rect.mem_set_unit]
  have e0 : win0_5.index t 0 * win0_5.size 0 = t.val / 43 * 512 := by rw [(idx_facts t).2.2.2.2.2.1]; rfl
  have e1 : win0_5.index t 1 * win0_5.size 1 = 0 := by rw [(idx_facts t).2.2.2.2.2.2]; exact Nat.zero_mul _
  refine ⟨fun h => ?_, fun h a => ?_⟩
  · have := h 0
    rw [← e0]; exact this
  · match a with
    | ⟨0, _⟩ => rw [← e0] at h; exact h
    | ⟨1, _⟩ =>
      have h1 : (i 1).val < 4096 := (i 1).isLt
      have hb : win0_5.index t 1 * win0_5.size 1 ≤ (i 1).val ∧ (i 1).val < win0_5.index t 1 * win0_5.size 1 + 4096 := by rw [e1]; omega
      exact hb

theorem cover (i : S512x4096.Idx) :
    ∃ t : Fin cfg0.N, (cfg0.win 5).flush t = true ∧ i ∈ ((cfg0.win 5).blk t).view.set := by
  have h0 : (i 0).val < 512 := (i 0).isLt
  have hN : cfg0.N = 43 := N_0
  refine ⟨⟨(i 0).val / 512 * 43 + 42, by omega⟩, (flush0_5 _).mpr (by dsimp only; omega), ?_⟩
  rw [mem_blk]
  dsimp only
  omega

theorem final (c : Dev nD) : (dats m 0 c).arrAt 5 cfg0.N = G m c :=
  (dats m 0 c).arrAt_eq_of_cover 5 (G m c) (fun t hf => flushed_eq m c t hf) cover

end Cert.FfnSIdeal.Closed

end
-- ==== Proof.FfnSRefValue.lean ====
/-
  The reference feed-forward layer with the closing norm, read at an index: each row is its residual sum over its root mean
  square.
-/
module

public import proofs.«01_k».proof.Proof.Gen.FfnSRefIdeal.Read
public import proofs.«01_k».proof.Proof.FfnMath

@[expose] public section

set_option maxRecDepth 16384

noncomputable section

namespace Cert.FfnSRefIdeal.Closed

open Cert.FfnSRefIdeal Cert.FfnSRefIdeal.Gen Idealize.ShloMosaic Idealize.ShloMosaic.TcCoe Idealize.SL.Sem Cert.FfnMath

variable (x0 : S512x4096.Idx → EReal) (x1 : S1x4096.Idx → EReal) (x2 x3 : S1x4096x11008.Idx → EReal)
  (x4 : S1x11008x4096.Idx → EReal) (x5 : S4096.Idx → EReal)

theorem v13 (r : Fin 512) (k : Fin 4096) :
    Read.val_main_v13 (F := Ideal) x0 x1 (ix2 r k) = rms (fun k => x0 (ix2 r k)) k * x1 (ix2 0 k) := by
  unfold rms
  pointwise [Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1]

theorem v15 (r : Fin 512) (l : Fin 11008) :
    Read.val_main_v15 (F := Ideal) x0 x1 x2 (ix2 r l) = ∑ k, Read.val_main_v13 (F := Ideal) x0 x1 (ix2 r k) * x2 (ix3 0 k l) := by
  unfold Read.val_main_v15
  generalize Read.val_main_v13 (F := Ideal) x0 x1 = h
  pointwise [Read.val_main_v14]

theorem v18 (r : Fin 512) (l : Fin 11008) :
    Read.val_main_v18 (F := Ideal) x0 x1 x3 (ix2 r l) = ∑ k, Read.val_main_v13 (F := Ideal) x0 x1 (ix2 r k) * x3 (ix3 0 k l) := by
  unfold Read.val_main_v18
  generalize Read.val_main_v13 (F := Ideal) x0 x1 = h
  pointwise [Read.val_main_v17]

theorem v16 (r : Fin 512) (l : Fin 11008) :
    Read.val_main_v16 (F := Ideal) x0 x1 x2 (ix2 r l) = silu (Read.val_main_v15 (F := Ideal) x0 x1 x2 (ix2 r l)) := by
  unfold Read.val_main_v16 Read.val_main_call0_v5 Read.val_main_call0_v3 Read.val_main_call0_v1 Read.val_main_call0_v0 silu
  generalize Read.val_main_v15 (F := Ideal) x0 x1 x2 = h
  pointwise [Read.val_main_call0_v2, Read.val_main_call0_v4, Read.val_main_call0_cst, Read.val_main_call0_cst_0]

theorem v19 (r : Fin 512) (l : Fin 11008) :
    Read.val_main_v19 (F := Ideal) x0 x1 x2 x3 (ix2 r l)
      = act (fun k => rms (fun k => x0 (ix2 r k)) k * x1 (ix2 0 k)) (fun k l => x2 (ix3 0 k l)) (fun k l => x3 (ix3 0 k l)) l := by
  rw [Read.val_main_v19_apply, v16, v15, v18]
  unfold act
  simp only [v13]
  rfl

theorem v24 (r : Fin 512) (k : Fin 4096) :
    Read.val_main_v24 (F := Ideal) x0 x1 x2 x3 x4 (ix2 r k)
      = x0 (ix2 r k) + half * ∑ l, Read.val_main_v19 (F := Ideal) x0 x1 x2 x3 (ix2 r l) * x4 (ix3 0 l k) := by
  unfold Read.val_main_v24 Read.val_main_v23 Read.val_main_v21 half
  generalize Read.val_main_v19 (F := Ideal) x0 x1 x2 x3 = h
  pointwise [Read.val_main_v22, Read.val_main_v20, Read.val_main_cst_2]

theorem v37 (r : Fin 512) (k : Fin 4096) :
    Read.val_main_v37 (F := Ideal) x0 x1 x2 x3 x4 x5 (ix2 r k)
      = rms (fun k => Read.val_main_v24 (F := Ideal) x0 x1 x2 x3 x4 (ix2 r k)) k * x5 (ix1 k) := by
  unfold Read.val_main_v37 Read.val_main_v34 Read.val_main_v33 Read.val_main_v32 Read.val_main_v31 Read.val_main_v29
    Read.val_main_v27 Read.val_main_v26 Read.val_main_v25 rms
  generalize Read.val_main_v24 (F := Ideal) x0 x1 x2 x3 x4 = h
  pointwise [Read.val_main_v36, Read.val_main_v35, Read.val_main_v30, Read.val_main_v28, Read.val_main_cst_3, Read.val_main_cst_4, Read.val_main_cst_5]

/-- The reference's result at an index. -/
theorem val_apply (r : Fin 512) (k : Fin 4096) :
    Read.val_main_v37 (F := Ideal) x0 x1 x2 x3 x4 x5 (ix2 r k)
      = rms (accN (fun k => x0 (ix2 r k))
          (act (fun k => rms (fun k => x0 (ix2 r k)) k * x1 (ix2 0 k)) (fun k l => x2 (ix3 0 k l)) (fun k l => x3 (ix3 0 k l)))
          (fun l k => x4 (ix3 0 l k)) 43) k * x5 (ix1 k) := by
  rw [v37]
  refine congrArg (rms · k * x5 (ix1 k)) (funext fun k => ?_)
  rw [v24, accN_all]
  simp only [v19]

end Cert.FfnSRefIdeal.Closed

end
-- ==== Proof.FfnSClaims.lean ====
/- The claims about the second feed-forward layer with the closing norm: the frames, the idealization, and the value. -/
module

public import proofs.«01_k».proof.Defs
public import proofs.«01_k».proof.Proof.FfnSFrame
public import proofs.«01_k».proof.Proof.FfnSValue
public import proofs.«01_k».proof.Proof.FfnSRefValue
public import Idealize.ShloMosaic.Lib.Quiescent

@[expose] public section

set_option maxRecDepth 16384

noncomputable section

namespace Cert.Proof.FfnSClaims

open Idealize.ShloMosaic Idealize.ShloMosaic.TcCoe Idealize.SL.Sem

theorem frame_p : Cert.quiescent_FfnS := fun m ρ _ => Cert.FfnS.Hand.frame m ρ
theorem frame_pi : Cert.quiescent_FfnSIdeal := fun m ρ _ => Cert.FfnSIdeal.Hand.frame m ρ
theorem frame_ri : Cert.quiescent_FfnSRefIdeal := fun m ρ _ =>
  (θ_run Cert.FfnSRefIdeal.defs _ _).mono (fun r h => ⟨fun c => (h c).2, Idealize.ShloMosaic.sem_eq_zero_of_no_sems (by decide) r.2⟩)
    (Cert.FfnSRefIdeal.Value.run (F := Ideal) m ρ)
theorem preserves : Cert.preserves_FfnS_FfnSIdeal := trivial

/-- At `Ideal` the kernel's result array and the reference's are the same function of arguments that agree. -/
theorem algebraic : Cert.algebraic_FfnSIdeal_FfnSRefIdeal := by
  intro m ρ m' ρ' _ hagree
  refine ⟨fun c => Cert.FfnSIdeal.Closed.G m c, ?_, ?_⟩
  · refine (θ_run Cert.FfnSIdeal.defs _ _).mono (fun _ h c => ⟨?_, ?_, ?_, ?_, ?_, ?_, ?_⟩) (Cert.FfnSIdeal.Hand.run_main (F := Ideal) m ρ)
    · exact ((h.1 c).1 5).trans (Cert.FfnSIdeal.Closed.final m c)
    · exact ((h.1 c).2 Cert.FfnSIdeal.main_arg0 (Pipeline.mem_restRefs_of Cert.FfnSIdeal.main_arg0 (by decide) (by decide))).trans (Cert.FfnSIdeal.Gen.V_main_arg0 m c)
    · exact ((h.1 c).2 Cert.FfnSIdeal.main_arg1 (Pipeline.mem_restRefs_of Cert.FfnSIdeal.main_arg1 (by decide) (by decide))).trans (Cert.FfnSIdeal.Gen.V_main_arg1 m c)
    · exact ((h.1 c).2 Cert.FfnSIdeal.main_arg2 (Pipeline.mem_restRefs_of Cert.FfnSIdeal.main_arg2 (by decide) (by decide))).trans (Cert.FfnSIdeal.Gen.V_main_arg2 m c)
    · exact ((h.1 c).2 Cert.FfnSIdeal.main_arg3 (Pipeline.mem_restRefs_of Cert.FfnSIdeal.main_arg3 (by decide) (by decide))).trans (Cert.FfnSIdeal.Gen.V_main_arg3 m c)
    · exact ((h.1 c).2 Cert.FfnSIdeal.main_arg4 (Pipeline.mem_restRefs_of Cert.FfnSIdeal.main_arg4 (by decide) (by decide))).trans (Cert.FfnSIdeal.Gen.V_main_arg4 m c)
    · exact ((h.1 c).2 Cert.FfnSIdeal.main_arg5 (Pipeline.mem_restRefs_of Cert.FfnSIdeal.main_arg5 (by decide) (by decide))).trans (Cert.FfnSIdeal.Gen.V_main_arg5 m c)
  · refine (θ_run Cert.FfnSRefIdeal.defs _ _).mono (fun _ h c => ⟨(h c).1.trans ?_, (h c).2⟩)
      (Cert.FfnSRefIdeal.Value.run (F := Ideal) m' ρ')
    rw [Cert.FfnSRefIdeal.Read.val_main_v37_eq, (hagree c).1, (hagree c).2.1, (hagree c).2.2.1, (hagree c).2.2.2.1, (hagree c).2.2.2.2.1, (hagree c).2.2.2.2.2]
    funext i
    obtain ⟨r, k, rfl⟩ : ∃ (r : Fin 512) (k : Fin 4096), i = ix2 r k := ⟨i 0, i 1, eq_ix2 i⟩
    exact Cert.FfnSRefIdeal.Closed.val_apply _ _ _ _ _ _ r k

end Cert.Proof.FfnSClaims

end
-- ==== Proof.RetSMath.lean ====
/- The retention of one head on a sequence of four tokens, over the extended reals: one chunk, from the state kept before it. -/
module

public import proofs.«01_k».proof.Proof.RetMath

@[expose] public section

noncomputable section

namespace Cert.RetS

open Idealize.ShloMosaic Cert.Ret

/-- The outputs before the norm, from queries, keys, values and the state kept. -/
def mix (lg : EReal) (q k v : Fin 4 → Fin 256 → EReal) (S : Fin 256 → Fin 256 → EReal) (r : Fin 4) (e : Fin 256) : EReal :=
  ∑ x : Fin 4, ((∑ d : Fin 256, q r d * k x d) * decay lg r.val x.val) * v x e
    + (∑ d : Fin 256, q r d * S d e) * Ideal.exp (lg * num (r.val + 1))

/-- The state after the four tokens. -/
def next (lg : EReal) (k v : Fin 4 → Fin 256 → EReal) (S : Fin 256 → Fin 256 → EReal) (d e : Fin 256) : EReal :=
  S d e * Ideal.exp (lg * Ideal.ofBits .f32 0x40800000#32)
    + ∑ x : Fin 4, k x d * Ideal.exp (lg * num (3 - x.val)) * v x e

/-- Four rows filled up with four rows of zeros. -/
def pad8 (f : Fin 4 → Fin 256 → EReal) (r : Fin 8) (e : Fin 256) : EReal := if h : r.val < 4 then f ⟨r.val, h⟩ e else 0

theorem pad8_low (f : Fin 4 → Fin 256 → EReal) (r : Fin 4) (h : r.val < 8) : pad8 f ⟨r.val, h⟩ = f r := by
  funext e
  unfold pad8
  rw [dif_pos r.isLt]

theorem pad8_high (f : Fin 4 → Fin 256 → EReal) (r : Fin 8) (h : 4 ≤ r.val) (e : Fin 256) : pad8 f r e = 0 := by
  unfold pad8
  rw [dif_neg (by omega)]

/-- A sum of eight terms whose last four are zero. -/
theorem sum_eight (f : Fin 8 → EReal) (hf : ∀ x : Fin 8, 4 ≤ x.val → f x = 0) : ∑ x, f x = ∑ x : Fin 4, f ⟨x.val, by omega⟩ := by
  rw [Fin.sum_univ_eight, Fin.sum_univ_four, hf 4 (by decide), hf 5 (by decide), hf 6 (by decide), hf 7 (by decide)]
  simp only [add_zero]
  rfl

theorem decay_float (lg : EReal) (r x : Fin 8) :
    (if 0 ≤ FloatOps.sitofp (F := Ideal) FTy.f32 (BitVec.ofNat 32 r.val) - FloatOps.sitofp (F := Ideal) FTy.f32 (BitVec.ofNat 32 x.val) then
      Ideal.exp (lg * max (FloatOps.sitofp (F := Ideal) FTy.f32 (BitVec.ofNat 32 r.val) - FloatOps.sitofp (F := Ideal) FTy.f32 (BitVec.ofNat 32 x.val)) 0)
      else 0) = decay lg r.val x.val :=
  Ret.decay_float lg ⟨r.val, by omega⟩ ⟨x.val, by omega⟩

theorem decay_int (lg z : EReal) (hz : z = 0) (r x : Fin 4) :
    Scalar.select (IntOp.cmpi CmpIPredicate.sge (IntOp.subi (BitVec.ofNat 32 r.val) (BitVec.ofNat 32 x.val)) 0#32)
      (Ideal.exp (lg * FloatOps.sitofp (F := Ideal) FTy.f32 (IntOp.maxsi (IntOp.subi (BitVec.ofNat 32 r.val) (BitVec.ofNat 32 x.val)) 0#32)))
      z = decay lg r.val x.val :=
  Ret.decay_int lg z hz ⟨r.val, by omega⟩ ⟨x.val, by omega⟩

theorem succ_float (r : Fin 8) : FloatOps.sitofp (F := Ideal) FTy.f32 (BitVec.ofNat 32 r.val) + 1 = num (r.val + 1) :=
  Ret.succ_float ⟨r.val, by omega⟩

theorem succ_int (r : Fin 4) : FloatOps.sitofp (F := Ideal) FTy.f32 (IntOp.addi (BitVec.ofNat 32 r.val) 1#32) = num (r.val + 1) :=
  Ret.succ_int ⟨r.val, by omega⟩

theorem ofBits_3 : Ideal.ofBits .f32 0x40400000#32 = num 3 := by
  simp [Ideal.ofBits, Ideal.ieee, num, -EReal.coe_mul]; norm_num

theorem rest_float (x : Fin 4) :
    Ideal.ofBits .f32 0x40400000#32 - FloatOps.sitofp (F := Ideal) FTy.f32 (BitVec.ofNat 32 x.val) = num (3 - x.val) := by
  rw [sitofp_nat _ (by omega), ofBits_3, num_sub (by omega)]

theorem rest_int (x : Fin 4) : FloatOps.sitofp (F := Ideal) FTy.f32 (IntOp.subi (3#32) (BitVec.ofNat 32 x.val)) = num (3 - x.val) := by
  have h : IntOp.subi (3#32) (BitVec.ofNat 32 x.val) = BitVec.ofNat 32 (3 - x.val) := by
    apply BitVec.eq_of_toInt_eq
    rw [toInt_ofNat_of_lt (by omega)]
    have := toInt_sub 3 x.val (by omega) (by omega)
    rw [show (3#32) = BitVec.ofNat 32 3 from rfl, this]; omega
  rw [h, sitofp_nat _ (by omega)]

/-- Token `r` of sequence `b`. -/
abbrev row (b : Fin 128) (r : Fin 4) : Fin 512 := ⟨4 * b.val + r.val, by omega⟩

variable (lg : Fin 8 → EReal) (co si : Fin 4 → Fin 128 → EReal) (z : Fin 512 → Fin 22016 → EReal)
  (s : Fin 128 → Fin 8 → Fin 256 → Fin 256 → EReal) (gn : Fin 2048 → EReal)

/-- A sequence's rotated queries. -/
def qS (b : Fin 128) (h : Fin 8) (r : Fin 4) : Fin 256 → EReal := rot (co r) (si r) (fun e => z (row b r) (col 1 h e))
/-- A sequence's rotated keys, scaled. -/
def kS (b : Fin 128) (h : Fin 8) (r : Fin 4) (d : Fin 256) : EReal :=
  rot (co r) (si r) (fun e => z (row b r) (col 2 h e)) d * Ideal.ofBits .f32 0x3D800000#32
/-- A sequence's values. -/
def vS (b : Fin 128) (h : Fin 8) (r : Fin 4) (e : Fin 256) : EReal := z (row b r) (col 3 h e)

/-- A sequence's results. -/
def outS (b : Fin 128) (h : Fin 8) (r : Fin 4) (e : Fin 256) : EReal :=
  gnorm (fun x => z (row b r) (col 4 h x)) (fun x => gn (hcol h x)) (mix (lg h) (qS co si z b h) (kS co si z b h) (vS z b h) (s b h) r) e
/-- The state it leaves. -/
def stateS (b : Fin 128) (h : Fin 8) (d e : Fin 256) : EReal := next (lg h) (kS co si z b h) (vS z b h) (s b h) d e

end Cert.RetS

end
-- ==== Proof.RetSSpec.lean ====
/- One head of the sample's retention body as a function of what it reads, and its values element by element. -/
module

public import proofs.«01_k».proof.Proof.Gen.RetSIdeal.Value
public import proofs.«01_k».proof.Proof.RetSMath
public import Idealize.ShloMosaic.Lib.Pointwise

@[expose] public section

set_option maxRecDepth 16384

noncomputable section

namespace Cert.RetSIdeal.Closed

open Cert.RetSIdeal Cert.RetSIdeal.Gen Idealize.ShloMosaic Idealize.ShloMosaic.TcCoe Idealize.SL.Sem

/-- One head's scaled keys, its rows filled up to eight. -/
def headK (co si : Vec Ideal S8x128 .f32) (k : Vec Ideal S1x4x256 .f32) : FVec Ideal S8x256 .f32 :=
  k0_pay13 (k0_pay4 co) (k0_pay5 si) (k0_pay10 k) (k0_pay11 k) (k0_pay12 co si k)

/-- One head's normalized rows. -/
def headNorm (lg : Elt Ideal .f32) (q k : FVec Ideal S8x256 .f32) (v : Vec Ideal S1x4x256 .f32)
    (gn : Vec Ideal S1x256 .f32) (st : Vec Ideal S1x256x256 .f32) : FVec Ideal S8x256 .f32 :=
  k0_pay24 (k0_pay15 k0_pay7 lg) (k0_pay16 k0_pay6 lg) (k0_pay19 q) (k0_pay20 v) (k0_pay21 st) (truncf .bf16 k bitsLt_bf16_f32)
    (constant S8x8 .f32 0x00000000#32) gn

/-- One head's block of results. -/
def headOut (lg : Elt Ideal .f32) (co si : Vec Ideal S8x128 .f32) (q k v g : Vec Ideal S1x4x256 .f32)
    (gn : Vec Ideal S1x256 .f32) (st : Vec Ideal S1x256x256 .f32) : FVec Ideal S1x4x256 .bf16 :=
  k0_pay26 (k0_pay14 g) (headNorm lg (k0_pay8 co si q) (headK co si k) v gn st) (k0_pay25 (k0_pay14 g)) (Scalar.ofBits .f32 0x3F800000#32)

/-- One head's state after the four tokens. -/
def headState (lg : Elt Ideal .f32) (co si : Vec Ideal S8x128 .f32) (k v : Vec Ideal S1x4x256 .f32)
    (st : Vec Ideal S1x256x256 .f32) : FVec Ideal S1x256x256 .f32 :=
  k0_pay23 (headK co si k) (k0_pay17 k0_pay6 lg) (k0_pay18 lg) (k0_pay20 v) (k0_pay21 st)

/-- The four rows of a block, filled up to eight. -/
abbrev rows (X : Vec Ideal S1x4x256 .f32) : Fin 8 → Fin 256 → EReal := RetS.pad8 fun r e => X (ix3 0 r e)

theorem v_apply (v : Vec Ideal S1x4x256 .f32) (r : Fin 8) (e : Fin 256) : k0_pay20 v (ix2 r e) = rows v r e := by
  unfold rows RetS.pad8
  pointwise [k0_pay20]

theorem g_apply (v : Vec Ideal S1x4x256 .f32) (r : Fin 8) (e : Fin 256) : k0_pay14 v (ix2 r e) = rows v r e := by
  unfold rows RetS.pad8
  pointwise [k0_pay14]

theorem rot_q (co si : Vec Ideal S8x128 .f32) (q : Vec Ideal S1x4x256 .f32) (r : Fin 8) (e : Fin 256) :
    k0_pay8 co si q (ix2 r e) = Ret.rot (fun x => co (ix2 r x)) (fun x => si (ix2 r x)) (rows q r) e := by
  unfold Ret.rot rows RetS.pad8
  pointwise [k0_pay8, k0_pay4, k0_pay5]

theorem rot_k (co si : Vec Ideal S8x128 .f32) (q : Vec Ideal S1x4x256 .f32) (r : Fin 8) (e : Fin 256) :
    headK co si q (ix2 r e)
      = Ret.rot (fun x => co (ix2 r x)) (fun x => si (ix2 r x)) (rows q r) e * Ideal.ofBits .f32 0x3D800000#32 := by
  unfold Ret.rot rows RetS.pad8
  pointwise [headK, k0_pay13, k0_pay12, k0_pay11, k0_pay10, k0_pay9, k0_pay4, k0_pay5]

theorem state8 (lg : Elt Ideal .f32) (k : FVec Ideal S8x256 .f32) (v : Vec Ideal S1x4x256 .f32)
    (st : Vec Ideal S1x256x256 .f32) (d e : Fin 256) :
    k0_pay23 k (k0_pay17 k0_pay6 lg) (k0_pay18 lg) (k0_pay20 v) (k0_pay21 st) (ix3 0 d e)
      = st (ix3 0 d e) * Ideal.exp (lg * Ideal.ofBits .f32 0x40800000#32)
        + ∑ x : Fin 8, k (ix2 x d) * Ideal.exp (lg * (Ideal.ofBits .f32 0x40400000#32 - FloatOps.sitofp (F := Ideal) FTy.f32 (BitVec.ofNat 32 x.val))) * rows v x e := by
  simp only [← v_apply]
  generalize k0_pay20 v = v
  pointwise [k0_pay23, k0_pay17, k0_pay18, k0_pay21, k0_pay6]

/-- The rows before the norm. -/
def mix8 (lg : EReal) (q k : FVec Ideal S8x256 .f32) (v : FVec Ideal S8x256 .bf16) (st : Vec Ideal S1x256x256 .f32) (r : Fin 8) (e : Fin 256) : EReal :=
  ∑ x : Fin 8, ((∑ d : Fin 256, q (ix2 r d) * k (ix2 x d)) * Ret.decay lg r.val x.val) * v (ix2 x e)
    + (∑ d : Fin 256, q (ix2 r d) * st (ix3 0 d e)) * Ideal.exp (lg * Ret.num (r.val + 1))

theorem norm8 (lg : Elt Ideal .f32) (q k : FVec Ideal S8x256 .f32) (v : Vec Ideal S1x4x256 .f32)
    (gn : Vec Ideal S1x256 .f32) (st : Vec Ideal S1x256x256 .f32) (r : Fin 8) (e : Fin 256) :
    headNorm lg q k v gn st (ix2 r e)
      = (mix8 lg q k (k0_pay20 v) st r e - Ret.mean (mix8 lg q k (k0_pay20 v) st r))
        * Ideal.rsqrt (Ret.mean (fun x => (mix8 lg q k (k0_pay20 v) st r x - Ret.mean (mix8 lg q k (k0_pay20 v) st r)) * (mix8 lg q k (k0_pay20 v) st r x - Ret.mean (mix8 lg q k (k0_pay20 v) st r))) + Ideal.ofBits .f32 0x358637BD#32)
        * gn (ix2 0 e) := by
  unfold headNorm
  generalize k0_pay20 v = v
  unfold Ret.mean mix8
  simp only [← RetS.decay_float, ← RetS.succ_float]
  pointwise [k0_pay24, k0_pay15, k0_pay16, k0_pay19, k0_pay21, k0_pay6, k0_pay7]

/-- A row of a table of eight rows, among the first four. -/
abbrev lo (r : Fin 4) : Fin 8 := ⟨r.val, by omega⟩

theorem rows_lo (X : Vec Ideal S1x4x256 .f32) (r : Fin 4) : rows X (lo r) = fun e => X (ix3 0 r e) := RetS.pad8_low _ r _

/-- The rotated keys of the four tokens. -/
def keys (co si : Vec Ideal S8x128 .f32) (k : Vec Ideal S1x4x256 .f32) (r : Fin 4) (d : Fin 256) : EReal :=
  Ret.rot (fun x => co (ix2 (lo r) x)) (fun x => si (ix2 (lo r) x)) (fun e => k (ix3 0 r e)) d * Ideal.ofBits .f32 0x3D800000#32

/-- The rows of the four tokens before the norm. -/
def headMix (lg : EReal) (co si : Vec Ideal S8x128 .f32) (q k v : Vec Ideal S1x4x256 .f32)
    (st : Vec Ideal S1x256x256 .f32) : Fin 4 → Fin 256 → EReal :=
  RetS.mix lg (fun r => Ret.rot (fun x => co (ix2 (lo r) x)) (fun x => si (ix2 (lo r) x)) (fun e => q (ix3 0 r e)))
    (keys co si k) (fun a b => v (ix3 0 a b)) (fun a b => st (ix3 0 a b))

theorem mix8_lo (lg : EReal) (co si : Vec Ideal S8x128 .f32) (q k v : Vec Ideal S1x4x256 .f32) (st : Vec Ideal S1x256x256 .f32)
    (r : Fin 4) : mix8 lg (k0_pay8 co si q) (headK co si k) (k0_pay20 v) st (lo r) = headMix lg co si q k v st r := by
  funext e
  unfold mix8 headMix RetS.mix keys
  rw [RetS.sum_eight]
  · simp only [rot_q, rot_k, v_apply, rows_lo]
  · intro x hx
    rw [v_apply, rows, RetS.pad8_high _ x hx, mul_zero]

theorem headOut_apply (lg : Elt Ideal .f32) (co si : Vec Ideal S8x128 .f32) (q k v g : Vec Ideal S1x4x256 .f32)
    (gn : Vec Ideal S1x256 .f32) (st : Vec Ideal S1x256x256 .f32) (r : Fin 4) (e : Fin 256) :
    headOut lg co si q k v g gn st (ix3 0 r e)
      = Ret.gnorm (fun x => g (ix3 0 r x)) (fun x => gn (ix2 0 x)) (headMix lg co si q k v st r) e := by
  have h : headOut lg co si q k v g gn st (ix3 0 r e)
      = k0_pay14 g (ix2 (lo r) e) * Ideal.div 1 (1 + Ideal.exp (0 - k0_pay14 g (ix2 (lo r) e)))
        * headNorm lg (k0_pay8 co si q) (headK co si k) v gn st (ix2 (lo r) e) := by
    unfold headOut
    generalize headNorm lg (k0_pay8 co si q) (headK co si k) v gn st = o
    generalize k0_pay14 g = g
    pointwise [k0_pay26, k0_pay25]
  rw [h, norm8, mix8_lo, g_apply, rows_lo]
  rfl

theorem headState_apply (lg : Elt Ideal .f32) (co si : Vec Ideal S8x128 .f32) (k v : Vec Ideal S1x4x256 .f32)
    (st : Vec Ideal S1x256x256 .f32) (d e : Fin 256) :
    headState lg co si k v st (ix3 0 d e)
      = RetS.next lg (keys co si k) (fun a b => v (ix3 0 a b)) (fun a b => st (ix3 0 a b)) d e := by
  unfold headState
  rw [state8]
  unfold RetS.next keys
  rw [RetS.sum_eight]
  · simp only [← RetS.rest_float, rot_k, rows_lo]
  · intro x hx
    rw [rows, RetS.pad8_high _ x hx, mul_zero]

end Cert.RetSIdeal.Closed

end
-- ==== Proof.RetSBody.lean ====
/- What one grid point of the sample's retention kernel leaves: the block of outputs and the states, head by head. -/
module

public import proofs.«01_k».proof.Proof.RetSSpec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RetSIdeal.Closed

open Cert.RetSIdeal Cert.RetSIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Head `h`'s columns of a block of eight heads. -/
def cols (X : Vec Ideal S1x4x2048 .f32) (h : Fin 8) : Vec Ideal S1x4x256 .f32 := fun i =>
  X (ix3 0 (i 1) ⟨256 * h.val + (i 2).val, by have := (i 2).isLt; have := h.isLt; simp at *; omega⟩)
/-- Head `h`'s columns of a row. -/
def rowOf (X : Vec Ideal S1x2048 .f32) (h : Fin 8) : Vec Ideal S1x256 .f32 := fun i =>
  X (ix2 0 ⟨256 * h.val + (i 1).val, by have := (i 1).isLt; have := h.isLt; simp at *; omega⟩)
/-- Head `h`'s state. -/
def stOf (S : Vec Ideal S8x256x256 .f32) (h : Fin 8) : Vec Ideal S1x256x256 .f32 := fun i => S (ix3 h (i 1) (i 2))

theorem ld_cols (X : Vec Ideal S1x4x2048 .f32) (h : Fin 8) (off : Nat) (hoff : off = 256 * h.val)
    (inb : ∀ a, (![0, 0, off] : Fin 3 → Nat) a + (![1, 4, 256] : Fin 3 → Nat) a ≤ S1x4x2048.size a) :
    View.ld (Val := Elt Ideal) (e' := .f32) X (Rect.unit (s := S1x4x2048) ![0, 0, off] ![1, 4, 256] inb) = cols X h := by
  subst hoff
  refine funext fun x => View.ld_unit_apply_of (Val := Elt Ideal) (e := .f32) X _ _ _ _ _ fun a => ?_
  match a with
  | ⟨0, _⟩ => have := (x 0).isLt; simp at this; simp [ix3]
  | ⟨1, _⟩ => exact (Nat.zero_add _).symm
  | ⟨2, _⟩ => rfl

theorem ld_row (X : Vec Ideal S1x2048 .f32) (h : Fin 8) (off : Nat) (hoff : off = 256 * h.val)
    (inb : ∀ a, (![0, off] : Fin 2 → Nat) a + (![1, 256] : Fin 2 → Nat) a ≤ S1x2048.size a) :
    View.ld (Val := Elt Ideal) (e' := .f32) X (Rect.unit (s := S1x2048) ![0, off] ![1, 256] inb) = rowOf X h := by
  subst hoff
  refine funext fun x => View.ld_unit_apply_of (Val := Elt Ideal) (e := .f32) X _ _ _ _ _ fun a => ?_
  match a with
  | ⟨0, _⟩ => have := (x 0).isLt; simp at this; simp [ix2]
  | ⟨1, _⟩ => rfl

theorem ld_st (X : Vec Ideal S8x256x256 .f32) (h : Fin 8) (off : Nat) (hoff : off = h.val)
    (inb : ∀ a, (![off, 0, 0] : Fin 3 → Nat) a + (![1, 256, 256] : Fin 3 → Nat) a ≤ S8x256x256.size a) :
    View.ld (Val := Elt Ideal) (e' := .f32) X (Rect.unit (s := S8x256x256) ![off, 0, 0] ![1, 256, 256] inb) = stOf X h := by
  subst hoff
  refine funext fun x => View.ld_unit_apply_of (Val := Elt Ideal) (e := .f32) X _ _ _ _ _ fun a => ?_
  match a with
  | ⟨0, _⟩ => have := (x 0).isLt; simp at this; simp [ix3]
  | ⟨1, _⟩ => exact (Nat.zero_add _).symm
  | ⟨2, _⟩ => exact (Nat.zero_add _).symm

theorem off_facts : ∀ t : Fin cfg0.N, ∀ h : Fin 8, k0_off1 (grid0.coords t) (BitVec.ofNat 32 h.val) 0 = h.val := by
  decide +kernel

/-- A block index of eight heads, read at the head and the column it names. -/
theorem at_head (f : Fin 8 → S1x4x256.Idx → EReal) (y : S1x4x2048.Idx) (x : S1x4x256.Idx) (h : Fin 8)
    (h0 : (y 0).val = (x 0).val) (h1 : (y 1).val = (x 1).val) (h2 : (y 2).val = 256 * h.val + (x 2).val) :
    f ⟨(y 2).val / 256, by have := (y 2).isLt; simp at this; omega⟩
      (ix3 0 (y 1) ⟨(y 2).val % 256, Nat.mod_lt _ (by decide)⟩) = f h x := by
  have hx : (x 2).val < 256 := (x 2).isLt
  have hx0 : (x 0).val < 1 := (x 0).isLt
  refine congr (congrArg f (Fin.ext (show (y 2).val / 256 = h.val by omega))) ?_
  · refine funext fun a => Fin.ext ?_
    match a with
    | ⟨0, _⟩ => show 0 = (x 0).val; omega
    | ⟨1, _⟩ => exact h1
    | ⟨2, _⟩ => show (y 2).val % 256 = (x 2).val; omega

theorem ld_lg (c : Dev nD) (t : Fin cfg0.N) (h : Fin 8) (n : BitVec 32) (hn : n = BitVec.ofNat 32 h.val)
    (inb : ∀ a, k0_off1 (grid0.coords t) n a + (![1] : Fin 1 → Nat) a ≤ S8.size a) (hp) :
    View.ld (Val := Elt Ideal) (e' := .f32) (iblk m c 0 t : Vec Ideal S8 .f32)
      (Rect.unit (s := S8) (k0_off1 (grid0.coords t) n) ![1] inb) (Shape.Idx.first hp) = (iblk m c 0 t : Vec Ideal S8 .f32) (ix1 h) := by
  subst hn
  refine View.ld_unit_apply_of (Val := Elt Ideal) (e := .f32) _ _ _ _ _ _ fun a => ?_
  match a with
  | ⟨0, _⟩ => exact (off_facts t h).symm

/-- The states of eight heads that a point starts from. -/
abbrev S0 (c : Dev nD) (t : Fin cfg0.N) : Vec Ideal S8x256x256 .f32 := k0_pay3 (iblk m c 8 t)

/-- What a point reads, at head `h`: the block of results it leaves. -/
def outAt (c : Dev nD) (t : Fin cfg0.N) (h : Fin 8) : S1x4x256.Idx → EReal :=
  headOut ((iblk m c 0 t : Vec Ideal S8 .f32) (ix1 h)) (iblk m c 5 t) (iblk m c 6 t) (cols (X0_1 m c t) h)
    (cols (X0_2 m c t) h) (cols (X0_3 m c t) h) (cols (X0_4 m c t) h) (rowOf (iblk m c 7 t) h) (stOf (S0 m c t) h)

/-- and the state it leaves. -/
def stateAt (c : Dev nD) (t : Fin cfg0.N) (h : Fin 8) : S1x256x256.Idx → EReal :=
  headState ((iblk m c 0 t : Vec Ideal S8 .f32) (ix1 h)) (iblk m c 5 t) (iblk m c 6 t)
    (cols (X0_2 m c t) h) (cols (X0_3 m c t) h) (stOf (S0 m c t) h)

/-- Stores that already cover an index decide what it holds, whatever was stored before them. -/
theorem canon_append_cover {S : Shape} {e : EltTy} (L' : List (View.Piece (Elt Ideal) S e)) :
    ∀ (L : List (View.Piece (Elt Ideal) S e)) (y : S.Idx), (∃ p ∈ L, y ∈ p.1.set) →
      View.canon (L ++ L') y = View.canon L y
  | [], _, h => by obtain ⟨_, hp, _⟩ := h; exact absurd hp List.not_mem_nil
  | p :: L, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append_cover L' L y ?_
      obtain ⟨q, hq, hy⟩ := h
      rcases List.mem_cons.mp hq with rfl | hq'
      · exact absurd hy hm
      · exact ⟨q, hq', hy⟩

/-- A state index of eight heads, read at the head it names. -/
theorem at_head' (f : Fin 8 → S1x256x256.Idx → EReal) (y : S8x256x256.Idx) (x : S1x256x256.Idx) (h : Fin 8)
    (h0 : (y 0).val = h.val + (x 0).val) (h1 : (y 1).val = (x 1).val) (h2 : (y 2).val = (x 2).val) :
    f (y 0) (ix3 0 (y 1) (y 2)) = f h x := by
  have hx : (x 0).val < 1 := (x 0).isLt
  refine congr (congrArg f (Fin.ext (show (y 0).val = h.val by omega))) ?_
  · refine funext fun a => Fin.ext ?_
    match a with
    | ⟨0, _⟩ => show 0 = (x 0).val; omega
    | ⟨1, _⟩ => exact h1
    | ⟨2, _⟩ => exact h2

set_option maxHeartbeats 1000000 in
theorem out_at (c : Dev nD) (t : Fin cfg0.N) (y : S1x4x2048.Idx) :
    (outsAt0 m c t).1 y = outAt m c t
      ⟨(y 2).val / 256, by have := (y 2).isLt; simp at this; omega⟩
      (ix3 0 (y 1) ⟨(y 2).val % 256, Nat.mod_lt _ (by decide)⟩) := by
  unfold outsAt0
  frame_open
  simp (disch := decide) only [↓ View.readCov_skip, ↓ View.readCov_cons_toLoadRect, ↓ View.readCov_fill]
  frame_out
  canon_tiles x h
  case piece7 =>
    rw [at_head (outAt m c t) y x 0 h0 h1 (by rw [h2]; exact (Nat.zero_add _).symm)]
    simp only [ld_cols _ 0 0 rfl, ld_row _ 0 0 rfl, ld_st _ 0 0 rfl, ld_lg m c t 0 0#32 rfl]
    rfl
  case piece6 =>
    rw [at_head (outAt m c t) y x 1 h0 h1 h2]
    simp only [ld_cols _ 1 256 rfl, ld_row _ 1 256 rfl, ld_st _ 1 1 rfl, ld_lg m c t 1 1#32 rfl]
    rfl
  case piece5 =>
    rw [at_head (outAt m c t) y x 2 h0 h1 h2]
    simp only [ld_cols _ 2 512 rfl, ld_row _ 2 512 rfl, ld_st _ 2 2 rfl, ld_lg m c t 2 2#32 rfl]
    rfl
  case piece4 =>
    rw [at_head (outAt m c t) y x 3 h0 h1 h2]
    simp only [ld_cols _ 3 768 rfl, ld_row _ 3 768 rfl, ld_st _ 3 3 rfl, ld_lg m c t 3 3#32 rfl]
    rfl
  case piece3 =>
    rw [at_head (outAt m c t) y x 4 h0 h1 h2]
    simp only [ld_cols _ 4 1024 rfl, ld_row _ 4 1024 rfl, ld_st _ 4 4 rfl, ld_lg m c t 4 4#32 rfl]
    rfl
  case piece2 =>
    rw [at_head (outAt m c t) y x 5 h0 h1 h2]
    simp only [ld_cols _ 5 1280 rfl, ld_row _ 5 1280 rfl, ld_st _ 5 5 rfl, ld_lg m c t 5 5#32 rfl]
    rfl
  case piece1 =>
    rw [at_head (outAt m c t) y x 6 h0 h1 h2]
    simp only [ld_cols _ 6 1536 rfl, ld_row _ 6 1536 rfl, ld_st _ 6 6 rfl, ld_lg m c t 6 6#32 rfl]
    rfl
  case piece0 =>
    rw [at_head (outAt m c t) y x 7 h0 h1 h2]
    simp only [ld_cols _ 7 1792 rfl, ld_row _ 7 1792 rfl, ld_st _ 7 7 rfl, ld_lg m c t 7 7#32 rfl]
    rfl

theorem pay2_apply (X : Vec Ideal S8x256x256 .f32) (y : S8x256x256.Idx) : k0_pay2 X (ix4 0 (y 0) (y 1) (y 2)) = X y := by
  obtain ⟨a, b, d, rfl⟩ : ∃ (a : Fin 8) (b : Fin 256) (d : Fin 256), y = ix3 a b d := ⟨y 0, y 1, y 2, eq_ix3 y⟩
  pointwise [k0_pay2]

theorem whole_idx (inb : ∀ a, (![0, 0, 0] : Fin 3 → Nat) a + (![8, 256, 256] : Fin 3 → Nat) a ≤ S8x256x256.size a) (y : S8x256x256.Idx) :
    (Rect.unit (s := S8x256x256) ![0, 0, 0] ![8, 256, 256] inb).idx y = y := funext fun a => Fin.ext (by
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega)

set_option maxHeartbeats 1000000 in
theorem state_at (c : Dev nD) (t : Fin cfg0.N) (y : S8x256x256.Idx) :
    (outsAt0 m c t).2 (ix4 0 (y 0) (y 1) (y 2)) = stateAt m c t (y 0) (ix3 0 (y 1) (y 2)) := by
  unfold outsAt0
  frame_open
  simp (disch := decide) only [↓ View.readCov_skip, ↓ View.readCov_cons_toLoadRect, ↓ View.readCov_fill]
  frame_out
  simp only [View.readCov_eq_canon']
  refine (pay2_apply _ y).trans ?_
  refine (congrArg _ (whole_idx _ y)).trans ?_
  refine (canon_append_cover [_] [_, _, _, _, _, _, _, _] y (View.cover_of_tiled _ ![1, 256, 256] rfl y)).trans ?_
  canon_tiles x h
  case piece7 =>
    rw [at_head' (stateAt m c t) y x 0 (by rw [h0]; exact (Nat.zero_add _).symm) h1 h2]
    simp only [ld_cols _ 0 0 rfl, ld_st _ 0 0 rfl, ld_lg m c t 0 0#32 rfl]
    rfl
  case piece6 =>
    rw [at_head' (stateAt m c t) y x 1 h0 h1 h2]
    simp only [ld_cols _ 1 256 rfl, ld_st _ 1 1 rfl, ld_lg m c t 1 1#32 rfl]
    rfl
  case piece5 =>
    rw [at_head' (stateAt m c t) y x 2 h0 h1 h2]
    simp only [ld_cols _ 2 512 rfl, ld_st _ 2 2 rfl, ld_lg m c t 2 2#32 rfl]
    rfl
  case piece4 =>
    rw [at_head' (stateAt m c t) y x 3 h0 h1 h2]
    simp only [ld_cols _ 3 768 rfl, ld_st _ 3 3 rfl, ld_lg m c t 3 3#32 rfl]
    rfl
  case piece3 =>
    rw [at_head' (stateAt m c t) y x 4 h0 h1 h2]
    simp only [ld_cols _ 4 1024 rfl, ld_st _ 4 4 rfl, ld_lg m c t 4 4#32 rfl]
    rfl
  case piece2 =>
    rw [at_head' (stateAt m c t) y x 5 h0 h1 h2]
    simp only [ld_cols _ 5 1280 rfl, ld_st _ 5 5 rfl, ld_lg m c t 5 5#32 rfl]
    rfl
  case piece1 =>
    rw [at_head' (stateAt m c t) y x 6 h0 h1 h2]
    simp only [ld_cols _ 6 1536 rfl, ld_st _ 6 6 rfl, ld_lg m c t 6 6#32 rfl]
    rfl
  case piece0 =>
    rw [at_head' (stateAt m c t) y x 7 h0 h1 h2]
    simp only [ld_cols _ 7 1792 rfl, ld_st _ 7 7 rfl, ld_lg m c t 7 7#32 rfl]
    rfl

end Cert.RetSIdeal.Closed

end
-- ==== Proof.RetSTables.lean ====
/- The tables that the sample's retention call reads beside its operands, and the operands as the call sees them. -/
module

public import proofs.«01_k».proof.Proof.Gen.RetSIdeal.Value
public import proofs.«01_k».proof.Proof.Gen.RetSRefIdeal.Read
public import proofs.«01_k».proof.Proof.RetSMath

@[expose] public section

set_option maxRecDepth 16384

noncomputable section

namespace Cert.RetSIdeal.Closed

open Cert.RetSIdeal Cert.RetSIdeal.Gen Idealize.ShloMosaic Idealize.ShloMosaic.TcCoe Idealize.SL.Sem
open Cert.RetSRefIdeal.Read (val_main_v76 val_main_v18 val_main_v20)

variable (m : (ℓ : Loc nD τ sig) → Buf (Elt Ideal) ℓ) (c : Dev nD)

/-- The three arguments as arrays over their literal shapes. -/
abbrev argZ : S512x22016.Idx → EReal := m ((c : Thread nD τ).loc main_arg0)
abbrev argG : S1x2048.Idx → EReal := m ((c : Thread nD τ).loc main_arg1)
abbrev argS : S1x128x8x256x256.Idx → EReal := m ((c : Thread nD τ).loc main_arg2)

theorem V_lg : V m c main_v6 = val_main_v76 (F := Ideal) := by
  unfold V
  simp only [hostOps0, hostOps0_1, hostOps0_2, hostOps0_3, hostOps0_4, List.flatten_cons, List.flatten_nil, List.append_nil, List.cons_append, List.nil_append]
  after_results <;> rfl

theorem V_z (b : Fin 128) (r : Fin 4) (k : Fin 22016) :
    (V m c main_v7 : S128x4x22016.Idx → EReal) (ix3 b r k) = argZ m c (ix2 (RetS.row b r) k) := by
  have h : V m c main_v7 = shapeCast _ (argZ m c) shapeCasts_S512x22016_S128x4x22016 := by
    unfold V
    simp only [hostOps0, hostOps0_1, hostOps0_2, hostOps0_3, hostOps0_4, List.flatten_cons, List.flatten_nil, List.append_nil, List.cons_append, List.nil_append]
    after_results <;> rfl
  rw [h]
  generalize argZ m c = g
  pointwise
  exact congrArg (fun x => g (ix2 x k)) (Fin.ext (by show b.val * 4 + r.val = 4 * b.val + r.val; omega))

theorem V_cos (r : Fin 4) (e : Fin 128) :
    (V m c main_v24 : S8x128.Idx → EReal) (ix2 ⟨r.val, by omega⟩ e) = val_main_v18 (F := Ideal) (ix2 r e) := by
  have h : V m c main_v24 = pad S8x128 ![0, 0] ![4, 0] ![0, 0] (val_main_v18 (F := Ideal) : S4x128.Idx → EReal) (sitofp (F := Ideal) .f32 (constantI S_ 32 0#32) : S_.Idx → EReal) pads_S4x128_S8x128_040_000 h_S_ := by
    unfold V
    simp only [hostOps0, hostOps0_1, hostOps0_2, hostOps0_3, hostOps0_4, List.flatten_cons, List.flatten_nil, List.append_nil, List.cons_append, List.nil_append]
    after_results <;> rfl
  rw [h]
  generalize (val_main_v18 (F := Ideal) : S4x128.Idx → EReal) = g
  pointwise

theorem V_sin (r : Fin 4) (e : Fin 128) :
    (V m c main_v26 : S8x128.Idx → EReal) (ix2 ⟨r.val, by omega⟩ e) = val_main_v20 (F := Ideal) (ix2 r e) := by
  have h : V m c main_v26 = pad S8x128 ![0, 0] ![4, 0] ![0, 0] (val_main_v20 (F := Ideal) : S4x128.Idx → EReal) (sitofp (F := Ideal) .f32 (constantI S_ 32 0#32) : S_.Idx → EReal) pads_S4x128_S8x128_040_000 h_S_ := by
    unfold V
    simp only [hostOps0, hostOps0_1, hostOps0_2, hostOps0_3, hostOps0_4, List.flatten_cons, List.flatten_nil, List.append_nil, List.cons_append, List.nil_append]
    after_results <;> rfl
  rw [h]
  generalize (val_main_v20 (F := Ideal) : S4x128.Idx → EReal) = g
  pointwise

theorem V_gn (k : Fin 2048) : (V m c main_v29 : S1x2048.Idx → EReal) (ix2 0 k) = argG m c (ix2 0 k) := by
  have h : V m c main_v29 = shapeCast _ (shapeCast _ (argG m c) shapeCasts_S1x2048_S2048) shapeCasts_S2048_S1x2048 := by
    unfold V
    simp only [hostOps0, hostOps0_1, hostOps0_2, hostOps0_3, hostOps0_4, List.flatten_cons, List.flatten_nil, List.append_nil, List.cons_append, List.nil_append]
    after_results <;> rfl
  rw [h]
  generalize argG m c = g
  pointwise

theorem V_s0 (b : Fin 128) (h : Fin 8) (d e : Fin 256) :
    (V m c main_v28 : S128x8x256x256.Idx → EReal) (ix4 b h d e) = argS m c (ix5 0 b h d e) := by
  have h : V m c main_v28 = shapeCast _ (argS m c) shapeCasts_S1x128x8x256x256_S128x8x256x256 := by
    unfold V
    simp only [hostOps0, hostOps0_1, hostOps0_2, hostOps0_3, hostOps0_4, List.flatten_cons, List.flatten_nil, List.append_nil, List.cons_append, List.nil_append]
    after_results <;> rfl
  rw [h]
  generalize argS m c = g
  pointwise

end Cert.RetSIdeal.Closed

end
-- ==== Proof.RetSValue.lean ====
/- The blocks that a grid point of the sample's retention call reads, and the two arrays that the call leaves. -/
module

public import proofs.«01_k».proof.Proof.RetSBody
public import proofs.«01_k».proof.Proof.RetSTables

@[expose] public section

set_option maxRecDepth 16384

noncomputable section

namespace Cert.RetSIdeal.Closed

open Cert.RetSIdeal Cert.RetSIdeal.Gen Idealize.ShloMosaic Idealize.ShloMosaic.TcCoe Idealize.SL.Sem
open Cert.RetSRefIdeal.Read (val_main_v76 val_main_v18 val_main_v20)

variable (m : (ℓ : Loc nD τ sig) → Buf (Elt Ideal) ℓ) (c : Dev nD)

theorem t_lt (t : Fin cfg0.N) : t.val < 128 := by have := t.isLt; have e : cfg0.N = 128 := N_0; omega

/-- The sequence that a grid point works on. -/
abbrev sq (t : Fin cfg0.N) : Fin 128 := ⟨t.val, t_lt t⟩

theorem idx_in : ∀ t : Fin cfg0.N,
    (win0_1.index t 0 = t.val ∧ win0_1.index t 1 = 0 ∧ win0_1.index t 2 = 1) ∧ (win0_2.index t 0 = t.val ∧ win0_2.index t 1 = 0 ∧ win0_2.index t 2 = 2)
    ∧ (win0_3.index t 0 = t.val ∧ win0_3.index t 1 = 0 ∧ win0_3.index t 2 = 3) ∧ (win0_4.index t 0 = t.val ∧ win0_4.index t 1 = 0 ∧ win0_4.index t 2 = 4) :=
  (by decide +kernel : ∀ t : Fin grid0.N,
    (win0_1.index t 0 = t.val ∧ win0_1.index t 1 = 0 ∧ win0_1.index t 2 = 1) ∧ (win0_2.index t 0 = t.val ∧ win0_2.index t 1 = 0 ∧ win0_2.index t 2 = 2)
    ∧ (win0_3.index t 0 = t.val ∧ win0_3.index t 1 = 0 ∧ win0_3.index t 2 = 3) ∧ (win0_4.index t 0 = t.val ∧ win0_4.index t 1 = 0 ∧ win0_4.index t 2 = 4))

theorem idx_tab : ∀ t : Fin cfg0.N,
    (win0_5.index t 0 = 0 ∧ win0_5.index t 1 = 0) ∧ (win0_6.index t 0 = 0 ∧ win0_6.index t 1 = 0)
    ∧ (win0_7.index t 0 = 0 ∧ win0_7.index t 1 = 0) ∧ win0_0.index t 0 = 0 :=
  (by decide +kernel : ∀ t : Fin grid0.N,
    (win0_5.index t 0 = 0 ∧ win0_5.index t 1 = 0) ∧ (win0_6.index t 0 = 0 ∧ win0_6.index t 1 = 0)
    ∧ (win0_7.index t 0 = 0 ∧ win0_7.index t 1 = 0) ∧ win0_0.index t 0 = 0)

theorem idx_st : ∀ t : Fin cfg0.N,
    (win0_8.index t 0 = t.val ∧ win0_8.index t 1 = 0 ∧ win0_8.index t 2 = 0 ∧ win0_8.index t 3 = 0)
    ∧ (win0_9.index t 0 = t.val ∧ win0_9.index t 1 = 0 ∧ win0_9.index t 2 = 0)
    ∧ (win0_10.index t 0 = t.val ∧ win0_10.index t 1 = 0 ∧ win0_10.index t 2 = 0 ∧ win0_10.index t 3 = 0) :=
  (by decide +kernel : ∀ t : Fin grid0.N,
    (win0_8.index t 0 = t.val ∧ win0_8.index t 1 = 0 ∧ win0_8.index t 2 = 0 ∧ win0_8.index t 3 = 0)
    ∧ (win0_9.index t 0 = t.val ∧ win0_9.index t 1 = 0 ∧ win0_9.index t 2 = 0)
    ∧ (win0_10.index t 0 = t.val ∧ win0_10.index t 1 = 0 ∧ win0_10.index t 2 = 0 ∧ win0_10.index t 3 = 0))

theorem X1_apply (t : Fin cfg0.N) (r : Fin 4) (e : Fin 2048) :
    (X0_1 m c t : S1x4x2048.Idx → EReal) (ix3 0 r e) = argZ m c (ix2 (RetS.row (sq t) r) ⟨2048 * 1 + e.val, by omega⟩) := by
  unfold X0_1 Pipeline.Window.fill
  rw [dif_pos (moved0_1 t (ix3 0 r e)), ← V_z]
  refine congrArg (V m c main_v7 : S128x4x22016.Idx → EReal) (funext fun a => Fin.ext ?_)
  match a with
  | ⟨0, _⟩ => show win0_1.index t 0 * 1 + 1 * 0 = t.val; rw [(idx_in t).1.1]; omega
  | ⟨1, _⟩ => show win0_1.index t 1 * 4 + 1 * r.val = r.val; rw [(idx_in t).1.2.1]; omega
  | ⟨2, _⟩ => show win0_1.index t 2 * 2048 + 1 * e.val = 2048 * 1 + e.val; rw [(idx_in t).1.2.2]; omega

theorem X2_apply (t : Fin cfg0.N) (r : Fin 4) (e : Fin 2048) :
    (X0_2 m c t : S1x4x2048.Idx → EReal) (ix3 0 r e) = argZ m c (ix2 (RetS.row (sq t) r) ⟨2048 * 2 + e.val, by omega⟩) := by
  unfold X0_2 Pipeline.Window.fill
  rw [dif_pos (moved0_2 t (ix3 0 r e)), ← V_z]
  refine congrArg (V m c main_v7 : S128x4x22016.Idx → EReal) (funext fun a => Fin.ext ?_)
  match a with
  | ⟨0, _⟩ => show win0_2.index t 0 * 1 + 1 * 0 = t.val; rw [(idx_in t).2.1.1]; omega
  | ⟨1, _⟩ => show win0_2.index t 1 * 4 + 1 * r.val = r.val; rw [(idx_in t).2.1.2.1]; omega
  | ⟨2, _⟩ => show win0_2.index t 2 * 2048 + 1 * e.val = 2048 * 2 + e.val; rw [(idx_in t).2.1.2.2]; omega

theorem X3_apply (t : Fin cfg0.N) (r : Fin 4) (e : Fin 2048) :
    (X0_3 m c t : S1x4x2048.Idx → EReal) (ix3 0 r e) = argZ m c (ix2 (RetS.row (sq t) r) ⟨2048 * 3 + e.val, by omega⟩) := by
  unfold X0_3 Pipeline.Window.fill
  rw [dif_pos (moved0_3 t (ix3 0 r e)), ← V_z]
  refine congrArg (V m c main_v7 : S128x4x22016.Idx → EReal) (funext fun a => Fin.ext ?_)
  match a with
  | ⟨0, _⟩ => show win0_3.index t 0 * 1 + 1 * 0 = t.val; rw [(idx_in t).2.2.1.1]; omega
  | ⟨1, _⟩ => show win0_3.index t 1 * 4 + 1 * r.val = r.val; rw [(idx_in t).2.2.1.2.1]; omega
  | ⟨2, _⟩ => show win0_3.index t 2 * 2048 + 1 * e.val = 2048 * 3 + e.val; rw [(idx_in t).2.2.1.2.2]; omega

theorem X4_apply (t : Fin cfg0.N) (r : Fin 4) (e : Fin 2048) :
    (X0_4 m c t : S1x4x2048.Idx → EReal) (ix3 0 r e) = argZ m c (ix2 (RetS.row (sq t) r) ⟨2048 * 4 + e.val, by omega⟩) := by
  unfold X0_4 Pipeline.Window.fill
  rw [dif_pos (moved0_4 t (ix3 0 r e)), ← V_z]
  refine congrArg (V m c main_v7 : S128x4x22016.Idx → EReal) (funext fun a => Fin.ext ?_)
  match a with
  | ⟨0, _⟩ => show win0_4.index t 0 * 1 + 1 * 0 = t.val; rw [(idx_in t).2.2.2.1]; omega
  | ⟨1, _⟩ => show win0_4.index t 1 * 4 + 1 * r.val = r.val; rw [(idx_in t).2.2.2.2.1]; omega
  | ⟨2, _⟩ => show win0_4.index t 2 * 2048 + 1 * e.val = 2048 * 4 + e.val; rw [(idx_in t).2.2.2.2.2]; omega

theorem lg_apply (t : Fin cfg0.N) (h : Fin 8) : (iblk m c 0 t : S8.Idx → EReal) (ix1 h) = val_main_v76 (F := Ideal) (ix1 h) := by
  show V m c main_v6 ((win0_0.blk t).view.emb (ix1 h)) = _
  rw [V_lg]
  refine congrArg (val_main_v76 (F := Ideal)) (funext fun a => Fin.ext ?_)
  match a with
  | ⟨0, _⟩ => show win0_0.index t 0 * 8 + 1 * h.val = h.val; rw [(idx_tab t).2.2.2]; omega

theorem cos_apply (t : Fin cfg0.N) (r : Fin 4) (e : Fin 128) :
    (iblk m c 5 t : S8x128.Idx → EReal) (ix2 (lo r) e) = val_main_v18 (F := Ideal) (ix2 r e) := by
  show V m c main_v24 ((win0_5.blk t).view.emb (ix2 (lo r) e)) = _
  have h : (win0_5.blk t).view.emb (ix2 (lo r) e) = ix2 (lo r) e := funext fun a => Fin.ext (by
    match a with
    | ⟨0, _⟩ => show win0_5.index t 0 * 8 + 1 * r.val = r.val; rw [(idx_tab t).1.1]; omega
    | ⟨1, _⟩ => show win0_5.index t 1 * 128 + 1 * e.val = e.val; rw [(idx_tab t).1.2]; omega)
  rw [h]
  exact V_cos m c r e

theorem sin_apply (t : Fin cfg0.N) (r : Fin 4) (e : Fin 128) :
    (iblk m c 6 t : S8x128.Idx → EReal) (ix2 (lo r) e) = val_main_v20 (F := Ideal) (ix2 r e) := by
  show V m c main_v26 ((win0_6.blk t).view.emb (ix2 (lo r) e)) = _
  have h : (win0_6.blk t).view.emb (ix2 (lo r) e) = ix2 (lo r) e := funext fun a => Fin.ext (by
    match a with
    | ⟨0, _⟩ => show win0_6.index t 0 * 8 + 1 * r.val = r.val; rw [(idx_tab t).2.1.1]; omega
    | ⟨1, _⟩ => show win0_6.index t 1 * 128 + 1 * e.val = e.val; rw [(idx_tab t).2.1.2]; omega)
  rw [h]
  exact V_sin m c r e

theorem gn_apply (t : Fin cfg0.N) (k : Fin 2048) : (iblk m c 7 t : S1x2048.Idx → EReal) (ix2 0 k) = argG m c (ix2 0 k) := by
  show V m c main_v29 ((win0_7.blk t).view.emb (ix2 0 k)) = _
  have h : (win0_7.blk t).view.emb (ix2 0 k) = ix2 0 k := funext fun a => Fin.ext (by
    match a with
    | ⟨0, _⟩ => show win0_7.index t 0 * 1 + 1 * 0 = 0; rw [(idx_tab t).2.2.1.1]
    | ⟨1, _⟩ => show win0_7.index t 1 * 2048 + 1 * k.val = k.val; rw [(idx_tab t).2.2.1.2]; omega)
  rw [h]
  exact V_gn m c k

theorem st_apply (t : Fin cfg0.N) (h : Fin 8) (d e : Fin 256) :
    (iblk m c 8 t : S1x8x256x256.Idx → EReal) (ix4 0 h d e) = argS m c (ix5 0 (sq t) h d e) := by
  show V m c main_v28 ((win0_8.blk t).view.emb (ix4 0 h d e)) = _
  have hh : (win0_8.blk t).view.emb (ix4 0 h d e) = ix4 (sq t) h d e := funext fun a => Fin.ext (by
    match a with
    | ⟨0, _⟩ => show win0_8.index t 0 * 1 + 1 * 0 = t.val; rw [(idx_st t).1.1]; omega
    | ⟨1, _⟩ => show win0_8.index t 1 * 8 + 1 * h.val = h.val; rw [(idx_st t).1.2.1]; omega
    | ⟨2, _⟩ => show win0_8.index t 2 * 256 + 1 * d.val = d.val; rw [(idx_st t).1.2.2.1]; omega
    | ⟨3, _⟩ => show win0_8.index t 3 * 256 + 1 * e.val = e.val; rw [(idx_st t).1.2.2.2]; omega)
  rw [hh]
  exact V_s0 m c (sq t) h d e

theorem S0_apply (t : Fin cfg0.N) (h : Fin 8) (d e : Fin 256) : S0 m c t (ix3 h d e) = argS m c (ix5 0 (sq t) h d e) := by
  rw [← st_apply]
  unfold S0
  generalize (iblk m c 8 t : S1x8x256x256.Idx → EReal) = s
  pointwise [k0_pay3]

/-- The log decays, the rotation tables and the arguments as functions of their coordinates. -/
abbrev LG : Fin 8 → EReal := fun h => val_main_v76 (F := Ideal) (ix1 h)
abbrev CO : Fin 4 → Fin 128 → EReal := fun r x => val_main_v18 (F := Ideal) (ix2 r x)
abbrev SI : Fin 4 → Fin 128 → EReal := fun r x => val_main_v20 (F := Ideal) (ix2 r x)
abbrev Z : Fin 512 → Fin 22016 → EReal := fun x k => argZ m c (ix2 x k)
abbrev ST : Fin 128 → Fin 8 → Fin 256 → Fin 256 → EReal := fun b h d e => argS m c (ix5 0 b h d e)
abbrev GN : Fin 2048 → EReal := fun k => argG m c (ix2 0 k)

theorem cols1 (t : Fin cfg0.N) (h : Fin 8) (r : Fin 4) (e : Fin 256) :
    cols (X0_1 m c t) h (ix3 0 r e) = Z m c (RetS.row (sq t) r) (Ret.col 1 h e) :=
  X1_apply m c t r (Ret.hcol h e)

theorem cols2 (t : Fin cfg0.N) (h : Fin 8) (r : Fin 4) (e : Fin 256) :
    cols (X0_2 m c t) h (ix3 0 r e) = Z m c (RetS.row (sq t) r) (Ret.col 2 h e) :=
  X2_apply m c t r (Ret.hcol h e)

theorem cols3 (t : Fin cfg0.N) (h : Fin 8) (r : Fin 4) (e : Fin 256) :
    cols (X0_3 m c t) h (ix3 0 r e) = Z m c (RetS.row (sq t) r) (Ret.col 3 h e) :=
  X3_apply m c t r (Ret.hcol h e)

theorem cols4 (t : Fin cfg0.N) (h : Fin 8) (r : Fin 4) (e : Fin 256) :
    cols (X0_4 m c t) h (ix3 0 r e) = Z m c (RetS.row (sq t) r) (Ret.col 4 h e) :=
  X4_apply m c t r (Ret.hcol h e)

theorem row_gn (t : Fin cfg0.N) (h : Fin 8) (e : Fin 256) : rowOf (iblk m c 7 t) h (ix2 0 e) = GN m c (Ret.hcol h e) :=
  gn_apply m c t (Ret.hcol h e)

theorem st_s0 (t : Fin cfg0.N) (h : Fin 8) (d e : Fin 256) : stOf (S0 m c t) h (ix3 0 d e) = ST m c (sq t) h d e :=
  S0_apply m c t h d e

theorem outAt_apply (t : Fin cfg0.N) (h : Fin 8) (r : Fin 4) (e : Fin 256) :
    outAt m c t h (ix3 0 r e) = RetS.outS LG CO SI (Z m c) (ST m c) (GN m c) (sq t) h r e := by
  unfold outAt
  rw [headOut_apply]
  unfold headMix keys RetS.outS RetS.qS RetS.kS RetS.vS
  simp only [lg_apply, cos_apply, sin_apply, cols1, cols2, cols3, cols4, row_gn, st_s0]

theorem stateAt_apply (t : Fin cfg0.N) (h : Fin 8) (d e : Fin 256) :
    stateAt m c t h (ix3 0 d e) = RetS.stateS LG CO SI (Z m c) (ST m c) (sq t) h d e := by
  unfold stateAt
  rw [headState_apply]
  unfold keys RetS.stateS RetS.kS RetS.vS
  simp only [lg_apply, cos_apply, sin_apply, cols2, cols3, st_s0]

/-- The two arrays the call leaves. -/
def G9 : S128x4x2048.Idx → EReal := fun i => RetS.outS LG CO SI (Z m c) (ST m c) (GN m c) (i 0)
  ⟨(i 2).val / 256, by have h : (i 2).val < 2048 := (i 2).isLt; omega⟩ (i 1) ⟨(i 2).val % 256, Nat.mod_lt _ (by decide)⟩
def G10 : S128x8x256x256.Idx → EReal := fun i => RetS.stateS LG CO SI (Z m c) (ST m c) (i 0) (i 1) (i 2) (i 3)

theorem flushed9_eq (t : Fin cfg0.N) : (dats m 0 c).flushed 9 t = (win0_9.blk t).view.read (Elt Ideal) (G9 m c) := by
  rw [Value.flushed9]
  funext j
  obtain ⟨a, r, k, rfl⟩ : ∃ (a : Fin 1) (r : Fin 4) (k : Fin 2048), j = ix3 a r k := ⟨j 0, j 1, j 2, eq_ix3 j⟩
  obtain rfl : a = 0 := Subsingleton.elim _ _
  show (outsAt0 m c t).1 (ix3 0 r k) = G9 m c ((win0_9.blk t).view.emb (ix3 0 r k))
  have e : (win0_9.blk t).view.emb (ix3 0 r k) = ix3 (sq t) r k := funext fun a => Fin.ext (by
    match a with
    | ⟨0, _⟩ => show win0_9.index t 0 * 1 + 1 * 0 = t.val; rw [(idx_st t).2.1.1]; omega
    | ⟨1, _⟩ => show win0_9.index t 1 * 4 + 1 * r.val = r.val; rw [(idx_st t).2.1.2.1]; omega
    | ⟨2, _⟩ => show win0_9.index t 2 * 2048 + 1 * k.val = k.val; rw [(idx_st t).2.1.2.2]; omega)
  rw [e, out_at]
  exact outAt_apply m c t _ r _

theorem flushed10_eq (t : Fin cfg0.N) : (dats m 0 c).flushed 10 t = (win0_10.blk t).view.read (Elt Ideal) (G10 m c) := by
  rw [Value.flushed10]
  funext j
  obtain ⟨a, h, d, e, rfl⟩ : ∃ (a : Fin 1) (h : Fin 8) (d e : Fin 256), j = ix4 a h d e := ⟨j 0, j 1, j 2, j 3, eq_ix4 j⟩
  obtain rfl : a = 0 := Subsingleton.elim _ _
  show (outsAt0 m c t).2 (ix4 0 h d e) = G10 m c ((win0_10.blk t).view.emb (ix4 0 h d e))
  have hh : (win0_10.blk t).view.emb (ix4 0 h d e) = ix4 (sq t) h d e := funext fun a => Fin.ext (by
    match a with
    | ⟨0, _⟩ => show win0_10.index t 0 * 1 + 1 * 0 = t.val; rw [(idx_st t).2.2.1]; omega
    | ⟨1, _⟩ => show win0_10.index t 1 * 8 + 1 * h.val = h.val; rw [(idx_st t).2.2.2.1]; omega
    | ⟨2, _⟩ => show win0_10.index t 2 * 256 + 1 * d.val = d.val; rw [(idx_st t).2.2.2.2.1]; omega
    | ⟨3, _⟩ => show win0_10.index t 3 * 256 + 1 * e.val = e.val; rw [(idx_st t).2.2.2.2.2]; omega)
  rw [hh]
  exact (state_at m c t (ix3 h d e)).trans (stateAt_apply m c t h d e)

theorem mem_blk9 (t : Fin cfg0.N) (i : S128x4x2048.Idx) : i ∈ ((cfg0.win 9).blk t).view.set ↔ (i 0).val = t.val := by
  show i ∈ ((View.whole main_v30_0).slice (win0_9.rect t)).set ↔ _
  rw [View.set_slice_whole, Rect.mem_set_unit]
  have e0 : win0_9.index t 0 * win0_9.size 0 = t.val * 1 := by rw [(idx_st t).2.1.1]; rfl
  have e1 : win0_9.index t 1 * win0_9.size 1 = 0 := by rw [(idx_st t).2.1.2.1]; exact Nat.zero_mul _
  have e2 : win0_9.index t 2 * win0_9.size 2 = 0 := by rw [(idx_st t).2.1.2.2]; exact Nat.zero_mul _
  refine ⟨fun h => ?_, fun h a => ?_⟩
  · have h0 : win0_9.index t 0 * win0_9.size 0 ≤ (i 0).val ∧ (i 0).val < win0_9.index t 0 * win0_9.size 0 + 1 := h 0
    rw [e0] at h0
    omega
  · match a with
    | ⟨0, _⟩ =>
      show win0_9.index t 0 * win0_9.size 0 ≤ (i 0).val ∧ (i 0).val < win0_9.index t 0 * win0_9.size 0 + 1
      rw [e0]; omega
    | ⟨1, _⟩ =>
      show win0_9.index t 1 * win0_9.size 1 ≤ (i 1).val ∧ (i 1).val < win0_9.index t 1 * win0_9.size 1 + 4
      have hi : (i 1).val < 4 := (i 1).isLt
      rw [e1]; omega
    | ⟨2, _⟩ =>
      show win0_9.index t 2 * win0_9.size 2 ≤ (i 2).val ∧ (i 2).val < win0_9.index t 2 * win0_9.size 2 + 2048
      have hi : (i 2).val < 2048 := (i 2).isLt
      rw [e2]; omega

theorem cover9 (i : S128x4x2048.Idx) : ∃ t : Fin cfg0.N, (cfg0.win 9).flush t = true ∧ i ∈ ((cfg0.win 9).blk t).view.set := by
  have h0 : (i 0).val < 128 := (i 0).isLt
  have hN : cfg0.N = 128 := N_0
  exact ⟨⟨(i 0).val, by omega⟩, flush0_9 _, (mem_blk9 _ i).mpr rfl⟩

theorem final9 : (dats m 0 c).arrAt 9 cfg0.N = G9 m c :=
  (dats m 0 c).arrAt_eq_of_cover 9 (G9 m c) (fun t _ => flushed9_eq m c t) cover9

theorem mem_blk10 (t : Fin cfg0.N) (i : S128x8x256x256.Idx) : i ∈ ((cfg0.win 10).blk t).view.set ↔ (i 0).val = t.val := by
  show i ∈ ((View.whole main_v30_1).slice (win0_10.rect t)).set ↔ _
  rw [View.set_slice_whole, Rect.mem_set_unit]
  have e0 : win0_10.index t 0 * win0_10.size 0 = t.val * 1 := by rw [(idx_st t).2.2.1]; rfl
  have e1 : win0_10.index t 1 * win0_10.size 1 = 0 := by rw [(idx_st t).2.2.2.1]; exact Nat.zero_mul _
  have e2 : win0_10.index t 2 * win0_10.size 2 = 0 := by rw [(idx_st t).2.2.2.2.1]; exact Nat.zero_mul _
  have e3 : win0_10.index t 3 * win0_10.size 3 = 0 := by rw [(idx_st t).2.2.2.2.2]; exact Nat.zero_mul _
  refine ⟨fun h => ?_, fun h a => ?_⟩
  · have h0 : win0_10.index t 0 * win0_10.size 0 ≤ (i 0).val ∧ (i 0).val < win0_10.index t 0 * win0_10.size 0 + 1 := h 0
    rw [e0] at h0
    omega
  · match a with
    | ⟨0, _⟩ =>
      show win0_10.index t 0 * win0_10.size 0 ≤ (i 0).val ∧ (i 0).val < win0_10.index t 0 * win0_10.size 0 + 1
      rw [e0]; omega
    | ⟨1, _⟩ =>
      show win0_10.index t 1 * win0_10.size 1 ≤ (i 1).val ∧ (i 1).val < win0_10.index t 1 * win0_10.size 1 + 8
      have hi : (i 1).val < 8 := (i 1).isLt
      rw [e1]; omega
    | ⟨2, _⟩ =>
      show win0_10.index t 2 * win0_10.size 2 ≤ (i 2).val ∧ (i 2).val < win0_10.index t 2 * win0_10.size 2 + 256
      have hi : (i 2).val < 256 := (i 2).isLt
      rw [e2]; omega
    | ⟨3, _⟩ =>
      show win0_10.index t 3 * win0_10.size 3 ≤ (i 3).val ∧ (i 3).val < win0_10.index t 3 * win0_10.size 3 + 256
      have hi : (i 3).val < 256 := (i 3).isLt
      rw [e3]; omega

theorem cover10 (i : S128x8x256x256.Idx) : ∃ t : Fin cfg0.N, (cfg0.win 10).flush t = true ∧ i ∈ ((cfg0.win 10).blk t).view.set := by
  have h0 : (i 0).val < 128 := (i 0).isLt
  have hN : cfg0.N = 128 := N_0
  exact ⟨⟨(i 0).val, by omega⟩, flush0_10 _, (mem_blk10 _ i).mpr rfl⟩

theorem final10 : (dats m 0 c).arrAt 10 cfg0.N = G10 m c :=
  (dats m 0 c).arrAt_eq_of_cover 10 (G10 m c) (fun t _ => flushed10_eq m c t) cover10

end Cert.RetSIdeal.Closed

end
-- ==== Proof.RetSRef.lean ====
/- The reference of the sample's retention read element by element. -/
module

public import proofs.«01_k».proof.Proof.Gen.RetSRefIdeal.Read
public import proofs.«01_k».proof.Proof.RetSMath

@[expose] public section

set_option maxRecDepth 16384

noncomputable section

namespace Cert.RetSRefIdeal.Closed

open Cert.RetSRefIdeal Cert.RetSRefIdeal.Gen Idealize.ShloMosaic Idealize.ShloMosaic.TcCoe Idealize.SL.Sem
open Cert.RetSRefIdeal.Read

/-- The queries, before rotation. -/
theorem v5_apply (z : S512x22016.Idx → EReal) (b : Fin 128) (r : Fin 4) (h : Fin 8) (e : Fin 256) :
    val_main_v5 (F := Ideal) z (ix4 b r h e) = z (ix2 (RetS.row b r) (Ret.col 1 h e)) := by
  pointwise [val_main_v5, val_main_v4]
  refine congrArg z (congr (congrArg ix2 (Fin.ext ?_)) (Fin.ext ?_))
  · show b.val * 4 + r.val = 4 * b.val + r.val; omega
  · show 2048 + (h.val * 256 + e.val) = 2048 * 1 + (256 * h.val + e.val); omega

/-- The keys, before rotation. -/
theorem v36_apply (z : S512x22016.Idx → EReal) (b : Fin 128) (r : Fin 4) (h : Fin 8) (e : Fin 256) :
    val_main_v36 (F := Ideal) z (ix4 b r h e) = z (ix2 (RetS.row b r) (Ret.col 2 h e)) := by
  pointwise [val_main_v36, val_main_v35]
  refine congrArg z (congr (congrArg ix2 (Fin.ext ?_)) (Fin.ext ?_))
  · show b.val * 4 + r.val = 4 * b.val + r.val; omega
  · show 4096 + (h.val * 256 + e.val) = 2048 * 2 + (256 * h.val + e.val); omega

/-- The values. -/
theorem v69_apply (z : S512x22016.Idx → EReal) (b : Fin 128) (r : Fin 4) (h : Fin 8) (e : Fin 256) :
    val_main_v69 (F := Ideal) z (ix4 b r h e) = z (ix2 (RetS.row b r) (Ret.col 3 h e)) := by
  pointwise [val_main_v69, val_main_v68]
  refine congrArg z (congr (congrArg ix2 (Fin.ext ?_)) (Fin.ext ?_))
  · show b.val * 4 + r.val = 4 * b.val + r.val; omega
  · show 6144 + (h.val * 256 + e.val) = 2048 * 3 + (256 * h.val + e.val); omega

/-- The state kept before the four tokens. -/
theorem v3_apply (s : S1x128x8x256x256.Idx → EReal) (b : Fin 128) (h : Fin 8) (d e : Fin 256) :
    val_main_v3 (F := Ideal) s (ix4 b h d e) = s (ix5 0 b h d e) := by
  pointwise [val_main_v3]

/-- The queries, rotated. -/
theorem v34_apply (z : S512x22016.Idx → EReal) (b : Fin 128) (r : Fin 4) (h : Fin 8) (e : Fin 256) :
    val_main_v34 (F := Ideal) z (ix4 b r h e) = Ret.rot (fun x => val_main_v18 (F := Ideal) (ix2 r x)) (fun x => val_main_v20 (F := Ideal) (ix2 r x))
      (fun x => val_main_v5 (F := Ideal) z (ix4 b r h x)) e := by
  unfold val_main_v34 val_main_v33 val_main_v32 val_main_v30 val_main_v28 val_main_v27 val_main_v25 val_main_v23 val_main_v22 Ret.rot
  generalize val_main_v5 (F := Ideal) z = x
  pointwise [val_main_v31, val_main_v29, val_main_v26, val_main_v24, val_main_v21, val_main_v19]

/-- The keys, rotated and scaled. -/
theorem v67_apply (z : S512x22016.Idx → EReal) (b : Fin 128) (r : Fin 4) (h : Fin 8) (e : Fin 256) :
    val_main_v67 (F := Ideal) z (ix4 b r h e) = Ret.rot (fun x => val_main_v18 (F := Ideal) (ix2 r x)) (fun x => val_main_v20 (F := Ideal) (ix2 r x))
      (fun x => val_main_v36 (F := Ideal) z (ix4 b r h x)) e * Ideal.ofBits .f32 0x3D800000#32 := by
  have e1 : val_main_v49 (F := Ideal) = val_main_v18 (F := Ideal) := rfl
  have e2 : val_main_v51 (F := Ideal) = val_main_v20 (F := Ideal) := rfl
  rw [← e1, ← e2]
  unfold val_main_v67 val_main_v65 val_main_v64 val_main_v63 val_main_v61 val_main_v59 val_main_v58 val_main_v56 val_main_v54 val_main_v53 Ret.rot
  generalize val_main_v36 (F := Ideal) z = x
  pointwise [val_main_v66, val_main_cst_3, val_main_v62, val_main_v60, val_main_v57, val_main_v55, val_main_v52, val_main_v50]

/-- The outputs before the norm, head by head. -/
theorem v127_apply (z : S512x22016.Idx → EReal) (s : S1x128x8x256x256.Idx → EReal) (b : Fin 128) (r : Fin 4) (h : Fin 8) (e : Fin 256) :
    val_main_v127 (F := Ideal) z s (ix4 b r h e) = RetS.mix (val_main_v76 (F := Ideal) (ix1 h))
      (fun x d => val_main_v34 (F := Ideal) z (ix4 b x h d)) (fun x d => val_main_v67 (F := Ideal) z (ix4 b x h d))
      (fun x d => val_main_v69 (F := Ideal) z (ix4 b x h d)) (fun d e => val_main_v3 (F := Ideal) s (ix4 b h d e)) r e := by
  unfold val_main_v127 val_main_v126 val_main_v123 val_main_v122 val_main_v121 val_main_v120 val_main_v119 val_main_v116
  generalize val_main_v34 (F := Ideal) z = q
  generalize val_main_v67 (F := Ideal) z = k
  generalize val_main_v69 (F := Ideal) z = v
  generalize val_main_v3 (F := Ideal) s = S
  unfold RetS.mix
  have hz : id (constant (F := Ideal) S_ FTy.f32 0#32) ix0 = 0 := Ideal.ofBits_zero_f32
  simp only [← RetS.decay_int _ _ hz, ← RetS.succ_int]
  pointwise [val_main_v125, val_main_v124, val_main_v118, val_main_v117, val_main_v103, val_main_v102, val_main_v101, val_main_v100, val_main_v99, val_main_v98, val_main_c_9, val_main_v97, val_main_v96, val_main_v95, val_main_v94, val_main_call0_v0, val_main_call0_v1, val_main_call0_v2, val_main_cst_8, val_main_v93, val_main_v92, val_main_v91, val_main_v90, val_main_v89, val_main_v88, val_main_v87, val_main_v86, val_main_c_7, val_main_v85, val_main_v84, val_main_v83, val_main_c_6, val_main_v82, val_main_v81, val_main_v80, val_main_v79, val_main_v78, val_main_v77]
  congr 1
  · exact Finset.sum_congr rfl fun x _ => mul_comm _ _
  · congr 1
    exact Finset.sum_congr rfl fun x _ => mul_comm _ _

/-- The state after the four tokens, head by head. -/
theorem v135_apply (z : S512x22016.Idx → EReal) (s : S1x128x8x256x256.Idx → EReal) (b : Fin 128) (h : Fin 8) (d e : Fin 256) :
    val_main_v135 (F := Ideal) z s (ix4 b h d e) = RetS.next (val_main_v76 (F := Ideal) (ix1 h))
      (fun x d => val_main_v67 (F := Ideal) z (ix4 b x h d))
      (fun x d => val_main_v69 (F := Ideal) z (ix4 b x h d)) (fun d e => val_main_v3 (F := Ideal) s (ix4 b h d e)) d e := by
  unfold val_main_v135 val_main_v134 val_main_v133 val_main_v130
  generalize val_main_v67 (F := Ideal) z = k
  generalize val_main_v69 (F := Ideal) z = v
  generalize val_main_v3 (F := Ideal) s = S
  unfold RetS.next
  simp only [← RetS.rest_int]
  pointwise [val_main_v132, val_main_v131, val_main_v129, val_main_v128, val_main_v115, val_main_v114, val_main_v113, val_main_cst_11, val_main_v112, val_main_v111, val_main_v110, val_main_v109, val_main_v108, val_main_v107, val_main_v106, val_main_v105, val_main_c_10, val_main_v104, val_main_v77]

/-- The results after the norm and the gate. -/
theorem v163_apply (z : S512x22016.Idx → EReal) (g : S1x2048.Idx → EReal) (s : S1x128x8x256x256.Idx → EReal)
    (b : Fin 128) (r : Fin 4) (h : Fin 8) (e : Fin 256) :
    val_main_v163 (F := Ideal) z g s (ix3 b r (Ret.hcol h e))
      = Ret.gnorm (fun x => z (ix2 (RetS.row b r) (Ret.col 4 h x))) (fun x => g (ix2 0 (Ret.hcol h x)))
          (fun x => val_main_v127 (F := Ideal) z s (ix4 b r h x)) e := by
  unfold Ret.gnorm Ret.mean
  unfold val_main_v163 val_main_v162 val_main_v158 val_main_v154 val_main_v153 val_main_v152 val_main_v151 val_main_v150 val_main_v148 val_main_v147 val_main_v146 val_main_v144 val_main_v143 val_main_v142 val_main_v141 val_main_v140 val_main_v139 val_main_v137 val_main_v136
  generalize val_main_v127 (F := Ideal) z s = S
  pointwise [val_main_v161, val_main_v160, val_main_v159, val_main_v157, val_main_v156, val_main_v155, val_main_v149, val_main_v145, val_main_v138, val_main_cst_12, val_main_cst_13, val_main_cst_14, val_main_cst_15, val_main_cst_16, val_main_call1_v0, val_main_call1_v1, val_main_call1_cst, val_main_call1_v2, val_main_call1_v3, val_main_call1_cst_0, val_main_call1_v4, val_main_call1_v5]
  have e3 : (256 * h.val + e.val) / 256 = h.val := by omega
  have e4 : (256 * h.val + e.val) % 256 = e.val := by omega
  have e5 : (⟨b.val * 4 + r.val, by omega⟩ : Fin 512) = RetS.row b r := Fin.ext (by show b.val * 4 + r.val = 4 * b.val + r.val; omega)
  simp only [e3, e4, Fin.eta]
  rw [e5]
  simp only [zero_sub]
  rfl

/-- The two results in terms of the arguments. -/
theorem res_at (z : S512x22016.Idx → EReal) (g : S1x2048.Idx → EReal) (s : S1x128x8x256x256.Idx → EReal)
    (b : Fin 128) (r : Fin 4) (h : Fin 8) (e : Fin 256) :
    val_main_v163 (F := Ideal) z g s (ix3 b r (Ret.hcol h e))
      = RetS.outS (fun h => val_main_v76 (F := Ideal) (ix1 h)) (fun r x => val_main_v18 (F := Ideal) (ix2 r x))
          (fun r x => val_main_v20 (F := Ideal) (ix2 r x)) (fun x k => z (ix2 x k)) (fun b h d e => s (ix5 0 b h d e)) (fun k => g (ix2 0 k)) b h r e := by
  rw [v163_apply]
  unfold RetS.outS RetS.qS RetS.kS RetS.vS
  simp only [v127_apply, v34_apply, v67_apply, v5_apply, v36_apply, v69_apply, v3_apply]

theorem state_at (z : S512x22016.Idx → EReal) (s : S1x128x8x256x256.Idx → EReal) (b : Fin 128) (h : Fin 8) (d e : Fin 256) :
    val_main_v135 (F := Ideal) z s (ix4 b h d e)
      = RetS.stateS (fun h => val_main_v76 (F := Ideal) (ix1 h)) (fun r x => val_main_v18 (F := Ideal) (ix2 r x))
          (fun r x => val_main_v20 (F := Ideal) (ix2 r x)) (fun x k => z (ix2 x k)) (fun b h d e => s (ix5 0 b h d e)) b h d e := by
  rw [v135_apply]
  unfold RetS.stateS RetS.kS RetS.vS
  simp only [v67_apply, v36_apply, v69_apply, v3_apply]

end Cert.RetSRefIdeal.Closed

end
-- ==== Proof.RetSClaims.lean ====
/- The claims about the retention call on the sample: the frames, the idealization, and the value. -/
module

public import proofs.«01_k».proof.Defs
public import proofs.«01_k».proof.Proof.Gen.RetS.Frame
public import proofs.«01_k».proof.Proof.RetSValue
public import proofs.«01_k».proof.Proof.RetSRef
public import Idealize.ShloMosaic.Lib.Quiescent

@[expose] public section

noncomputable section

namespace Cert.Proof.RetSClaims

open Idealize.ShloMosaic Idealize.ShloMosaic.TcCoe Idealize.SL.Sem

theorem frame_p : Cert.quiescent_RetS := fun m ρ _ => Cert.RetS.Gen.frame m ρ
theorem frame_pi : Cert.quiescent_RetSIdeal := fun m ρ _ => Cert.RetSIdeal.Gen.frame m ρ
theorem frame_ri : Cert.quiescent_RetSRefIdeal := fun m ρ _ =>
  (θ_run Cert.RetSRefIdeal.defs _ _).mono (fun r h => ⟨fun c => (h c).2.2, Idealize.ShloMosaic.sem_eq_zero_of_no_sems (by decide) r.2⟩)
    (Cert.RetSRefIdeal.Value.run (F := Ideal) m ρ)
theorem preserves : Cert.preserves_RetS_RetSIdeal := trivial

/-- At `Ideal` the kernel's result arrays and the reference's are the same functions of arguments that agree. -/
theorem algebraic : Cert.algebraic_RetSIdeal_RetSRefIdeal := by
  intro m ρ m' ρ' _ hagree
  refine ⟨fun c => Cert.RetSIdeal.Closed.G9 m c, fun c => Cert.RetSIdeal.Closed.G10 m c, ?_, ?_⟩
  · exact (θ_run Cert.RetSIdeal.defs _ _).mono
      (fun _ h c => ⟨(h c).1.trans (Cert.RetSIdeal.Closed.final9 m c), (h c).2.1.trans (Cert.RetSIdeal.Closed.final10 m c), (h c).2.2⟩)
      (Cert.RetSIdeal.Value.run_blocks (F := Ideal) m ρ)
  · refine (θ_run Cert.RetSRefIdeal.defs _ _).mono (fun _ h c => ⟨(h c).1.trans ?_, (h c).2.1.trans ?_, (h c).2.2⟩)
      (Cert.RetSRefIdeal.Value.run (F := Ideal) m' ρ')
    · refine (Cert.RetSRefIdeal.Read.val_main_v163_eq (F := Ideal) (StableHlo.launchContents m' c)).trans ?_
      refine (congr (congr (congrArg (Cert.RetSRefIdeal.Read.val_main_v163 (F := Ideal)) (hagree c).1) (hagree c).2.1) (hagree c).2.2).trans ?_
      funext i
      have h2 : (i 2).val < 2048 := (i 2).isLt
      have e : i = ix3 (i 0) (i 1) (Cert.Ret.hcol ⟨(i 2).val / 256, by omega⟩ ⟨(i 2).val % 256, by omega⟩) := by
        funext a
        apply Fin.ext
        match a with
        | ⟨0, _⟩ => rfl
        | ⟨1, _⟩ => rfl
        | ⟨2, _⟩ => show (i 2).val = 256 * ((i 2).val / 256) + (i 2).val % 256; omega
      refine (congrArg _ e).trans ?_
      exact Cert.RetSRefIdeal.Closed.res_at _ _ _ _ _ _ _
    · refine (Cert.RetSRefIdeal.Read.val_main_v135_eq (F := Ideal) (StableHlo.launchContents m' c)).trans ?_
      refine (congr (congrArg (Cert.RetSRefIdeal.Read.val_main_v135 (F := Ideal)) (hagree c).1) (hagree c).2.2).trans ?_
      funext i
      have e : i = ix4 (i 0) (i 1) (i 2) (i 3) := by
        funext a
        match a with
        | ⟨0, _⟩ => rfl
        | ⟨1, _⟩ => rfl
        | ⟨2, _⟩ => rfl
        | ⟨3, _⟩ => rfl
      refine (congrArg _ e).trans ?_
      exact Cert.RetSRefIdeal.Closed.state_at _ _ _ _ _ _

end Cert.Proof.RetSClaims

end
-- ==== Proof.MergeSValue.lean ====
/- On the sample: the gated pair of matrix products: the kernel's result array is `σ(ga) (o₁ w₁) + σ(gb) (o₂ w₂)`, block by block,
   which is what the reference computes over the whole arrays. -/
module

public import proofs.«01_k».proof.Proof.Gen.MergeSIdeal.Value
public import proofs.«01_k».proof.Proof.Gen.MergeSRefIdeal.Read
public import Idealize.ShloMosaic.Lib.Pointwise

@[expose] public section

set_option maxRecDepth 16384

noncomputable section

namespace Cert.MergeSIdeal.Closed

open Cert.MergeSIdeal Cert.MergeSIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments as arrays over their literal shapes. -/
abbrev argA (c : Dev nD) : S512x2048.Idx → EReal := m ((c : Thread nD τ).loc main_arg0)
abbrev argB (c : Dev nD) : S512x2048.Idx → EReal := m ((c : Thread nD τ).loc main_arg1)
abbrev argZ (c : Dev nD) : S512x22016.Idx → EReal := m ((c : Thread nD τ).loc main_arg2)
abbrev argU (c : Dev nD) : S1x2048x4096.Idx → EReal := m ((c : Thread nD τ).loc main_arg3)
abbrev argW (c : Dev nD) : S1x2048x4096.Idx → EReal := m ((c : Thread nD τ).loc main_arg4)

/-- The logistic function. -/
def gate (g : EReal) : EReal := Ideal.div 1 (1 + Ideal.exp (-g))

/-- The array the result ends holding. -/
def G (c : Dev nD) : S512x4096.Idx → EReal := fun i =>
  gate (argZ m c (ix2 (i 0) ⟨13312 + (i 1).val, by have h : (i 1).val < 4096 := (i 1).isLt; omega⟩))
      * ∑ k : Fin 2048, argA m c (ix2 (i 0) k) * argU m c (ix3 0 k (i 1))
    + gate (argZ m c (ix2 (i 0) ⟨17408 + (i 1).val, by have h : (i 1).val < 4096 := (i 1).isLt; omega⟩))
      * ∑ k : Fin 2048, argB m c (ix2 (i 0) k) * argW m c (ix3 0 k (i 1))

theorem hz : (![0, 0] : Fin 2 → Nat) = fun _ => 0 := funext fun a => by fin_cases a <;> rfl

/-- The windows' block indices at a point: the row block is the point's quotient by eight, the column block its
    remainder, the gates' column blocks starting at block 26 and at block 34. -/
theorem idx_facts : ∀ t : Fin cfg0.N, (win0_0.index t 0 = t.val / 8 ∧ win0_0.index t 1 = 0) ∧ (win0_1.index t 0 = t.val / 8 ∧ win0_1.index t 1 = 0)
    ∧ (win0_2.index t 0 = t.val / 8 ∧ win0_2.index t 1 = 26 + t.val % 8) ∧ (win0_3.index t 0 = t.val / 8 ∧ win0_3.index t 1 = 34 + t.val % 8)
    ∧ (win0_4.index t 0 = 0 ∧ win0_4.index t 1 = t.val % 8) ∧ (win0_5.index t 0 = 0 ∧ win0_5.index t 1 = t.val % 8)
    ∧ (win0_6.index t 0 = t.val / 8 ∧ win0_6.index t 1 = t.val % 8) :=
  (by decide +kernel : ∀ t : Fin grid0.N, (win0_0.index t 0 = t.val / 8 ∧ win0_0.index t 1 = 0) ∧ (win0_1.index t 0 = t.val / 8 ∧ win0_1.index t 1 = 0)
    ∧ (win0_2.index t 0 = t.val / 8 ∧ win0_2.index t 1 = 26 + t.val % 8) ∧ (win0_3.index t 0 = t.val / 8 ∧ win0_3.index t 1 = 34 + t.val % 8)
    ∧ (win0_4.index t 0 = 0 ∧ win0_4.index t 1 = t.val % 8) ∧ (win0_5.index t 0 = 0 ∧ win0_5.index t 1 = t.val % 8)
    ∧ (win0_6.index t 0 = t.val / 8 ∧ win0_6.index t 1 = t.val % 8))

theorem V_main_v0 (c : Dev nD) : V m c main_v0 = shapeCast _ (argU m c) shapeCasts_S1x2048x4096_S2048x4096 := by
  unfold V
  after_results <;> rfl

theorem V_main_v1 (c : Dev nD) : V m c main_v1 = shapeCast _ (argW m c) shapeCasts_S1x2048x4096_S2048x4096 := by
  unfold V
  after_results <;> rfl

theorem t_lt (t : Fin cfg0.N) : t.val < 8 := by have := t.isLt; have e : cfg0.N = 8 := N_0; omega

theorem iblk0_apply (c : Dev nD) (t : Fin cfg0.N) (r : Fin 512) (k : Fin 2048) :
    iblk m c 0 t (ix2 r k) = argA m c (ix2 ⟨t.val / 8 * 512 + r.val, by have := t_lt t; omega⟩ k) := by
  show V m c main_arg0 ((win0_0.blk t).view.emb (ix2 r k)) = _
  rw [V_main_arg0]
  refine congrArg (argA m c) (funext fun a => Fin.ext ?_)
  match a with
  | ⟨0, _⟩ => show win0_0.index t 0 * 512 + 1 * r.val = t.val / 8 * 512 + r.val; rw [(idx_facts t).1.1]; omega
  | ⟨1, _⟩ => show win0_0.index t 1 * 2048 + 1 * k.val = k.val; rw [(idx_facts t).1.2]; omega

theorem iblk1_apply (c : Dev nD) (t : Fin cfg0.N) (r : Fin 512) (k : Fin 2048) :
    iblk m c 1 t (ix2 r k) = argB m c (ix2 ⟨t.val / 8 * 512 + r.val, by have := t_lt t; omega⟩ k) := by
  show V m c main_arg1 ((win0_1.blk t).view.emb (ix2 r k)) = _
  rw [V_main_arg1]
  refine congrArg (argB m c) (funext fun a => Fin.ext ?_)
  match a with
  | ⟨0, _⟩ => show win0_1.index t 0 * 512 + 1 * r.val = t.val / 8 * 512 + r.val; rw [(idx_facts t).2.1.1]; omega
  | ⟨1, _⟩ => show win0_1.index t 1 * 2048 + 1 * k.val = k.val; rw [(idx_facts t).2.1.2]; omega

theorem iblk2_apply (c : Dev nD) (t : Fin cfg0.N) (r : Fin 512) (l : Fin 512) :
    iblk m c 2 t (ix2 r l) = argZ m c (ix2 ⟨t.val / 8 * 512 + r.val, by have := t_lt t; omega⟩ ⟨13312 + (t.val % 8 * 512 + l.val), by omega⟩) := by
  show V m c main_arg2 ((win0_2.blk t).view.emb (ix2 r l)) = _
  rw [V_main_arg2]
  refine congrArg (argZ m c) (funext fun a => Fin.ext ?_)
  match a with
  | ⟨0, _⟩ => show win0_2.index t 0 * 512 + 1 * r.val = t.val / 8 * 512 + r.val; rw [(idx_facts t).2.2.1.1]; omega
  | ⟨1, _⟩ => show win0_2.index t 1 * 512 + 1 * l.val = 13312 + (t.val % 8 * 512 + l.val); rw [(idx_facts t).2.2.1.2]; omega

theorem iblk3_apply (c : Dev nD) (t : Fin cfg0.N) (r : Fin 512) (l : Fin 512) :
    iblk m c 3 t (ix2 r l) = argZ m c (ix2 ⟨t.val / 8 * 512 + r.val, by have := t_lt t; omega⟩ ⟨17408 + (t.val % 8 * 512 + l.val), by omega⟩) := by
  show V m c main_arg2 ((win0_3.blk t).view.emb (ix2 r l)) = _
  rw [V_main_arg2]
  refine congrArg (argZ m c) (funext fun a => Fin.ext ?_)
  match a with
  | ⟨0, _⟩ => show win0_3.index t 0 * 512 + 1 * r.val = t.val / 8 * 512 + r.val; rw [(idx_facts t).2.2.2.1.1]; omega
  | ⟨1, _⟩ => show win0_3.index t 1 * 512 + 1 * l.val = 17408 + (t.val % 8 * 512 + l.val); rw [(idx_facts t).2.2.2.1.2]; omega

theorem iblk4_apply (c : Dev nD) (t : Fin cfg0.N) (k : Fin 2048) (l : Fin 512) :
    iblk m c 4 t (ix2 k l) = argU m c (ix3 0 k ⟨t.val % 8 * 512 + l.val, by omega⟩) := by
  show V m c main_v0 ((win0_4.blk t).view.emb (ix2 k l)) = _
  rw [V_main_v0]
  have e : (win0_4.blk t).view.emb (ix2 k l) = ix2 k ⟨t.val % 8 * 512 + l.val, by omega⟩ := funext fun a => Fin.ext (by
    match a with
    | ⟨0, _⟩ => show win0_4.index t 0 * 2048 + 1 * k.val = k.val; rw [(idx_facts t).2.2.2.2.1.1]; omega
    | ⟨1, _⟩ => show win0_4.index t 1 * 512 + 1 * l.val = t.val % 8 * 512 + l.val; rw [(idx_facts t).2.2.2.2.1.2]; omega)
  rw [e]
  generalize argU m c = w
  pointwise

theorem iblk5_apply (c : Dev nD) (t : Fin cfg0.N) (k : Fin 2048) (l : Fin 512) :
    iblk m c 5 t (ix2 k l) = argW m c (ix3 0 k ⟨t.val % 8 * 512 + l.val, by omega⟩) := by
  show V m c main_v1 ((win0_5.blk t).view.emb (ix2 k l)) = _
  rw [V_main_v1]
  have e : (win0_5.blk t).view.emb (ix2 k l) = ix2 k ⟨t.val % 8 * 512 + l.val, by omega⟩ := funext fun a => Fin.ext (by
    match a with
    | ⟨0, _⟩ => show win0_5.index t 0 * 2048 + 1 * k.val = k.val; rw [(idx_facts t).2.2.2.2.2.1.1]; omega
    | ⟨1, _⟩ => show win0_5.index t 1 * 512 + 1 * l.val = t.val % 8 * 512 + l.val; rw [(idx_facts t).2.2.2.2.2.1.2]; omega)
  rw [e]
  generalize argW m c = w
  pointwise

/-- The body's stored value at an index of the block. -/
theorem pay_apply (x0 x1 : Vec Ideal S512x2048 .bf16) (w0 w1 : Vec Ideal S2048x512 .f32) (g0 g1 : Vec Ideal S512x512 .f32)
    (r : Fin 512) (l : Fin 512) :
    k0_pay1 (F := Ideal) x0 w0 x1 w1 g0 g1 (ix2 r l)
      = gate (g0 (ix2 r l)) * ∑ k : Fin 2048, x0 (ix2 r k) * w0 (ix2 k l)
        + gate (g1 (ix2 r l)) * ∑ k : Fin 2048, x1 (ix2 r k) * w1 (ix2 k l) := by
  unfold gate
  pointwise [k0_pay1]
  simp only [zero_sub]

theorem flushed_eq (c : Dev nD) (t : Fin cfg0.N) :
    (dats m 0 c).flushed 6 t = (win0_6.blk t).view.read (Elt Ideal) (G m c) := by
  rw [Value.flushed6]
  unfold out0_6
  rw [View.canon_unit_zero hz, View.ld_unit_zero hz, View.ld_unit_zero hz, View.ld_unit_zero hz, View.ld_unit_zero hz, View.ld_unit_zero hz, View.ld_unit_zero hz]
  funext j
  obtain ⟨r, l, rfl⟩ : ∃ (r : Fin 512) (l : Fin 512), j = ix2 r l := ⟨j 0, j 1, eq_ix2 j⟩
  show k0_pay1 (F := Ideal) (iblk m c 0 t) (iblk m c 4 t) (iblk m c 1 t) (iblk m c 5 t) (iblk m c 2 t) (iblk m c 3 t) (ix2 r l) = G m c ((win0_6.blk t).view.emb (ix2 r l))
  have e : (win0_6.blk t).view.emb (ix2 r l)
      = ix2 ⟨t.val / 8 * 512 + r.val, by have := t_lt t; omega⟩ ⟨t.val % 8 * 512 + l.val, by omega⟩ := funext fun a => Fin.ext (by
    match a with
    | ⟨0, _⟩ => show win0_6.index t 0 * 512 + 1 * r.val = t.val / 8 * 512 + r.val; rw [(idx_facts t).2.2.2.2.2.2.1]; omega
    | ⟨1, _⟩ => show win0_6.index t 1 * 512 + 1 * l.val = t.val % 8 * 512 + l.val; rw [(idx_facts t).2.2.2.2.2.2.2]; omega)
  rw [e, pay_apply, iblk2_apply, iblk3_apply]
  simp only [iblk0_apply, iblk1_apply, iblk4_apply, iblk5_apply]
  rfl

theorem mem_blk (t : Fin cfg0.N) (i : S512x4096.Idx) :
    i ∈ ((cfg0.win 6).blk t).view.set ↔ (t.val / 8 * 512 ≤ (i 0).val ∧ (i 0).val < t.val / 8 * 512 + 512)
      ∧ (t.val % 8 * 512 ≤ (i 1).val ∧ (i 1).val < t.val % 8 * 512 + 512) := by
  show i ∈ ((View.whole main_v2).slice (win0_6.rect t)).set ↔ _
  rw [View.set_slice_whole, Rect.mem_set_unit]
  have e0 : win0_6.index t 0 * win0_6.size 0 = t.val / 8 * 512 := by rw [(idx_facts t).2.2.2.2.2.2.1]; rfl
  have e1 : win0_6.index t 1 * win0_6.size 1 = t.val % 8 * 512 := by rw [(idx_facts t).2.2.2.2.2.2.2]; rfl
  refine ⟨fun h => ⟨?_, ?_⟩, fun h a => ?_⟩
  · have := h 0
    rw [← e0]; exact this
  · have := h 1
    rw [← e1]; exact this
  · match a with
    | ⟨0, _⟩ => have := h.1; rw [← e0] at this; exact this
    | ⟨1, _⟩ => have := h.2; rw [← e1] at this; exact this

theorem cover (i : S512x4096.Idx) :
    ∃ t : Fin cfg0.N, (cfg0.win 6).flush t = true ∧ i ∈ ((cfg0.win 6).blk t).view.set := by
  have h0 : (i 0).val < 512 := (i 0).isLt
  have h1 : (i 1).val < 4096 := (i 1).isLt
  have hN : cfg0.N = 8 := N_0
  refine ⟨⟨(i 0).val / 512 * 8 + (i 1).val / 512, by omega⟩, flush0_6 _, ?_⟩
  rw [mem_blk]
  dsimp only
  omega

theorem final (c : Dev nD) : (dats m 0 c).arrAt 6 cfg0.N = G m c :=
  (dats m 0 c).arrAt_eq_of_cover 6 (G m c) (fun t _ => flushed_eq m c t) cover

end Cert.MergeSIdeal.Closed

namespace Cert.MergeSRefIdeal.Closed

open Cert.MergeSRefIdeal Cert.MergeSRefIdeal.Gen Idealize.ShloMosaic Idealize.ShloMosaic.TcCoe Idealize.SL.Sem
open Cert.MergeSIdeal.Closed (gate)

/-- The reference's result at an index. -/
theorem val_apply (x0 x1 : S512x2048.Idx → EReal) (x2 : S512x22016.Idx → EReal) (x3 x4 : S1x2048x4096.Idx → EReal) (i : S512x4096.Idx) :
    Read.val_main_v23 (F := Ideal) x0 x1 x2 x3 x4 i
      = gate (x2 (ix2 (i 0) ⟨13312 + (i 1).val, by have h : (i 1).val < 4096 := (i 1).isLt; omega⟩))
          * ∑ k : Fin 2048, x0 (ix2 (i 0) k) * x3 (ix3 0 k (i 1))
        + gate (x2 (ix2 (i 0) ⟨17408 + (i 1).val, by have h : (i 1).val < 4096 := (i 1).isLt; omega⟩))
          * ∑ k : Fin 2048, x1 (ix2 (i 0) k) * x4 (ix3 0 k (i 1)) := by
  obtain ⟨r, l, rfl⟩ : ∃ (r : Fin 512) (l : Fin 4096), i = ix2 r l := ⟨i 0, i 1, eq_ix2 i⟩
  unfold gate
  simp only [Read.val_main_v23, Read.val_main_v22, Read.val_main_v21, Read.val_main_v20, Read.val_main_v19,
    Read.val_main_v18, Read.val_main_v17, Read.val_main_v16, Read.val_main_v15, Read.val_main_v14, Read.val_main_v13,
    Read.val_main_v12, Read.val_main_v11, Read.val_main_v10, Read.val_main_v9, Read.val_main_v8, Read.val_main_v7,
    Read.val_main_v6, Read.val_main_v5, Read.val_main_v4, Read.val_main_v3, Read.val_main_v2, Read.val_main_v1,
    Read.val_main_v0, Read.val_main_cst, Read.val_main_cst_0, Read.val_main_cst_1, Read.val_main_cst_2]
  pointwise

end Cert.MergeSRefIdeal.Closed

end
-- ==== Proof.MergeSClaims.lean ====
/- The claims about the gated pair of matrix products on the sample: the frames, the idealization, and the value. -/
module

public import proofs.«01_k».proof.Defs
public import proofs.«01_k».proof.Proof.Gen.MergeS.Frame
public import proofs.«01_k».proof.Proof.MergeSValue
public import Idealize.ShloMosaic.Lib.Quiescent

@[expose] public section

noncomputable section

namespace Cert.Proof.MergeSClaims

open Idealize.ShloMosaic Idealize.ShloMosaic.TcCoe Idealize.SL.Sem

theorem frame_p : Cert.quiescent_MergeS := fun m ρ _ => Cert.MergeS.Gen.frame m ρ
theorem frame_pi : Cert.quiescent_MergeSIdeal := fun m ρ _ => Cert.MergeSIdeal.Gen.frame m ρ
theorem frame_ri : Cert.quiescent_MergeSRefIdeal := fun m ρ _ =>
  (θ_run Cert.MergeSRefIdeal.defs _ _).mono (fun r h => ⟨fun c => (h c).2, Idealize.ShloMosaic.sem_eq_zero_of_no_sems (by decide) r.2⟩)
    (Cert.MergeSRefIdeal.Value.run (F := Ideal) m ρ)
theorem preserves : Cert.preserves_MergeS_MergeSIdeal := trivial

/-- At `Ideal` the kernel's result array and the reference's are the same function of arguments that agree. -/
theorem algebraic : Cert.algebraic_MergeSIdeal_MergeSRefIdeal := by
  intro m ρ m' ρ' _ hagree
  refine ⟨fun c => Cert.MergeSIdeal.Closed.G m c, ?_, ?_⟩
  · exact (θ_run Cert.MergeSIdeal.defs _ _).mono (fun _ h c => ⟨(h c).1.trans (Cert.MergeSIdeal.Closed.final m c), (h c).2⟩)
      (Cert.MergeSIdeal.Value.run_blocks (F := Ideal) m ρ)
  · refine (θ_run Cert.MergeSRefIdeal.defs _ _).mono (fun _ h c => ⟨(h c).1.trans ?_, (h c).2⟩)
      (Cert.MergeSRefIdeal.Value.run (F := Ideal) m' ρ')
    rw [(hagree c).1, (hagree c).2.1, (hagree c).2.2.1, (hagree c).2.2.2.1, (hagree c).2.2.2.2]
    funext i
    exact Cert.MergeSRefIdeal.Closed.val_apply _ _ _ _ _ i

end Cert.Proof.MergeSClaims

end
-- ==== Proof.OutSValue.lean ====
/- On the sample: the residual matrix product: the kernel's result array is `x + y · w`, block by block, which is what the reference
   computes over the whole arrays. -/
module

public import proofs.«01_k».proof.Proof.Gen.OutSIdeal.Value
public import proofs.«01_k».proof.Proof.Gen.OutSRefIdeal.Read
public import Idealize.ShloMosaic.Lib.Pointwise

@[expose] public section

set_option maxRecDepth 16384

noncomputable section

namespace Cert.OutSIdeal.Closed

open Cert.OutSIdeal Cert.OutSIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The three arguments as arrays over their literal shapes. -/
abbrev argY (c : Dev nD) : S512x4096.Idx → EReal := m ((c : Thread nD τ).loc main_arg0)
abbrev argW (c : Dev nD) : S1x4096x4096.Idx → EReal := m ((c : Thread nD τ).loc main_arg1)
abbrev argX (c : Dev nD) : S512x4096.Idx → EReal := m ((c : Thread nD τ).loc main_arg2)

/-- The array the result ends holding. -/
def G (c : Dev nD) : S512x4096.Idx → EReal := fun i =>
  argX m c i + ∑ k : Fin 4096, argY m c (ix2 (i 0) k) * argW m c (ix3 0 k (i 1))

theorem hz : (![0, 0] : Fin 2 → Nat) = fun _ => 0 := funext fun a => by fin_cases a <;> rfl

/-- The windows' block indices at a point: the row block is the point's quotient by eight, the column block its
    remainder. -/
theorem idx_facts : ∀ t : Fin cfg0.N,
    (win0_0.index t 0 = t.val / 8 ∧ win0_0.index t 1 = 0) ∧ (win0_1.index t 0 = 0 ∧ win0_1.index t 1 = t.val % 8)
    ∧ (win0_2.index t 0 = t.val / 8 ∧ win0_2.index t 1 = t.val % 8)
    ∧ (win0_3.index t 0 = t.val / 8 ∧ win0_3.index t 1 = t.val % 8) :=
  (by decide +kernel : ∀ t : Fin grid0.N,
    (win0_0.index t 0 = t.val / 8 ∧ win0_0.index t 1 = 0) ∧ (win0_1.index t 0 = 0 ∧ win0_1.index t 1 = t.val % 8)
    ∧ (win0_2.index t 0 = t.val / 8 ∧ win0_2.index t 1 = t.val % 8)
    ∧ (win0_3.index t 0 = t.val / 8 ∧ win0_3.index t 1 = t.val % 8))

theorem V_main_v0 (c : Dev nD) : V m c main_v0 = shapeCast _ (argW m c) shapeCasts_S1x4096x4096_S4096x4096 := by
  unfold V
  after_results <;> rfl

theorem t_lt (t : Fin cfg0.N) : t.val < 8 := by have := t.isLt; have e : cfg0.N = 8 := N_0; omega

theorem iblk0_apply (c : Dev nD) (t : Fin cfg0.N) (r : Fin 512) (k : Fin 4096) :
    iblk m c 0 t (ix2 r k) = argY m c (ix2 ⟨t.val / 8 * 512 + r.val, by have := t_lt t; omega⟩ k) := by
  show V m c main_arg0 ((win0_0.blk t).view.emb (ix2 r k)) = _
  rw [V_main_arg0]
  refine congrArg (argY m c) (funext fun a => Fin.ext ?_)
  match a with
  | ⟨0, _⟩ => show win0_0.index t 0 * 512 + 1 * r.val = t.val / 8 * 512 + r.val; rw [(idx_facts t).1.1]; omega
  | ⟨1, _⟩ => show win0_0.index t 1 * 4096 + 1 * k.val = k.val; rw [(idx_facts t).1.2]; omega

theorem iblk1_apply (c : Dev nD) (t : Fin cfg0.N) (k : Fin 4096) (l : Fin 512) :
    iblk m c 1 t (ix2 k l) = argW m c (ix3 0 k ⟨t.val % 8 * 512 + l.val, by omega⟩) := by
  show V m c main_v0 ((win0_1.blk t).view.emb (ix2 k l)) = _
  rw [V_main_v0]
  have e : (win0_1.blk t).view.emb (ix2 k l) = ix2 k ⟨t.val % 8 * 512 + l.val, by omega⟩ := funext fun a => Fin.ext (by
    match a with
    | ⟨0, _⟩ => show win0_1.index t 0 * 4096 + 1 * k.val = k.val; rw [(idx_facts t).2.1.1]; omega
    | ⟨1, _⟩ => show win0_1.index t 1 * 512 + 1 * l.val = t.val % 8 * 512 + l.val; rw [(idx_facts t).2.1.2]; omega)
  rw [e]
  generalize argW m c = w
  pointwise

theorem iblk2_apply (c : Dev nD) (t : Fin cfg0.N) (r : Fin 512) (l : Fin 512) :
    iblk m c 2 t (ix2 r l) = argX m c (ix2 ⟨t.val / 8 * 512 + r.val, by have := t_lt t; omega⟩ ⟨t.val % 8 * 512 + l.val, by omega⟩) := by
  show V m c main_arg2 ((win0_2.blk t).view.emb (ix2 r l)) = _
  rw [V_main_arg2]
  refine congrArg (argX m c) (funext fun a => Fin.ext ?_)
  match a with
  | ⟨0, _⟩ => show win0_2.index t 0 * 512 + 1 * r.val = t.val / 8 * 512 + r.val; rw [(idx_facts t).2.2.1.1]; omega
  | ⟨1, _⟩ => show win0_2.index t 1 * 512 + 1 * l.val = t.val % 8 * 512 + l.val; rw [(idx_facts t).2.2.1.2]; omega

/-- The body's stored value at an index of the block. -/
theorem pay_apply (x : Vec Ideal S512x512 .f32) (y : Vec Ideal S512x4096 .bf16) (w : Vec Ideal S4096x512 .f32)
    (r : Fin 512) (l : Fin 512) :
    k0_pay1 (F := Ideal) x y w (ix2 r l) = x (ix2 r l) + ∑ k : Fin 4096, y (ix2 r k) * w (ix2 k l) := by
  pointwise [k0_pay1]

theorem flushed_eq (c : Dev nD) (t : Fin cfg0.N) :
    (dats m 0 c).flushed 3 t = (win0_3.blk t).view.read (Elt Ideal) (G m c) := by
  rw [Value.flushed3]
  unfold out0_3
  rw [View.canon_unit_zero hz, View.ld_unit_zero hz, View.ld_unit_zero hz, View.ld_unit_zero hz]
  funext j
  obtain ⟨r, l, rfl⟩ : ∃ (r : Fin 512) (l : Fin 512), j = ix2 r l := ⟨j 0, j 1, eq_ix2 j⟩
  show k0_pay1 (F := Ideal) (iblk m c 2 t) (iblk m c 0 t) (iblk m c 1 t) (ix2 r l) = G m c ((win0_3.blk t).view.emb (ix2 r l))
  have e : (win0_3.blk t).view.emb (ix2 r l)
      = ix2 ⟨t.val / 8 * 512 + r.val, by have := t_lt t; omega⟩ ⟨t.val % 8 * 512 + l.val, by omega⟩ := funext fun a => Fin.ext (by
    match a with
    | ⟨0, _⟩ => show win0_3.index t 0 * 512 + 1 * r.val = t.val / 8 * 512 + r.val; rw [(idx_facts t).2.2.2.1]; omega
    | ⟨1, _⟩ => show win0_3.index t 1 * 512 + 1 * l.val = t.val % 8 * 512 + l.val; rw [(idx_facts t).2.2.2.2]; omega)
  rw [e, pay_apply, iblk2_apply]
  simp only [iblk0_apply, iblk1_apply]
  rfl

theorem mem_blk (t : Fin cfg0.N) (i : S512x4096.Idx) :
    i ∈ ((cfg0.win 3).blk t).view.set ↔ (t.val / 8 * 512 ≤ (i 0).val ∧ (i 0).val < t.val / 8 * 512 + 512)
      ∧ (t.val % 8 * 512 ≤ (i 1).val ∧ (i 1).val < t.val % 8 * 512 + 512) := by
  show i ∈ ((View.whole main_v1).slice (win0_3.rect t)).set ↔ _
  rw [View.set_slice_whole, Rect.mem_set_unit]
  have e0 : win0_3.index t 0 * win0_3.size 0 = t.val / 8 * 512 := by rw [(idx_facts t).2.2.2.1]; rfl
  have e1 : win0_3.index t 1 * win0_3.size 1 = t.val % 8 * 512 := by rw [(idx_facts t).2.2.2.2]; rfl
  refine ⟨fun h => ⟨?_, ?_⟩, fun h a => ?_⟩
  · have := h 0
    rw [← e0]; exact this
  · have := h 1
    rw [← e1]; exact this
  · match a with
    | ⟨0, _⟩ => have := h.1; rw [← e0] at this; exact this
    | ⟨1, _⟩ => have := h.2; rw [← e1] at this; exact this

theorem cover (i : S512x4096.Idx) :
    ∃ t : Fin cfg0.N, (cfg0.win 3).flush t = true ∧ i ∈ ((cfg0.win 3).blk t).view.set := by
  have h0 : (i 0).val < 512 := (i 0).isLt
  have h1 : (i 1).val < 4096 := (i 1).isLt
  have hN : cfg0.N = 8 := N_0
  refine ⟨⟨(i 0).val / 512 * 8 + (i 1).val / 512, by omega⟩, flush0_3 _, ?_⟩
  rw [mem_blk]
  dsimp only
  omega

theorem final (c : Dev nD) : (dats m 0 c).arrAt 3 cfg0.N = G m c :=
  (dats m 0 c).arrAt_eq_of_cover 3 (G m c) (fun t _ => flushed_eq m c t) cover

end Cert.OutSIdeal.Closed

namespace Cert.OutSRefIdeal.Closed

open Cert.OutSRefIdeal Cert.OutSRefIdeal.Gen Idealize.ShloMosaic Idealize.ShloMosaic.TcCoe Idealize.SL.Sem

/-- The reference's result at an index. -/
theorem val_apply (x0 : S512x4096.Idx → EReal) (x1 : S1x4096x4096.Idx → EReal) (x2 : S512x4096.Idx → EReal) (i : S512x4096.Idx) :
    Read.val_main_v3 (F := Ideal) x0 x1 x2 i = x2 i + ∑ k : Fin 4096, x0 (ix2 (i 0) k) * x1 (ix3 0 k (i 1)) := by
  obtain ⟨r, l, rfl⟩ : ∃ (r : Fin 512) (l : Fin 4096), i = ix2 r l := ⟨i 0, i 1, eq_ix2 i⟩
  pointwise [Read.val_main_v3, Read.val_main_v2, Read.val_main_v1, Read.val_main_v0]

end Cert.OutSRefIdeal.Closed

end
-- ==== Proof.OutSClaims.lean ====
/- The claims about the residual matrix product on the sample: the frames, the idealization, and the value. -/
module

public import proofs.«01_k».proof.Defs
public import proofs.«01_k».proof.Proof.Gen.OutS.Frame
public import proofs.«01_k».proof.Proof.OutSValue
public import Idealize.ShloMosaic.Lib.Quiescent

@[expose] public section

noncomputable section

namespace Cert.Proof.OutSClaims

open Idealize.ShloMosaic Idealize.ShloMosaic.TcCoe Idealize.SL.Sem

theorem frame_p : Cert.quiescent_OutS := fun m ρ _ => Cert.OutS.Gen.frame m ρ
theorem frame_pi : Cert.quiescent_OutSIdeal := fun m ρ _ => Cert.OutSIdeal.Gen.frame m ρ
theorem frame_ri : Cert.quiescent_OutSRefIdeal := fun m ρ _ =>
  (θ_run Cert.OutSRefIdeal.defs _ _).mono (fun r h => ⟨fun c => (h c).2, Idealize.ShloMosaic.sem_eq_zero_of_no_sems (by decide) r.2⟩)
    (Cert.OutSRefIdeal.Value.run (F := Ideal) m ρ)
theorem preserves : Cert.preserves_OutS_OutSIdeal := trivial

/-- At `Ideal` the kernel's result array and the reference's are the same function of arguments that agree. -/
theorem algebraic : Cert.algebraic_OutSIdeal_OutSRefIdeal := by
  intro m ρ m' ρ' _ hagree
  refine ⟨fun c => Cert.OutSIdeal.Closed.G m c, ?_, ?_⟩
  · exact (θ_run Cert.OutSIdeal.defs _ _).mono (fun _ h c => ⟨(h c).1.trans (Cert.OutSIdeal.Closed.final m c), (h c).2⟩)
      (Cert.OutSIdeal.Value.run_blocks (F := Ideal) m ρ)
  · refine (θ_run Cert.OutSRefIdeal.defs _ _).mono (fun _ h c => ⟨(h c).1.trans ?_, (h c).2⟩)
      (Cert.OutSRefIdeal.Value.run (F := Ideal) m' ρ')
    rw [(hagree c).1, (hagree c).2.1, (hagree c).2.2]
    funext i
    exact Cert.OutSRefIdeal.Closed.val_apply _ _ _ i

end Cert.Proof.OutSClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.MergeIdeal.Value
public import proofs.«01_k».proof.Proof.Gen.KernelIdeal.Value
public import proofs.«01_k».proof.Proof.Gen.OutRefIdeal.Run
public import proofs.«01_k».proof.Proof.Gen.OutRefIdeal.Read
public import proofs.«01_k».proof.Proof.Gen.MergeRefIdeal.Run
public import proofs.«01_k».proof.Proof.Gen.MergeRefIdeal.Read
public import proofs.«01_k».proof.Proof.Gen.KernelRefIdeal.Run
public import proofs.«01_k».proof.Proof.Gen.KernelRefIdeal.Step
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.ProjSRefIdeal.Run
public import proofs.«01_k».proof.Proof.Gen.ProjSRefIdeal.Read
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSRefIdeal
public import proofs.«01_k».proof.Proof.Gen.FfnSRefIdeal.Run
public import proofs.«01_k».proof.Proof.Gen.FfnSRefIdeal.Read
public import proofs.«01_k».proof.Proof.Gen.RetS
public import proofs.«01_k».proof.Proof.Gen.RetS.Skeleton
public import proofs.«01_k».proof.Proof.Gen.RetS.Launch
public import proofs.«01_k».proof.Proof.Gen.RetS.Points
public import proofs.«01_k».proof.Proof.Gen.RetS.Frame
public import proofs.«01_k».proof.Proof.Gen.RetSIdeal
public import proofs.«01_k».proof.Proof.Gen.RetSIdeal.Skeleton
public import proofs.«01_k».proof.Proof.Gen.RetSIdeal.Launch
public import proofs.«01_k».proof.Proof.Gen.RetSIdeal.Points
public import proofs.«01_k».proof.Proof.Gen.RetSIdeal.Frame
public import proofs.«01_k».proof.Proof.Gen.RetSIdeal.Value
public import proofs.«01_k».proof.Proof.Gen.RetSRefIdeal
public import proofs.«01_k».proof.Proof.Gen.RetSRefIdeal.Run
public import proofs.«01_k».proof.Proof.Gen.RetSRefIdeal.Read
public import proofs.«01_k».proof.Proof.Gen.MergeS
public import proofs.«01_k».proof.Proof.Gen.MergeS.Skeleton
public import proofs.«01_k».proof.Proof.Gen.MergeS.Launch
public import proofs.«01_k».proof.Proof.Gen.MergeS.Points
public import proofs.«01_k».proof.Proof.Gen.MergeS.Frame
public import proofs.«01_k».proof.Proof.Gen.MergeSIdeal
public import proofs.«01_k».proof.Proof.Gen.MergeSIdeal.Skeleton
public import proofs.«01_k».proof.Proof.Gen.MergeSIdeal.Launch
public import proofs.«01_k».proof.Proof.Gen.MergeSIdeal.Points
public import proofs.«01_k».proof.Proof.Gen.MergeSIdeal.Frame
public import proofs.«01_k».proof.Proof.Gen.MergeSIdeal.Value
public import proofs.«01_k».proof.Proof.Gen.MergeSRefIdeal
public import proofs.«01_k».proof.Proof.Gen.MergeSRefIdeal.Run
public import proofs.«01_k».proof.Proof.Gen.MergeSRefIdeal.Read
public import proofs.«01_k».proof.Proof.Gen.OutS
public import proofs.«01_k».proof.Proof.Gen.OutS.Skeleton
public import proofs.«01_k».proof.Proof.Gen.OutS.Launch
public import proofs.«01_k».proof.Proof.Gen.OutS.Points
public import proofs.«01_k».proof.Proof.Gen.OutS.Frame
public import proofs.«01_k».proof.Proof.Gen.OutSIdeal
public import proofs.«01_k».proof.Proof.Gen.OutSIdeal.Skeleton
public import proofs.«01_k».proof.Proof.Gen.OutSIdeal.Launch
public import proofs.«01_k».proof.Proof.Gen.OutSIdeal.Points
public import proofs.«01_k».proof.Proof.Gen.OutSIdeal.Frame
public import proofs.«01_k».proof.Proof.Gen.OutSIdeal.Value
public import proofs.«01_k».proof.Proof.Gen.OutSRefIdeal
public import proofs.«01_k».proof.Proof.Gen.OutSRefIdeal.Run
public import proofs.«01_k».proof.Proof.Gen.OutSRefIdeal.Read
public import proofs.«01_k».proof.Proof.KernelClaims
public import proofs.«01_k».proof.Proof.MergeClaims
public import proofs.«01_k».proof.Proof.OutClaims
public import proofs.«01_k».proof.Proof.FfnClaims
public import proofs.«01_k».proof.Proof.ProjClaims
public import proofs.«01_k».proof.Proof.ProjSClaims
public import proofs.«01_k».proof.Proof.FfnSClaims
public import proofs.«01_k».proof.Proof.RetSClaims
public import proofs.«01_k».proof.Proof.MergeSClaims
public import proofs.«01_k».proof.Proof.OutSClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.KernelRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.ProjS.Gen.facts, Cert.ProjSIdeal.Gen.facts, Cert.ProjSRefIdeal.Gen.facts, Cert.FfnS.Gen.facts, Cert.FfnSIdeal.Gen.facts, Cert.FfnSRefIdeal.Gen.facts, Cert.RetS.Gen.facts, Cert.RetSIdeal.Gen.facts, Cert.RetSRefIdeal.Gen.facts, Cert.MergeS.Gen.facts, Cert.MergeSIdeal.Gen.facts, Cert.MergeSRefIdeal.Gen.facts, Cert.OutS.Gen.facts, Cert.OutSIdeal.Gen.facts, Cert.OutSRefIdeal.Gen.facts,
   KernelClaims.frame_p, KernelClaims.frame_pi, KernelClaims.frame_ri, MergeClaims.frame_p, MergeClaims.frame_pi, MergeClaims.frame_ri, OutClaims.frame_p, OutClaims.frame_pi, OutClaims.frame_ri, FfnClaims.frame_p, FfnClaims.frame_pi, FfnClaims.frame_ri, ProjClaims.frame_p, ProjClaims.frame_pi, ProjClaims.frame_ri, ProjSClaims.frame_p, ProjSClaims.frame_pi, ProjSClaims.frame_ri, FfnSClaims.frame_p, FfnSClaims.frame_pi, FfnSClaims.frame_ri, RetSClaims.frame_p, RetSClaims.frame_pi, RetSClaims.frame_ri, MergeSClaims.frame_p, MergeSClaims.frame_pi, MergeSClaims.frame_ri, OutSClaims.frame_p, OutSClaims.frame_pi, OutSClaims.frame_ri,
   KernelClaims.preserves, KernelClaims.algebraic, MergeClaims.preserves, MergeClaims.algebraic, OutClaims.preserves, OutClaims.algebraic, FfnClaims.preserves, FfnClaims.algebraic, ProjClaims.preserves, ProjClaims.algebraic, ProjSClaims.preserves, ProjSClaims.algebraic, FfnSClaims.preserves, FfnSClaims.algebraic, RetSClaims.preserves, RetSClaims.algebraic, MergeSClaims.preserves, MergeSClaims.algebraic, OutSClaims.preserves, OutSClaims.algebraic⟩

end Cert.Proof

end
